-- ==== Defs.lean ====
def Pre_Moe [hPre_tables_in_range : Cert.Pre_tables_in_range.Facts] (m : (ℓ : Loc Cert.Moe.nD Cert.Moe.τ Cert.Moe.sig) → Buf (Elt Bits) ℓ) : Prop :=
  ∀ c : Dev Cert.Moe.nD,
    (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_tables_in_range : Cert.Pre_tables_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal [hPre_tables_in_range : Cert.Pre_tables_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tables_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Outp (m : (ℓ : Loc Cert.Outp.nD Cert.Outp.τ Cert.Outp.sig) → Buf (Elt Bits) ℓ) : Prop :=
  True

def Pre_OutpIdeal (m : (ℓ : Loc Cert.OutpIdeal.nD Cert.OutpIdeal.τ Cert.OutpIdeal.sig) → Buf (Elt Ideal) ℓ) : Prop :=
  True

def Pre_OutpRefIdeal (m : (ℓ : Loc Cert.OutpRefIdeal.nD Cert.OutpRefIdeal.τ Cert.OutpRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_entries [hPre_finite_entries : Cert.Pre_finite_entries.Facts] (m : (ℓ : Loc Cert.AttnIdeal.nD Cert.AttnIdeal.τ Cert.AttnIdeal.sig) → Buf (Elt Ideal) ℓ) : Prop :=
  ∀ c : Dev Cert.AttnIdeal.nD,
    (Cert.Pre_finite_entries.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_entries [hPre_finite_entries : Cert.Pre_finite_entries.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_entries.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def quiescent_Moe [hMoe : Cert.Moe.Facts] [hPre_tables_in_range : Cert.Pre_tables_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] [hPre_tables_in_range : Cert.Pre_tables_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2))
      ∧ r.2.sem = fun _ => 0)

def quiescent_Outp [hOutp : Cert.Outp.Facts] : Prop :=
  ∀ (m : (ℓ : Loc Cert.Outp.nD Cert.Outp.τ Cert.Outp.sig) → Buf (Elt Bits) ℓ) (g : Dev Cert.Outp.nD → PrngReg), Pre_Outp m →
    θ_run (Cert.Outp.defs (F := Bits)) (onTc (τ := Cert.Outp.τ) (Cert.Outp.main (F := Bits))) ⟨m, fun _ => 0, g⟩ (fun r => (∀ c : Dev Cert.Outp.nD,
      r.2.mem ((c.tc : Thread Cert.Outp.nD Cert.Outp.τ).loc Cert.Outp.main_arg0) = m ((c.tc : Thread Cert.Outp.nD Cert.Outp.τ).loc Cert.Outp.main_arg0)
      ∧ r.2.mem ((c.tc : Thread Cert.Outp.nD Cert.Outp.τ).loc Cert.Outp.main_arg1) = m ((c.tc : Thread Cert.Outp.nD Cert.Outp.τ).loc Cert.Outp.main_arg1)
      ∧ r.2.mem ((c.tc : Thread Cert.Outp.nD Cert.Outp.τ).loc Cert.Outp.main_arg2) = m ((c.tc : Thread Cert.Outp.nD Cert.Outp.τ).loc Cert.Outp.main_arg2))
      ∧ r.2.sem = fun _ => 0)

def quiescent_OutpIdeal [hOutpIdeal : Cert.OutpIdeal.Facts] : Prop :=
  ∀ (m : (ℓ : Loc Cert.OutpIdeal.nD Cert.OutpIdeal.τ Cert.OutpIdeal.sig) → Buf (Elt Ideal) ℓ) (g : Dev Cert.OutpIdeal.nD → PrngReg), Pre_OutpIdeal m →
    θ_run (Cert.OutpIdeal.defs (F := Ideal)) (onTc (τ := Cert.OutpIdeal.τ) (Cert.OutpIdeal.main (F := Ideal))) ⟨m, fun _ => 0, g⟩ (fun r => (∀ c : Dev Cert.OutpIdeal.nD,
      r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
      ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
      ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2))
      ∧ r.2.sem = fun _ => 0)

def quiescent_OutpRefIdeal [hOutpRefIdeal : Cert.OutpRefIdeal.Facts] : Prop :=
  ∀ (m : (ℓ : Loc Cert.OutpRefIdeal.nD Cert.OutpRefIdeal.τ Cert.OutpRefIdeal.sig) → Buf (Elt Ideal) ℓ) (g : Dev Cert.OutpRefIdeal.nD → PrngReg), Pre_OutpRefIdeal m →
    θ_run (Cert.OutpRefIdeal.defs (F := Ideal)) (onTc (τ := Cert.OutpRefIdeal.τ) (Cert.OutpRefIdeal.main (F := Ideal))) ⟨m, fun _ => 0, g⟩ (fun r => (∀ c : Dev Cert.OutpRefIdeal.nD,
      r.2.mem ((c.tc : Thread Cert.OutpRefIdeal.nD Cert.OutpRefIdeal.τ).loc Cert.OutpRefIdeal.main_arg0) = m ((c.tc : Thread Cert.OutpRefIdeal.nD Cert.OutpRefIdeal.τ).loc Cert.OutpRefIdeal.main_arg0)
      ∧ r.2.mem ((c.tc : Thread Cert.OutpRefIdeal.nD Cert.OutpRefIdeal.τ).loc Cert.OutpRefIdeal.main_arg1) = m ((c.tc : Thread Cert.OutpRefIdeal.nD Cert.OutpRefIdeal.τ).loc Cert.OutpRefIdeal.main_arg1)
      ∧ r.2.mem ((c.tc : Thread Cert.OutpRefIdeal.nD Cert.OutpRefIdeal.τ).loc Cert.OutpRefIdeal.main_arg2) = m ((c.tc : Thread Cert.OutpRefIdeal.nD Cert.OutpRefIdeal.τ).loc Cert.OutpRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite_entries [hAttnIdeal : Cert.AttnIdeal.Facts] [hPre_finite_entries : Cert.Pre_finite_entries.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_entries m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite_entries [hAttnRefIdeal : Cert.AttnRefIdeal.Facts] [hPre_finite_entries : Cert.Pre_finite_entries.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_entries m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v42) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v14) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v14) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2))

def preserves_Outp_OutpIdeal : Prop :=
  True

def algebraic_OutpIdeal_OutpRefIdeal [hOutpIdeal : Cert.OutpIdeal.Facts] [hOutpRefIdeal : Cert.OutpRefIdeal.Facts] : Prop :=
  ∀ (m : (ℓ : Loc Cert.OutpIdeal.nD Cert.OutpIdeal.τ Cert.OutpIdeal.sig) → Buf (Elt Ideal) ℓ) (g : Dev Cert.OutpIdeal.nD → PrngReg)
    (m' : (ℓ : Loc Cert.OutpRefIdeal.nD Cert.OutpRefIdeal.τ Cert.OutpRefIdeal.sig) → Buf (Elt Ideal) ℓ) (g' : Dev Cert.OutpRefIdeal.nD → PrngReg), Pre_OutpIdeal m →
    (∀ c : Dev Cert.OutpIdeal.nD,
      m' ((c.tc : Thread Cert.OutpRefIdeal.nD Cert.OutpRefIdeal.τ).loc Cert.OutpRefIdeal.main_arg0) = m ((c.tc : Thread Cert.OutpIdeal.nD Cert.OutpIdeal.τ).loc Cert.OutpIdeal.main_arg0)
      ∧ m' ((c.tc : Thread Cert.OutpRefIdeal.nD Cert.OutpRefIdeal.τ).loc Cert.OutpRefIdeal.main_arg1) = m ((c.tc : Thread Cert.OutpIdeal.nD Cert.OutpIdeal.τ).loc Cert.OutpIdeal.main_arg1)
      ∧ m' ((c.tc : Thread Cert.OutpRefIdeal.nD Cert.OutpRefIdeal.τ).loc Cert.OutpRefIdeal.main_arg2) = m ((c.tc : Thread Cert.OutpIdeal.nD Cert.OutpIdeal.τ).loc Cert.OutpIdeal.main_arg2)) →
    ∃ (v0 : (c : Dev Cert.OutpIdeal.nD) → Buf (Elt Ideal) ((c.tc : Thread Cert.OutpIdeal.nD Cert.OutpIdeal.τ).loc Cert.OutpIdeal.main_v0)),
      θ_run (Cert.OutpIdeal.defs (F := Ideal)) (onTc (τ := Cert.OutpIdeal.τ) (Cert.OutpIdeal.main (F := Ideal))) ⟨m, fun _ => 0, g⟩ (fun r => ∀ c : Dev Cert.OutpIdeal.nD,
          r.2.mem ((c.tc : Thread Cert.OutpIdeal.nD Cert.OutpIdeal.τ).loc Cert.OutpIdeal.main_v0) = v0 c
          ∧ r.2.mem ((c.tc : Thread Cert.OutpIdeal.nD Cert.OutpIdeal.τ).loc Cert.OutpIdeal.main_arg0) = m ((c.tc : Thread Cert.OutpIdeal.nD Cert.OutpIdeal.τ).loc Cert.OutpIdeal.main_arg0)
          ∧ r.2.mem ((c.tc : Thread Cert.OutpIdeal.nD Cert.OutpIdeal.τ).loc Cert.OutpIdeal.main_arg1) = m ((c.tc : Thread Cert.OutpIdeal.nD Cert.OutpIdeal.τ).loc Cert.OutpIdeal.main_arg1)
          ∧ r.2.mem ((c.tc : Thread Cert.OutpIdeal.nD Cert.OutpIdeal.τ).loc Cert.OutpIdeal.main_arg2) = m ((c.tc : Thread Cert.OutpIdeal.nD Cert.OutpIdeal.τ).loc Cert.OutpIdeal.main_arg2))
      ∧ θ_run (Cert.OutpRefIdeal.defs (F := Ideal)) (onTc (τ := Cert.OutpRefIdeal.τ) (Cert.OutpRefIdeal.main (F := Ideal))) ⟨m', fun _ => 0, g'⟩ (fun r => ∀ c : Dev Cert.OutpRefIdeal.nD,
          r.2.mem ((c.tc : Thread Cert.OutpRefIdeal.nD Cert.OutpRefIdeal.τ).loc Cert.OutpRefIdeal.main_v3) = v0 c
          ∧ r.2.mem ((c.tc : Thread Cert.OutpRefIdeal.nD Cert.OutpRefIdeal.τ).loc Cert.OutpRefIdeal.main_arg0) = m' ((c.tc : Thread Cert.OutpRefIdeal.nD Cert.OutpRefIdeal.τ).loc Cert.OutpRefIdeal.main_arg0)
          ∧ r.2.mem ((c.tc : Thread Cert.OutpRefIdeal.nD Cert.OutpRefIdeal.τ).loc Cert.OutpRefIdeal.main_arg1) = m' ((c.tc : Thread Cert.OutpRefIdeal.nD Cert.OutpRefIdeal.τ).loc Cert.OutpRefIdeal.main_arg1)
          ∧ r.2.mem ((c.tc : Thread Cert.OutpRefIdeal.nD Cert.OutpRefIdeal.τ).loc Cert.OutpRefIdeal.main_arg2) = m' ((c.tc : Thread Cert.OutpRefIdeal.nD Cert.OutpRefIdeal.τ).loc Cert.OutpRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v25) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v6) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Attn_AttnIdeal : Prop :=
  True

def algebraic_AttnIdeal_AttnRefIdeal_pre_finite_entries [hAttnIdeal : Cert.AttnIdeal.Facts] [hAttnRefIdeal : Cert.AttnRefIdeal.Facts] [hPre_finite_entries : Cert.Pre_finite_entries.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_entries m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v64) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def Claim : Prop :=
  ∃ (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hKv : Cert.Kv.Facts) (hKvIdeal : Cert.KvIdeal.Facts) (hKvRefIdeal : Cert.KvRefIdeal.Facts) (hQuery : Cert.Query.Facts) (hQueryIdeal : Cert.QueryIdeal.Facts) (hQueryRefIdeal : Cert.QueryRefIdeal.Facts) (hOutp : Cert.Outp.Facts) (hOutpIdeal : Cert.OutpIdeal.Facts) (hOutpRefIdeal : Cert.OutpRefIdeal.Facts) (hGlu : Cert.Glu.Facts) (hGluIdeal : Cert.GluIdeal.Facts) (hGluRefIdeal : Cert.GluRefIdeal.Facts) (hMix : Cert.Mix.Facts) (hMixIdeal : Cert.MixIdeal.Facts) (hMixRefIdeal : Cert.MixRefIdeal.Facts) (hAttn : Cert.Attn.Facts) (hAttnIdeal : Cert.AttnIdeal.Facts) (hAttnRefIdeal : Cert.AttnRefIdeal.Facts) (hPre_tables_in_range : Cert.Pre_tables_in_range.Facts) (hPre_finite_entries : Cert.Pre_finite_entries.Facts),
    quiescent_Moe (hMoe := hMoe) (hPre_tables_in_range := hPre_tables_in_range)
    ∧ quiescent_MoeIdeal (hMoeIdeal := hMoeIdeal) (hPre_tables_in_range := hPre_tables_in_range)
    ∧ quiescent_MoeRefIdeal (hMoeRefIdeal := hMoeRefIdeal) (hPre_tables_in_range := hPre_tables_in_range)
    ∧ quiescent_Ffn (hFfn := hFfn)
    ∧ quiescent_FfnIdeal (hFfnIdeal := hFfnIdeal)
    ∧ quiescent_FfnRefIdeal (hFfnRefIdeal := hFfnRefIdeal)
    ∧ quiescent_Kv (hKv := hKv)
    ∧ quiescent_KvIdeal (hKvIdeal := hKvIdeal)
    ∧ quiescent_KvRefIdeal (hKvRefIdeal := hKvRefIdeal)
    ∧ quiescent_Query (hQuery := hQuery)
    ∧ quiescent_QueryIdeal (hQueryIdeal := hQueryIdeal)
    ∧ quiescent_QueryRefIdeal (hQueryRefIdeal := hQueryRefIdeal)
    ∧ quiescent_Outp (hOutp := hOutp)
    ∧ quiescent_OutpIdeal (hOutpIdeal := hOutpIdeal)
    ∧ quiescent_OutpRefIdeal (hOutpRefIdeal := hOutpRefIdeal)
    ∧ quiescent_Glu (hGlu := hGlu)
    ∧ quiescent_GluIdeal (hGluIdeal := hGluIdeal)
    ∧ quiescent_GluRefIdeal (hGluRefIdeal := hGluRefIdeal)
    ∧ quiescent_Mix (hMix := hMix)
    ∧ quiescent_MixIdeal (hMixIdeal := hMixIdeal)
    ∧ quiescent_MixRefIdeal (hMixRefIdeal := hMixRefIdeal)
    ∧ quiescent_Attn (hAttn := hAttn)
    ∧ quiescent_AttnIdeal (hAttnIdeal := hAttnIdeal)
    ∧ quiescent_AttnIdeal_pre_finite_entries (hAttnIdeal := hAttnIdeal) (hPre_finite_entries := hPre_finite_entries)
    ∧ quiescent_AttnRefIdeal (hAttnRefIdeal := hAttnRefIdeal)
    ∧ quiescent_AttnRefIdeal_pre_finite_entries (hAttnRefIdeal := hAttnRefIdeal) (hPre_finite_entries := hPre_finite_entries)
    ∧ preserves_Moe_MoeIdeal
    ∧ algebraic_MoeIdeal_MoeRefIdeal (hMoeIdeal := hMoeIdeal) (hMoeRefIdeal := hMoeRefIdeal) (hPre_tables_in_range := hPre_tables_in_range)
    ∧ preserves_Ffn_FfnIdeal
    ∧ algebraic_FfnIdeal_FfnRefIdeal (hFfnIdeal := hFfnIdeal) (hFfnRefIdeal := hFfnRefIdeal)
    ∧ preserves_Kv_KvIdeal
    ∧ algebraic_KvIdeal_KvRefIdeal (hKvIdeal := hKvIdeal) (hKvRefIdeal := hKvRefIdeal)
    ∧ preserves_Query_QueryIdeal
    ∧ algebraic_QueryIdeal_QueryRefIdeal (hQueryIdeal := hQueryIdeal) (hQueryRefIdeal := hQueryRefIdeal)
    ∧ preserves_Outp_OutpIdeal
    ∧ algebraic_OutpIdeal_OutpRefIdeal (hOutpIdeal := hOutpIdeal) (hOutpRefIdeal := hOutpRefIdeal)
    ∧ preserves_Glu_GluIdeal
    ∧ algebraic_GluIdeal_GluRefIdeal (hGluIdeal := hGluIdeal) (hGluRefIdeal := hGluRefIdeal)
    ∧ preserves_Mix_MixIdeal
    ∧ algebraic_MixIdeal_MixRefIdeal (hMixIdeal := hMixIdeal) (hMixRefIdeal := hMixRefIdeal)
    ∧ preserves_Attn_AttnIdeal
    ∧ algebraic_AttnIdeal_AttnRefIdeal_pre_finite_entries (hAttnIdeal := hAttnIdeal) (hAttnRefIdeal := hAttnRefIdeal) (hPre_finite_entries := hPre_finite_entries)
-- ==== Pre_finite_entries.lean ====
abbrev S16400x2048 : Shape := ⟨2, ![16400, 2048]⟩
abbrev S16400x4096 : Shape := ⟨2, ![16400, 4096]⟩
abbrev S_ : Shape := ⟨0, ![]⟩

class Facts : Prop where
  bitsLt_bf16_f32 : FTy.bits .bf16 < FTy.bits .f32
  slices_S16400x4096_S16400x2048_0_0 : S16400x4096.Slices ![0, 0] S16400x2048
  bcast_S_S16400x2048 : S_.BroadcastsInDim S16400x2048 (![] : Fin 0 → Fin S16400x2048.rank)

variable [Facts]

def fn {F : FTy → Type} [FloatOps F] (main_arg0 : FVec F S16400x2048 .bf16) (main_arg1 : FVec F S16400x4096 .bf16) : IVec S16400x2048 1 :=
  let main_v0 : FVec F S16400x2048 .f32 := (extf .f32 · bitsLt_bf16_f32) main_arg0
  let main_v1 : FVec F S16400x2048 .bf16 := (extractStridedSlice S16400x2048 ![0, 0] · slices_S16400x4096_S16400x2048_0_0) main_arg1
  let main_v2 : FVec F S16400x2048 .f32 := (extf .f32 · bitsLt_bf16_f32) main_v1
  let main_v3 : FVec F S16400x2048 .f32 := Host.absf main_v0
  let main_cst : FVec F S_ .f32 := constant S_ .f32 0x7F800000#32
  let main_v4 : FVec F S16400x2048 .f32 := broadcastInDim S16400x2048 ![] bcast_S_S16400x2048 main_cst
  let main_v5 : IVec S16400x2048 1 := cmpf .olt main_v3 main_v4
  let main_v6 : FVec F S16400x2048 .f32 := Host.absf main_v2
  let main_cst_0 : FVec F S_ .f32 := constant S_ .f32 0x7F800000#32
  let main_v7 : FVec F S16400x2048 .f32 := broadcastInDim S16400x2048 ![] bcast_S_S16400x2048 main_cst_0
  let main_v8 : IVec S16400x2048 1 := cmpf .olt main_v6 main_v7
  let main_v9 : IVec S16400x2048 1 := andi main_v5 main_v8
  main_v9
-- ==== Pre_tables_in_range.lean ====
abbrev S40 : Shape := ⟨1, ![40]⟩
abbrev S1 : Shape := ⟨1, ![1]⟩
abbrev S40960x2048 : Shape := ⟨2, ![40960, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S40 : S_.BroadcastsInDim S40 (![] : Fin 0 → Fin S40.rank)
  bcast_S_S1 : S_.BroadcastsInDim S1 (![] : Fin 0 → Fin S1.rank)
  bcast_S1_S40_0 : S1.BroadcastsInDim S40 (![0] : Fin 1 → Fin S40.rank)

variable [Facts]

def fn {F : FTy → Type} [FloatOps F] (main_arg0 : IVec S40 32) (main_arg1 : IVec S1 32) (main_arg2 : IVec S40 32) (main_arg3 : FVec F S40960x2048 .f32) (main_arg4 : FVec F S8x2048x5632 .bf16) (main_arg5 : FVec F S8x2048x5632 .bf16) (main_arg6 : FVec F S8x5632x2048 .bf16) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S40 1 := broadcastInDim S40 ![0] bcast_S1_S40_0 main_v6
  let main_v8 : IVec S40 1 := andi main_v4 main_v7
  let main_c_2 : IVec S_ 32 := constantI S_ 32 0#32
  let main_v9 : IVec S40 32 := broadcastInDim S40 ![] bcast_S_S40 main_c_2
  let main_v10 : IVec S40 1 := cmpi .sge main_arg2 main_v9
  let main_v11 : IVec S40 1 := andi main_v8 main_v10
  let main_c_3 : IVec S_ 32 := constantI S_ 32 4#32
  let main_v12 : IVec S40 32 := broadcastInDim S40 ![] bcast_S_S40 main_c_3
  let main_v13 : IVec S40 1 := cmpi .sle main_arg2 main_v12
  let main_v14 : IVec S40 1 := andi main_v11 main_v13
  main_v14
-- ==== Moe.lean ====
abbrev S40 : Shape := ⟨1, ![40]⟩
abbrev S1 : Shape := ⟨1, ![1]⟩
abbrev S40960x2048 : Shape := ⟨2, ![40960, 2048]⟩
abbrev S8x2048x5632 : Shape := ⟨3, ![8, 2048, 5632]⟩
abbrev S8x5632x2048 : Shape := ⟨3, ![8, 5632, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S256x2048 : Shape := ⟨2, ![256, 2048]⟩
abbrev S2048x512 : Shape := ⟨2, ![2048, 512]⟩
abbrev S512x2048 : Shape := ⟨2, ![512, 2048]⟩
abbrev S256x512 : Shape := ⟨2, ![256, 512]⟩
abbrev S512x512 : Shape := ⟨2, ![512, 512]⟩
abbrev S768x2048 : Shape := ⟨2, ![768, 2048]⟩
abbrev S768x512 : Shape := ⟨2, ![768, 512]⟩
abbrev S1024x512 : Shape := ⟨2, ![1024, 512]⟩

abbrev nBuf : Space → Nat
  | .hbm => 5
  | .vmem => 11
  | .smem => 3
  | _ => 0

abbrev bufTy : (tb : Table) → Fin (tcTables nBuf tb) → BufTy
  | .hbm, ⟨0, _⟩ => ⟨S40960x2048, .f32⟩
  | .hbm, ⟨1, _⟩ => ⟨S8x2048x5632, .bf16⟩
  | .hbm, ⟨2, _⟩ => ⟨S8x2048x5632, .bf16⟩
  | .hbm, ⟨3, _⟩ => ⟨S8x5632x2048, .bf16⟩
  | .hbm, ⟨4, _⟩ => ⟨S40960x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | .local _ .smem, ⟨0, _⟩ => ⟨S40, .i32⟩
  | .local _ .smem, ⟨1, _⟩ => ⟨S1, .i32⟩
  | .local _ .smem, ⟨2, _⟩ => ⟨S40, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 11], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let v15 : Index := Scalar.indexCast arg0
  ![v15.toNat]
def k0_off4 (i : grid0.Coords) : Fin 1 → Nat :=
  let arg0 : BitVec 32 := BitVec.ofNat 32 (i 0).val
  let v21 : Index := Scalar.indexCast arg0
  ![v21.toNat]
def k0_off5 (i : grid0.Coords) : Fin 1 → Nat :=
  let arg0 : BitVec 32 := BitVec.ofNat 32 (i 0).val
  let v27 : Index := Scalar.indexCast arg0
  ![v27.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond3 (i : grid0.Coords) (v0 : BitVec 32) (v10 : BitVec 32) : BitVec 1 :=
  let arg0 : BitVec 32 := BitVec.ofNat 32 (i 0).val
  let v1 : BitVec 1 := Scalar.cmpi .slt arg0 v0
  let c1_i32 : BitVec 32 := 1#32
  let v11 : BitVec 1 := Scalar.cmpi .eq v10 c1_i32
  let v12 : BitVec 1 := Scalar.andi v1 v11
  let v13 : BitVec 32 := Scalar.extui v12
  let c0_i32_3 : BitVec 32 := 0#32
  let v14 : BitVec 1 := Scalar.cmpi .ne v13 c0_i32_3
  v14

def k0_cond4 (i : grid0.Coords) (v0 : BitVec 32) (v16 : BitVec 32) : BitVec 1 :=
  let arg0 : BitVec 32 := BitVec.ofNat 32 (i 0).val
  let v1 : BitVec 1 := Scalar.cmpi .slt arg0 v0
  let c2_i32 : BitVec 32 := 2#32
  let v17 : BitVec 1 := Scalar.cmpi .eq v16 c2_i32
  let v18 : BitVec 1 := Scalar.andi v1 v17
  let v19 : BitVec 32 := Scalar.extui v18
  let c0_i32_4 : BitVec 32 := 0#32
  let v20 : BitVec 1 := Scalar.cmpi .ne v19 c0_i32_4
  v20

def k0_cond5 (i : grid0.Coords) (v0 : BitVec 32) (v22 : BitVec 32) : BitVec 1 :=
  let arg0 : BitVec 32 := BitVec.ofNat 32 (i 0).val
  let v1 : BitVec 1 := Scalar.cmpi .slt arg0 v0
  let c3_i32 : BitVec 32 := 3#32
  let v23 : BitVec 1 := Scalar.cmpi .eq v22 c3_i32
  let v24 : BitVec 1 := Scalar.andi v1 v23
  let v25 : BitVec 32 := Scalar.extui v24
  let c0_i32_5 : BitVec 32 := 0#32
  let v26 : BitVec 1 := Scalar.cmpi .ne v25 c0_i32_5
  v26

def k0_cond6 (i : grid0.Coords) (v0 : BitVec 32) (v28 : BitVec 32) : BitVec 1 :=
  let arg0 : BitVec 32 := BitVec.ofNat 32 (i 0).val
  let v1 : BitVec 1 := Scalar.cmpi .slt arg0 v0
  let c4_i32 : BitVec 32 := 4#32
  let v29 : BitVec 1 := Scalar.cmpi .eq v28 c4_i32
  let v30 : BitVec 1 := Scalar.andi v1 v29
  let v31 : BitVec 32 := Scalar.extui v30
  let c0_i32_6 : BitVec 32 := 0#32
  let v32 : BitVec 1 := Scalar.cmpi .ne v31 c0_i32_6
  v32

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c10_i32 : BitVec 32 := 10#32
  let v4 : BitVec 32 := Scalar.select v3 arg1 c10_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S40 : Shape := ⟨1, ![40]⟩
abbrev S1 : Shape := ⟨1, ![1]⟩
abbrev S40960x2048 : Shape := ⟨2, ![40960, 2048]⟩
abbrev S8x2048x5632 : Shape := ⟨3, ![8, 2048, 5632]⟩
abbrev S8x5632x2048 : Shape := ⟨3, ![8, 5632, 2048]⟩
abbrev S1024 : Shape := ⟨1, ![1024]⟩
abbrev S40x1 : Shape := ⟨2, ![40, 1]⟩
abbrev S1x1 : Shape := ⟨2, ![1, 1]⟩
abbrev S_ : Shape := ⟨0, ![]⟩
abbrev S1x1024 : Shape := ⟨2, ![1, 1024]⟩
abbrev S40x1024 : Shape := ⟨2, ![40, 1024]⟩
abbrev S40960 : Shape := ⟨1, ![40960]⟩
abbrev S8 : Shape := ⟨1, ![8]⟩
abbrev S8x1 : Shape := ⟨2, ![8, 1]⟩
abbrev S1x40960 : Shape := ⟨2, ![1, 40960]⟩
abbrev S8x40960 : Shape := ⟨2, ![8, 40960]⟩
abbrev S8x5632x40960 : Shape := ⟨3, ![8, 5632, 40960]⟩
abbrev S8x40960x5632 : Shape := ⟨3, ![8, 40960, 5632]⟩
abbrev S8x40960x2048 : Shape := ⟨3, ![8, 40960, 2048]⟩
abbrev S8x40960x1 : Shape := ⟨3, ![8, 40960, 1]⟩

abbrev nBuf : Space → Nat
  | .hbm => 64
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S40, .i32⟩
  | .hbm, ⟨3, _⟩ => ⟨S40960x2048, .f32⟩
  | .hbm, ⟨4, _⟩ => ⟨S8x2048x5632, .bf16⟩
  | .hbm, ⟨5, _⟩ => ⟨S8x2048x5632, .bf16⟩
  | .hbm, ⟨6, _⟩ => ⟨S8x5632x2048, .bf16⟩
  | .hbm, ⟨7, _⟩ => ⟨S1024, .i32⟩
  | .hbm, ⟨8, _⟩ => ⟨S40, .i32⟩
  | .hbm, ⟨9, _⟩ => ⟨S40x1, .i32⟩
  | .hbm, ⟨10, _⟩ => ⟨S1x1, .i32⟩
  | .hbm, ⟨11, _⟩ => ⟨S40x1, .i32⟩
  | .hbm, ⟨12, _⟩ => ⟨S40x1, .i1⟩
  | .hbm, ⟨13, _⟩ => ⟨S40x1, .i32⟩
  | .hbm, ⟨14, _⟩ => ⟨S_, .i32⟩
  | .hbm, ⟨15, _⟩ => ⟨S40x1, .i32⟩
  | .hbm, ⟨16, _⟩ => ⟨S40x1, .i32⟩
  | .hbm, ⟨17, _⟩ => ⟨S1x1024, .i32⟩
  | .hbm, ⟨18, _⟩ => ⟨S40x1024, .i32⟩
  | .hbm, ⟨19, _⟩ => ⟨S40x1024, .i32⟩
  | .hbm, ⟨20, _⟩ => ⟨S40x1024, .i1⟩
  | .hbm, ⟨21, _⟩ => ⟨S40x1024, .i1⟩
  | .hbm, ⟨22, _⟩ => ⟨S40x1024, .i1⟩
  | .hbm, ⟨23, _⟩ => ⟨S40960, .i1⟩
  | .hbm, ⟨24, _⟩ => ⟨S40x1024, .i32⟩
  | .hbm, ⟨25, _⟩ => ⟨S40960, .i32⟩
  | .hbm, ⟨26, _⟩ => ⟨S8, .i32⟩
  | .hbm, ⟨27, _⟩ => ⟨S8x1, .i32⟩
  | .hbm, ⟨28, _⟩ => ⟨S1x40960, .i32⟩
  | .hbm, ⟨29, _⟩ => ⟨S8x40960, .i32⟩
  | .hbm, ⟨30, _⟩ => ⟨S8x40960, .i32⟩
  | .hbm, ⟨31, _⟩ => ⟨S8x40960, .i1⟩
  | .hbm, ⟨32, _⟩ => ⟨S1x40960, .i1⟩
  | .hbm, ⟨33, _⟩ => ⟨S8x40960, .i1⟩
  | .hbm, ⟨34, _⟩ => ⟨S8x40960, .i1⟩
  | .hbm, ⟨35, _⟩ => ⟨S_, .f32⟩
  | .hbm, ⟨36, _⟩ => ⟨S_, .f32⟩
  | .hbm, ⟨37, _⟩ => ⟨S8x40960, .f32⟩
  | .hbm, ⟨38, _⟩ => ⟨S8x40960, .f32⟩
  | .hbm, ⟨39, _⟩ => ⟨S8x40960, .f32⟩
  | .hbm, ⟨40, _⟩ => ⟨S8x2048x5632, .f32⟩
  | .hbm, ⟨41, _⟩ => ⟨S8x5632x40960, .f32⟩
  | .hbm, ⟨42, _⟩ => ⟨S8x40960x5632, .f32⟩
  | .hbm, ⟨43, _⟩ => ⟨S8x2048x5632, .f32⟩
  | .hbm, ⟨44, _⟩ => ⟨S8x5632x40960, .f32⟩
  | .hbm, ⟨45, _⟩ => ⟨S8x40960x5632, .f32⟩
  | .hbm, ⟨46, _⟩ => ⟨S8x40960x5632, .f32⟩
  | .hbm, ⟨47, _⟩ => ⟨S8x40960x5632, .f32⟩
  | .hbm, ⟨48, _⟩ => ⟨S_, .f32⟩
  | .hbm, ⟨49, _⟩ => ⟨S8x40960x5632, .f32⟩
  | .hbm, ⟨50, _⟩ => ⟨S8x40960x5632, .f32⟩
  | .hbm, ⟨51, _⟩ => ⟨S_, .f32⟩
  | .hbm, ⟨52, _⟩ => ⟨S8x40960x5632, .f32⟩
  | .hbm, ⟨53, _⟩ => ⟨S8x40960x5632, .f32⟩
  | .hbm, ⟨54, _⟩ => ⟨S8x40960x5632, .f32⟩
  | .hbm, ⟨55, _⟩ => ⟨S8x40960x5632, .f32⟩
  | .hbm, ⟨56, _⟩ => ⟨S8x5632x2048, .f32⟩
  | .hbm, ⟨57, _⟩ => ⟨S8x40960x2048, .f32⟩
  | .hbm, ⟨58, _⟩ => ⟨S8x40960x1, .f32⟩
  | .hbm, ⟨59, _⟩ => ⟨S8x40960x1, .f32⟩
  | .hbm, ⟨60, _⟩ => ⟨S8x40960x2048, .f32⟩
  | .hbm, ⟨61, _⟩ => ⟨S8x40960x2048, .f32⟩
  | .hbm, ⟨62, _⟩ => ⟨S_, .f32⟩
  | .hbm, ⟨63, _⟩ => ⟨S40960x2048, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_1 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Ffn.lean ====
abbrev S16400x2048 : Shape := ⟨2, ![16400, 2048]⟩
abbrev S1x2048 : Shape := ⟨2, ![1, 2048]⟩
abbrev S2048x5632 : Shape := ⟨2, ![2048, 5632]⟩
abbrev S5632x2048 : Shape := ⟨2, ![5632, 2048]⟩
abbrev S656x2048 : Shape := ⟨2, ![656, 2048]⟩
abbrev S2048x512 : Shape := ⟨2, ![2048, 512]⟩
abbrev S512x2048 : Shape := ⟨2, ![512, 2048]⟩
abbrev S656 : Shape := ⟨1, ![656]⟩
abbrev S656x1 : Shape := ⟨2, ![656, 1]⟩
abbrev S656x512 : Shape := ⟨2, ![656, 512]⟩

abbrev nBuf : Space → Nat
  | .hbm => 6
  | .vmem => 12
  | .smem => 0
  | _ => 0

abbrev bufTy : (tb : Table) → Fin (tcTables nBuf tb) → BufTy
  | .hbm, ⟨0, _⟩ => ⟨S16400x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S16400x2048, .f32⟩
  | .local _ .vmem, ⟨0, _⟩ => ⟨S656x2048, .f32⟩
  | .local _ .vmem, ⟨1, _⟩ => ⟨S656x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S656x2048, .f32⟩
  | .local _ .vmem, ⟨10, _⟩ => ⟨S656x2048, .f32⟩
  | .local _ .vmem, ⟨11, _⟩ => ⟨S656x2048, .bf16⟩
  | _, _ => ⟨S16400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![25, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S656x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S656x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16400x2048 : Shape := ⟨2, ![16400, 2048]⟩
abbrev S1x2048 : Shape := ⟨2, ![1, 2048]⟩
abbrev S2048x5632 : Shape := ⟨2, ![2048, 5632]⟩
abbrev S5632x2048 : Shape := ⟨2, ![5632, 2048]⟩
abbrev S_ : Shape := ⟨0, ![]⟩
abbrev S16400 : Shape := ⟨1, ![16400]⟩
abbrev S16400x1 : Shape := ⟨2, ![16400, 1]⟩
abbrev S16400x5632 : Shape := ⟨2, ![16400, 5632]⟩

abbrev nBuf : Space → Nat
  | .hbm => 37
  | .vmem => 0
  | .smem => 0
  | _ => 0

abbrev bufTy : (tb : Table) → Fin (tcTables nBuf tb) → BufTy
  | .hbm, ⟨0, _⟩ => ⟨S16400x2048, .f32⟩
  | .hbm, ⟨1, _⟩ => ⟨S1x2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S16400x2048, .f32⟩
  | .hbm, ⟨6, _⟩ => ⟨S_, .f32⟩
  | .hbm, ⟨7, _⟩ => ⟨S16400, .f32⟩
  | .hbm, ⟨8, _⟩ => ⟨S16400x1, .f32⟩
  | .hbm, ⟨9, _⟩ => ⟨S_, .f32⟩
  | .hbm, ⟨10, _⟩ => ⟨S16400x1, .f32⟩
  | .hbm, ⟨11, _⟩ => ⟨S16400x1, .f32⟩
  | .hbm, ⟨12, _⟩ => ⟨S_, .f32⟩
  | .hbm, ⟨13, _⟩ => ⟨S16400x1, .f32⟩
  | .hbm, ⟨14, _⟩ => ⟨S16400x1, .f32⟩
  | .hbm, ⟨15, _⟩ => ⟨S16400x1, .f32⟩
  | .hbm, ⟨16, _⟩ => ⟨S16400x2048, .f32⟩
  | .hbm, ⟨17, _⟩ => ⟨S16400x2048, .f32⟩
  | .hbm, ⟨18, _⟩ => ⟨S16400x2048, .f32⟩
  | .hbm, ⟨19, _⟩ => ⟨S16400x2048, .f32⟩
  | .hbm, ⟨20, _⟩ => ⟨S2048x5632, .f32⟩
  | .hbm, ⟨21, _⟩ => ⟨S16400x5632, .f32⟩
  | .hbm, ⟨22, _⟩ => ⟨S2048x5632, .f32⟩
  | .hbm, ⟨23, _⟩ => ⟨S16400x5632, .f32⟩
  | .hbm, ⟨24, _⟩ => ⟨S16400x5632, .f32⟩
  | .hbm, ⟨25, _⟩ => ⟨S16400x5632, .f32⟩
  | .hbm, ⟨26, _⟩ => ⟨S_, .f32⟩
  | .hbm, ⟨27, _⟩ => ⟨S16400x5632, .f32⟩
  | .hbm, ⟨28, _⟩ => ⟨S16400x5632, .f32⟩
  | .hbm, ⟨29, _⟩ => ⟨S_, .f32⟩
  | .hbm, ⟨30, _⟩ => ⟨S16400x5632, .f32⟩
  | .hbm, ⟨31, _⟩ => ⟨S16400x5632, .f32⟩
  | .hbm, ⟨32, _⟩ => ⟨S16400x5632, .f32⟩
  | .hbm, ⟨33, _⟩ => ⟨S16400x5632, .f32⟩
  | .hbm, ⟨34, _⟩ => ⟨S5632x2048, .f32⟩
  | .hbm, ⟨35, _⟩ => ⟨S16400x2048, .f32⟩
  | .hbm, ⟨36, _⟩ => ⟨S16400x2048, .f32⟩
  | _, _ => ⟨S16400x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kv.lean ====
abbrev S16400x2048 : Shape := ⟨2, ![16400, 2048]⟩
abbrev S1x2048 : Shape := ⟨2, ![1, 2048]⟩
abbrev S2048x4096 : Shape := ⟨2, ![2048, 4096]⟩
abbrev S16400x4096 : Shape := ⟨2, ![16400, 4096]⟩
abbrev S656x2048 : Shape := ⟨2, ![656, 2048]⟩
abbrev S2048x2048 : Shape := ⟨2, ![2048, 2048]⟩
abbrev S656 : Shape := ⟨1, ![656]⟩
abbrev S656x1 : Shape := ⟨2, ![656, 1]⟩

abbrev nBuf : Space → Nat
  | .hbm => 4
  | .vmem => 8
  | .smem => 0
  | _ => 0

abbrev bufTy : (tb : Table) → Fin (tcTables nBuf tb) → BufTy
  | .hbm, ⟨0, _⟩ => ⟨S16400x2048, .f32⟩
  | .hbm, ⟨1, _⟩ => ⟨S1x2048, .f32⟩
  | .hbm, ⟨2, _⟩ => ⟨S2048x4096, .bf16⟩
  | .hbm, ⟨3, _⟩ => ⟨S16400x4096, .bf16⟩
  | .local _ .vmem, ⟨0, _⟩ => ⟨S656x2048, .f32⟩
  | .local _ .vmem, ⟨1, _⟩ => ⟨S656x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S656x2048, .bf16⟩
  | .local _ .vmem, ⟨6, _⟩ => ⟨S656x2048, .bf16⟩
  | .local _ .vmem, ⟨7, _⟩ => ⟨S656x2048, .bf16⟩
  | _, _ => ⟨S16400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![25, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S656x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S656x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvIdeal.lean ====
abbrev S16400x2048 : Shape := ⟨2, ![16400, 2048]⟩
abbrev S1x2048 : Shape := ⟨2, ![1, 2048]⟩
abbrev S2048x4096 : Shape := ⟨2, ![2048, 4096]⟩
abbrev S16400x4096 : Shape := ⟨2, ![16400, 4096]⟩
abbrev S656x2048 : Shape := ⟨2, ![656, 2048]⟩
abbrev S2048x2048 : Shape := ⟨2, ![2048, 2048]⟩
abbrev S656 : Shape := ⟨1, ![656]⟩
abbrev S656x1 : Shape := ⟨2, ![656, 1]⟩

abbrev nBuf : Space → Nat
  | .hbm => 4
  | .vmem => 8
  | .smem => 0
  | _ => 0

abbrev bufTy : (tb : Table) → Fin (tcTables nBuf tb) → BufTy
  | .hbm, ⟨0, _⟩ => ⟨S16400x2048, .f32⟩
  | .hbm, ⟨1, _⟩ => ⟨S1x2048, .f32⟩
  | .hbm, ⟨2, _⟩ => ⟨S2048x4096, .bf16⟩
  | .hbm, ⟨3, _⟩ => ⟨S16400x4096, .bf16⟩
  | .local _ .vmem, ⟨0, _⟩ => ⟨S656x2048, .f32⟩
  | .local _ .vmem, ⟨1, _⟩ => ⟨S656x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S656x2048, .bf16⟩
  | .local _ .vmem, ⟨6, _⟩ => ⟨S656x2048, .bf16⟩
  | .local _ .vmem, ⟨7, _⟩ => ⟨S656x2048, .bf16⟩
  | _, _ => ⟨S16400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![25, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S656x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S656x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S16400x2048 : Shape := ⟨2, ![16400, 2048]⟩
abbrev S1x2048 : Shape := ⟨2, ![1, 2048]⟩
abbrev S2048x4096 : Shape := ⟨2, ![2048, 4096]⟩
abbrev S_ : Shape := ⟨0, ![]⟩
abbrev S16400 : Shape := ⟨1, ![16400]⟩
abbrev S16400x1 : Shape := ⟨2, ![16400, 1]⟩
abbrev S16400x4096 : Shape := ⟨2, ![16400, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16400x2048, .f32⟩
  | .hbm, ⟨1, _⟩ => ⟨S1x2048, .f32⟩
  | .hbm, ⟨2, _⟩ => ⟨S2048x4096, .bf16⟩
  | .hbm, ⟨3, _⟩ => ⟨S16400x2048, .f32⟩
  | .hbm, ⟨4, _⟩ => ⟨S_, .f32⟩
  | .hbm, ⟨5, _⟩ => ⟨S16400, .f32⟩
  | .hbm, ⟨6, _⟩ => ⟨S16400x1, .f32⟩
  | .hbm, ⟨7, _⟩ => ⟨S_, .f32⟩
  | .hbm, ⟨8, _⟩ => ⟨S16400x1, .f32⟩
  | .hbm, ⟨9, _⟩ => ⟨S16400x1, .f32⟩
  | .hbm, ⟨10, _⟩ => ⟨S_, .f32⟩
  | .hbm, ⟨11, _⟩ => ⟨S16400x1, .f32⟩
  | .hbm, ⟨12, _⟩ => ⟨S16400x1, .f32⟩
  | .hbm, ⟨13, _⟩ => ⟨S16400x1, .f32⟩
  | .hbm, ⟨14, _⟩ => ⟨S16400x2048, .f32⟩
  | .hbm, ⟨15, _⟩ => ⟨S16400x2048, .f32⟩
  | .hbm, ⟨16, _⟩ => ⟨S16400x2048, .f32⟩
  | .hbm, ⟨17, _⟩ => ⟨S16400x2048, .f32⟩
  | .hbm, ⟨18, _⟩ => ⟨S2048x4096, .f32⟩
  | .hbm, ⟨19, _⟩ => ⟨S16400x4096, .f32⟩
  | .hbm, ⟨20, _⟩ => ⟨S16400x4096, .bf16⟩
  | _, _ => ⟨S16400x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Query.lean ====
abbrev S16400x2048 : Shape := ⟨2, ![16400, 2048]⟩
abbrev S1x2048 : Shape := ⟨2, ![1, 2048]⟩
abbrev S2048x2048 : Shape := ⟨2, ![2048, 2048]⟩
abbrev S656x2048 : Shape := ⟨2, ![656, 2048]⟩
abbrev S656 : Shape := ⟨1, ![656]⟩
abbrev S656x1 : Shape := ⟨2, ![656, 1]⟩

abbrev nBuf : Space → Nat
  | .hbm => 4
  | .vmem => 7
  | .smem => 0
  | _ => 0

abbrev bufTy : (tb : Table) → Fin (tcTables nBuf tb) → BufTy
  | .hbm, ⟨0, _⟩ => ⟨S16400x2048, .f32⟩
  | .hbm, ⟨1, _⟩ => ⟨S1x2048, .f32⟩
  | .hbm, ⟨2, _⟩ => ⟨S2048x2048, .bf16⟩
  | .hbm, ⟨3, _⟩ => ⟨S16400x2048, .bf16⟩
  | .local _ .vmem, ⟨0, _⟩ => ⟨S656x2048, .f32⟩
  | .local _ .vmem, ⟨1, _⟩ => ⟨S656x2048, .f32⟩
  | .local _ .vmem, ⟨2, _⟩ => ⟨S1x2048, .f32⟩
  | .local _ .vmem, ⟨3, _⟩ => ⟨S2048x2048, .bf16⟩
  | .local _ .vmem, ⟨4, _⟩ => ⟨S656x2048, .bf16⟩
  | .local _ .vmem, ⟨5, _⟩ => ⟨S656x2048, .bf16⟩
  | .local _ .vmem, ⟨6, _⟩ => ⟨S656x2048, .bf16⟩
  | _, _ => ⟨S16400x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![25, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S656x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S656x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueryRefIdeal.lean ====
abbrev S16400x2048 : Shape := ⟨2, ![16400, 2048]⟩
abbrev S1x2048 : Shape := ⟨2, ![1, 2048]⟩
abbrev S2048x2048 : Shape := ⟨2, ![2048, 2048]⟩
abbrev S_ : Shape := ⟨0, ![]⟩
abbrev S16400 : Shape := ⟨1, ![16400]⟩
abbrev S16400x1 : Shape := ⟨2, ![16400, 1]⟩

abbrev nBuf : Space → Nat
  | .hbm => 21
  | .vmem => 0
  | .smem => 0
  | _ => 0

abbrev bufTy : (tb : Table) → Fin (tcTables nBuf tb) → BufTy
  | .hbm, ⟨0, _⟩ => ⟨S16400x2048, .f32⟩
  | .hbm, ⟨1, _⟩ => ⟨S1x2048, .f32⟩
  | .hbm, ⟨2, _⟩ => ⟨S2048x2048, .bf16⟩
  | .hbm, ⟨3, _⟩ => ⟨S16400x2048, .f32⟩
  | .hbm, ⟨4, _⟩ => ⟨S_, .f32⟩
  | .hbm, ⟨5, _⟩ => ⟨S16400, .f32⟩
  | .hbm, ⟨6, _⟩ => ⟨S16400x1, .f32⟩
  | .hbm, ⟨7, _⟩ => ⟨S_, .f32⟩
  | .hbm, ⟨8, _⟩ => ⟨S16400x1, .f32⟩
  | .hbm, ⟨9, _⟩ => ⟨S16400x1, .f32⟩
  | .hbm, ⟨10, _⟩ => ⟨S_, .f32⟩
  | .hbm, ⟨11, _⟩ => ⟨S16400x1, .f32⟩
  | .hbm, ⟨12, _⟩ => ⟨S16400x1, .f32⟩
  | .hbm, ⟨13, _⟩ => ⟨S16400x1, .f32⟩
  | .hbm, ⟨14, _⟩ => ⟨S16400x2048, .f32⟩
  | .hbm, ⟨15, _⟩ => ⟨S16400x2048, .f32⟩
  | .hbm, ⟨16, _⟩ => ⟨S16400x2048, .f32⟩
  | .hbm, ⟨17, _⟩ => ⟨S16400x2048, .f32⟩
  | .hbm, ⟨18, _⟩ => ⟨S2048x2048, .f32⟩
  | .hbm, ⟨19, _⟩ => ⟨S16400x2048, .f32⟩
  | .hbm, ⟨20, _⟩ => ⟨S16400x2048, .bf16⟩
  | _, _ => ⟨S16400x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Outp.lean ====
abbrev S16400x2048 : Shape := ⟨2, ![16400, 2048]⟩
abbrev S2048x2048 : Shape := ⟨2, ![2048, 2048]⟩
abbrev S656x2048 : Shape := ⟨2, ![656, 2048]⟩

abbrev nBuf : Space → Nat
  | .hbm => 4
  | .vmem => 7
  | .smem => 0
  | _ => 0

abbrev bufTy : (tb : Table) → Fin (tcTables nBuf tb) → BufTy
  | .hbm, ⟨0, _⟩ => ⟨S16400x2048, .bf16⟩
  | .hbm, ⟨1, _⟩ => ⟨S2048x2048, .bf16⟩
  | .hbm, ⟨2, _⟩ => ⟨S16400x2048, .f32⟩
  | .hbm, ⟨3, _⟩ => ⟨S16400x2048, .f32⟩
  | .local _ .vmem, ⟨0, _⟩ => ⟨S656x2048, .bf16⟩
  | .local _ .vmem, ⟨1, _⟩ => ⟨S656x2048, .bf16⟩
  | .local _ .vmem, ⟨2, _⟩ => ⟨S2048x2048, .bf16⟩
  | .local _ .vmem, ⟨3, _⟩ => ⟨S656x2048, .f32⟩
  | .local _ .vmem, ⟨4, _⟩ => ⟨S656x2048, .f32⟩
  | .local _ .vmem, ⟨5, _⟩ => ⟨S656x2048, .f32⟩
  | .local _ .vmem, ⟨6, _⟩ => ⟨S656x2048, .f32⟩
  | _, _ => ⟨S16400x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S656x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S656x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S656x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutpRefIdeal.lean ====
abbrev S16400x2048 : Shape := ⟨2, ![16400, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16400x2048, .bf16⟩
  | .hbm, ⟨1, _⟩ => ⟨S2048x2048, .bf16⟩
  | .hbm, ⟨2, _⟩ => ⟨S16400x2048, .f32⟩
  | .hbm, ⟨3, _⟩ => ⟨S16400x2048, .f32⟩
  | .hbm, ⟨4, _⟩ => ⟨S2048x2048, .f32⟩
  | .hbm, ⟨5, _⟩ => ⟨S16400x2048, .f32⟩
  | .hbm, ⟨6, _⟩ => ⟨S16400x2048, .f32⟩
  | _, _ => ⟨S16400x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Glu.lean ====
abbrev S16384x2048 : Shape := ⟨2, ![16384, 2048]⟩
abbrev S16x2048 : Shape := ⟨2, ![16, 2048]⟩
abbrev S1x2048 : Shape := ⟨2, ![1, 2048]⟩
abbrev S2048x4096 : Shape := ⟨2, ![2048, 4096]⟩
abbrev S1x4096 : Shape := ⟨2, ![1, 4096]⟩
abbrev S16400x2048 : Shape := ⟨2, ![16400, 2048]⟩
abbrev S656x2048 : Shape := ⟨2, ![656, 2048]⟩
abbrev S2048x1024 : Shape := ⟨2, ![2048, 1024]⟩
abbrev S1x1024 : Shape := ⟨2, ![1, 1024]⟩
abbrev S656x1024 : Shape := ⟨2, ![656, 1024]⟩
abbrev S656 : Shape := ⟨1, ![656]⟩
abbrev S656x1 : Shape := ⟨2, ![656, 1]⟩
abbrev S640x2048 : Shape := ⟨2, ![640, 2048]⟩
abbrev S640 : Shape := ⟨1, ![640]⟩
abbrev S640x1 : Shape := ⟨2, ![640, 1]⟩
abbrev S16 : Shape := ⟨1, ![16]⟩
abbrev S16x1 : Shape := ⟨2, ![16, 1]⟩

abbrev nBuf : Space → Nat
  | .hbm => 6
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S1x2048, .f32⟩
  | .hbm, ⟨3, _⟩ => ⟨S2048x4096, .bf16⟩
  | .hbm, ⟨4, _⟩ => ⟨S1x4096, .f32⟩
  | .hbm, ⟨5, _⟩ => ⟨S16400x2048, .f32⟩
  | .local _ .vmem, ⟨0, _⟩ => ⟨S656x2048, .f32⟩
  | .local _ .vmem, ⟨1, _⟩ => ⟨S656x2048, .f32⟩
  | .local _ .vmem, ⟨2, _⟩ => ⟨S16x2048, .f32⟩
  | .local _ .vmem, ⟨3, _⟩ => ⟨S1x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S656x1024, .f32⟩
  | .local _ .vmem, ⟨13, _⟩ => ⟨S656x1024, .f32⟩
  | .local _ .vmem, ⟨14, _⟩ => ⟨S656x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![25, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S656x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S656x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== GluRefIdeal.lean ====
abbrev S16384x2048 : Shape := ⟨2, ![16384, 2048]⟩
abbrev S16x2048 : Shape := ⟨2, ![16, 2048]⟩
abbrev S1x2048 : Shape := ⟨2, ![1, 2048]⟩
abbrev S2048x4096 : Shape := ⟨2, ![2048, 4096]⟩
abbrev S1x4096 : Shape := ⟨2, ![1, 4096]⟩
abbrev S16400x2048 : Shape := ⟨2, ![16400, 2048]⟩
abbrev S_ : Shape := ⟨0, ![]⟩
abbrev S16400 : Shape := ⟨1, ![16400]⟩
abbrev S16400x1 : Shape := ⟨2, ![16400, 1]⟩
abbrev S16400x4096 : Shape := ⟨2, ![16400, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x2048, .f32⟩
  | .hbm, ⟨2, _⟩ => ⟨S1x2048, .f32⟩
  | .hbm, ⟨3, _⟩ => ⟨S2048x4096, .bf16⟩
  | .hbm, ⟨4, _⟩ => ⟨S1x4096, .f32⟩
  | .hbm, ⟨5, _⟩ => ⟨S16400x2048, .f32⟩
  | .hbm, ⟨6, _⟩ => ⟨S16400x2048, .f32⟩
  | .hbm, ⟨7, _⟩ => ⟨S_, .f32⟩
  | .hbm, ⟨8, _⟩ => ⟨S16400, .f32⟩
  | .hbm, ⟨9, _⟩ => ⟨S16400x1, .f32⟩
  | .hbm, ⟨10, _⟩ => ⟨S_, .f32⟩
  | .hbm, ⟨11, _⟩ => ⟨S16400x1, .f32⟩
  | .hbm, ⟨12, _⟩ => ⟨S16400x1, .f32⟩
  | .hbm, ⟨13, _⟩ => ⟨S_, .f32⟩
  | .hbm, ⟨14, _⟩ => ⟨S16400x1, .f32⟩
  | .hbm, ⟨15, _⟩ => ⟨S16400x1, .f32⟩
  | .hbm, ⟨16, _⟩ => ⟨S16400x1, .f32⟩
  | .hbm, ⟨17, _⟩ => ⟨S16400x2048, .f32⟩
  | .hbm, ⟨18, _⟩ => ⟨S16400x2048, .f32⟩
  | .hbm, ⟨19, _⟩ => ⟨S16400x2048, .f32⟩
  | .hbm, ⟨20, _⟩ => ⟨S16400x2048, .f32⟩
  | .hbm, ⟨21, _⟩ => ⟨S2048x4096, .f32⟩
  | .hbm, ⟨22, _⟩ => ⟨S16400x4096, .f32⟩
  | .hbm, ⟨23, _⟩ => ⟨S16400x4096, .f32⟩
  | .hbm, ⟨24, _⟩ => ⟨S16400x4096, .f32⟩
  | .hbm, ⟨25, _⟩ => ⟨S16400x2048, .f32⟩
  | .hbm, ⟨26, _⟩ => ⟨S16400x2048, .f32⟩
  | .hbm, ⟨27, _⟩ => ⟨S16400x2048, .f32⟩
  | .hbm, ⟨28, _⟩ => ⟨S16400x2048, .f32⟩
  | .hbm, ⟨29, _⟩ => ⟨S_, .f32⟩
  | .hbm, ⟨30, _⟩ => ⟨S16400x2048, .f32⟩
  | .hbm, ⟨31, _⟩ => ⟨S16400x2048, .f32⟩
  | .hbm, ⟨32, _⟩ => ⟨S_, .f32⟩
  | .hbm, ⟨33, _⟩ => ⟨S16400x2048, .f32⟩
  | .hbm, ⟨34, _⟩ => ⟨S16400x2048, .f32⟩
  | .hbm, ⟨35, _⟩ => ⟨S16400x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Mix.lean ====
abbrev S16400x2048 : Shape := ⟨2, ![16400, 2048]⟩
abbrev S2048x2048 : Shape := ⟨2, ![2048, 2048]⟩
abbrev S1x2048 : Shape := ⟨2, ![1, 2048]⟩
abbrev S16384x2048 : Shape := ⟨2, ![16384, 2048]⟩
abbrev S16x2048 : Shape := ⟨2, ![16, 2048]⟩
abbrev S656x2048 : Shape := ⟨2, ![656, 2048]⟩
abbrev S640x2048 : Shape := ⟨2, ![640, 2048]⟩

abbrev nBuf : Space → Nat
  | .hbm => 6
  | .vmem => 9
  | .smem => 0
  | _ => 0

abbrev bufTy : (tb : Table) → Fin (tcTables nBuf tb) → BufTy
  | .hbm, ⟨0, _⟩ => ⟨S16400x2048, .bf16⟩
  | .hbm, ⟨1, _⟩ => ⟨S2048x2048, .bf16⟩
  | .hbm, ⟨2, _⟩ => ⟨S1x2048, .f32⟩
  | .hbm, ⟨3, _⟩ => ⟨S16384x2048, .f32⟩
  | .hbm, ⟨4, _⟩ => ⟨S16x2048, .f32⟩
  | .hbm, ⟨5, _⟩ => ⟨S16400x2048, .f32⟩
  | .local _ .vmem, ⟨0, _⟩ => ⟨S656x2048, .bf16⟩
  | .local _ .vmem, ⟨1, _⟩ => ⟨S656x2048, .bf16⟩
  | .local _ .vmem, ⟨2, _⟩ => ⟨S2048x2048, .bf16⟩
  | .local _ .vmem, ⟨3, _⟩ => ⟨S1x2048, .f32⟩
  | .local _ .vmem, ⟨4, _⟩ => ⟨S16x2048, .f32⟩
  | .local _ .vmem, ⟨5, _⟩ => ⟨S656x2048, .f32⟩
  | .local _ .vmem, ⟨6, _⟩ => ⟨S656x2048, .f32⟩
  | .local _ .vmem, ⟨7, _⟩ => ⟨S656x2048, .f32⟩
  | .local _ .vmem, ⟨8, _⟩ => ⟨S656x2048, .f32⟩
  | _, _ => ⟨S16400x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c24_i32 : BitVec 32 := 24#32
  let v6 : BitVec 1 := Scalar.cmpi .ne arg0 c24_i32
  let v7 : BitVec 32 := Scalar.extui v6
  let c0_i32 : BitVec 32 := 0#32
  let v8 : BitVec 1 := Scalar.cmpi .ne v7 c0_i32
  v8

def k0_cond2 (i : grid0.Coords) : BitVec 1 :=
  let arg0 : BitVec 32 := BitVec.ofNat 32 (i 0).val
  let c24_i32_5 : BitVec 32 := 24#32
  let v9 : BitVec 1 := Scalar.cmpi .eq arg0 c24_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S656x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S656x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S656x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixRefIdeal.lean ====
abbrev S16400x2048 : Shape := ⟨2, ![16400, 2048]⟩
abbrev S2048x2048 : Shape := ⟨2, ![2048, 2048]⟩
abbrev S1x2048 : Shape := ⟨2, ![1, 2048]⟩
abbrev S16384x2048 : Shape := ⟨2, ![16384, 2048]⟩
abbrev S16x2048 : Shape := ⟨2, ![16, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16400x2048, .bf16⟩
  | .hbm, ⟨1, _⟩ => ⟨S2048x2048, .bf16⟩
  | .hbm, ⟨2, _⟩ => ⟨S1x2048, .f32⟩
  | .hbm, ⟨3, _⟩ => ⟨S16384x2048, .f32⟩
  | .hbm, ⟨4, _⟩ => ⟨S16x2048, .f32⟩
  | .hbm, ⟨5, _⟩ => ⟨S16400x2048, .f32⟩
  | .hbm, ⟨6, _⟩ => ⟨S16400x2048, .f32⟩
  | .hbm, ⟨7, _⟩ => ⟨S2048x2048, .f32⟩
  | .hbm, ⟨8, _⟩ => ⟨S16400x2048, .f32⟩
  | .hbm, ⟨9, _⟩ => ⟨S16400x2048, .f32⟩
  | .hbm, ⟨10, _⟩ => ⟨S16400x2048, .f32⟩
  | .hbm, ⟨11, _⟩ => ⟨S16400x2048, .f32⟩
  | _, _ => ⟨S16400x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Attn.lean ====
abbrev S16400x2048 : Shape := ⟨2, ![16400, 2048]⟩
abbrev S16400x4096 : Shape := ⟨2, ![16400, 4096]⟩
abbrev S2048x128 : Shape := ⟨2, ![2048, 128]⟩
abbrev S16x128 : Shape := ⟨2, ![16, 128]⟩
abbrev S128x128 : Shape := ⟨2, ![128, 128]⟩
abbrev S256x256 : Shape := ⟨2, ![256, 256]⟩
abbrev S256x128 : Shape := ⟨2, ![256, 128]⟩
abbrev S256x1 : Shape := ⟨2, ![256, 1]⟩
abbrev S256 : Shape := ⟨1, ![256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩
abbrev S16x1 : Shape := ⟨2, ![16, 1]⟩

abbrev nBuf : Space → Nat
  | .hbm => 3
  | .vmem => 14
  | .smem => 0
  | _ => 0

abbrev bufTy : (tb : Table) → Fin (tcTables nBuf tb) → BufTy
  | .hbm, ⟨0, _⟩ => ⟨S16400x2048, .bf16⟩
  | .hbm, ⟨1, _⟩ => ⟨S16400x4096, .bf16⟩
  | .hbm, ⟨2, _⟩ => ⟨S16400x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S16x128, .bf16⟩
  | .local _ .vmem, ⟨7, _⟩ => ⟨S16x128, .bf16⟩
  | .local _ .vmem, ⟨8, _⟩ => ⟨S16x128, .bf16⟩
  | .local _ .vmem, ⟨9, _⟩ => ⟨S16x128, .bf16⟩
  | .local _ .vmem, ⟨10, _⟩ => ⟨S2048x128, .bf16⟩
  | .local _ .vmem, ⟨11, _⟩ => ⟨S2048x128, .bf16⟩
  | .local _ .vmem, ⟨12, _⟩ => ⟨S128x128, .bf16⟩
  | .local _ .vmem, ⟨13, _⟩ => ⟨S128x128, .bf16⟩
  | _, _ => ⟨S16400x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c8_i32 : BitVec 32 := 8#32
  let v23 : BitVec 1 := Scalar.cmpi .slt arg1 c8_i32
  let v24 : BitVec 32 := Scalar.extui v23
  let c0_i32 : BitVec 32 := 0#32
  let v25 : BitVec 1 := Scalar.cmpi .ne v24 c0_i32
  v25

def k0_cond2 (i : grid0.Coords) : BitVec 1 :=
  let arg1 : BitVec 32 := BitVec.ofNat 32 (i 1).val
  let c8_i32_14 : BitVec 32 := 8#32
  let v26 : BitVec 1 := Scalar.cmpi .eq arg1 c8_i32_14
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1024_i32 : BitVec 32 := 1024#32
  let c0_i32 : BitVec 32 := 0#32
  ![c1024_i32.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c1024_i32 : BitVec 32 := 1024#32
  let c0_i32 : BitVec 32 := 0#32
  ![c1024_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnRefIdeal.lean ====
abbrev S16400x2048 : Shape := ⟨2, ![16400, 2048]⟩
abbrev S16400x4096 : Shape := ⟨2, ![16400, 4096]⟩
abbrev S16384x2048 : Shape := ⟨2, ![16384, 2048]⟩
abbrev S8x2048x2048 : Shape := ⟨3, ![8, 2048, 2048]⟩
abbrev S16x2048 : Shape := ⟨2, ![16, 2048]⟩
abbrev S1x16x2048 : Shape := ⟨3, ![1, 16, 2048]⟩
abbrev S8x16x2048 : Shape := ⟨3, ![8, 16, 2048]⟩
abbrev S8x2064x2048 : Shape := ⟨3, ![8, 2064, 2048]⟩
abbrev S8x2064x16x128 : Shape := ⟨4, ![8, 2064, 16, 128]⟩
abbrev S8x16x2064x128 : Shape := ⟨4, ![8, 16, 2064, 128]⟩
abbrev S8x16x2064x2064 : Shape := ⟨4, ![8, 16, 2064, 2064]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S8x16x2064x1x2064 : Shape := ⟨5, ![8, 16, 2064, 1, 2064]⟩
abbrev S8x16x2064x2064x2064 : Shape := ⟨5, ![8, 16, 2064, 2064, 2064]⟩

abbrev nBuf : Space → Nat
  | .hbm => 112
  | .vmem => 0
  | .smem => 0
  | _ => 0

abbrev bufTy : (tb : Table) → Fin (tcTables nBuf tb) → BufTy
  | .hbm, ⟨0, _⟩ => ⟨S16400x2048, .bf16⟩
  | .hbm, ⟨1, _⟩ => ⟨S16400x4096, .bf16⟩
  | .hbm, ⟨2, _⟩ => ⟨S16400x2048, .bf16⟩
  | .hbm, ⟨3, _⟩ => ⟨S16400x2048, .bf16⟩
  | .hbm, ⟨4, _⟩ => ⟨S16400x2048, .f32⟩
  | .hbm, ⟨5, _⟩ => ⟨S16384x2048, .f32⟩
  | .hbm, ⟨6, _⟩ => ⟨S8x2048x2048, .f32⟩
  | .hbm, ⟨7, _⟩ => ⟨S16x2048, .f32⟩
  | .hbm, ⟨8, _⟩ => ⟨S1x16x2048, .f32⟩
  | .hbm, ⟨9, _⟩ => ⟨S8x16x2048, .f32⟩
  | .hbm, ⟨10, _⟩ => ⟨S8x2064x2048, .f32⟩
  | .hbm, ⟨11, _⟩ => ⟨S8x2064x16x128, .f32⟩
  | .hbm, ⟨12, _⟩ => ⟨S8x16x2064x128, .f32⟩
  | .hbm, ⟨13, _⟩ => ⟨S16400x2048, .f32⟩
  | .hbm, ⟨14, _⟩ => ⟨S16384x2048, .f32⟩
  | .hbm, ⟨15, _⟩ => ⟨S8x2048x2048, .f32⟩
  | .hbm, ⟨16, _⟩ => ⟨S16x2048, .f32⟩
  | .hbm, ⟨17, _⟩ => ⟨S1x16x2048, .f32⟩
  | .hbm, ⟨18, _⟩ => ⟨S8x16x2048, .f32⟩
  | .hbm, ⟨19, _⟩ => ⟨S8x2064x2048, .f32⟩
  | .hbm, ⟨20, _⟩ => ⟨S8x2064x16x128, .f32⟩
  | .hbm, ⟨21, _⟩ => ⟨S8x16x2064x128, .f32⟩
  | .hbm, ⟨22, _⟩ => ⟨S16400x2048, .f32⟩
  | .hbm, ⟨23, _⟩ => ⟨S16384x2048, .f32⟩
  | .hbm, ⟨24, _⟩ => ⟨S8x2048x2048, .f32⟩
  | .hbm, ⟨25, _⟩ => ⟨S16x2048, .f32⟩
  | .hbm, ⟨26, _⟩ => ⟨S1x16x2048, .f32⟩
  | .hbm, ⟨27, _⟩ => ⟨S8x16x2048, .f32⟩
  | .hbm, ⟨28, _⟩ => ⟨S8x2064x2048, .f32⟩
  | .hbm, ⟨29, _⟩ => ⟨S8x2064x16x128, .f32⟩
  | .hbm, ⟨30, _⟩ => ⟨S8x16x2064x128, .f32⟩
  | .hbm, ⟨31, _⟩ => ⟨S8x16x2064x2064, .f32⟩
  | .hbm, ⟨32, _⟩ => ⟨S_, .f32⟩
  | .hbm, ⟨33, _⟩ => ⟨S8x16x2064x2064, .f32⟩
  | .hbm, ⟨34, _⟩ => ⟨S8x16x2064x2064, .f32⟩
  | .hbm, ⟨35, _⟩ => ⟨S2064, .i32⟩
  | .hbm, ⟨36, _⟩ => ⟨S1x2064, .i32⟩
  | .hbm, ⟨37, _⟩ => ⟨S2064, .i32⟩
  | .hbm, ⟨38, _⟩ => ⟨S2064x1, .i32⟩
  | .hbm, ⟨39, _⟩ => ⟨S2064x2064, .i32⟩
  | .hbm, ⟨40, _⟩ => ⟨S2064x2064, .i32⟩
  | .hbm, ⟨41, _⟩ => ⟨S2064x2064, .i1⟩
  | .hbm, ⟨42, _⟩ => ⟨S8x16x2064x2064, .f32⟩
  | .hbm, ⟨43, _⟩ => ⟨S8x16x2064x2064, .f32⟩
  | .hbm, ⟨44, _⟩ => ⟨S_, .f32⟩
  | .hbm, ⟨45, _⟩ => ⟨S8x16x2064x2064, .f32⟩
  | .hbm, ⟨46, _⟩ => ⟨S8x16x2064x2064, .f32⟩
  | .hbm, ⟨47, _⟩ => ⟨S8x16x2064x2064, .f32⟩
  | .hbm, ⟨48, _⟩ => ⟨S8x16x2064x2064, .f32⟩
  | .hbm, ⟨49, _⟩ => ⟨S8x16x2064x2064, .i1⟩
  | .hbm, ⟨50, _⟩ => ⟨S8x16x2064x2064, .f32⟩
  | .hbm, ⟨51, _⟩ => ⟨S8x16x2064x2064, .f32⟩
  | .hbm, ⟨52, _⟩ => ⟨S8x16x2064x2064, .f32⟩
  | .hbm, ⟨53, _⟩ => ⟨S8x16x2064x2064, .f32⟩
  | .hbm, ⟨54, _⟩ => ⟨S8x16x2064x2064, .f32⟩
  | .hbm, ⟨55, _⟩ => ⟨S8x16x2064x2064, .f32⟩
  | .hbm, ⟨56, _⟩ => ⟨S8x16x2064x2064, .f32⟩
  | .hbm, ⟨57, _⟩ => ⟨S8x16x2064x2064, .f32⟩
  | .hbm, ⟨58, _⟩ => ⟨S8x16x2064x2064, .f32⟩
  | .hbm, ⟨59, _⟩ => ⟨S_, .f32⟩
  | .hbm, ⟨60, _⟩ => ⟨S_, .f32⟩
  | .hbm, ⟨61, _⟩ => ⟨S8x16x2064x2064, .i1⟩
  | .hbm, ⟨62, _⟩ => ⟨S8x16x2064x2064, .f32⟩
  | .hbm, ⟨63, _⟩ => ⟨S8x16x2064x2064, .f32⟩
  | .hbm, ⟨64, _⟩ => ⟨S2064, .i32⟩
  | .hbm, ⟨65, _⟩ => ⟨S1x2064, .i32⟩
  | .hbm, ⟨66, _⟩ => ⟨S2064, .i32⟩
  | .hbm, ⟨67, _⟩ => ⟨S2064x1, .i32⟩
  | .hbm, ⟨68, _⟩ => ⟨S2064x2064, .i32⟩
  | .hbm, ⟨69, _⟩ => ⟨S2064x2064, .i32⟩
  | .hbm, ⟨70, _⟩ => ⟨S2064x2064, .i1⟩
  | .hbm, ⟨71, _⟩ => ⟨S8x16x2064x1x2064, .f32⟩
  | .hbm, ⟨72, _⟩ => ⟨S_, .f32⟩
  | .hbm, ⟨73, _⟩ => ⟨S_, .f32⟩
  | .hbm, ⟨74, _⟩ => ⟨S8x16x2064x2064x2064, .i1⟩
  | .hbm, ⟨75, _⟩ => ⟨S8x16x2064x2064x2064, .f32⟩
  | .hbm, ⟨76, _⟩ => ⟨S8x16x2064x2064x2064, .f32⟩
  | .hbm, ⟨77, _⟩ => ⟨S8x16x2064x2064x2064, .f32⟩
  | .hbm, ⟨78, _⟩ => ⟨S_, .f32⟩
  | .hbm, ⟨79, _⟩ => ⟨S8x16x2064x2064, .f32⟩
  | .hbm, ⟨80, _⟩ => ⟨S8x16x2064x2064, .f32⟩
  | .hbm, ⟨81, _⟩ => ⟨S_, .f32⟩
  | .hbm, ⟨82, _⟩ => ⟨S8x16x2064x2064, .f32⟩
  | .hbm, ⟨83, _⟩ => ⟨S8x16x2064x2064, .f32⟩
  | .hbm, ⟨84, _⟩ => ⟨S8x16x2064x2064, .f32⟩
  | .hbm, ⟨85, _⟩ => ⟨S8x16x2064x2064, .f32⟩
  | .hbm, ⟨86, _⟩ => ⟨S8x16x2064x2064, .i1⟩
  | .hbm, ⟨87, _⟩ => ⟨S8x16x2064x2064, .f32⟩
  | .hbm, ⟨88, _⟩ => ⟨S8x16x2064x2064, .f32⟩
  | .hbm, ⟨89, _⟩ => ⟨S8x16x2064x2064, .f32⟩
  | .hbm, ⟨90, _⟩ => ⟨S8x16x2064x2064, .f32⟩
  | .hbm, ⟨91, _⟩ => ⟨S8x16x2064x2064, .f32⟩
  | .hbm, ⟨92, _⟩ => ⟨S8x16x2064x2064, .f32⟩
  | .hbm, ⟨93, _⟩ => ⟨S8x16x2064x2064, .f32⟩
  | .hbm, ⟨94, _⟩ => ⟨S8x16x2064x2064, .f32⟩
  | .hbm, ⟨95, _⟩ => ⟨S8x16x2064x2064, .f32⟩
  | .hbm, ⟨96, _⟩ => ⟨S8x16x2064x2064, .f32⟩
  | .hbm, ⟨97, _⟩ => ⟨S8x16x2064x2064, .f32⟩
  | .hbm, ⟨98, _⟩ => ⟨S_, .f32⟩
  | .hbm, ⟨99, _⟩ => ⟨S_, .f32⟩
  | .hbm, ⟨100, _⟩ => ⟨S8x16x2064x2064, .i1⟩
  | .hbm, ⟨101, _⟩ => ⟨S8x16x2064x2064, .f32⟩
  | .hbm, ⟨102, _⟩ => ⟨S8x16x2064x2064, .f32⟩
  | .hbm, ⟨103, _⟩ => ⟨S8x16x2064x128, .f32⟩
  | .hbm, ⟨104, _⟩ => ⟨S8x2064x16x128, .f32⟩
  | .hbm, ⟨105, _⟩ => ⟨S8x2064x2048, .f32⟩
  | .hbm, ⟨106, _⟩ => ⟨S8x2048x2048, .f32⟩
  | .hbm, ⟨107, _⟩ => ⟨S16384x2048, .f32⟩
  | .hbm, ⟨108, _⟩ => ⟨S1x16x2048, .f32⟩
  | .hbm, ⟨109, _⟩ => ⟨S16x2048, .f32⟩
  | .hbm, ⟨110, _⟩ => ⟨S16400x2048, .f32⟩
  | .hbm, ⟨111, _⟩ => ⟨S16400x2048, .bf16⟩
  | _, _ => ⟨S16400x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_cst : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_call0_v0 : Ref sig .tc := ⟨.hbm, 43, rfl⟩
abbrev main_call0_call0_cst : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_v9 : Ref sig .tc := ⟨.hbm, 54, rfl⟩
abbrev main_call0_call0_v10 : Ref sig .tc := ⟨.hbm, 55, rfl⟩
abbrev main_call0_call0_v11 : Ref sig .tc := ⟨.hbm, 56, rfl⟩
abbrev main_call0_v1 : Ref sig .tc := ⟨.hbm, 57, rfl⟩
abbrev main_v40 : Ref sig .tc := ⟨.hbm, 58, rfl⟩
abbrev main_cst_0 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_1 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_v50 : Ref sig .tc := ⟨.hbm, 77, rfl⟩
abbrev main_cst_2 : Ref sig .tc := ⟨.hbm, 78, rfl⟩
abbrev main_v51 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_3 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩

abbrev nD : Nat := 1
abbrev τ : Topo := Topo.v7x

variable {F : FTy → Type} [FloatOps F]
-- ==== Proof.Moe.Kit.lean ====
/-
  The expert call's pipeline at the tables the launch memory holds: the tables, the grid point by point, the
  staging buffers the body is called with, and the blocks of the four inputs. Everything here is at any float
  values, and under `Ok`: at the tables' contents every block an index map names lies inside its array.
-/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace MoeRun

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-- Core `c`'s buffers when the pipeline starts: as launched, the program being the pipeline alone. -/
abbrev V (c : Dev nD) (b : Ref sig .tc) : Buf (Elt F) ((c : Thread nD τ).loc b) := m ((c : Thread nD τ).loc b)

set_option maxHeartbeats 800000 in
/-- The program is the pipeline's region alone. -/
theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-! ## The tables -/

/-- The three tables' contents (there is one device). -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- At the tables' contents every block an index map names lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body is handed them: the tiles' experts, the number of tiles in use, the tiles' occupied chunks. -/
abbrev experts : Memref sig .tc .smem S40 .i32 := Memref.whole main_arg0
abbrev inUse : Memref sig .tc .smem S1 .i32 := Memref.whole main_arg1
abbrev chunks : Memref sig .tc .smem S40 .i32 := Memref.whole main_arg2

/-- A table's contents on core `c`, and the table held at half the full share: the pipeline keeps the other half. -/
abbrev TblBuf (c : Dev nD) {S : Shape} {e : EltTy} (M : Memref sig .tc .smem S e) : Type := Buf (Elt F) (M.view.loc (c : Thread nD τ))
abbrev tblPt (c : Dev nD) {S : Shape} {e : EltTy} (M : Memref sig .tc .smem S e) (f : TblBuf (F := F) c M) : sProp 𝕄 :=
  M.view.loc (c : Thread nD τ) ↦{fullShare.right} f

/-- The tables' halves, table by table. -/
theorem tables_eq (c : Dev nD) : (Pipeline.ΦT pre0 (tbl m) c : sProp 𝕄)
    = iprop(tblPt c experts (tbl m 0) ∗ tblPt c inUse (tbl m 1) ∗ tblPt c chunks (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The grid points -/

/-- A point's tile. -/
theorem coord_tile (t : Fin grid0.N) : (grid0.coords t 0).val = t.val / 11 := by
  have ht : t.val < 440 := Nat.lt_of_lt_of_eq t.isLt N_0
  have e : (grid0.coords t 0).val = t.val / 11 % 40 := Pipeline.Grid.coords_val t 0 (by decide) rfl
  omega

/-- A point's block of the hidden axis. -/
theorem coord_block (t : Fin grid0.N) : (grid0.coords t 1).val = t.val % 11 := by
  have e : (grid0.coords t 1).val = t.val / 1 % 11 := Pipeline.Grid.coords_val t 1 (by decide) rfl
  omega

/-- The result's tile is written back after its last hidden block. -/
theorem flush_iff (a : (pcfg0 (F := F)).Adm) : ∀ t : Fin (cfg0 a).N, ((cfg0 a).win 4).flush t = true ↔ t.val % 11 = 10 :=
  (fun t => Pipeline.Window.flushOf_reads cc0_transform_4 reads0_4 hreads0_4 0 (by decide) (by decide)
      (Pipeline.Window.sep_of_coord cc0_transform_4 0 0 (fun _ => rfl) (by decide)) (P := 11) (m := 10) (by decide) rfl t :
    ∀ t : Fin grid0.N, Pipeline.Window.flushOf grid0 true cc0_transform_4 t = true ↔ t.val % 11 = 10)

/-! ## The staging buffers at a point -/

abbrev mX (hO : Ok m) (t : Fin (cfgM m hO).N) : Memref sig .tc .vmem S1024x2048 .f32 := spec0_0.stage ((cfgM m hO).slots t 0)
abbrev hX (hO : Ok m) (t : Fin (cfgM m hO).N) : (mX m hO t).IsWhole := hstage0_0 (((cfgM m hO).slots t 0).cast nbuf0_0)
abbrev mG (hO : Ok m) (t : Fin (cfgM m hO).N) : Memref sig .tc .vmem S1x2048x512 .bf16 := spec0_1.stage ((cfgM m hO).slots t 1)
abbrev hG (hO : Ok m) (t : Fin (cfgM m hO).N) : (mG m hO t).IsWhole := hstage0_1 (((cfgM m hO).slots t 1).cast nbuf0_1)
abbrev mU (hO : Ok m) (t : Fin (cfgM m hO).N) : Memref sig .tc .vmem S1x2048x512 .bf16 := spec0_2.stage ((cfgM m hO).slots t 2)
abbrev hU (hO : Ok m) (t : Fin (cfgM m hO).N) : (mU m hO t).IsWhole := hstage0_2 (((cfgM m hO).slots t 2).cast nbuf0_2)
abbrev mD (hO : Ok m) (t : Fin (cfgM m hO).N) : Memref sig .tc .vmem S1x512x2048 .bf16 := spec0_3.stage ((cfgM m hO).slots t 3)
abbrev hD (hO : Ok m) (t : Fin (cfgM m hO).N) : (mD m hO t).IsWhole := hstage0_3 (((cfgM m hO).slots t 3).cast nbuf0_3)
abbrev mO (hO : Ok m) (t : Fin (cfgM m hO).N) : Memref sig .tc .vmem S1024x2048 .f32 := spec0_4.stage ((cfgM m hO).slots t 4)
abbrev hOut (hO : Ok m) (t : Fin (cfgM m hO).N) : (mO m hO t).IsWhole := hstage0_4 (((cfgM m hO).slots t 4).cast nbuf0_4)

/-- The rounded rows of the current tile, kept between the points of a tile. -/
abbrev rounded : Memref sig .tc .vmem S1024x2048 .bf16 := Memref.whole cc0_scratch0

/-- The body at a point, on what the pipeline calls it with. -/
abbrev bodyAt (hO : Ok m) (t : Fin (cfgM m hO).N) : Prog (TpuEff nD τ sig (Elt F) Λ₀ .tc) PUnit :=
  cc0_moe_experts (grid0.coords t) experts (Memref.isWhole_whole _) inUse (Memref.isWhole_whole _) chunks (Memref.isWhole_whole _)
    (mX m hO t) (hX m hO t) (mG m hO t) (hG m hO t) (mU m hO t) (hU m hO t) (mD m hO t) (hD m hO t) (mO m hO t) (hOut m hO t)
    rounded (Memref.isWhole_whole _)

/-- Before the first point: the kept rows at anything, and the generator register. -/
theorem scoped_eq (c : Dev nD) : (Pipeline.ΦA spec0 c : sProp 𝕄)
    = iprop((∃ d, owns (c : Thread nD τ) rounded fullShare d) ∗ (∃ r, prngReg c r)) := by
  unfold Pipeline.ΦA; rw [scopedRest0_eq]; simp only [rounded, owns_whole]; rfl

/-! ## The inputs' blocks -/

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

end MoeRun

end
-- ==== Proof.Moe.Body.lean ====
/-
  One point of the expert call, as a function of what the buffers hold: `keptRows` and `outRows` say what the kept
  rows and the result's block hold after the point, and `run` that the body leaves exactly that, whichever of its
  conditions hold. The conditions read two words: the number of tiles in use, and the number of occupied chunks of the
  point's tile.
-/
module

public import proofs.«01_k».proof.Proof.Moe.Kit
public import Idealize.ShloMosaic.Lib.VecWindow
public import Idealize.ShloMosaic.Lib.Pipeline.TableIdle

@[expose] public section

set_option maxRecDepth 16384

noncomputable section

namespace MoeRun

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What a point computes -/

/-- A whole buffer of the row blocks' shape, read as a window of itself. -/
abbrev allRows {α : Type} (x : S1024x2048.Idx → α) : S1024x2048.Idx → α := VecWindow.window x ![0, 0] ![1024, 2048] inb_S1024x2048_S1024x2048_0_0
/-- The same of the weight blocks' shapes. -/
abbrev block3 {α : Type} (x : S1x2048x512.Idx → α) : S1x2048x512.Idx → α := VecWindow.window x ![0, 0, 0] ![1, 2048, 512] inb_S1x2048x512_S1x2048x512_0_0_0
abbrev block3d {α : Type} (x : S1x512x2048.Idx → α) : S1x512x2048.Idx → α := VecWindow.window x ![0, 0, 0] ![1, 512, 2048] inb_S1x512x2048_S1x512x2048_0_0_0

/-- The condition under which the rows are rounded anew: the tile is in use and the point is its first. -/
def anew (i : grid0.Coords) (n : Elt F .i32) : BitVec 1 :=
  Scalar.cmpi CmpIPredicate.ne (Scalar.extui (Scalar.andi (Scalar.cmpi CmpIPredicate.slt (BitVec.ofNat 32 (i 0).val) n)
    (Scalar.cmpi CmpIPredicate.eq (BitVec.ofNat 32 (i 1).val) 0#32))) 0#32

/-- The kept rows after a point. -/
def keptRows (i : grid0.Coords) (n : Elt F .i32) (x : Vec F S1024x2048 .f32) (r : Vec F S1024x2048 .bf16) : Vec F S1024x2048 .bf16 :=
  if anew (F := F) i n = 1#1 then VecWindow.put r ![0, 0] ![1024, 2048] (k0_pay2 (allRows x)) else r

/-- The result's block cleared at a tile's first point. -/
def cleared (i : grid0.Coords) (o : Vec F S1024x2048 .f32) : Vec F S1024x2048 .f32 :=
  if k0_cond1 i = 1#1 then VecWindow.put o ![0, 0] ![1024, 2048] (k0_pay1 (F := F)) else o

/-- The update of the first 256 rows, done where the tile is in use and has 1 occupied chunk. -/
def add1 (i : grid0.Coords) (n k : Elt F .i32) (r : Vec F S1024x2048 .bf16) (wg wu : Vec F S1x2048x512 .bf16) (wd : Vec F S1x512x2048 .bf16)
    (o : Vec F S1024x2048 .f32) : Vec F S1024x2048 .f32 :=
  if k0_cond3 i n k = 1#1 then
    VecWindow.put o ![0, 0] ![256, 2048] (k0_pay3 (VecWindow.window o ![0, 0] ![256, 2048] inb_S1024x2048_S256x2048_0_0)
      (VecWindow.window r ![0, 0] ![256, 2048] inb_S1024x2048_S256x2048_0_0) (block3 wg) (block3 wu) (block3d wd))
  else o

/-- The update of the first 512 rows, done where the tile is in use and has 2 occupied chunks. -/
def add2 (i : grid0.Coords) (n k : Elt F .i32) (r : Vec F S1024x2048 .bf16) (wg wu : Vec F S1x2048x512 .bf16) (wd : Vec F S1x512x2048 .bf16)
    (o : Vec F S1024x2048 .f32) : Vec F S1024x2048 .f32 :=
  if k0_cond4 i n k = 1#1 then
    VecWindow.put o ![0, 0] ![512, 2048] (k0_pay4 (VecWindow.window o ![0, 0] ![512, 2048] inb_S1024x2048_S512x2048_0_0)
      (VecWindow.window r ![0, 0] ![512, 2048] inb_S1024x2048_S512x2048_0_0) (block3 wg) (block3 wu) (block3d wd))
  else o

/-- The update of the first 768 rows, done where the tile is in use and has 3 occupied chunks. -/
def add3 (i : grid0.Coords) (n k : Elt F .i32) (r : Vec F S1024x2048 .bf16) (wg wu : Vec F S1x2048x512 .bf16) (wd : Vec F S1x512x2048 .bf16)
    (o : Vec F S1024x2048 .f32) : Vec F S1024x2048 .f32 :=
  if k0_cond5 i n k = 1#1 then
    VecWindow.put o ![0, 0] ![768, 2048] (k0_pay5 (VecWindow.window o ![0, 0] ![768, 2048] inb_S1024x2048_S768x2048_0_0)
      (VecWindow.window r ![0, 0] ![768, 2048] inb_S1024x2048_S768x2048_0_0) (block3 wg) (block3 wu) (block3d wd))
  else o

/-- The update of the first 1024 rows, done where the tile is in use and has 4 occupied chunks. -/
def add4 (i : grid0.Coords) (n k : Elt F .i32) (r : Vec F S1024x2048 .bf16) (wg wu : Vec F S1x2048x512 .bf16) (wd : Vec F S1x512x2048 .bf16)
    (o : Vec F S1024x2048 .f32) : Vec F S1024x2048 .f32 :=
  if k0_cond6 i n k = 1#1 then
    VecWindow.put o ![0, 0] ![1024, 2048] (k0_pay6 (VecWindow.window o ![0, 0] ![1024, 2048] inb_S1024x2048_S1024x2048_0_0)
      (VecWindow.window r ![0, 0] ![1024, 2048] inb_S1024x2048_S1024x2048_0_0) (block3 wg) (block3 wu) (block3d wd))
  else o

/-- The result's block after a point: `r` is the kept rows after it. -/
def outRows (i : grid0.Coords) (n k : Elt F .i32) (r : Vec F S1024x2048 .bf16) (wg wu : Vec F S1x2048x512 .bf16) (wd : Vec F S1x512x2048 .bf16)
    (o : Vec F S1024x2048 .f32) : Vec F S1024x2048 .f32 :=
  add4 i n k r wg wu wd (add3 i n k r wg wu wd (add2 i n k r wg wu wd (add1 i n k r wg wu wd (cleared i o))))

/-! ## Reading the buffers a run leaves -/

theorem read_choice (c : Dev nD) {sp : Space} {s : Shape} {e : EltTy} (M : Memref sig .tc sp s e) (p : Prop) [Decidable p]
    (f g : Buf (Elt F) (M.view.loc (c : Thread nD τ))) :
    M.view.read (Elt F) (if _ : p then f else g) = if p then M.view.read (Elt F) f else M.view.read (Elt F) g := by
  by_cases h : p
  · rw [dif_pos h, if_pos h]
  · rw [dif_neg h, if_neg h]

theorem read_store {κ : Kind} {sp : Space} {s : Shape} {e : EltTy} (v : View sig κ sp s e) (f : v.ty.Contents (Elt F)) {off size : Fin s.rank → ℕ}
    (inb : ∀ a, off a + size a ≤ s.size a) (w : (Rect.unit off size inb).shape.Idx → Elt F e) :
    v.read (Elt F) (v.writes (Elt F) f [⟨Rect.unit off size inb, w⟩]) = VecWindow.put (v.read (Elt F) f) off size w :=
  View.read_writes_cons_put v f inb w [] rfl

theorem load_window {κ : Kind} {sp : Space} {s : Shape} {e : EltTy} (v : View sig κ sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl

theorem read_pt {κ : Kind} {sp : Space} {s : Shape} {e : EltTy} (v : View sig κ sp s e) (x : s.Idx → Elt F e) :
    v.read (Elt F) (v.rep x) = x := View.read_rep v x

/-! ## The tables' words -/

/-- The number of tiles in use. -/
def usedWord (c : Dev nD) (nu : TblBuf (F := F) c inUse) : Elt F .i32 :=
  VecWindow.window (inUse.view.read (Elt F) nu) ![0] ![1] inb_S1_S1_0 (Shape.Idx.first (Nat.lt_of_lt_of_eq Nat.one_pos numel1_S1.symm))

/-- The number of occupied chunks of tile `r`. -/
def chunkWord (c : Dev nD) (nc : TblBuf (F := F) c chunks) (i : grid0.Coords) : Elt F .i32 :=
  VecWindow.window (chunks.view.read (Elt F) nc) (k0_off2 i) ![1] (k0_off2_inb i) (Shape.Idx.first (Nat.lt_of_lt_of_eq Nat.one_pos numel1_S1.symm))

/-! ## The run -/

set_option maxHeartbeats 1000000 in
/-- One point: the inputs and the tables as they were, the kept rows and the result's block as `keptRows` and `outRows` say. -/
theorem run (c : Dev nD) (i : grid0.Coords)
    (aX : Memref sig .tc .vmem S1024x2048 .f32) (hX : aX.IsWhole) (aG : Memref sig .tc .vmem S1x2048x512 .bf16) (hG : aG.IsWhole)
    (aU : Memref sig .tc .vmem S1x2048x512 .bf16) (hU : aU.IsWhole) (aD : Memref sig .tc .vmem S1x512x2048 .bf16) (hD : aD.IsWhole)
    (aO : Memref sig .tc .vmem S1024x2048 .f32) (hO : aO.IsWhole) (aR : Memref sig .tc .vmem S1024x2048 .bf16) (hR : aR.IsWhole)
    (te : TblBuf (F := F) c experts) (nu : TblBuf (F := F) c inUse) (nc : TblBuf (F := F) c chunks)
    (x : Vec F S1024x2048 .f32) (wg wu : Vec F S1x2048x512 .bf16) (wd : Vec F S1x512x2048 .bf16)
    (o : Vec F S1024x2048 .f32) (r : Vec F S1024x2048 .bf16) (E : Set ℕ) (K : PUnit → sProp 𝕄) :
    iprop(owns (c : Thread nD τ) aX fullShare x ∗ owns (c : Thread nD τ) aG fullShare wg ∗ owns (c : Thread nD τ) aU fullShare wu
        ∗ owns (c : Thread nD τ) aD fullShare wd ∗ owns (c : Thread nD τ) aO fullShare o ∗ owns (c : Thread nD τ) aR fullShare r
        ∗ tblPt c experts te ∗ tblPt c inUse nu ∗ tblPt c chunks nc ∗
        (iprop(owns (c : Thread nD τ) aX fullShare x ∗ owns (c : Thread nD τ) aG fullShare wg ∗ owns (c : Thread nD τ) aU fullShare wu
        ∗ owns (c : Thread nD τ) aD fullShare wd
        ∗ owns (c : Thread nD τ) aO fullShare (outRows i (usedWord c nu) (chunkWord c nc i) (keptRows i (usedWord c nu) x r) wg wu wd o)
        ∗ owns (c : Thread nD τ) aR fullShare (keptRows i (usedWord c nu) x r)
        ∗ tblPt c experts te ∗ tblPt c inUse nu ∗ tblPt c chunks nc) -∗ K ⟨⟩))
      ⊢ wp frame (wpE (defs₀ (F := F)) Variants.none c none) E
          (cc0_moe_experts i experts (Memref.isWhole_whole _) inUse (Memref.isWhole_whole _) chunks (Memref.isWhole_whole _)
            aX hX aG hG aU hU aD hD aO hO aR hR) K := by
  simp only [cc0_moe_experts_eq_skeleton]; unfold cc0_moe_experts_skel
  simp only [owns_eq_rep]
  iintro ⟨HX, HG, HU, HD, HO, HR, HT, HN, HC, Hk⟩
  sl_exec
  sl_step
  iapply Hk
  isplitl [HX]; · iexact HX
  isplitl [HG]; · iexact HG
  isplitl [HU]; · iexact HU
  isplitl [HD]; · iexact HD
  isplitl [HO]
  · iapply (pointsTo_rep_of_read c aO _ fullShare (outRows i (usedWord c nu) (chunkWord c nc i) (keptRows i (usedWord c nu) x r) wg wu wd o) ?_)
    on_goal 2 => iexact HO
    sl_unfold_words
    simp only [read_choice c, read_store, load_window, read_pt]
    rfl
  isplitl [HR]
  · iapply (pointsTo_rep_of_read c aR _ fullShare (keptRows i (usedWord c nu) x r) ?_)
    on_goal 2 => iexact HR
    sl_unfold_words
    simp only [read_choice c, read_store, load_window, read_pt]
    rfl
  isplitl [HT]; · iexact HT
  isplitl [HN]; · iexact HN
  iexact HC

end MoeRun

end
-- ==== Proof.Moe.Frame.lean ====
/-
  The expert call's run: what the result's block and the kept rows hold after every point (`after`), by one recursion
  over the points; the pipeline's proof data; the body's obligation at a generic point; and the frame.

  A point of a tile that is not in use stores nothing (past the tile's first point, which clears the block): there the
  result's buffer is carried, as the recursion says.
-/
module

public import proofs.«01_k».proof.Proof.Moe.Body
public import Idealize.ShloMosaic.Lib.Claim

@[expose] public section

set_option maxRecDepth 16384

noncomputable section

namespace MoeRun

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words the points read -/

/-- The number of tiles in use, and the occupied chunks of a point's tile, at the launch memory's tables. -/
abbrev nUsed : Elt F .i32 := usedWord (0 : Dev nD) (tbl m 1)
abbrev nChunks (i : grid0.Coords) : Elt F .i32 := chunkWord (0 : Dev nD) (tbl m 2) i

theorem used_at (c : Dev nD) : usedWord c (tbl m 1) = (tbl m).atD 1 ![0] := by
  unfold usedWord Pipeline.Prefetch.Contents.atD
  rw [dif_pos (by decide)]
  exact congrArg (tbl m 1) (funext fun (a : Fin 1) => Fin.ext (by
    obtain rfl : a = 0 := Subsingleton.elim _ _
    rfl))

theorem chunk_at (c : Dev nD) (i : grid0.Coords) : chunkWord c (tbl m 2) i = (tbl m).atD 2 (k0_off2 i) := by
  unfold chunkWord Pipeline.Prefetch.Contents.atD
  have h : ∀ a : Fin (pre0.ref 2).ty.shape.rank, k0_off2 i a + 1 ≤ (pre0.ref 2).ty.shape.size a := fun (a : Fin 1) => by
    obtain rfl : a = 0 := Subsingleton.elim _ _
    exact k0_off2_inb i 0
  rw [dif_pos h]
  exact congrArg (tbl m 2) (funext fun (a : Fin 1) => Fin.ext (by
    obtain rfl : a = 0 := Subsingleton.elim _ _
    rfl))

/-- A tile's first point is the one of block 0. -/
theorem first_iff (t : Fin grid0.N) : k0_cond1 (grid0.coords t) = 1#1 ↔ t.val % 11 = 0 := by
  have ht : t.val < 440 := Nat.lt_of_lt_of_eq t.isLt N_0
  have e1 := coord_block t
  unfold k0_cond1
  simp only [e1]
  word_cmp

/-- A store of every row leaves nothing of what was there. -/
theorem put_all {α : Type} (x x' w : S1024x2048.Idx → α) :
    VecWindow.put x ![0, 0] ![1024, 2048] w = VecWindow.put x' ![0, 0] ![1024, 2048] w := by
  funext y
  have h : ∀ a, (![0, 0] : Fin 2 → ℕ) a ≤ (y a).val ∧ (y a).val < (![0, 0] : Fin 2 → ℕ) a + (![1024, 2048] : Fin 2 → ℕ) a := fun a => by
    have := (y a).isLt
    fin_cases a
    · exact ⟨Nat.zero_le _, by show (y 0).val < 0 + 1024; have h0 : (y 0).val < 1024 := (y 0).isLt; omega⟩
    · exact ⟨Nat.zero_le _, by show (y 1).val < 0 + 2048; have h0 : (y 1).val < 2048 := (y 1).isLt; omega⟩
  unfold VecWindow.put
  rw [dif_pos h, dif_pos h]

/-- At a tile's first point the result's block does not depend on what was there. -/
theorem outRows_first (i : grid0.Coords) (h : k0_cond1 i = 1#1) (n k : Elt F .i32) (r : Vec F S1024x2048 .bf16) (wg wu : Vec F S1x2048x512 .bf16)
    (wd : Vec F S1x512x2048 .bf16) (o o' : Vec F S1024x2048 .f32) : outRows i n k r wg wu wd o = outRows i n k r wg wu wd o' := by
  have e : cleared i o = cleared i o' := by
    unfold cleared; rw [if_pos h, if_pos h, put_all o o']
  unfold outRows; rw [e]

/-- Where the rows are rounded anew the kept rows do not depend on what was there. -/
theorem keptRows_anew (i : grid0.Coords) (n : Elt F .i32) (h : anew (F := F) i n = 1#1) (x : Vec F S1024x2048 .f32) (r r' : Vec F S1024x2048 .bf16) :
    keptRows i n x r = keptRows i n x r' := by
  unfold keptRows; rw [if_pos h, if_pos h, put_all r r']

/-- An idle point leaves the result's block as it was. -/
theorem outRows_idle (hO : Ok m) (i : grid0.Coords) (h : (cfgM m hO).idle 4 i = true) (r : Vec F S1024x2048 .bf16) (wg wu : Vec F S1x2048x512 .bf16)
    (wd : Vec F S1x512x2048 .bf16) (o : Vec F S1024x2048 .f32) : k0_cond1 i ≠ 1#1 ∧ outRows i (nUsed m) (nChunks m i) r wg wu wd o = o := by
  have h' : (!(k0_cond1 i == 1#1) && !(k0_cond3 i ((tbl m).atD 1 ![0]) ((tbl m).atD 2 (k0_off2 i)) == 1#1)
      && !(k0_cond4 i ((tbl m).atD 1 ![0]) ((tbl m).atD 2 (k0_off3 i)) == 1#1)
      && !(k0_cond5 i ((tbl m).atD 1 ![0]) ((tbl m).atD 2 (k0_off4 i)) == 1#1)
      && !(k0_cond6 i ((tbl m).atD 1 ![0]) ((tbl m).atD 2 (k0_off5 i)) == 1#1)) = true := h
  simp only [Bool.and_eq_true, Bool.not_eq_true', beq_eq_false_iff_ne] at h'
  obtain ⟨⟨⟨⟨h1, h3⟩, h4⟩, h5⟩, h6⟩ := h'
  rw [← chunk_at m 0 i, ← used_at m 0] at h3
  have e3 : k0_off3 i = k0_off2 i := rfl
  have e4 : k0_off4 i = k0_off2 i := rfl
  have e5 : k0_off5 i = k0_off2 i := rfl
  rw [e3, ← chunk_at m 0 i, ← used_at m 0] at h4
  rw [e4, ← chunk_at m 0 i, ← used_at m 0] at h5
  rw [e5, ← chunk_at m 0 i, ← used_at m 0] at h6
  refine ⟨h1, ?_⟩
  unfold outRows add4 add3 add2 add1 cleared
  rw [if_neg h1, if_neg h3, if_neg h4, if_neg h5, if_neg h6]

/-! ## What the buffers hold after each point -/

/-- The pair of the result's block and the kept rows after point `t`, from what they held before it. -/
def pointStep (hO : Ok m) (c : Dev nD) (t : Fin (cfgM m hO).N) (s : Vec F S1024x2048 .f32 × Vec F S1024x2048 .bf16) :
    Vec F S1024x2048 .f32 × Vec F S1024x2048 .bf16 :=
  (outRows (grid0.coords t) (nUsed m) (nChunks m (grid0.coords t)) (keptRows (grid0.coords t) (nUsed m) (iblk m hO c 0 t) s.2)
      (iblk m hO c 1 t) (iblk m hO c 2 t) (iblk m hO c 3 t) s.1,
    keptRows (grid0.coords t) (nUsed m) (iblk m hO c 0 t) s.2)

/-- After each point, the block and the kept rows. (What stands before the first point is never read.) -/
def held (hO : Ok m) (c : Dev nD) : (n : ℕ) → n < (cfgM m hO).N → Vec F S1024x2048 .f32 × Vec F S1024x2048 .bf16
  | 0, h => pointStep m hO c ⟨0, h⟩ (k0_pay1 (F := F), k0_pay2 (iblk m hO c 0 ⟨0, h⟩))
  | n + 1, h => pointStep m hO c ⟨n + 1, h⟩ (held hO c n (Nat.lt_of_succ_lt h))

theorem held_pos (hO : Ok m) (c : Dev nD) (t : Fin (cfgM m hO).N) (h : t.val ≠ 0) :
    held m hO c t.val t.isLt = pointStep m hO c t (held m hO c (t.val - 1) (Nat.lt_of_le_of_lt (Nat.sub_le _ _) t.isLt)) := by
  obtain ⟨n, hn⟩ := t
  cases n with
  | zero => exact absurd rfl h
  | succ n => rfl

/-! ## The proof data -/

/-- The invariant before position `n`: the kept rows at what the point before left, the generator register, the tables' halves. -/
def inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(owns (c : Thread nD τ) rounded fullShare (held m hO c n hn).2 ∗ (∃ r, prngReg c r)) ∗ Pipeline.ΦT pre0 (tbl m) c)

theorem inv_zero (hO : Ok m) (c : Dev nD) (n : ℕ) (h : n ≤ (cfgM m hO).N) (hz : n = 0) :
    inv m hO c n h = iprop(Pipeline.ΦA spec0 c ∗ Pipeline.ΦT pre0 (tbl m) c) := by
  subst hz; rfl

theorem inv_succ (hO : Ok m) (c : Dev nD) (n : ℕ) (hn : n < (cfgM m hO).N) :
    inv m hO c (n + 1) hn = iprop(iprop(owns (c : Thread nD τ) rounded fullShare (held m hO c n hn).2 ∗ (∃ r, prngReg c r)) ∗ Pipeline.ΦT pre0 (tbl m) c) := rfl

theorem inv_pos (hO : Ok m) (c : Dev nD) (n : ℕ) (h : n ≤ (cfgM m hO).N) (hz : n ≠ 0) :
    inv m hO c n h = iprop(iprop(owns (c : Thread nD τ) rounded fullShare (held m hO c (n - 1) (by omega)).2 ∗ (∃ r, prngReg c r)) ∗ Pipeline.ΦT pre0 (tbl m) c) := by
  cases n with
  | zero => exact absurd rfl hz
  | succ n => rfl

/-- The proof data of the one pipeline on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (held m hO c t.val t.isLt).1
  Φ t := inv m hO c t.val (Nat.le_of_lt_succ t.isLt)
  q _ := fullShare
  owed _ := 0

theorem entry_eq (hO : Ok m) (c : Dev nD) (w : Fin (cfgM m hO).W) : (dats m hO 0 c).A w = V m c (Pipeline.arrRef spec0 w) := by
  dsimp only [dats]

theorem inv_castSucc (hO : Ok m) (c : Dev nD) (t : Fin (cfgM m hO).N) :
    (dats m hO 0 c).Φ t.castSucc = inv m hO c t.val (Nat.le_of_lt t.isLt) := by
  dsimp only [dats]; exact Pipeline.Dat.Φ_castSucc (inv m hO c) t

theorem after_x (hO : Ok m) (c : Dev nD) (t : Fin (cfgM m hO).N) : (dats m hO 0 c).after 0 t = iblk m hO c 0 t := by dsimp only [dats]; try rfl
theorem after_g (hO : Ok m) (c : Dev nD) (t : Fin (cfgM m hO).N) : (dats m hO 0 c).after 1 t = iblk m hO c 1 t := by dsimp only [dats]; try rfl
theorem after_u (hO : Ok m) (c : Dev nD) (t : Fin (cfgM m hO).N) : (dats m hO 0 c).after 2 t = iblk m hO c 2 t := by dsimp only [dats]; try rfl
theorem after_d (hO : Ok m) (c : Dev nD) (t : Fin (cfgM m hO).N) : (dats m hO 0 c).after 3 t = iblk m hO c 3 t := by dsimp only [dats]; try rfl
theorem after_o (hO : Ok m) (c : Dev nD) (t : Fin (cfgM m hO).N) : (dats m hO 0 c).after 4 t = (held m hO c t.val t.isLt).1 := by dsimp only [dats]; try rfl

/-- Each input's buffer holds its block at every point, fetched there or not. -/
theorem before_x (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_x]; unfold Dat.blockOf iblk; rw [entry_eq]; try rfl) t d).trans (by unfold Dat.fetched Dat.blockOf iblk; rw [entry_eq]; try rfl)
theorem before_g (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_g]; unfold Dat.blockOf iblk; rw [entry_eq]; try rfl) t d).trans (by unfold Dat.fetched Dat.blockOf iblk; rw [entry_eq]; try rfl)
theorem before_u (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_u]; unfold Dat.blockOf iblk; rw [entry_eq]; try rfl) t d).trans (by unfold Dat.fetched Dat.blockOf iblk; rw [entry_eq]; try rfl)
theorem before_d (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after_d]; unfold Dat.blockOf iblk; rw [entry_eq]; try rfl) t d).trans (by unfold Dat.fetched Dat.blockOf iblk; rw [entry_eq]; try rfl)

/-- The result's buffer holds nothing stored since its last write-back exactly where a tile begins. -/
theorem fresh_eq (hO : Ok m) (n : ℕ) (h : n ≤ (cfgM m hO).N) : (cfgM m hO).fresh 4 n = decide (n % 11 = 0) := by
  refine Pipeline.Cfg.fresh_tab (cfgM m hO) 4 (fun n => decide (n % 11 = 0)) rfl (fun t => ?_) n h
  have hN : t.val < 440 := Nat.lt_of_lt_of_eq t.isLt N_0
  have hf := flush_iff (adm m hO) t
  by_cases h10 : t.val % 11 = 10
  · rw [hf.mpr h10, Bool.true_or]
    exact decide_eq_true (by omega)
  · rw [Bool.eq_false_iff.mpr fun h => h10 (hf.mp h), Bool.false_or]
    have e : decide ((t.val + 1) % 11 = 0) = false := decide_eq_false (by omega)
    refine e.trans (Eq.symm (Bool.eq_false_iff.mpr fun hh => ?_))
    rw [Bool.and_eq_true] at hh
    exact (outRows_idle m hO _ hh.1 (k0_pay2 (iblk m hO 0 0 t)) (iblk m hO 0 1 t) (iblk m hO 0 2 t) (iblk m hO 0 3 t) k0_pay1).1
      ((first_iff t).mpr (of_decide_eq_true hh.2))

/-- Past a tile's first point the result's buffer holds what the point before left, stored there or carried. -/
theorem before_o (hO : Ok m) (c : Dev nD) (t : Fin (cfgM m hO).N) (h : t.val % 11 ≠ 0) (d) :
    (dats m hO 0 c).before 4 t d = (held m hO c (t.val - 1) (Nat.lt_of_le_of_lt (Nat.sub_le _ _) t.isLt)).1 := by
  have e := (dats m hO 0 c).before_out_traj 4 rfl (fun _ _ => rfl) (fun t ht hi hf => ?_) t.val t rfl d
  · rw [e, fresh_eq m hO _ (Nat.le_of_lt t.isLt), if_neg (by rw [decide_eq_false h]; exact Bool.false_ne_true), after_o]
  · rw [after_o, after_o, held_pos m hO c t ht]
    exact (outRows_idle m hO _ hi _ _ _ _ _).2

/-! ## The body's obligation -/

/-- What the body is called with at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (mX m hO t) fullShare ((dats m hO 0 c).before 0 t d))
    ∗ (∃ d, owns (c : Thread nD τ) (mG m hO t) fullShare ((dats m hO 0 c).before 1 t d))
    ∗ (∃ d, owns (c : Thread nD τ) (mU m hO t) fullShare ((dats m hO 0 c).before 2 t d))
    ∗ (∃ d, owns (c : Thread nD τ) (mD m hO t) fullShare ((dats m hO 0 c).before 3 t d))
    ∗ (∃ d, owns (c : Thread nD τ) (mO m hO t) fullShare ((dats m hO 0 c).before 4 t d)))

/-- and what it returns: the result's buffer as the pipeline asks of a point that may store nothing. -/
def bodyPost (hO : Ok m) (c : Dev nD) (t : Fin (cfgM m hO).N) : sProp 𝕄 :=
  iprop((dats m hO 0 c).Φ t.succ ∗ (dats m hO 0 c).owesAt () t.succ
    ∗ owns (c : Thread nD τ) (mX m hO t) fullShare ((dats m hO 0 c).after 0 t)
    ∗ owns (c : Thread nD τ) (mG m hO t) fullShare ((dats m hO 0 c).after 1 t)
    ∗ owns (c : Thread nD τ) (mU m hO t) fullShare ((dats m hO 0 c).after 2 t)
    ∗ owns (c : Thread nD τ) (mD m hO t) fullShare ((dats m hO 0 c).after 3 t)
    ∗ (match (cfgM m hO).idle 4 ((cfgM m hO).grid.coords t) with
        | true =>
          match ((cfgM m hO).win 4).flush t with
          | false => iprop(∃ d, owns (c : Thread nD τ) (mO m hO t) fullShare ((dats m hO 0 c).before 4 t d))
          | true => owns (c : Thread nD τ) (mO m hO t) fullShare ((dats m hO 0 c).after 4 t)
        | false => owns (c : Thread nD τ) (mO m hO t) fullShare ((dats m hO 0 c).after 4 t)))

/-- The result's buffer as returned, from its contents: those of the recursion, and at an idle point those found. -/
theorem give_o (hO : Ok m) (c : Dev nD) (t : Fin (cfgM m hO).N) (d) (X : Vec F S1024x2048 .f32) (h : X = (held m hO c t.val t.isLt).1)
    (hi : (cfgM m hO).idle 4 ((cfgM m hO).grid.coords t) = true → X = (dats m hO 0 c).before 4 t d) :
    (owns (c : Thread nD τ) (mO m hO t) fullShare X : sProp 𝕄)
      ⊢ (match (cfgM m hO).idle 4 ((cfgM m hO).grid.coords t) with
        | true =>
          match ((cfgM m hO).win 4).flush t with
          | false => iprop(∃ d, owns (c : Thread nD τ) (mO m hO t) fullShare ((dats m hO 0 c).before 4 t d))
          | true => owns (c : Thread nD τ) (mO m hO t) fullShare ((dats m hO 0 c).after 4 t)
        | false => owns (c : Thread nD τ) (mO m hO t) fullShare ((dats m hO 0 c).after 4 t)) := by
  rw [after_o, ← h]
  cases e : (cfgM m hO).idle 4 ((cfgM m hO).grid.coords t) with
  | false => exact .rfl
  | true =>
    cases ((cfgM m hO).win 4).flush t with
    | true => exact .rfl
    | false =>
      have e' : X = (dats m hO 0 c).before 4 t d := hi e
      dsimp only
      iintro H
      iexists d
      rw [← e']
      iexact H

/-- The tables on core `c` are read the same from either spelling of the one device. -/
theorem step_eq (hO : Ok m) (c : Dev nD) (t : Fin (cfgM m hO).N) (o : Vec F S1024x2048 .f32) (r : Vec F S1024x2048 .bf16) :
    pointStep m hO c t (o, r)
      = (outRows (grid0.coords t) (usedWord c (tbl m 1)) (chunkWord c (tbl m 2) (grid0.coords t))
          (keptRows (grid0.coords t) (usedWord c (tbl m 1)) (iblk m hO c 0 t) r) (iblk m hO c 1 t) (iblk m hO c 2 t) (iblk m hO c 3 t) o,
        keptRows (grid0.coords t) (usedWord c (tbl m 1)) (iblk m hO c 0 t) r) := by
  obtain rfl : c = 0 := Subsingleton.elim _ _
  rfl

set_option maxHeartbeats 1600000 in
/-- The body at a point where the kept rows hold `r`, and `held` is the step from `r` and from whatever the result's buffer holds. -/
theorem sound_of (hO : Ok m) (c : Dev nD) (t : Fin (cfgM m hO).N) (r : Vec F S1024x2048 .bf16)
    (hs : ∀ d, held m hO c t.val t.isLt = pointStep m hO c t ((dats m hO 0 c).before 4 t d, r)) :
    iprop(iprop(iprop(owns (c : Thread nD τ) rounded fullShare r ∗ (∃ r, prngReg c r)) ∗ Pipeline.ΦT pre0 (tbl m) c)
      ∗ (dats m hO 0 c).owesAt () t.castSucc
      ∗ (∃ d, owns (c : Thread nD τ) (mX m hO t) fullShare ((dats m hO 0 c).before 0 t d))
      ∗ (∃ d, owns (c : Thread nD τ) (mG m hO t) fullShare ((dats m hO 0 c).before 1 t d))
      ∗ (∃ d, owns (c : Thread nD τ) (mU m hO t) fullShare ((dats m hO 0 c).before 2 t d))
      ∗ (∃ d, owns (c : Thread nD τ) (mD m hO t) fullShare ((dats m hO 0 c).before 3 t d))
      ∗ (∃ d, owns (c : Thread nD τ) (mO m hO t) fullShare ((dats m hO 0 c).before 4 t d)))
      ⊢ wp frame (wpE (defs₀ (F := F)) Variants.none c none) Set.univ (bodyAt m hO t) (fun _ => bodyPost m hO c t) := by
  unfold bodyPost bodyAt
  simp only [before_x, before_g, before_u, before_d]
  rw [show (dats m hO 0 c).owesAt () t.succ = (dats m hO 0 c).owesAt () t.castSucc from rfl, after_x, after_g, after_u, after_d]
  rw [show (dats m hO 0 c).Φ t.succ = inv m hO c (t.val + 1) t.isLt from rfl, inv_succ, tables_eq]
  iintro ⟨⟨⟨HR, Hg⟩, ⟨HT, HN, HC⟩⟩, Hw, ⟨%d0, HX⟩, ⟨%d1, HG⟩, ⟨%d2, HU⟩, ⟨%d3, HD⟩, ⟨%d4, HO⟩⟩
  have e := (hs d4).trans (step_eq m hO c t _ r)
  iapply (run c (grid0.coords t) (mX m hO t) (hX m hO t) (mG m hO t) (hG m hO t) (mU m hO t) (hU m hO t) (mD m hO t) (hD m hO t)
    (mO m hO t) (hOut m hO t) rounded (Memref.isWhole_whole _) (tbl m 0) (tbl m 1) (tbl m 2)
    (iblk m hO c 0 t) (iblk m hO c 1 t) (iblk m hO c 2 t) (iblk m hO c 3 t) ((dats m hO 0 c).before 4 t d4) r Set.univ _)
  isplitl [HX]; · iexact HX
  isplitl [HG]; · iexact HG
  isplitl [HU]; · iexact HU
  isplitl [HD]; · iexact HD
  isplitl [HO]; · iexact HO
  isplitl [HR]; · iexact HR
  isplitl [HT]; · iexact HT
  isplitl [HN]; · iexact HN
  isplitl [HC]; · iexact HC
  iintro ⟨HX, HG, HU, HD, HO, HR, HT, HN, HC⟩
  isplitl [HR Hg HT HN HC]
  · isplitl [HR Hg]
    · isplitl [HR]
      · rw [e]; iexact HR
      iexact Hg
    isplitl [HT]; · iexact HT
    isplitl [HN]; · iexact HN
    iexact HC
  isplitl [Hw]; · iexact Hw
  isplitl [HX]; · iexact HX
  isplitl [HG]; · iexact HG
  isplitl [HU]; · iexact HU
  isplitl [HD]; · iexact HD
  iapply (give_o m hO c t d4 _ (congrArg Prod.fst e).symm (fun hi => ?_))
  on_goal 2 => iexact HO
  obtain rfl : c = 0 := Subsingleton.elim _ _
  exact (outRows_idle m hO _ hi _ _ _ _ _).2

/-- The body at any point: at the grid's first the rows are rounded anew (`hA`), later ones find what the point before left. -/
theorem sound (hO : Ok m) (hA : anew (F := F) (grid0.coords ⟨0, by rw [N_0]; decide⟩) (nUsed m) = 1#1) (c : Dev nD) (t : Fin (cfgM m hO).N) :
    bodyPre m hO c t ⊢ wp frame (wpE (defs₀ (F := F)) Variants.none c none) Set.univ (bodyAt m hO t) (fun _ => bodyPost m hO c t) := by
  unfold bodyPre
  have hN : t.val < 440 := Nat.lt_of_lt_of_eq t.isLt N_0
  by_cases hz : t.val = 0
  · rw [inv_castSucc, inv_zero m hO c _ _ hz, scoped_eq]
    have key : ∀ r, held m hO c t.val t.isLt = held m hO c t.val t.isLt ∧ ∀ d, held m hO c t.val t.isLt = pointStep m hO c t ((dats m hO 0 c).before 4 t d, r) := fun r => ⟨rfl, fun d => by
      have ht : t = ⟨0, lt_of_lt_of_eq (by decide) N_0.symm⟩ := Fin.ext hz
      subst ht
      show pointStep m hO c _ (_, _) = _
      unfold pointStep
      rw [keptRows_anew _ _ hA (iblk m hO c 0 _) (k0_pay2 (iblk m hO c 0 _)) r]
      exact Prod.ext (outRows_first _ ((first_iff _).mpr rfl) _ _ _ _ _ _ _ _) rfl⟩
    iintro ⟨⟨⟨⟨%r, HR⟩, Hg⟩, HT⟩, Hw, HX, HG, HU, HD, HO⟩
    iapply (sound_of m hO c t r (key r).2)
    isplitl [HR Hg HT]
    · isplitl [HR Hg]
      · isplitl [HR]; · iexact HR
        iexact Hg
      iexact HT
    isplitl [Hw]; · iexact Hw
    isplitl [HX]; · iexact HX
    isplitl [HG]; · iexact HG
    isplitl [HU]; · iexact HU
    isplitl [HD]; · iexact HD
    iexact HO
  · rw [inv_castSucc, inv_pos m hO c _ _ hz]
    refine sound_of m hO c t _ fun d => (held_pos m hO c t hz).trans ?_
    by_cases h0 : t.val % 11 = 0
    · unfold pointStep
      exact Prod.ext (outRows_first _ ((first_iff t).mpr h0) _ _ _ _ _ _ _ _) rfl
    · rw [before_o m hO c t h0 d]

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem obligation (hO : Ok m) (hA : anew (F := F) (grid0.coords ⟨0, by rw [N_0]; decide⟩) (nUsed m) = 1#1) (c : Dev nD) :
    BodyObligation (dats (F := F) m hO 0 c) (defs₀ (F := F)) Variants.none () Set.univ := fun t => by
  rw [bigSep_W0, bigSep_W0, body_row m hO]
  exact triple_restated (sound m hO hA c t) rfl .rfl fun _ => .rfl

/-! ## The run -/

theorem inv_first (hO : Ok m) (c : Dev nD) : iprop(Pipeline.ΦA spec0 c ∗ Pipeline.ΦT pre0 (tbl m) c) ⊢ (dats m hO 0 c).Φ 0 := by
  rw [show (dats m hO 0 c).Φ 0 = inv m hO c 0 (Nat.zero_le _) from rfl, inv_zero m hO c 0 _ rfl]

theorem inv_last (hO : Ok m) (c : Dev nD) : (dats m hO 0 c).Φ (Fin.last (cfgM m hO).N) ⊢ Pipeline.ΦA spec0 c := by
  have hN : (cfgM m hO).N = 440 := N_0
  rw [show (dats m hO 0 c).Φ (Fin.last (cfgM m hO).N) = inv m hO c (cfgM m hO).N le_rfl from rfl,
    inv_pos m hO c _ _ (by omega), scoped_eq]
  iintro ⟨⟨HR, Hg⟩, -⟩
  isplitl [HR]
  · iexists _; iexact HR
  iexact Hg

-- the launch theorem's implicit arguments are found by unifying its conclusion with this one, through plain definitions
set_option backward.isDefEq.respectTransparency.types false in
/-- The program terminates with every array at what the proof data computes, every other buffer as found, every counter at zero. -/
theorem run_main (hO : Ok m) (hA : anew (F := F) (grid0.coords ⟨0, by rw [N_0]; decide⟩) (nUsed m) = 1#1) :
    θ_run defs (onTc (τ := τ) (main (F := F))) (s₀ m ρ)
      (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (obligation m hO hA c).loose) (hshare := fun c => (dats m hO 0 c).share_full fun _ => rfl)
    (howed := fun _ _ => rfl) (V := V m) (hmain := hmain m Variants.none) (hA := entry_eq m hO) (hpf := V_pre m)
    (hin := inv_first m hO) (hout := inv_last m hO)

/-- The frame: every argument ends as it began, every counter at zero. -/
theorem frame (hO : Ok m) (hA : anew (F := F) (grid0.coords ⟨0, by rw [N_0]; decide⟩) (nUsed m) = 1#1) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      ((h.1 c).1 0).trans (((dats m hO 0 c).arrAt_in 0 rfl _).trans (entry_eq m hO c 0)),
      ((h.1 c).1 1).trans (((dats m hO 0 c).arrAt_in 1 rfl _).trans (entry_eq m hO c 1)),
      ((h.1 c).1 2).trans (((dats m hO 0 c).arrAt_in 2 rfl _).trans (entry_eq m hO c 2)),
      ((h.1 c).1 3).trans (((dats m hO 0 c).arrAt_in 3 rfl _).trans (entry_eq m hO c 3))⟩, h.2⟩)
    (run_main m ρ hO hA)

end MoeRun

end
-- ==== Proof.Moe.Tables.lean ====
/-
  The expert call's tables as natural numbers: what the precondition says of them, the block every index map names,
  and from these that the maps stay inside their arrays (`Ok`) and that the grid's first point rounds the rows anew.
-/
module

public import proofs.«01_k».proof.Proof.Moe.Frame
public import proofs.«01_k».proof.Proof.Gen.Pre_tables_in_range
public import Idealize.ShloMosaic.Lib.StableHlo.Predicate
public import Idealize.ShloMosaic.Lib.ValueLayout

@[expose] public section

set_option maxRecDepth 16384

noncomputable section

namespace MoeRun

open Cert.MoeIdeal Cert.MoeIdeal.Gen
open Idealize.ShloMosaic Idealize.ShloMosaic.TcCoe Idealize.ShloMosaic.Tactic
open Idealize.SL Idealize.SL.Sem
open Idealize.ShloMosaic.ValueIdx

variable {F : FTy → Type} [FloatOps F]

variable (m : (ℓ : Loc nD τ sig) → Buf (Elt F) ℓ)

/-! ## The tables' words -/

/-- The word of tile `r` in the table of experts, the number of tiles in use, and the word of tile `r` in the table of occupied chunks. -/
def expertW (r : Fin 40) : BitVec 32 := tbl m 0 (ix1 r : S40.Idx)
def usedW : BitVec 32 := tbl m 1 (ix1 (0 : Fin 1) : S1.Idx)
def chunksW (r : Fin 40) : BitVec 32 := tbl m 2 (ix1 r : S40.Idx)

/-- The tables' ranges: an expert's number below 8, at least one tile in use, at most four occupied chunks. -/
structure InRange : Prop where
  expert : ∀ r, (expertW m r).toNat < 8
  used : 1 ≤ (usedW m).toNat ∧ (usedW m).toNat < 2147483648
  chunks : ∀ r, (chunksW m r).toNat ≤ 4

theorem toNat_between {a : BitVec 32} {lo hi : ℤ} (h0 : 0 ≤ lo) (h1 : lo ≤ a.toInt) (h2 : a.toInt ≤ hi) :
    lo ≤ (a.toNat : ℤ) ∧ (a.toNat : ℤ) ≤ hi := by
  have e := BitVec.toInt_eq_toNat_cond a
  have hl := a.isLt
  split at e <;> constructor <;> omega

/-- The precondition, read at the launch memory's tables. -/
theorem inRange (h : Cert.Pre_tables_in_range.fn (F := F) (V m (0 : Dev nD) main_arg0) (V m (0 : Dev nD) main_arg1) (V m (0 : Dev nD) main_arg2)
    (V m (0 : Dev nD) main_arg3) (V m (0 : Dev nD) main_arg4) (V m (0 : Dev nD) main_arg5) (V m (0 : Dev nD) main_arg6) = fun _ => 1#1) : InRange m := by
  have key : ∀ r : Fin 40, (0 ≤ (expertW m r).toInt ∧ (expertW m r).toInt ≤ 7) ∧ 1 ≤ (usedW m).toInt
      ∧ (0 ≤ (chunksW m r).toInt ∧ (chunksW m r).toInt ≤ 4) := fun r => by
    have e := congrFun h (ix1 r)
    have e' : IntOp.andi (IntOp.andi (IntOp.andi (IntOp.andi (IntOp.cmpi .sge (expertW m r) 0#32) (IntOp.cmpi .slt (expertW m r) 8#32))
        (IntOp.cmpi .sge (usedW m) 1#32)) (IntOp.cmpi .sge (chunksW m r) 0#32)) (IntOp.cmpi .sle (chunksW m r) 4#32) = 1#1 := by
      refine Eq.trans ?_ e
      have hu : (fun a : Fin 1 => (0 : Fin 1)) = fun a => a := funext fun a => (Subsingleton.elim _ _)
      have e1 : ∀ j : S1.Idx, V m (0 : Dev nD) main_arg1 j = usedW m := fun j =>
        congrArg (V m (0 : Dev nD) main_arg1) (funext fun (a : Fin 1) => by
          obtain rfl : a = 0 := Subsingleton.elim _ _
          exact Subsingleton.elim (α := Fin 1) _ _)
      unfold Cert.Pre_tables_in_range.fn
      simp only [andi, cmpi, constantI, broadcastInDim, e1]
      rfl
    rw [WordCmp.cmpi_sge_eq, WordCmp.cmpi_slt_eq, WordCmp.cmpi_sge_eq, WordCmp.cmpi_sge_eq, WordCmp.cmpi_sle_eq] at e'
    simp only [WordCmp.andi_ofBool, WordCmp.ofBool_eq_one_iff, Bool.and_eq_true, decide_eq_true_eq] at e'
    have z0 : (0#32 : BitVec 32).toInt = 0 := by decide
    have z1 : (1#32 : BitVec 32).toInt = 1 := by decide
    have z4 : (4#32 : BitVec 32).toInt = 4 := by decide
    have z8 : (8#32 : BitVec 32).toInt = 8 := by decide
    rw [z0, z1, z4, z8] at e'
    omega
  refine ⟨fun r => ?_, ?_, fun r => ?_⟩
  · have := toNat_between (le_refl 0) (key r).1.1 (key r).1.2; omega
  · have := toNat_between (hi := 2147483647) (by decide) (key 0).2.1 (by have := BitVec.toInt_lt (x := usedW m); omega); omega
  · have := toNat_between (by decide) (key r).2.2.1 (key r).2.2.2; omega

/-! ## What the points read -/

theorem nUsed_eq : nUsed m = usedW m := by
  unfold nUsed usedWord usedW
  exact congrArg (tbl m 1) (funext fun (a : Fin 1) => Fin.ext (by
    obtain rfl : a = 0 := Subsingleton.elim _ _
    rfl))

/-- A point's tile and hidden block. -/
abbrev tileOf (i : grid0.Coords) : Fin 40 := i 0
abbrev blockOf (i : grid0.Coords) : Fin 11 := i 1

theorem off_val (i : grid0.Coords) : (Scalar.indexCast (BitVec.ofNat 32 (i 0).val) : BitVec 32).toNat = (tileOf i).val := by
  have h : (i 0).val < 40 := (i 0).isLt
  show (BitVec.ofNat 32 (i 0).val).toNat = (i 0).val
  rw [BitVec.toNat_ofNat]; omega

theorem nChunks_eq (i : grid0.Coords) : nChunks m i = chunksW m (tileOf i) := by
  unfold nChunks chunkWord chunksW
  exact congrArg (tbl m 2) (funext fun (a : Fin 1) => Fin.ext (by
    obtain rfl : a = 0 := Subsingleton.elim _ _
    exact off_val i))

theorem expert_at (i : grid0.Coords) {o : Fin 1 → ℕ} (ho : o = k0_off1 i) (h : ∀ a, o a + S1.size a ≤ S40.size a) :
    (tbl m).at 0 (Rect.unit (s := S40) o S1.size h) numel1_S1 = expertW m (tileOf i) := by
  subst ho
  exact congrArg (tbl m 0) (funext fun (a : Fin 1) => Fin.ext (by
    obtain rfl : a = 0 := Subsingleton.elim _ _
    exact off_val i))

theorem used_word_at (h : ∀ a, (![0] : Fin 1 → Nat) a + S1.size a ≤ S1.size a) :
    (tbl m).at 1 (Rect.unit (s := S1) ![0] S1.size h) numel1_S1 = usedW m :=
  congrArg (tbl m 1) (funext fun (a : Fin 1) => Fin.ext (by
    obtain rfl : a = 0 := Subsingleton.elim _ _
    rfl))

/-! ## The blocks the index maps name -/

/-- Tile `r`'s rows: its own while in use, the last used tile's after. -/
def rowsIx (r : Fin 40) : ℕ := min r.val ((usedW m).toNat - 1)
/-- The hidden block of a point: its own where the tile is in use, the last one elsewhere. -/
def hidIx (i : grid0.Coords) : ℕ := if (tileOf i).val < (usedW m).toNat then (blockOf i).val else 10

theorem hid_word (hR : InRange m) (i : grid0.Coords) :
    (Scalar.select (Scalar.cmpi .slt (BitVec.ofNat 32 (i 0).val) (usedW m)) (BitVec.ofNat 32 (i 1).val) 10#32 : BitVec 32).toNat = hidIx m i := by
  have h0 : (i 0).val < 40 := (i 0).isLt
  have h1 : (i 1).val < 11 := (i 1).isLt
  have e0 : (BitVec.ofNat 32 (i 0).val).toNat = (i 0).val := by rw [BitVec.toNat_ofNat]; omega
  have hu := hR.used
  have hc : Scalar.cmpi .slt (BitVec.ofNat 32 (i 0).val) (usedW m) = 1#1 ↔ (i 0).val < (usedW m).toNat := by
    have := StableHlo.Predicate.slt_iff_toNat (a := BitVec.ofNat 32 (i 0).val) (b := usedW m) (by omega) (by omega)
    rw [e0] at this; exact this
  by_cases h : (i 0).val < (usedW m).toNat
  · refine (congrArg BitVec.toNat (if_pos (hc.mpr h))).trans (Eq.trans ?_ (if_pos h).symm)
    show (BitVec.ofNat 32 (i 1).val).toNat = (i 1).val
    rw [BitVec.toNat_ofNat]; omega
  · exact (congrArg BitVec.toNat (if_neg fun h' => h (hc.mp h'))).trans (if_neg h).symm

/-- A weight block's place from its words. -/
theorem place (hR : InRange m) (i : grid0.Coords) (f : ℕ → ℕ → Fin 3 → ℕ) (w n : BitVec 32) (hw : w = expertW m (tileOf i)) (hn : n = usedW m) :
    f w.toNat (Scalar.select (Scalar.cmpi .slt (BitVec.ofNat 32 (i 0).val) n) (BitVec.ofNat 32 (i 1).val) 10#32 : BitVec 32).toNat
      = f (expertW m (tileOf i)).toNat (hidIx m i) := by
  subst hw hn; rw [hid_word m hR i]

theorem map_x (hR : InRange m) (i : grid0.Coords) : cc0_transform_0 inb_S1_S1_0 numel1_S1 (tbl m) i = ![rowsIx m (tileOf i), 0] := by
  have h0 : (i 0).val < 40 := (i 0).isLt
  have e0 : (BitVec.ofNat 32 (i 0).val).toNat = (i 0).val := by rw [BitVec.toNat_ofNat]; omega
  have hu := hR.used
  have e1 : (usedW m - 1#32).toNat = (usedW m).toNat - 1 := by
    rw [BitVec.toNat_sub]; simp only [BitVec.toNat_ofNat]; omega
  unfold cc0_transform_0
  simp only [used_word_at m]
  have hs := StableHlo.Predicate.slt_bool_iff_toNat (a := BitVec.ofNat 32 (i 0).val) (b := usedW m - 1#32) (by omega) (by omega)
  rw [e0, e1, WordCmp.ofBool_eq_one_iff] at hs
  have : (IntOp.minsi (BitVec.ofNat 32 (i 0).val) (usedW m - 1#32)).toNat = rowsIx m (tileOf i) := by
    unfold IntOp.minsi rowsIx
    by_cases h : (i 0).val < (usedW m).toNat - 1
    · rw [if_pos (hs.mpr h), e0, min_eq_left (Nat.le_of_lt h)]
    · rw [if_neg fun h' => h (hs.mp h'), e1, min_eq_right (Nat.le_of_not_lt h)]
  exact congrArg (fun n : ℕ => (![n, 0] : Fin 2 → ℕ)) this

theorem map_g (hR : InRange m) (i : grid0.Coords) :
    cc0_transform_1 k0_off1_inb numel1_S1 inb_S1_S1_0 (tbl m) i = ![(expertW m (tileOf i)).toNat, 0, hidIx m i] :=
  place m hR i (fun a b => ![a, 0, b]) _ _ (expert_at m i rfl (k0_off1_inb i)) (used_word_at m inb_S1_S1_0)

theorem map_u (hR : InRange m) (i : grid0.Coords) :
    cc0_transform_2 k0_off1_inb numel1_S1 inb_S1_S1_0 (tbl m) i = ![(expertW m (tileOf i)).toNat, 0, hidIx m i] :=
  place m hR i (fun a b => ![a, 0, b]) _ _ (expert_at m i rfl (k0_off1_inb i)) (used_word_at m inb_S1_S1_0)

theorem map_d (hR : InRange m) (i : grid0.Coords) :
    cc0_transform_3 k0_off1_inb numel1_S1 inb_S1_S1_0 (tbl m) i = ![(expertW m (tileOf i)).toNat, hidIx m i, 0] :=
  place m hR i (fun a b => ![a, b, 0]) _ _ (expert_at m i rfl (k0_off1_inb i)) (used_word_at m inb_S1_S1_0)

theorem rowsIx_lt (hR : InRange m) (r : Fin 40) : rowsIx m r < 40 := by unfold rowsIx; have := r.isLt; omega
theorem hidIx_lt (i : grid0.Coords) : hidIx m i < 11 := by
  have h : (blockOf i).val < 11 := (blockOf i).isLt
  unfold hidIx; split <;> omega

/-! ## The side conditions -/

theorem fits3 {x y z a b c a' b' c' : ℕ} (h : (x + 1) * a ≤ a') (h' : (y + 1) * b ≤ b') (h'' : (z + 1) * c ≤ c') :
    ∀ q : Fin 3, ((![x, y, z] : Fin 3 → ℕ) q + 1) * (![a, b, c] : Fin 3 → ℕ) q ≤ (![a', b', c'] : Fin 3 → ℕ) q := fun q => by
  fin_cases q
  · exact h
  · exact h'
  · exact h''

theorem ok (hR : InRange m) : Ok m := by
  refine ⟨fun i => ?_, fun i => ?_, fun i => ?_, fun i => ?_⟩
  · rw [map_x m hR]
    have h := rowsIx_lt m hR (tileOf i)
    refine ⟨fun (q : Fin 2) => ?_, .inl rfl⟩
    fin_cases q
    · show (rowsIx m (tileOf i) + 1) * 1024 ≤ 40960; omega
    · show (0 + 1) * 2048 ≤ 2048; omega
  · rw [map_g m hR]
    have h := hR.expert (tileOf i)
    have h' := hidIx_lt m i
    refine ⟨fits3 (by omega) (by omega) (by omega), .inr (.inr ⟨by decide, rfl, ?_, rfl⟩)⟩
    show 0 * 2048 = 0; rfl
  · rw [map_u m hR]
    have h := hR.expert (tileOf i)
    have h' := hidIx_lt m i
    refine ⟨fits3 (by omega) (by omega) (by omega), .inr (.inr ⟨by decide, rfl, ?_, rfl⟩)⟩
    show 0 * 2048 = 0; rfl
  · rw [map_d m hR]
    have h := hR.expert (tileOf i)
    have h' := hidIx_lt m i
    refine ⟨fits3 (by omega) (by omega) (by omega), .inr (.inl (.inr ⟨by decide, rfl, .inl ⟨?_, ?_⟩⟩))⟩
    · show 2 ∣ hidIx m i * 512; omega
    · show 2 ∣ 512; decide

/-! ## The conditions of the body -/

/-- The rows are rounded anew exactly at the first point of a tile in use. -/
theorem anew_iff (hR : InRange m) (i : grid0.Coords) :
    anew (F := F) i (nUsed m) = 1#1 ↔ (tileOf i).val < (usedW m).toNat ∧ (blockOf i).val = 0 := by
  have h0 : (i 0).val < 40 := (i 0).isLt
  have h1 : (i 1).val < 11 := (i 1).isLt
  have hu := hR.used
  rw [nUsed_eq]
  unfold anew
  show _ ↔ (i 0).val < _ ∧ (i 1).val = 0
  word_cmp

theorem anew_first (hR : InRange m) : anew (F := F) (grid0.coords ⟨0, by rw [N_0]; decide⟩) (nUsed m) = 1#1 := by
  rw [anew_iff m hR]
  have e := coord_tile ⟨0, by rw [N_0]; decide⟩
  have e' := coord_block ⟨0, by rw [N_0]; decide⟩
  have hu := hR.used
  constructor
  · show (grid0.coords _ 0).val < _
    rw [e]; show 0 / 11 < _; omega
  · exact e'

/-- The first rows are updated by the branch of the tile's number of occupied chunks, where the tile is in use. -/
theorem cond3_iff (hR : InRange m) (i : grid0.Coords) :
    k0_cond3 i (nUsed m) (nChunks m i) = 1#1 ↔ (tileOf i).val < (usedW m).toNat ∧ (chunksW m (tileOf i)).toNat = 1 := by
  have h0 : (i 0).val < 40 := (i 0).isLt
  have hu := hR.used
  have hc := hR.chunks (tileOf i)
  rw [nUsed_eq, nChunks_eq]
  unfold k0_cond3
  show _ ↔ (i 0).val < _ ∧ _
  word_cmp

theorem cond4_iff (hR : InRange m) (i : grid0.Coords) :
    k0_cond4 i (nUsed m) (nChunks m i) = 1#1 ↔ (tileOf i).val < (usedW m).toNat ∧ (chunksW m (tileOf i)).toNat = 2 := by
  have h0 : (i 0).val < 40 := (i 0).isLt
  have hu := hR.used
  have hc := hR.chunks (tileOf i)
  rw [nUsed_eq, nChunks_eq]
  unfold k0_cond4
  show _ ↔ (i 0).val < _ ∧ _
  word_cmp

theorem cond5_iff (hR : InRange m) (i : grid0.Coords) :
    k0_cond5 i (nUsed m) (nChunks m i) = 1#1 ↔ (tileOf i).val < (usedW m).toNat ∧ (chunksW m (tileOf i)).toNat = 3 := by
  have h0 : (i 0).val < 40 := (i 0).isLt
  have hu := hR.used
  have hc := hR.chunks (tileOf i)
  rw [nUsed_eq, nChunks_eq]
  unfold k0_cond5
  show _ ↔ (i 0).val < _ ∧ _
  word_cmp

theorem cond6_iff (hR : InRange m) (i : grid0.Coords) :
    k0_cond6 i (nUsed m) (nChunks m i) = 1#1 ↔ (tileOf i).val < (usedW m).toNat ∧ (chunksW m (tileOf i)).toNat = 4 := by
  have h0 : (i 0).val < 40 := (i 0).isLt
  have hu := hR.used
  have hc := hR.chunks (tileOf i)
  rw [nUsed_eq, nChunks_eq]
  unfold k0_cond6
  show _ ↔ (i 0).val < _ ∧ _
  word_cmp

end MoeRun

end
-- ==== Proof.Swiglu.lean ====
/-
  The arithmetic shared by the two gated products of this certificate, over the extended reals: what one entry of
  `silu(a) * b` is, and how a sum cut into equal blocks is the sum over the whole range. No program is mentioned here.
-/
module

public import Idealize.ShloMosaic.PureOps.Ideal.Laws
public import Idealize.ShloMosaic.Lib.MatmulPlain
public import Idealize.ShloMosaic.Lib.ValueIdx
public import Idealize.ShloMosaic.Lib.Pipeline.Value

@[expose] public section

noncomputable section

open scoped BigOperators
open Idealize.ShloMosaic Idealize.ShloMosaic.ValueIdx

namespace Swiglu

/-- The f32 pattern of `1.0`, as the programs write it. -/
abbrev one : EReal := Ideal.ofBits .f32 0x3F800000#32

/-- One entry of the gated product: `silu a * b`, where `silu a = a * (1 / (1 + exp (-a)))`. -/
def gated (a b : EReal) : EReal := a * Ideal.div one (one + Ideal.exp (-a)) * b

/-- The entry with the negation written as a difference from the zero pattern is the same one. -/
theorem gated_of_sub (a b : EReal) :
    a * Ideal.div one (one + Ideal.exp (Ideal.ofBits .f32 0x00000000#32 - a)) * b = gated a b := by
  rw [Ideal.ofBits_zero_f32, zero_sub]; rfl

/-- A sum over `n` blocks of `k` terms each, in order, is the sum over the first `n * k` terms. -/
theorem sum_blocks {M : Type*} [AddCommMonoid M] (f : ℕ → M) (k : ℕ) :
    ∀ n : ℕ, ∑ s ∈ Finset.range n, ∑ p : Fin k, f (k * s + p.val) = ∑ i ∈ Finset.range (k * n), f i
  | 0 => by simp
  | n + 1 => by
    rw [Finset.sum_range_succ, sum_blocks f k n, Nat.mul_succ, Finset.sum_range_add,
      Finset.sum_range fun x => f (k * n + x)]

/-- A function on the first `n` naturals, carried to all of them by zero. -/
def ext {M : Type*} [Zero M] {n : ℕ} (f : Fin n → M) (i : ℕ) : M := if h : i < n then f ⟨i, h⟩ else 0

theorem ext_of_lt {M : Type*} [Zero M] {n : ℕ} (f : Fin n → M) (i : ℕ) (h : i < n) : ext f i = f ⟨i, h⟩ := dif_pos h

/-- Its sum over the first `n` naturals is the sum over `Fin n`. -/
theorem sum_ext {M : Type*} [AddCommMonoid M] {n : ℕ} (f : Fin n → M) : ∑ i ∈ Finset.range n, ext f i = ∑ i : Fin n, f i := by
  rw [Finset.sum_range]
  exact Finset.sum_congr rfl fun i _ => ext_of_lt f i.val i.isLt

/-- The kernel's product of two plain matrices into the zero splat, read at an entry. -/
theorem matmul_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) := by
  rw [Ideal.matmul_plain_apply]
  show Ideal.ofBits .f32 0x00000000#32 + _ = _
  rw [Ideal.ofBits_zero_f32, zero_add]

/-- A row's gated product against one column of the down matrix, over the columns `idx` of the gate and up matrices. -/
def term {K : ℕ} (x g u : Fin K → EReal) (d : EReal) : EReal :=
  gated (∑ k : Fin K, x k * g k) (∑ k : Fin K, x k * u k) * d

end Swiglu

end
-- ==== Proof.Moe.Block.lean ====
/-
  One point of the expert call, entry by entry, over the extended reals: in a tile in use the point adds its 512 terms
  of the gated product to every row of the occupied chunks, and nothing to the others. The four updates (of 256, 512,
  768 and 1024 rows) are one computation at four heights; exactly one of them is done.
-/
module

public import proofs.«01_k».proof.Proof.Moe.Tables
public import proofs.«01_k».proof.Proof.Swiglu

@[expose] public section

set_option maxRecDepth 16384

noncomputable section

namespace MoeRun

open scoped BigOperators
open Cert.MoeIdeal Cert.MoeIdeal.Gen
open Idealize.ShloMosaic Idealize.ShloMosaic.TcCoe Idealize.SL.Sem Idealize.ShloMosaic.ValueIdx

variable (m : (ℓ : Loc nD τ sig) → Buf (Elt Ideal) ℓ)

/-- The 512 terms a point adds at row `p` and column `j`, from the kept rows and the staged weights. -/
def terms {n : ℕ} (r : Vec Ideal ⟨2, ![n, 2048]⟩ .bf16) (wg wu : Vec Ideal S1x2048x512 .bf16) (wd : Vec Ideal S1x512x2048 .bf16) (p : Fin n) (j : Fin 2048) : EReal :=
  ∑ q : Fin 512, Swiglu.term (fun k : Fin 2048 => r (ix2 p k)) (fun k => wg (ix3 (0 : Fin 1) k q)) (fun k => wu (ix3 (0 : Fin 1) k q)) (wd (ix3 (0 : Fin 1) q j))

/-- A product of `n` rows with one block of the gate or up matrices, as the kernel writes it. -/
def product (n : ℕ) (r : Vec Ideal ⟨2, ![n, 2048]⟩ .bf16) (g : Vec Ideal S2048x512 .bf16) : FVec Ideal ⟨2, ![n, 512]⟩ .f32 :=
  FloatOps.matmul (φ₁ := .bf16) (φ₂ := .bf16) (DotDims.plain n 2048 512) none r g (constant ⟨2, ![n, 512]⟩ .f32 0x00000000#32)

/-- The gated product of the two. -/
def gatedRows (n : ℕ) (a b : FVec Ideal ⟨2, ![n, 512]⟩ .f32) : FVec Ideal ⟨2, ![n, 512]⟩ .bf16 :=
  truncf .bf16 (mulf (mulf a
      (divf (broadcast ⟨2, ![n, 512]⟩ (Scalar.ofBits (F := Ideal) .f32 0x3F800000#32)) (addf (broadcast ⟨2, ![n, 512]⟩ (Scalar.ofBits (F := Ideal) .f32 0x3F800000#32))
        (exp (subf (broadcast ⟨2, ![n, 512]⟩ (Scalar.ofBits (F := Ideal) .f32 0x00000000#32)) a))))) b) bitsLt_bf16_f32

/-- The update of `n` rows. -/
def update (n : ℕ) (o : Vec Ideal ⟨2, ![n, 2048]⟩ .f32) (r : Vec Ideal ⟨2, ![n, 2048]⟩ .bf16) (g u : Vec Ideal S2048x512 .bf16) (d : Vec Ideal S512x2048 .bf16) :
    FVec Ideal ⟨2, ![n, 2048]⟩ .f32 :=
  addf o (FloatOps.matmul (φ₁ := .bf16) (φ₂ := .bf16) (DotDims.plain n 512 2048) none (gatedRows n (product n r g) (product n r u)) d
    (constant ⟨2, ![n, 2048]⟩ .f32 0x00000000#32))

theorem product_apply (n : ℕ) (r : Vec Ideal ⟨2, ![n, 2048]⟩ .bf16) (g : Vec Ideal S2048x512 .bf16) (p : Fin n) (q : Fin 512) :
    product n r g (ix2 p q) = ∑ k : Fin 2048, r (ix2 p k) * g (ix2 k q) :=
  Swiglu.matmul_zero_apply (φ₁ := .bf16) (φ₂ := .bf16) none r g p q

theorem gatedRows_apply (n : ℕ) (a b : FVec Ideal ⟨2, ![n, 512]⟩ .f32) (i : Shape.Idx ⟨2, ![n, 512]⟩) : gatedRows n a b i = Swiglu.gated (a i) (b i) :=
  Swiglu.gated_of_sub (a i) (b i)

/-- A weight block without its leading axis of one. -/
theorem columns_apply (w : Vec Ideal S1x2048x512 .bf16) (k : Fin 2048) (q : Fin 512) :
    shapeCast S2048x512 w shapeCasts_S1x2048x512_S2048x512 (ix2 k q) = w (ix3 (0 : Fin 1) k q) :=
  shapeCast_apply w shapeCasts_S1x2048x512_S2048x512 (ix2 k q) (ix3 (0 : Fin 1) k q) (by
    rw [Shape.rowMajor_val_two, Shape.rowMajor_val_three]; show (0 * 2048 + k.val) * 512 + q.val = k.val * 512 + q.val; omega)

theorem rows_apply (w : Vec Ideal S1x512x2048 .bf16) (q : Fin 512) (j : Fin 2048) :
    shapeCast S512x2048 w shapeCasts_S1x512x2048_S512x2048 (ix2 q j) = w (ix3 (0 : Fin 1) q j) :=
  shapeCast_apply w shapeCasts_S1x512x2048_S512x2048 (ix2 q j) (ix3 (0 : Fin 1) q j) (by
    rw [Shape.rowMajor_val_two, Shape.rowMajor_val_three]; show (0 * 512 + q.val) * 2048 + j.val = q.val * 2048 + j.val; omega)

theorem update_apply (n : ℕ) (o : Vec Ideal ⟨2, ![n, 2048]⟩ .f32) (r : Vec Ideal ⟨2, ![n, 2048]⟩ .bf16) (wg wu : Vec Ideal S1x2048x512 .bf16)
    (wd : Vec Ideal S1x512x2048 .bf16) (p : Fin n) (j : Fin 2048) :
    update n o r (shapeCast S2048x512 wg shapeCasts_S1x2048x512_S2048x512) (shapeCast S2048x512 wu shapeCasts_S1x2048x512_S2048x512)
        (shapeCast S512x2048 wd shapeCasts_S1x512x2048_S512x2048) (ix2 p j)
      = o (ix2 p j) + terms r wg wu wd p j := by
  refine congrArg (fun z : EReal => o (ix2 p j) + z) ((Swiglu.matmul_zero_apply (φ₁ := .bf16) (φ₂ := .bf16) none _ _ p j).trans
    (Finset.sum_congr rfl fun q _ => ?_))
  rw [rows_apply, gatedRows_apply, product_apply, product_apply]
  exact congrArg₂ (fun a b : EReal => Swiglu.gated a b * wd (ix3 (0 : Fin 1) q j))
    (Finset.sum_congr rfl fun k _ => congrArg (fun z : EReal => r (ix2 p k) * z) (columns_apply wg k q))
    (Finset.sum_congr rfl fun k _ => congrArg (fun z : EReal => r (ix2 p k) * z) (columns_apply wu k q))

theorem pay3_eq (o : Vec Ideal S256x2048 .f32) (r : Vec Ideal S256x2048 .bf16) (wg wu : Vec Ideal S1x2048x512 .bf16) (wd : Vec Ideal S1x512x2048 .bf16) :
    k0_pay3 (F := Ideal) o r wg wu wd = update 256 o r (shapeCast S2048x512 wg shapeCasts_S1x2048x512_S2048x512)
      (shapeCast S2048x512 wu shapeCasts_S1x2048x512_S2048x512) (shapeCast S512x2048 wd shapeCasts_S1x512x2048_S512x2048) := by
  unfold k0_pay3; rw [shapeCast_self]; rfl
theorem pay4_eq (o : Vec Ideal S512x2048 .f32) (r : Vec Ideal S512x2048 .bf16) (wg wu : Vec Ideal S1x2048x512 .bf16) (wd : Vec Ideal S1x512x2048 .bf16) :
    k0_pay4 (F := Ideal) o r wg wu wd = update 512 o r (shapeCast S2048x512 wg shapeCasts_S1x2048x512_S2048x512)
      (shapeCast S2048x512 wu shapeCasts_S1x2048x512_S2048x512) (shapeCast S512x2048 wd shapeCasts_S1x512x2048_S512x2048) := by
  unfold k0_pay4; rw [shapeCast_self]; rfl
theorem pay5_eq (o : Vec Ideal S768x2048 .f32) (r : Vec Ideal S768x2048 .bf16) (wg wu : Vec Ideal S1x2048x512 .bf16) (wd : Vec Ideal S1x512x2048 .bf16) :
    k0_pay5 (F := Ideal) o r wg wu wd = update 768 o r (shapeCast S2048x512 wg shapeCasts_S1x2048x512_S2048x512)
      (shapeCast S2048x512 wu shapeCasts_S1x2048x512_S2048x512) (shapeCast S512x2048 wd shapeCasts_S1x512x2048_S512x2048) := by
  unfold k0_pay5; rw [shapeCast_self]; rfl
theorem pay6_eq (o : Vec Ideal S1024x2048 .f32) (r : Vec Ideal S1024x2048 .bf16) (wg wu : Vec Ideal S1x2048x512 .bf16) (wd : Vec Ideal S1x512x2048 .bf16) :
    k0_pay6 (F := Ideal) o r wg wu wd = update 1024 o r (shapeCast S2048x512 wg shapeCasts_S1x2048x512_S2048x512)
      (shapeCast S2048x512 wu shapeCasts_S1x2048x512_S2048x512) (shapeCast S512x2048 wd shapeCasts_S1x512x2048_S512x2048) := by
  unfold k0_pay6; rw [shapeCast_self]; rfl

/-! ## Windows of the first `n` rows -/

theorem window_apply {α : Type} (x : S1024x2048.Idx → α) (n : ℕ) (hn : n ≤ 1024) (inb) (p : Fin n) (j : Fin 2048) :
    (VecWindow.window x ![0, 0] ![n, 2048] inb : Shape.Idx ⟨2, ![n, 2048]⟩ → α) (ix2 p j) = x (ix2 (⟨p.val, Nat.lt_of_lt_of_le p.isLt hn⟩ : Fin 1024) j) :=
  congrArg x (funext fun (a : Fin 2) => Fin.ext (by
    match a with
    | ⟨0, _⟩ => show 0 + 1 * p.val = p.val; omega
    | ⟨1, _⟩ => show 0 + 1 * j.val = j.val; omega))

theorem put_apply {α : Type} (x : S1024x2048.Idx → α) (n : ℕ) (w : Shape.Idx ⟨2, ![n, 2048]⟩ → α) (p : Fin 1024) (j : Fin 2048) :
    VecWindow.put x ![0, 0] ![n, 2048] w (ix2 p j) = if h : p.val < n then w (ix2 (⟨p.val, h⟩ : Fin n) j) else x (ix2 p j) := by
  unfold VecWindow.put
  by_cases h : p.val < n
  · rw [dif_pos h]
    have h' : ∀ a : Fin 2, (![0, 0] : Fin 2 → ℕ) a ≤ ((ix2 p j : S1024x2048.Idx) a).val
        ∧ ((ix2 p j : S1024x2048.Idx) a).val < (![0, 0] : Fin 2 → ℕ) a + (![n, 2048] : Fin 2 → ℕ) a := fun a => by
      match a with
      | ⟨0, _⟩ => exact ⟨Nat.zero_le _, by show p.val < 0 + n; omega⟩
      | ⟨1, _⟩ => exact ⟨Nat.zero_le _, by show j.val < 0 + 2048; have := j.isLt; omega⟩
    rw [dif_pos h']
    refine congrArg w (funext fun (a : Fin 2) => Fin.ext ?_)
    match a with
    | ⟨0, _⟩ => show p.val - 0 = p.val; omega
    | ⟨1, _⟩ => show j.val - 0 = j.val; omega
  · rw [dif_neg h]
    exact dif_neg fun h' => h (by have := (h' (0 : Fin 2)).2; have e : p.val < 0 + n := this; omega)

theorem block3_self {α : Type} (x : S1x2048x512.Idx → α) (k : Fin 2048) (q : Fin 512) : block3 x (ix3 (0 : Fin 1) k q) = x (ix3 (0 : Fin 1) k q) :=
  congrArg x (funext fun (a : Fin 3) => Fin.ext (by
    match a with
    | ⟨0, _⟩ => rfl
    | ⟨1, _⟩ => show 0 + 1 * k.val = k.val; omega
    | ⟨2, _⟩ => show 0 + 1 * q.val = q.val; omega))

theorem block3d_self {α : Type} (x : S1x512x2048.Idx → α) (q : Fin 512) (j : Fin 2048) : block3d x (ix3 (0 : Fin 1) q j) = x (ix3 (0 : Fin 1) q j) :=
  congrArg x (funext fun (a : Fin 3) => Fin.ext (by
    match a with
    | ⟨0, _⟩ => rfl
    | ⟨1, _⟩ => show 0 + 1 * q.val = q.val; omega
    | ⟨2, _⟩ => show 0 + 1 * j.val = j.val; omega))

/-- The update of the first `n` rows stored back: those rows get their terms, the others nothing. -/
theorem put_update (n : ℕ) (hn : n ≤ 1024) (inb) (o : Vec Ideal S1024x2048 .f32) (r : Vec Ideal S1024x2048 .bf16) (wg wu : Vec Ideal S1x2048x512 .bf16)
    (wd : Vec Ideal S1x512x2048 .bf16) (p : Fin 1024) (j : Fin 2048) :
    VecWindow.put o ![0, 0] ![n, 2048] (update n (VecWindow.window o ![0, 0] ![n, 2048] inb) (VecWindow.window r ![0, 0] ![n, 2048] inb)
        (shapeCast S2048x512 (block3 wg) shapeCasts_S1x2048x512_S2048x512) (shapeCast S2048x512 (block3 wu) shapeCasts_S1x2048x512_S2048x512)
        (shapeCast S512x2048 (block3d wd) shapeCasts_S1x512x2048_S512x2048)) (ix2 p j)
      = o (ix2 p j) + if p.val < n then terms r wg wu wd p j else 0 := by
  refine (put_apply _ n _ p j).trans ?_
  by_cases h : p.val < n
  · rw [dif_pos h, if_pos h, update_apply]
    refine congrArg₂ (fun a b : EReal => a + b) (window_apply o n hn inb _ j) (Finset.sum_congr rfl fun q _ => ?_)
    unfold Swiglu.term
    rw [block3d_self]
    simp only [block3_self]
    have e : ∀ k : Fin 2048, (VecWindow.window r ![0, 0] ![n, 2048] inb : Shape.Idx ⟨2, ![n, 2048]⟩ → EReal) (ix2 (⟨p.val, h⟩ : Fin n) k) = r (ix2 p k) :=
      fun k => window_apply r n hn inb _ k
    simp only [e]
  · rw [dif_neg h, if_neg h]
    exact (add_zero (M := EReal) _).symm

/-! ## The point's result -/

/-- A row of a point's tile is worked on: the tile in use, the row in an occupied chunk. -/
def Worked (i : grid0.Coords) (p : Fin 1024) : Prop :=
  (tileOf i).val < (usedW m).toNat ∧ p.val < 256 * (chunksW m (tileOf i)).toNat

instance (i : grid0.Coords) (p : Fin 1024) : Decidable (Worked m i p) := by unfold Worked; infer_instance

theorem outRows_apply (hR : InRange m) (i : grid0.Coords) (r : Vec Ideal S1024x2048 .bf16) (wg wu : Vec Ideal S1x2048x512 .bf16)
    (wd : Vec Ideal S1x512x2048 .bf16) (o : Vec Ideal S1024x2048 .f32) (p : Fin 1024) (j : Fin 2048) :
    outRows i (nUsed m) (nChunks m i) r wg wu wd o (ix2 p j)
      = cleared i o (ix2 p j) + if Worked m i p then terms r wg wu wd p j else 0 := by
  have h3 := cond3_iff m hR i
  have h4 := cond4_iff m hR i
  have h5 := cond5_iff m hR i
  have h6 := cond6_iff m hR i
  have hc := hR.chunks (tileOf i)
  have e0 : (o : EReal) → o = o + 0 := fun o => (add_zero _).symm
  unfold outRows add4 add3 add2 add1
  by_cases hu : (tileOf i).val < (usedW m).toNat
  · have hw : ∀ K : ℕ, (chunksW m (tileOf i)).toNat = K → (Worked m i p ↔ p.val < 256 * K) := fun K hK => by
      unfold Worked; rw [hK]; exact and_iff_right hu
    obtain h | h | h | h | h : (chunksW m (tileOf i)).toNat = 0 ∨ (chunksW m (tileOf i)).toNat = 1 ∨ (chunksW m (tileOf i)).toNat = 2 ∨ (chunksW m (tileOf i)).toNat = 3 ∨ (chunksW m (tileOf i)).toNat = 4 := by omega
    · rw [if_neg (fun c => by have := (h6.mp c).2; omega), if_neg (fun c => by have := (h5.mp c).2; omega), if_neg (fun c => by have := (h4.mp c).2; omega),
        if_neg (fun c => by have := (h3.mp c).2; omega), if_neg (fun c : Worked m i p => by have := (hw 0 h).mp c; omega)]
      exact (add_zero (M := EReal) _).symm
    · rw [if_neg (fun c => by have := (h6.mp c).2; omega), if_neg (fun c => by have := (h5.mp c).2; omega), if_neg (fun c => by have := (h4.mp c).2; omega),
        if_pos (h3.mpr ⟨hu, h⟩), pay3_eq, if_congr (hw 1 h) rfl rfl]
      exact put_update 256 (by decide) _ _ _ _ _ _ p j
    · rw [if_neg (fun c => by have := (h6.mp c).2; omega), if_neg (fun c => by have := (h5.mp c).2; omega), if_pos (h4.mpr ⟨hu, h⟩),
        if_neg (fun c => by have := (h3.mp c).2; omega), pay4_eq, if_congr (hw 2 h) rfl rfl]
      exact put_update 512 (by decide) _ _ _ _ _ _ p j
    · rw [if_neg (fun c => by have := (h6.mp c).2; omega), if_pos (h5.mpr ⟨hu, h⟩), if_neg (fun c => by have := (h4.mp c).2; omega),
        if_neg (fun c => by have := (h3.mp c).2; omega), pay5_eq, if_congr (hw 3 h) rfl rfl]
      exact put_update 768 (by decide) _ _ _ _ _ _ p j
    · rw [if_pos (h6.mpr ⟨hu, h⟩), if_neg (fun c => by have := (h5.mp c).2; omega), if_neg (fun c => by have := (h4.mp c).2; omega),
        if_neg (fun c => by have := (h3.mp c).2; omega), pay6_eq, if_congr (hw 4 h) rfl rfl]
      exact put_update 1024 (by decide) _ _ _ _ _ _ p j
  · rw [if_neg (fun c => hu (h6.mp c).1), if_neg (fun c => hu (h5.mp c).1), if_neg (fun c => hu (h4.mp c).1), if_neg (fun c => hu (h3.mp c).1),
      if_neg (fun c : Worked m i p => hu c.1)]
    exact (add_zero (M := EReal) _).symm

/-- A tile's first point clears the block, -/
theorem cleared_first (i : grid0.Coords) (h : k0_cond1 i = 1#1) (o : Vec Ideal S1024x2048 .f32) (p : Fin 1024) (j : Fin 2048) :
    cleared i o (ix2 p j) = (0 : EReal) := by
  unfold cleared
  rw [if_pos h]
  refine (put_apply o 1024 _ p j).trans ?_
  rw [dif_pos p.isLt]
  exact Ideal.ofBits_zero_f32

/-- and the others leave it. -/
theorem cleared_later (i : grid0.Coords) (h : ¬k0_cond1 i = 1#1) (o : Vec Ideal S1024x2048 .f32) : cleared i o = o := by
  unfold cleared; rw [if_neg h]

/-- The kept rows where they are taken anew: the staged rows. -/
theorem kept_anew (hR : InRange m) (i : grid0.Coords) (hu : (tileOf i).val < (usedW m).toNat) (hb : (blockOf i).val = 0)
    (x : Vec Ideal S1024x2048 .f32) (r : Vec Ideal S1024x2048 .bf16) (p : Fin 1024) (k : Fin 2048) :
    keptRows i (nUsed m) x r (ix2 p k) = x (ix2 p k) := by
  unfold keptRows
  rw [if_pos ((anew_iff m hR i).mpr ⟨hu, hb⟩)]
  refine (put_apply r 1024 _ p k).trans ?_
  rw [dif_pos p.isLt]
  unfold k0_pay2
  rw [shapeCast_self]
  exact window_apply x 1024 le_rfl _ p k

/-- The kept rows elsewhere: as they were. -/
theorem kept_later (hR : InRange m) (i : grid0.Coords) (hb : (blockOf i).val ≠ 0) (x : Vec Ideal S1024x2048 .f32) (r : Vec Ideal S1024x2048 .bf16) :
    keptRows i (nUsed m) x r = r := by
  unfold keptRows
  exact if_neg fun c => hb ((anew_iff m hR i).mp c).2

end MoeRun

end
-- ==== Proof.Moe.Rows.lean ====
/-
  The expert call's array after the run, entry by entry, over the extended reals: at a row of an occupied chunk of a tile
  in use the 5632 terms of the row's gated product under the tile's expert, and zero at every other row. A tile's eleven
  points clear its block and add 512 terms each.
-/
module

public import proofs.«01_k».proof.Proof.Moe.Block
public import Idealize.ShloMosaic.Lib.Pipeline.Value

@[expose] public section

set_option maxRecDepth 16384

noncomputable section

namespace MoeRun

open scoped BigOperators
open Cert.MoeIdeal Cert.MoeIdeal.Gen
open Idealize.ShloMosaic Idealize.ShloMosaic.TcCoe Idealize.SL.Sem Idealize.ShloMosaic.ValueIdx

variable (m : (ℓ : Loc nD τ sig) → Buf (Elt Ideal) ℓ)

/-! ## The arguments at their indices -/

abbrev rowsArg (c : Dev nD) (R : Fin 40960) (k : Fin 2048) : EReal := (V m c main_arg3 : Vec Ideal S40960x2048 .f32) (ix2 R k)
abbrev gateArg (c : Dev nD) (e : Fin 8) (k : Fin 2048) (f : Fin 5632) : EReal := (V m c main_arg4 : Vec Ideal S8x2048x5632 .bf16) (ix3 e k f)
abbrev upArg (c : Dev nD) (e : Fin 8) (k : Fin 2048) (f : Fin 5632) : EReal := (V m c main_arg5 : Vec Ideal S8x2048x5632 .bf16) (ix3 e k f)
abbrev downArg (c : Dev nD) (e : Fin 8) (f : Fin 5632) (j : Fin 2048) : EReal := (V m c main_arg6 : Vec Ideal S8x5632x2048 .bf16) (ix3 e f j)

/-- Term `f` of row `R`'s gated product under expert `e`, at column `j`. -/
def term (c : Dev nD) (e : Fin 8) (R : Fin 40960) (j : Fin 2048) (f : Fin 5632) : EReal :=
  Swiglu.term (fun k : Fin 2048 => rowsArg m c R k) (fun k => gateArg m c e k f) (fun k => upArg m c e k f) (downArg m c e f j)

/-- A tile's expert, and a tile's row in the array. -/
def expertOf (hR : InRange m) (b : Fin 40) : Fin 8 := ⟨(expertW m b).toNat, hR.expert b⟩
abbrev rowOf (b : Fin 40) (p : Fin 1024) : Fin 40960 := ⟨1024 * b.val + p.val, by have := b.isLt; have := p.isLt; omega⟩

/-! ## The staged blocks -/

variable (hR : InRange m) (hO : Ok m)

theorem tile_of (t : Fin (cfgM m hO).N) (b : Fin 40) (s : ℕ) (hs : s < 11) (ht : t.val = 11 * b.val + s) :
    tileOf (grid0.coords t) = b ∧ (blockOf (grid0.coords t)).val = s := by
  have e0 := coord_tile t
  have e1 := coord_block t
  constructor
  · apply Fin.ext; show (grid0.coords t 0).val = b.val; rw [e0, ht]; omega
  · show (grid0.coords t 1).val = s; rw [e1, ht]; omega

include hR in
theorem blk_x (c : Dev nD) (t : Fin (cfgM m hO).N) (b : Fin 40) (hb : tileOf (grid0.coords t) = b) (hu : b.val < (usedW m).toNat) (p : Fin 1024) (k : Fin 2048) :
    (iblk m hO c 0 t : Vec Ideal S1024x2048 .f32) (ix2 p k) = rowsArg m c (rowOf b p) k := by
  have e := map_x m hR (grid0.coords t)
  have er : rowsIx m (tileOf (grid0.coords t)) = b.val := by rw [hb]; unfold rowsIx; omega
  refine congrArg (V m c main_arg3) (funext fun (a : Fin 2) => Fin.ext ?_)
  match a with
  | ⟨0, _⟩ =>
    show cc0_transform_0 inb_S1_S1_0 numel1_S1 (tbl m) (grid0.coords t) (0 : Fin 2) * 1024 + 1 * p.val = 1024 * b.val + p.val
    rw [e]; show rowsIx m (tileOf (grid0.coords t)) * 1024 + _ = _; rw [er]; omega
  | ⟨1, _⟩ =>
    show cc0_transform_0 inb_S1_S1_0 numel1_S1 (tbl m) (grid0.coords t) (1 : Fin 2) * 2048 + 1 * k.val = k.val
    rw [e]; show 0 * 2048 + _ = _; omega

theorem hidIx_used (i : grid0.Coords) (hu : (tileOf i).val < (usedW m).toNat) : hidIx m i = (blockOf i).val := if_pos hu

theorem blk_g (c : Dev nD) (t : Fin (cfgM m hO).N) (hu : (tileOf (grid0.coords t)).val < (usedW m).toNat) (k : Fin 2048) (q : Fin 512) (f : Fin 5632)
    (hf : f.val = 512 * (blockOf (grid0.coords t)).val + q.val) :
    (iblk m hO c 1 t : Vec Ideal S1x2048x512 .bf16) (ix3 (0 : Fin 1) k q) = gateArg m c (expertOf m hR (tileOf (grid0.coords t))) k f := by
  have e := map_g m hR (grid0.coords t)
  rw [hidIx_used m _ hu] at e
  refine congrArg (V m c main_arg4) (funext fun (a : Fin 3) => Fin.ext ?_)
  match a with
  | ⟨0, _⟩ =>
    show cc0_transform_1 k0_off1_inb numel1_S1 inb_S1_S1_0 (tbl m) (grid0.coords t) (0 : Fin 3) * 1 + 1 * 0 = (expertW m (tileOf (grid0.coords t))).toNat
    rw [e]; show (expertW m (tileOf (grid0.coords t))).toNat * 1 + 1 * 0 = _; omega
  | ⟨1, _⟩ =>
    show cc0_transform_1 k0_off1_inb numel1_S1 inb_S1_S1_0 (tbl m) (grid0.coords t) (1 : Fin 3) * 2048 + 1 * k.val = k.val
    rw [e]; show 0 * 2048 + _ = _; omega
  | ⟨2, _⟩ =>
    show cc0_transform_1 k0_off1_inb numel1_S1 inb_S1_S1_0 (tbl m) (grid0.coords t) (2 : Fin 3) * 512 + 1 * q.val = f.val
    rw [e, hf]; show (blockOf (grid0.coords t)).val * 512 + _ = _; omega

theorem blk_u (c : Dev nD) (t : Fin (cfgM m hO).N) (hu : (tileOf (grid0.coords t)).val < (usedW m).toNat) (k : Fin 2048) (q : Fin 512) (f : Fin 5632)
    (hf : f.val = 512 * (blockOf (grid0.coords t)).val + q.val) :
    (iblk m hO c 2 t : Vec Ideal S1x2048x512 .bf16) (ix3 (0 : Fin 1) k q) = upArg m c (expertOf m hR (tileOf (grid0.coords t))) k f := by
  have e := map_u m hR (grid0.coords t)
  rw [hidIx_used m _ hu] at e
  refine congrArg (V m c main_arg5) (funext fun (a : Fin 3) => Fin.ext ?_)
  match a with
  | ⟨0, _⟩ =>
    show cc0_transform_2 k0_off1_inb numel1_S1 inb_S1_S1_0 (tbl m) (grid0.coords t) (0 : Fin 3) * 1 + 1 * 0 = (expertW m (tileOf (grid0.coords t))).toNat
    rw [e]; show (expertW m (tileOf (grid0.coords t))).toNat * 1 + 1 * 0 = _; omega
  | ⟨1, _⟩ =>
    show cc0_transform_2 k0_off1_inb numel1_S1 inb_S1_S1_0 (tbl m) (grid0.coords t) (1 : Fin 3) * 2048 + 1 * k.val = k.val
    rw [e]; show 0 * 2048 + _ = _; omega
  | ⟨2, _⟩ =>
    show cc0_transform_2 k0_off1_inb numel1_S1 inb_S1_S1_0 (tbl m) (grid0.coords t) (2 : Fin 3) * 512 + 1 * q.val = f.val
    rw [e, hf]; show (blockOf (grid0.coords t)).val * 512 + _ = _; omega

theorem blk_d (c : Dev nD) (t : Fin (cfgM m hO).N) (hu : (tileOf (grid0.coords t)).val < (usedW m).toNat) (q : Fin 512) (j : Fin 2048) (f : Fin 5632)
    (hf : f.val = 512 * (blockOf (grid0.coords t)).val + q.val) :
    (iblk m hO c 3 t : Vec Ideal S1x512x2048 .bf16) (ix3 (0 : Fin 1) q j) = downArg m c (expertOf m hR (tileOf (grid0.coords t))) f j := by
  have e := map_d m hR (grid0.coords t)
  rw [hidIx_used m _ hu] at e
  refine congrArg (V m c main_arg6) (funext fun (a : Fin 3) => Fin.ext ?_)
  match a with
  | ⟨0, _⟩ =>
    show cc0_transform_3 k0_off1_inb numel1_S1 inb_S1_S1_0 (tbl m) (grid0.coords t) (0 : Fin 3) * 1 + 1 * 0 = (expertW m (tileOf (grid0.coords t))).toNat
    rw [e]; show (expertW m (tileOf (grid0.coords t))).toNat * 1 + 1 * 0 = _; omega
  | ⟨1, _⟩ =>
    show cc0_transform_3 k0_off1_inb numel1_S1 inb_S1_S1_0 (tbl m) (grid0.coords t) (1 : Fin 3) * 512 + 1 * q.val = f.val
    rw [e, hf]; show (blockOf (grid0.coords t)).val * 512 + _ = _; omega
  | ⟨2, _⟩ =>
    show cc0_transform_3 k0_off1_inb numel1_S1 inb_S1_S1_0 (tbl m) (grid0.coords t) (2 : Fin 3) * 2048 + 1 * j.val = j.val
    rw [e]; show 0 * 2048 + _ = _; omega

/-! ## A tile's points -/

/-- Row `p` of tile `b` is worked on. -/
def Live (b : Fin 40) (p : Fin 1024) : Prop := b.val < (usedW m).toNat ∧ p.val < 256 * (chunksW m b).toNat

instance (b : Fin 40) (p : Fin 1024) : Decidable (Live m b p) := by unfold Live; infer_instance

/-- The 512 terms of a point of a tile in use, over kept rows holding the tile's rows. -/
theorem point_terms (c : Dev nD) (t : Fin (cfgM m hO).N) (b : Fin 40) (s : ℕ) (hs : s < 11) (ht : t.val = 11 * b.val + s) (hu : b.val < (usedW m).toNat)
    (r : Vec Ideal S1024x2048 .bf16) (p : Fin 1024) (j : Fin 2048) (hr : ∀ k, r (ix2 p k) = rowsArg m c (rowOf b p) k) :
    terms (n := 1024) r (iblk m hO c 1 t) (iblk m hO c 2 t) (iblk m hO c 3 t) p j
      = ∑ q : Fin 512, Swiglu.ext (term m c (expertOf m hR b) (rowOf b p) j) (512 * s + q.val) := by
  obtain ⟨e0, e1⟩ := tile_of m hO t b s hs ht
  have hu' : (tileOf (grid0.coords t)).val < (usedW m).toNat := by rw [e0]; exact hu
  refine Finset.sum_congr rfl fun q _ => ?_
  have hlt : 512 * s + q.val < 5632 := by have := q.isLt; omega
  have hf : (⟨512 * s + q.val, hlt⟩ : Fin 5632).val = 512 * (blockOf (grid0.coords t)).val + q.val := by rw [e1]
  rw [Swiglu.ext_of_lt _ _ hlt]
  unfold term
  rw [funext hr, funext fun k => blk_g m hR hO c t hu' k q _ hf, funext fun k => blk_u m hR hO c t hu' k q _ hf, blk_d m hR hO c t hu' q j _ hf, e0]

/-- Any point is a step from some contents. -/
theorem held_step (c : Dev nD) (t : Fin (cfgM m hO).N) : ∃ s, held m hO c t.val t.isLt = pointStep m hO c t s := by
  obtain ⟨n, hn⟩ := t
  cases n with
  | zero => exact ⟨_, rfl⟩
  | succ n => exact ⟨_, rfl⟩

/-- WHAT A TILE'S BUFFERS HOLD after its point `s`: at a live row the terms so far, at the others zero; and in a tile in
    use the kept rows are the tile's. -/
theorem held_apply (c : Dev nD) (b : Fin 40) : ∀ (s : ℕ) (_ : s < 11) (h : 11 * b.val + s < (cfgM m hO).N) (p : Fin 1024),
    (∀ j, (held m hO c (11 * b.val + s) h).1 (ix2 p j) = if Live m b p then
        ∑ s' ∈ Finset.range (s + 1), ∑ q : Fin 512, Swiglu.ext (term m c (expertOf m hR b) (rowOf b p) j) (512 * s' + q.val) else 0)
    ∧ (b.val < (usedW m).toNat → ∀ k, (held m hO c (11 * b.val + s) h).2 (ix2 p k) = rowsArg m c (rowOf b p) k)
  | 0, hs, h, p => by
    obtain ⟨e0, e1⟩ := tile_of m hO ⟨11 * b.val + 0, h⟩ b 0 hs rfl
    obtain ⟨st, e⟩ := held_step m hO c ⟨11 * b.val + 0, h⟩
    have e' : held m hO c (11 * b.val + 0) h = pointStep m hO c ⟨11 * b.val + 0, h⟩ st := e
    have hk : b.val < (usedW m).toNat → ∀ k, keptRows (grid0.coords ⟨11 * b.val + 0, h⟩) (nUsed m) (iblk m hO c 0 ⟨11 * b.val + 0, h⟩) st.2 (ix2 p k)
        = rowsArg m c (rowOf b p) k := fun hu k =>
      (kept_anew m hR _ (by rw [e0]; exact hu) e1 _ _ p k).trans (blk_x m hR hO c _ b e0 hu p k)
    rw [e']
    refine ⟨fun j => ?_, hk⟩
    refine (outRows_apply m hR _ _ _ _ _ _ p j).trans ?_
    refine (congrArg (fun z : EReal => z + _) (cleared_first _ ((first_iff _).mpr (by show (11 * b.val + 0) % 11 = 0; omega)) _ p j)).trans ((zero_add (M := EReal) _).trans ?_)
    have hL : Worked m (grid0.coords ⟨11 * b.val + 0, h⟩) p ↔ Live m b p := by unfold Worked Live; rw [e0]
    by_cases hl : Live m b p
    · rw [if_pos hl, if_pos (hL.mpr hl), Finset.sum_range_one]
      exact point_terms m hR hO c _ b 0 hs rfl hl.1 _ p j (hk hl.1)
    · rw [if_neg hl, if_neg fun h => hl (hL.mp h)]
  | s + 1, hs, h, p => by
    obtain ⟨e0, e1⟩ := tile_of m hO ⟨11 * b.val + (s + 1), h⟩ b (s + 1) hs rfl
    have ih := held_apply c b s (Nat.lt_of_succ_lt hs) (Nat.lt_of_succ_lt h) p
    have e' : held m hO c (11 * b.val + (s + 1)) h = pointStep m hO c ⟨11 * b.val + (s + 1), h⟩ (held m hO c (11 * b.val + s) (Nat.lt_of_succ_lt h)) := rfl
    have hk : b.val < (usedW m).toNat → ∀ k, keptRows (grid0.coords ⟨11 * b.val + (s + 1), h⟩) (nUsed m) (iblk m hO c 0 ⟨11 * b.val + (s + 1), h⟩)
        (held m hO c (11 * b.val + s) (Nat.lt_of_succ_lt h)).2 (ix2 p k) = rowsArg m c (rowOf b p) k := fun hu k =>
      (congrFun (kept_later m hR _ (by rw [e1]; omega) _ _) (ix2 p k)).trans (ih.2 hu k)
    rw [e']
    refine ⟨fun j => ?_, hk⟩
    refine (outRows_apply m hR _ _ _ _ _ _ p j).trans ?_
    rw [cleared_later _ (fun c => by have := (first_iff _).mp c; have e : (11 * b.val + (s + 1)) % 11 = 0 := this; omega)]
    refine (congrArg (fun z : EReal => z + _) (ih.1 j)).trans ?_
    have hL : Worked m (grid0.coords ⟨11 * b.val + (s + 1), h⟩) p ↔ Live m b p := by unfold Worked Live; rw [e0]
    by_cases hl : Live m b p
    · rw [if_pos hl, if_pos hl, if_pos (hL.mpr hl), Finset.sum_range_succ _ (s + 1)]
      exact congrArg (fun z : EReal => _ + z) (point_terms m hR hO c _ b (s + 1) hs rfl hl.1 _ p j (hk hl.1))
    · rw [if_neg hl, if_neg hl, if_neg fun h => hl (hL.mp h)]
      exact add_zero (M := EReal) _

/-! ## The array -/

abbrev tileIx (R : Fin 40960) : Fin 40 := ⟨R.val / 1024, by have := R.isLt; omega⟩
abbrev placeIx (R : Fin 40960) : Fin 1024 := ⟨R.val % 1024, Nat.mod_lt _ (by decide)⟩

/-- An entry of the array after the run. -/
def result (c : Dev nD) (R : Fin 40960) (j : Fin 2048) : EReal :=
  if Live m (tileIx R) (placeIx R) then ∑ f : Fin 5632, term m c (expertOf m hR (tileIx R)) R j f else 0

/-- The array. -/
def G (c : Dev nD) : Buf (Elt Ideal) ((c : Thread nD τ).loc main_v0) := fun (i : S40960x2048.Idx) => result m hR c (i 0) (i 1)

theorem tile_end (c : Dev nD) (b : Fin 40) (h : 11 * b.val + 10 < (cfgM m hO).N) (p : Fin 1024) (j : Fin 2048) :
    (held m hO c (11 * b.val + 10) h).1 (ix2 p j) = result m hR c (rowOf b p) j := by
  have hp := p.isLt
  have e0 : tileIx (rowOf b p) = b := Fin.ext (by show (1024 * b.val + p.val) / 1024 = b.val; omega)
  have e1 : placeIx (rowOf b p) = p := Fin.ext (by show (1024 * b.val + p.val) % 1024 = p.val; omega)
  refine ((held_apply m hR hO c b 10 (by decide) h p).1 j).trans ?_
  unfold result
  rw [e0, e1, Swiglu.sum_blocks _ 512 11]
  exact congrArg (fun z : EReal => if Live m b p then z else 0) (Swiglu.sum_ext _)

theorem map_o (t : Fin (cfgM m hO).N) : cc0_transform_4 (grid0.coords t) = ![t.val / 11, 0] := by
  have ht : t.val < 440 := Nat.lt_of_lt_of_eq t.isLt N_0
  have e0 := coord_tile t
  have e : (BitVec.ofNat 32 (grid0.coords t 0).val).toNat = t.val / 11 := by rw [e0, BitVec.toNat_ofNat]; omega
  exact congrArg (fun a : ℕ => (![a, 0] : Fin 2 → ℕ)) e

theorem cover (i : S40960x2048.Idx) : ∃ t : Fin (cfgM m hO).N, ((cfgM m hO).win 4).flush t = true ∧ i ∈ (((cfgM m hO).win 4).blk t).view.set := by
  have h0 : (i 0).val < 40960 := (i 0).isLt
  have h1 : (i 1).val < 2048 := (i 1).isLt
  have hN : 11 * ((i 0).val / 1024) + 10 < (cfgM m hO).N := by rw [show (cfgM m hO).N = 440 from N_0]; omega
  obtain ⟨t, ht⟩ : ∃ t : Fin (cfgM m hO).N, t.val = 11 * ((i 0).val / 1024) + 10 := ⟨⟨_, hN⟩, rfl⟩
  have e := map_o m hO t
  refine ⟨t, (flush_iff (adm m hO) t).mpr (by omega), ?_⟩
  have er := View.set_slice_whole main_v0 (((cfgM m hO).win 4).rect t : Rect S40960x2048)
  refine (congrArg (fun s : Finset S40960x2048.Idx => i ∈ s) er).mpr (Rect.mem_set_unit.mpr fun (a : Fin 2) => ?_)
  match a with
  | ⟨0, _⟩ =>
    show cc0_transform_4 (grid0.coords t) (0 : Fin 2) * 1024 ≤ (i 0).val ∧ (i 0).val < cc0_transform_4 (grid0.coords t) (0 : Fin 2) * 1024 + 1024
    rw [e]; show t.val / 11 * 1024 ≤ (i 0).val ∧ (i 0).val < t.val / 11 * 1024 + 1024; omega
  | ⟨1, _⟩ =>
    show 0 * 2048 ≤ (i 1).val ∧ (i 1).val < 0 * 2048 + 2048
    omega

/-- THE ARRAY after the run. -/
theorem final (c : Dev nD) : (dats m hO 0 c).arrAt 4 (cfgM m hO).N = G m hR c := by
  refine (dats m hO 0 c).arrAt_eq_of_cover 4 (G m hR c) (fun t hf => ?_) (cover m hO)
  have hm := (flush_iff (adm m hO) t).mp hf
  have hN : t.val < 440 := Nat.lt_of_lt_of_eq t.isLt N_0
  have ht : t.val = 11 * (t.val / 11) + 10 := by omega
  have e := map_o m hO t
  have ea : (dats m hO 0 c).after 4 t = (held m hO c (11 * (t.val / 11) + 10) (ht ▸ t.isLt)).1 := by
    rw [after_o]; congr 1; congr 1
  show ((cfgM m hO).win 4).cut (grid0.coords t) ((dats m hO 0 c).after 4 t) = _
  rw [ea]
  funext (y : S1024x2048.Idx)
  have ey : y = ix2 (y 0) (y 1) := eq_ix2 y
  refine (congrArg (held m hO c (11 * (t.val / 11) + 10) (ht ▸ t.isLt)).1 ey).trans ?_
  refine (tile_end m hR hO c ⟨t.val / 11, by omega⟩ (ht ▸ t.isLt) (y 0) (y 1)).trans ?_
  have er : rowOf ⟨t.val / 11, by omega⟩ (y 0) = (show S40960x2048.Idx from (((cfgM m hO).win 4).blk t).view.emb y) 0 := Fin.ext (by
    show 1024 * (t.val / 11) + (y 0).val = cc0_transform_4 (grid0.coords t) (0 : Fin 2) * 1024 + 1 * (y 0).val
    rw [e]; show _ = t.val / 11 * 1024 + _; omega)
  have ec : y 1 = (show S40960x2048.Idx from (((cfgM m hO).win 4).blk t).view.emb y) 1 := Fin.ext (by
    show (y 1).val = 0 * 2048 + 1 * (y 1).val; omega)
  exact congrArg₂ (result m hR c) er ec

/-- THE RUN, READ: the result's array at `G`, every argument as it began, every counter at zero. -/
theorem run_value (ρ : Dev nD → PrngReg) :
    θ_run defs (onTc (τ := τ) (main (F := Ideal))) ⟨m, fun _ => 0, ρ⟩ (fun r => ∀ c : Dev nD,
      r.2.mem ((c.tc : Thread nD τ).loc main_v0) = G m hR c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h.1 c).1 4).trans (final m hR (ok m hR) c),
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      ((h.1 c).1 0).trans (((dats m (ok m hR) 0 c).arrAt_in 0 rfl _).trans (entry_eq m (ok m hR) c 0)),
      ((h.1 c).1 1).trans (((dats m (ok m hR) 0 c).arrAt_in 1 rfl _).trans (entry_eq m (ok m hR) c 1)),
      ((h.1 c).1 2).trans (((dats m (ok m hR) 0 c).arrAt_in 2 rfl _).trans (entry_eq m (ok m hR) c 2)),
      ((h.1 c).1 3).trans (((dats m (ok m hR) 0 c).arrAt_in 3 rfl _).trans (entry_eq m (ok m hR) c 3))⟩)
    (run_main m ρ (ok m hR) (anew_first m hR))

end MoeRun

end
-- ==== Proof.Moe.Reference.lean ====
/-
  The expert reference read entry by entry, over the extended reals. Of the eight experts' outputs at a row only the one
  of the expert assigned to the row's tile is taken with gate one, and only where the row is live: its tile is in use and
  the row lies in one of the tile's occupied chunks of 256.
-/
module

public import proofs.«01_k».proof.Proof.Gen.MoeRefIdeal.Run
public import proofs.«01_k».proof.Proof.Gen.MoeRefIdeal.Read
public import proofs.«01_k».proof.Proof.Swiglu
public import Idealize.ShloMosaic.Lib.IdealHost
public import Idealize.ShloMosaic.Lib.WordCmp
public import Idealize.ShloMosaic.Lib.StableHlo.Predicate

@[expose] public section

noncomputable section

open scoped BigOperators
open Idealize.ShloMosaic Idealize.ShloMosaic.TcCoe Idealize.SL.Sem Idealize.ShloMosaic.ValueIdx

namespace Cert.MoeRefIdeal.Entry

open Cert.MoeRefIdeal Cert.MoeRefIdeal.Read

variable (te : IVec S40 32) (nu : IVec S1 32) (nc : IVec S40 32)
variable (xs : Vec Ideal S40960x2048 .f32) (wg wu : Vec Ideal S8x2048x5632 .bf16) (wd : Vec Ideal S8x5632x2048 .bf16)

/-- A row's tile, and its place in the tile. -/
abbrev tile (R : Fin 40960) : Fin 40 := ⟨R.val / 1024, by have := R.isLt; omega⟩
abbrev place (R : Fin 40960) : Fin 1024 := ⟨R.val % 1024, Nat.mod_lt _ (by decide)⟩

/-- A row is live: its tile is in use, and it lies in an occupied chunk. -/
def Live (R : Fin 40960) : Prop :=
  (tile R).val < (nu (ix1 (0 : Fin 1))).toNat ∧ (place R).val < 256 * (nc (ix1 (tile R))).toNat

/-- The bit the gate is chosen by. -/
theorem bit_apply (e : Fin 8) (R : Fin 40960) :
    val_main_v26 (F := Ideal) te nu nc (ix2 e R)
      = IntOp.andi (IntOp.andi (IntOp.cmpi .slt (BitVec.ofNat 32 (tile R).val) (nu (ix1 (0 : Fin 1))))
          (IntOp.cmpi .slt (BitVec.ofNat 32 (place R).val) (IntOp.muli 256#32 (nc (ix1 (tile R))))))
        (IntOp.cmpi .eq (te (ix1 (tile R))) (BitVec.ofNat 32 e.val)) := by
  have e24 : idx_main_v24 (idx_main_v25 (ix2 e R)) = ix1 R := funext fun a => Fin.ext (by match a with | ⟨0, _⟩ => rfl)
  have e20 : idx_main_v20 (idx_main_v21 (ix2 e R)) = ix1 R := funext fun a => Fin.ext (by match a with | ⟨0, _⟩ => rfl)
  have e15 : idx_main_v15 (ix1 R) = ix2 (tile R) (place R) := funext fun a => Fin.ext (by match a with | ⟨0, _⟩ => rfl | ⟨1, _⟩ => rfl)
  have e17 : idx_main_v17 (ix1 R) = ix2 (tile R) (place R) := funext fun a => Fin.ext (by match a with | ⟨0, _⟩ => rfl | ⟨1, _⟩ => rfl)
  have e16 : idx_main_v16 (ix2 (tile R) (place R)) = ix1 (tile R) := funext fun a => Fin.ext (by match a with | ⟨0, _⟩ => rfl)
  have e13 : idx_main_v13 (ix2 (tile R) (place R)) = ix2 (tile R) (0 : Fin 1) := funext fun a => Fin.ext (by match a with | ⟨0, _⟩ => rfl | ⟨1, _⟩ => rfl)
  have e11 : idx_main_v11 (ix2 (tile R) (place R)) = ix2 (tile R) (0 : Fin 1) := funext fun a => Fin.ext (by match a with | ⟨0, _⟩ => rfl | ⟨1, _⟩ => rfl)
  have e10 : idx_main_v9 (idx_main_v10 (ix2 (tile R) (place R))) = ix1 (place R) := funext fun a => Fin.ext (by match a with | ⟨0, _⟩ => rfl)
  have e6 : idx_main_v6 (ix2 (tile R) (0 : Fin 1)) = ix1 (tile R) := funext fun a => Fin.ext (by match a with | ⟨0, _⟩ => rfl)
  have e2 : idx_main_v2 (ix2 (tile R) (0 : Fin 1)) = ix1 (tile R) := funext fun a => Fin.ext (by match a with | ⟨0, _⟩ => rfl)
  have e3 : idx_main_v3 (idx_main_v4 (ix2 (tile R) (0 : Fin 1))) = ix1 (0 : Fin 1) := funext fun a => Fin.ext (by match a with | ⟨0, _⟩ => rfl)
  have e19 : idx_main_v19 (idx_main_v22 (ix2 e R)) = ix1 e := funext fun a => Fin.ext (by match a with | ⟨0, _⟩ => rfl)
  rw [val_main_v26_apply, val_main_v25_apply, val_main_v24_apply, e24, val_main_v15_apply, e15, val_main_v14_apply, val_main_v13_apply, e13,
    val_main_v5_apply, val_main_v2_apply, e2, val_main_v1_apply, val_main_v4_apply, val_main_v3_apply, e3,
    val_main_v12_apply, val_main_v10_apply, val_main_v9_apply, e10, val_main_v0_apply, val_main_v11_apply, e11, val_main_v8_apply,
    val_main_v7_apply, val_main_c_apply, val_main_v6_apply, e6,
    val_main_v23_apply, val_main_v21_apply, val_main_v20_apply, e20, val_main_v17_apply, e17, val_main_v16_apply, e16,
    val_main_v22_apply, val_main_v19_apply, e19, val_main_v18_apply]

/-- The gate is one for the tile's expert at a live row, zero elsewhere. -/
theorem gate_apply (hu : (nu (ix1 (0 : Fin 1))).toNat < 2147483648) (hc : ∀ r : Fin 40, (nc (ix1 r)).toNat ≤ 4) (e : Fin 8) (R : Fin 40960) :
    val_main_v27 (F := Ideal) te nu nc (ix2 e R)
      = Scalar.select (val_main_v26 (F := Ideal) te nu nc (ix2 e R)) (1 : EReal) 0
    ∧ (val_main_v26 (F := Ideal) te nu nc (ix2 e R) = 1#1 ↔ Live nu nc R ∧ (te (ix1 (tile R))).toNat = e.val) := by
  constructor
  · rw [val_main_v27_apply, val_main_call0_v0_apply, val_main_call0_v1_apply, val_main_cst_apply, val_main_cst_0_apply]
    show Scalar.select _ (Ideal.ofBits .f32 0x3F800000#32) (Ideal.ofBits .f32 0x00000000#32) = _
    rw [Ideal.ofBits_one_f32, Ideal.ofBits_zero_f32]
  · rw [bit_apply]
    have h1 := (tile R).isLt
    have h2 := (place R).isLt
    have h3 := hc (tile R)
    have h4 := e.isLt
    have em : (IntOp.muli 256#32 (nc (ix1 (tile R)))).toNat = 256 * (nc (ix1 (tile R))).toNat := by
      show (256#32 * nc (ix1 (tile R))).toNat = _
      rw [BitVec.toNat_mul]; simp only [BitVec.toNat_ofNat]; omega
    have e1 : (BitVec.ofNat 32 (tile R).val).toNat = (tile R).val := by rw [BitVec.toNat_ofNat]; omega
    have e2 : (BitVec.ofNat 32 (place R).val).toNat = (place R).val := by rw [BitVec.toNat_ofNat]; omega
    have e3 : (BitVec.ofNat 32 e.val).toNat = e.val := by rw [BitVec.toNat_ofNat]; omega
    rw [WordCmp.cmpi_slt_of_lt (by rw [e1]; omega) (by omega), WordCmp.cmpi_slt_of_lt (by rw [e2]; omega) (by rw [em]; omega),
      WordCmp.cmpi_eq_eq_toNat, e1, e2, e3, em]
    simp only [WordCmp.andi_ofBool, WordCmp.ofBool_eq_one_iff, Bool.and_eq_true, decide_eq_true_eq]
    unfold Live
    rfl

/-- An expert's gate product, up product and gated product at a row. -/
theorem gateproduct_apply (e : Fin 8) (R : Fin 40960) (f : Fin 5632) :
    val_main_v30 (F := Ideal) xs wg (ix3 e R f) = ∑ k : Fin 2048, xs (ix2 R k) * wg (ix3 e k f) := by
  rw [val_main_v30_apply, val_main_v29_apply]
  refine Finset.sum_congr rfl fun k _ => ?_
  have el : lidx_main_v29 (idx_main_v30 (ix3 e R f)) k = ix3 e k f := funext fun a => Fin.ext (by match a with | ⟨0, _⟩ => rfl | ⟨1, _⟩ => rfl | ⟨2, _⟩ => rfl)
  have er : ridx_main_v29 (idx_main_v30 (ix3 e R f)) k = ix2 R k := funext fun a => Fin.ext (by match a with | ⟨0, _⟩ => rfl | ⟨1, _⟩ => rfl)
  rw [el, er, val_main_v28_apply]
  exact mul_comm (G := EReal) _ _

theorem upproduct_apply (e : Fin 8) (R : Fin 40960) (f : Fin 5632) :
    val_main_v33 (F := Ideal) xs wu (ix3 e R f) = ∑ k : Fin 2048, xs (ix2 R k) * wu (ix3 e k f) := by
  rw [val_main_v33_apply, val_main_v32_apply]
  refine Finset.sum_congr rfl fun k _ => ?_
  have el : lidx_main_v32 (idx_main_v33 (ix3 e R f)) k = ix3 e k f := funext fun a => Fin.ext (by match a with | ⟨0, _⟩ => rfl | ⟨1, _⟩ => rfl | ⟨2, _⟩ => rfl)
  have er : ridx_main_v32 (idx_main_v33 (ix3 e R f)) k = ix2 R k := funext fun a => Fin.ext (by match a with | ⟨0, _⟩ => rfl | ⟨1, _⟩ => rfl)
  rw [el, er, val_main_v31_apply]
  exact mul_comm (G := EReal) _ _

theorem gated_apply (e : Fin 8) (R : Fin 40960) (f : Fin 5632) :
    val_main_v35 (F := Ideal) xs wg wu (ix3 e R f)
      = Swiglu.gated (∑ k : Fin 2048, xs (ix2 R k) * wg (ix3 e k f)) (∑ k : Fin 2048, xs (ix2 R k) * wu (ix3 e k f)) := by
  rw [val_main_v35_apply, val_main_v34_apply, upproduct_apply, val_main_call1_v5_apply, val_main_call1_v3_apply, val_main_call1_v1_apply,
    val_main_call1_v0_apply, val_main_call1_v2_apply, val_main_call1_v4_apply, gateproduct_apply]
  rfl

/-- One expert's output at a row and a column. -/
def output (e : Fin 8) (R : Fin 40960) (j : Fin 2048) : EReal :=
  ∑ f : Fin 5632, Swiglu.term (fun k : Fin 2048 => xs (ix2 R k)) (fun k => wg (ix3 e k f)) (fun k => wu (ix3 e k f)) (wd (ix3 e f j))

theorem output_apply (e : Fin 8) (R : Fin 40960) (j : Fin 2048) :
    val_main_v37 (F := Ideal) xs wg wu wd (ix3 e R j) = output xs wg wu wd e R j := by
  rw [val_main_v37_apply]
  refine Finset.sum_congr rfl fun f _ => ?_
  have el : lidx_main_v37 (ix3 e R j) f = ix3 e R f := funext fun a => Fin.ext (by match a with | ⟨0, _⟩ => rfl | ⟨1, _⟩ => rfl | ⟨2, _⟩ => rfl)
  have er : ridx_main_v37 (ix3 e R j) f = ix3 e f j := funext fun a => Fin.ext (by match a with | ⟨0, _⟩ => rfl | ⟨1, _⟩ => rfl | ⟨2, _⟩ => rfl)
  rw [el, er, gated_apply, val_main_v36_apply]
  rfl

/-- The reference's result at `(R, j)`: the sum over the experts, each with its gate. -/
theorem sum_apply (R : Fin 40960) (j : Fin 2048) :
    val_main_v42 (F := Ideal) te nu nc xs wg wu wd (ix2 R j)
      = ∑ e : Fin 8, (val_main_v27 (F := Ideal) te nu nc (ix2 e R) : EReal) * output xs wg wu wd e R j := by
  rw [val_main_v42_apply, val_main_cst_1_apply]
  refine (congrArg (fun z : EReal => z + _) Ideal.ofBits_zero_f32).trans ((zero_add (M := EReal) _).trans (Finset.sum_congr rfl fun e _ => ?_))
  have ei : idx_main_v42 (ix2 R j) e = ix3 e R j := funext fun a => Fin.ext (by match a with | ⟨0, _⟩ => rfl | ⟨1, _⟩ => rfl | ⟨2, _⟩ => rfl)
  have e40 : idx_main_v38 (idx_main_v40 (ix3 e R j)) = ix2 e R := funext fun a => Fin.ext (by match a with | ⟨0, _⟩ => rfl | ⟨1, _⟩ => rfl)
  rw [ei, val_main_v41_apply, output_apply, val_main_v40_apply, val_main_v39_apply, val_main_v38_apply, e40]
  rfl

/-- At a live row the result is the output of the expert of the row's tile, -/
theorem result_live (hu : (nu (ix1 (0 : Fin 1))).toNat < 2147483648) (hc : ∀ r : Fin 40, (nc (ix1 r)).toNat ≤ 4)
    (R : Fin 40960) (hL : Live nu nc R) (e : Fin 8) (he : (te (ix1 (tile R))).toNat = e.val) (j : Fin 2048) :
    val_main_v42 (F := Ideal) te nu nc xs wg wu wd (ix2 R j) = output xs wg wu wd e R j := by
  rw [sum_apply, Finset.sum_eq_single e]
  · obtain ⟨h1, h2⟩ := gate_apply te nu nc hu hc e R
    refine (congrArg (fun z : EReal => z * _) (h1.trans (if_pos (h2.mpr ⟨hL, he⟩)))).trans (one_mul (M := EReal) _)
  · intro e' _ hne
    obtain ⟨h1, h2⟩ := gate_apply te nu nc hu hc e' R
    refine (congrArg (fun z : EReal => z * _) (h1.trans (if_neg fun h => hne (Fin.ext ((h2.mp h).2.symm.trans he))))).trans (zero_mul (M₀ := EReal) _)
  · intro h; exact absurd (Finset.mem_univ _) h

/-- and elsewhere it is zero. -/
theorem result_idle (hu : (nu (ix1 (0 : Fin 1))).toNat < 2147483648) (hc : ∀ r : Fin 40, (nc (ix1 r)).toNat ≤ 4)
    (R : Fin 40960) (hL : ¬ Live nu nc R) (j : Fin 2048) :
    val_main_v42 (F := Ideal) te nu nc xs wg wu wd (ix2 R j) = (0 : EReal) := by
  rw [sum_apply]
  refine Finset.sum_eq_zero fun e _ => ?_
  obtain ⟨h1, h2⟩ := gate_apply te nu nc hu hc e R
  exact (congrArg (fun z : EReal => z * _) (h1.trans (if_neg fun h => hL (h2.mp h).1))).trans (zero_mul (M₀ := EReal) _)

end Cert.MoeRefIdeal.Entry

end
-- ==== Proof.Moe.Claims.lean ====
/-
  The claims about the expert call: the kernel and its reference run, keep their arguments, end with every semaphore at
  zero, and over the extended reals end with equal results — wherever the tables are in range.
-/
module

public import proofs.«01_k».proof.Defs
public import proofs.«01_k».proof.Proof.Gen.Moe
public import proofs.«01_k».proof.Proof.Moe.Rows
public import proofs.«01_k».proof.Proof.Moe.Reference

@[expose] public section

set_option maxRecDepth 16384

noncomputable section

open scoped BigOperators
open Idealize.ShloMosaic Idealize.ShloMosaic.TcCoe Idealize.SL.Sem Idealize.ShloMosaic.ValueIdx

namespace Cert.Proof.MoeClaims

/-- What the frame claims of the kernel, on the idealization's text read at an instance `F`. -/
abbrev FrameAt (F : FTy → Type) [FloatOps F] : Prop :=
  ∀ (m : (ℓ : Loc Cert.MoeIdeal.nD Cert.MoeIdeal.τ Cert.MoeIdeal.sig) → Buf (Elt F) ℓ) (g : Dev Cert.MoeIdeal.nD → PrngReg),
    (∀ c : Dev Cert.MoeIdeal.nD, Cert.Pre_tables_in_range.fn (F := F)
        (m ((c.tc : Thread Cert.MoeIdeal.nD Cert.MoeIdeal.τ).loc Cert.MoeIdeal.main_arg0)) (m ((c.tc : Thread Cert.MoeIdeal.nD Cert.MoeIdeal.τ).loc Cert.MoeIdeal.main_arg1))
        (m ((c.tc : Thread Cert.MoeIdeal.nD Cert.MoeIdeal.τ).loc Cert.MoeIdeal.main_arg2)) (m ((c.tc : Thread Cert.MoeIdeal.nD Cert.MoeIdeal.τ).loc Cert.MoeIdeal.main_arg3))
        (m ((c.tc : Thread Cert.MoeIdeal.nD Cert.MoeIdeal.τ).loc Cert.MoeIdeal.main_arg4)) (m ((c.tc : Thread Cert.MoeIdeal.nD Cert.MoeIdeal.τ).loc Cert.MoeIdeal.main_arg5))
        (m ((c.tc : Thread Cert.MoeIdeal.nD Cert.MoeIdeal.τ).loc Cert.MoeIdeal.main_arg6)) = fun _ => 1#1) →
    θ_run (Cert.MoeIdeal.defs (F := F)) (onTc (τ := Cert.MoeIdeal.τ) (Cert.MoeIdeal.main (F := F))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

theorem frameAt (F : FTy → Type) [FloatOps F] : FrameAt F := fun m g h =>
  have hR := MoeRun.inRange m (h 0)
  MoeRun.frame m g (MoeRun.ok m hR) (MoeRun.anew_first m hR)

/-- The kernel's program and its idealization's are one text. -/
theorem same_text : Cert.quiescent_Moe = FrameAt Bits := by sl_kernel_rfl

theorem frame_kernel : Cert.quiescent_Moe := same_text.mpr (frameAt Bits)
theorem frame_ideal : Cert.quiescent_MoeIdeal := fun m g h => frameAt Ideal m g h
theorem frame_reference : Cert.quiescent_MoeRefIdeal := fun m ρ _ =>
  (θ_run Cert.MoeRefIdeal.defs _ _).mono (fun r h => ⟨fun c => (h c).2, Idealize.ShloMosaic.sem_eq_zero_of_no_sems (by decide) r.2⟩)
    (Cert.MoeRefIdeal.Value.run (F := Ideal) m ρ)
theorem preserves : Cert.preserves_Moe_MoeIdeal := trivial

/-- An entry of the reference's result is the kernel's. -/
theorem entry_eq (m : (ℓ : Loc Cert.MoeIdeal.nD Cert.MoeIdeal.τ Cert.MoeIdeal.sig) → Buf (Elt Ideal) ℓ) (hR : MoeRun.InRange m)
    (R : Fin 40960) (j : Fin 2048) :
    Cert.MoeRefIdeal.Read.val_main_v42 (F := Ideal) (MoeRun.V m 0 Cert.MoeIdeal.main_arg0) (MoeRun.V m 0 Cert.MoeIdeal.main_arg1) (MoeRun.V m 0 Cert.MoeIdeal.main_arg2)
        (MoeRun.V m 0 Cert.MoeIdeal.main_arg3) (MoeRun.V m 0 Cert.MoeIdeal.main_arg4) (MoeRun.V m 0 Cert.MoeIdeal.main_arg5) (MoeRun.V m 0 Cert.MoeIdeal.main_arg6) (ix2 R j)
      = MoeRun.result m hR 0 R j := by
  unfold MoeRun.result
  by_cases hL : MoeRun.Live m (MoeRun.tileIx R) (MoeRun.placeIx R)
  · rw [if_pos hL]
    exact Cert.MoeRefIdeal.Entry.result_live _ _ _ _ _ _ _ hR.used.2 hR.chunks R hL (MoeRun.expertOf m hR (MoeRun.tileIx R)) rfl j
  · rw [if_neg hL]
    exact Cert.MoeRefIdeal.Entry.result_idle _ _ _ _ _ _ _ hR.used.2 hR.chunks R hL j

/-- From arguments that agree, the kernel's array and the reference's are the same function of row and column. -/
theorem algebraic : Cert.algebraic_MoeIdeal_MoeRefIdeal := by
  intro m ρ m' ρ' hpre hagree
  have hR : MoeRun.InRange m := MoeRun.inRange m (hpre 0)
  refine ⟨fun c => MoeRun.G m hR c, MoeRun.run_value m hR ρ, ?_⟩
  refine (θ_run Cert.MoeRefIdeal.defs _ _).mono (fun _ h c => ?_) (Cert.MoeRefIdeal.Value.run (F := Ideal) m' ρ')
  refine ⟨(h c).1.trans ?_, (h c).2⟩
  obtain ⟨a0, a1, a2, a3, a4, a5, a6⟩ := hagree c
  rw [a0, a1, a2, a3, a4, a5, a6]
  obtain rfl : c = 0 := Subsingleton.elim _ _
  refine (Cert.MoeRefIdeal.Read.val_main_v42_eq _ _ _ _ _ _ _).trans (funext fun i => ?_)
  have ei : i = ix2 (n0 := 40960) (n1 := 2048) (i 0) (i 1) := eq_ix2 i
  exact (congrArg _ ei).trans (entry_eq m hR (i 0) (i 1))

end Cert.Proof.MoeClaims

end
-- ==== Proof.Ffn.Block.lean ====
/-
  The dense feed-forward kernel at one grid point, over the extended reals. The point stages 656 rows of the
  residual stream, the norm's scale, 512 columns of the gate and up matrices and the 512 matching rows of the down
  matrix. What it stores is read here entry by entry: the rows normalised and scaled (kept beside the output across a
  row block's eleven points), and the output's old entry plus this point's 512 terms of the gated product.
-/
module

public import proofs.«01_k».proof.Proof.Gen.FfnIdeal.Value
public import proofs.«01_k».proof.Proof.Swiglu
public import Idealize.ShloMosaic.Lib.ValueLayout

@[expose] public section

noncomputable section

open scoped BigOperators
open Idealize.ShloMosaic Idealize.ShloMosaic.TcCoe Idealize.SL.Sem Idealize.ShloMosaic.ValueIdx

namespace Cert.FfnIdeal.Block

open Cert.FfnIdeal Cert.FfnIdeal.Gen

/-- The root of a row's mean square, inverted: `rsqrt (sum of squares / 2048 + epsilon)`, the two constants as printed. -/
def invRms (x : Fin 2048 → EReal) : EReal :=
  Ideal.rsqrt (Ideal.div (∑ k : Fin 2048, x k * x k) (Ideal.ofBits .f32 0x45000000#32) + Ideal.ofBits .f32 0x358637BD#32)

/-- One entry of a normalised and scaled row. -/
def norm (x g : Fin 2048 → EReal) (k : Fin 2048) : EReal := x k * invRms x * g k

/-- What the first point of a row block stores beside the output: the staged rows, normalised and scaled. -/
theorem pay1_apply (h : Vec Ideal S656x2048 .f32) (g : Vec Ideal S1x2048 .f32) (r : Fin 656) (k : Fin 2048) :
    k0_pay1 (F := Ideal) h g (ix2 r k) = norm (fun k => h (ix2 r k)) (fun k => g (ix2 (0 : Fin 1) k)) k := by
  unfold k0_pay1
  simp only [shapeCast_self]
  show h (ix2 r k) * broadcastTo S656x2048 _ broadcasts_S656x1_S656x2048 (ix2 r k) * broadcastTo S656x2048 g broadcasts_S1x2048_S656x2048 (ix2 r k) = _
  rw [broadcastTo_1b_ab_apply g broadcasts_S1x2048_S656x2048 r k,
    broadcastTo_apply _ broadcasts_S656x1_S656x2048 (ix2 r k) (ix2 r (0 : Fin 1)) (fun a => match a with
      | ⟨0, _⟩ => by show r.val = if (656 : Nat) = 1 then 0 else r.val; rw [if_neg (by decide)]
      | ⟨1, _⟩ => rfl)]
  unfold norm invRms
  show h (ix2 r k) * Ideal.rsqrt (Ideal.div (shapeCast S656x1 _ shapeCasts_S656_S656x1 (ix2 r (0 : Fin 1))) _ + _) * _ = _
  rw [shapeCast_apply _ shapeCasts_S656_S656x1 (ix2 r (0 : Fin 1)) (ix1 r) (by
    rw [Shape.rowMajor_val_one, Shape.rowMajor_val_two]; show r.val = r.val * 1 + 0; omega)]
  have e : ∀ q : Fin 2048, reduces_S656x2048_S656.lift (ix1 r) q = ix2 r q := fun q =>
    funext fun a => Fin.ext (by match a with | ⟨0, _⟩ => rfl | ⟨1, _⟩ => rfl)
  have e2 : ∀ q : Fin 2048, mulf (F := Ideal) (φ := .f32) h h (reduces_S656x2048_S656.lift (ix1 r) q) = h (ix2 r q) * h (ix2 r q) := fun q =>
    congrArg (fun i => (h i * h i : EReal)) (e q)
  exact congrArg (fun z : EReal => h (ix2 r k) * Ideal.rsqrt (Ideal.div z (Ideal.ofBits .f32 0x45000000#32) + Ideal.ofBits .f32 0x358637BD#32)
      * g (ix2 (0 : Fin 1) k))
    ((Ideal.multiReduction_add_single (mulf (F := Ideal) (φ := .f32) h h) 0x00000000#32 reduces_S656x2048_S656 (.inl rfl) rfl (ix1 r)).trans
      (Finset.sum_congr rfl fun q _ => e2 q))

/-- What every point stores into the output: the old entry plus the point's 512 terms of the gated product. -/
theorem pay2_apply (o : Vec Ideal S656x2048 .f32) (hn : Vec Ideal S656x2048 .bf16) (wg wu : Vec Ideal S2048x512 .bf16)
    (wd : Vec Ideal S512x2048 .bf16) (r : Fin 656) (j : Fin 2048) :
    k0_pay2 (F := Ideal) o hn wg wu wd (ix2 r j)
      = o (ix2 r j) + ∑ q : Fin 512, Swiglu.term (fun k : Fin 2048 => hn (ix2 r k)) (fun k => wg (ix2 k q)) (fun k => wu (ix2 k q)) (wd (ix2 q j)) := by
  unfold k0_pay2
  simp only [shapeCast_self]
  show o (ix2 r j) + FloatOps.matmul (F := Ideal) (DotDims.plain 656 512 2048) none _ wd (constant ⟨2, ![656, 2048]⟩ .f32 0x00000000#32) (ix2 r j) = _
  rw [Swiglu.matmul_zero_apply]
  refine congrArg (o (ix2 r j) + ·) (Finset.sum_congr rfl fun q _ => ?_)
  unfold Swiglu.term
  rw [← Swiglu.gated_of_sub]
  have eg := Swiglu.matmul_zero_apply (φ₁ := .bf16) (φ₂ := .bf16) none hn wg r q
  have eu := Swiglu.matmul_zero_apply (φ₁ := .bf16) (φ₂ := .bf16) none hn wu r q
  rw [← eg, ← eu]
  rfl

theorem hz : (![0, 0] : Fin 2 → Nat) = fun _ => 0 := funext fun a => by fin_cases a <;> rfl

/-- At a later point of a row block: the output's staging buffer ends at the old contents plus the point's terms. -/
theorem out_later (c : Dev nD) (i : grid0.Coords) (a2 : Memref sig .tc .vmem S656x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole)
    (a7 : Memref sig .tc .vmem S656x2048 .f32) (h7 : a7.IsWhole) (a8 : Memref sig .tc .vmem S656x2048 .bf16) (h8 : a8.IsWhole) (hc : ¬cond0_0 i)
    (x0 : Vec Ideal S656x2048 .f32) (x1 : Vec Ideal S1x2048 .f32) (x2 x3 : Vec Ideal S2048x512 .bf16) (x4 : Vec Ideal S512x2048 .bf16)
    (xo : Vec Ideal S656x2048 .f32) (xs : Vec Ideal S656x2048 .bf16) :
    out0_B_5 c i a2 h2 a3 h3 a4 h4 a5 h5 a6 h6 a7 h7 a8 h8 hc x0 x1 x2 x3 x4 xo xs = k0_pay2 xo xs x2 x3 x4 := by
  unfold out0_B_5
  rw [View.read_writes_eq_canon _ _ _ (cover0_B_5 c i a2 h2 a3 h3 a4 h4 a5 h5 a6 h6 a7 h7 a8 h8 hc x0 x1 x2 x3 x4 xo xs)]
  unfold kernelRun0_B
  dsimp only
  rw [View.canon_unit_zero hz]
  simp only [View.readAt_eq_ld, h2.read_unread, h3.read_unread, h4.read_unread, h5.read_unread, h6.read_unread, h7.read_unread, h8.read_unread,
    View.ld_unit_zero (S := S656x2048) hz, View.ld_unit_zero (S := S1x2048) hz, View.ld_unit_zero (S := S2048x512) hz, View.ld_unit_zero (S := S512x2048) hz]

/-- At the first point of a row block: the output's staging buffer ends at the staged rows plus the point's terms, over the
    rows normalised and scaled at this very point. -/
theorem out_first (c : Dev nD) (i : grid0.Coords) (a2 : Memref sig .tc .vmem S656x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole)
    (a7 : Memref sig .tc .vmem S656x2048 .f32) (h7 : a7.IsWhole) (a8 : Memref sig .tc .vmem S656x2048 .bf16) (h8 : a8.IsWhole) (hc : cond0_0 i)
    (x0 : Vec Ideal S656x2048 .f32) (x1 : Vec Ideal S1x2048 .f32) (x2 x3 : Vec Ideal S2048x512 .bf16) (x4 : Vec Ideal S512x2048 .bf16) :
    out0_A_5 c i a2 h2 a3 h3 a4 h4 a5 h5 a6 h6 a7 h7 a8 h8 hc x0 x1 x2 x3 x4 = k0_pay2 x0 (k0_pay1 x0 x1) x2 x3 x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_cons_unit_zero (S := S656x2048) hz]
  simp only [View.readCov_unit_zero (S := S656x2048) _ hz, View.readAt_eq_ld, h2.read_unread, h3.read_unread, h4.read_unread, h5.read_unread, h6.read_unread,
    View.ld_unit_zero (S := S656x2048) hz, View.ld_unit_zero (S := S1x2048) hz, View.ld_unit_zero (S := S2048x512) hz, View.ld_unit_zero (S := S512x2048) hz]

/-- … and the buffer beside it ends at the rows normalised and scaled. -/
theorem kept_first (c : Dev nD) (i : grid0.Coords) (a2 : Memref sig .tc .vmem S656x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S2048x512 .bf16) (h5 : a5.IsWhole) (a6 : Memref sig .tc .vmem S512x2048 .bf16) (h6 : a6.IsWhole)
    (a7 : Memref sig .tc .vmem S656x2048 .f32) (h7 : a7.IsWhole) (a8 : Memref sig .tc .vmem S656x2048 .bf16) (h8 : a8.IsWhole) (hc : cond0_0 i)
    (x0 : Vec Ideal S656x2048 .f32) (x1 : Vec Ideal S1x2048 .f32) (x2 x3 : Vec Ideal S2048x512 .bf16) (x4 : Vec Ideal S512x2048 .bf16) :
    sout0_A_0 c i a2 h2 a3 h3 a4 h4 a5 h5 a6 h6 a7 h7 a8 h8 hc x0 x1 x2 x3 x4 = k0_pay1 x0 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h2.read_unread, h3.read_unread, View.ld_unit_zero (S := S656x2048) hz, View.ld_unit_zero (S := S1x2048) hz]

end Cert.FfnIdeal.Block

end
-- ==== Proof.Ffn.Rows.lean ====
/-
  The dense feed-forward kernel's array after the run, entry by entry, over the extended reals: an entry of the
  residual stream plus the 5632 terms of its row's gated product. A row block's eleven points add 512 terms each; the
  blocks staged at a point are the matching rows and columns of the arguments.
-/
module

public import proofs.«01_k».proof.Proof.Ffn.Block

@[expose] public section

noncomputable section

open scoped BigOperators
open Idealize.ShloMosaic Idealize.ShloMosaic.TcCoe Idealize.SL.Sem Idealize.ShloMosaic.ValueIdx

namespace Cert.FfnIdeal.Rows

open Cert.FfnIdeal Cert.FfnIdeal.Gen Cert.FfnIdeal.Block

variable (m : (ℓ : Loc nD τ sig) → Buf (Elt Ideal) ℓ)

/-- The five arguments, read at a row and a column. -/
abbrev stream (c : Dev nD) (r : Fin 16400) (k : Fin 2048) : EReal := (m ((c : Thread nD τ).loc main_arg0) : Vec Ideal S16400x2048 .f32) (ix2 r k)
abbrev scale (c : Dev nD) (k : Fin 2048) : EReal := (m ((c : Thread nD τ).loc main_arg1) : Vec Ideal S1x2048 .f32) (ix2 (0 : Fin 1) k)
abbrev gate (c : Dev nD) (k : Fin 2048) (f : Fin 5632) : EReal := (m ((c : Thread nD τ).loc main_arg2) : Vec Ideal S2048x5632 .bf16) (ix2 k f)
abbrev up (c : Dev nD) (k : Fin 2048) (f : Fin 5632) : EReal := (m ((c : Thread nD τ).loc main_arg3) : Vec Ideal S2048x5632 .bf16) (ix2 k f)
abbrev down (c : Dev nD) (f : Fin 5632) (j : Fin 2048) : EReal := (m ((c : Thread nD τ).loc main_arg4) : Vec Ideal S5632x2048 .bf16) (ix2 f j)

/-- Term `f` of row `r`'s gated product at column `j`. -/
def term (c : Dev nD) (r : Fin 16400) (j : Fin 2048) (f : Fin 5632) : EReal :=
  Swiglu.term (norm (stream m c r) (scale m c)) (fun k => gate m c k f) (fun k => up m c k f) (down m c f j)

/-- Where each window's block lies at a point: rows by `t / 11`, columns of the hidden axis by `t % 11`. -/
theorem places : ∀ t : Fin cfg0.N,
    (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = t.val % 11)
    ∧ (win0_4.index t (0 : Fin 2) = t.val % 11 ∧ win0_4.index t (1 : Fin 2) = 0) :=
  (by decide +kernel : ∀ t : Fin grid0.N, _)

theorem blk_stream (c : Dev nD) (t : Fin cfg0.N) (r : Fin 656) (k : Fin 2048) (R : Fin 16400) (hR : R.val = 656 * (t.val / 11) + r.val) :
    (iblk m c 0 t : Vec Ideal S656x2048 .f32) (ix2 r k) = stream m c R k := by
  obtain ⟨⟨e0, e1⟩, -⟩ := places t
  refine congrArg (m ((c : Thread nD τ).loc main_arg0)) (funext fun a => Fin.ext ?_)
  match a with
  | ⟨0, _⟩ => show win0_0.index t (0 : Fin 2) * 656 + 1 * r.val = R.val; rw [e0, hR]; omega
  | ⟨1, _⟩ => show win0_0.index t (1 : Fin 2) * 2048 + 1 * k.val = k.val; rw [e1]; omega

theorem blk_scale (c : Dev nD) (t : Fin cfg0.N) (k : Fin 2048) :
    (iblk m c 1 t : Vec Ideal S1x2048 .f32) (ix2 (0 : Fin 1) k) = scale m c k := by
  obtain ⟨-, ⟨e0, e1⟩, -⟩ := places t
  refine congrArg (m ((c : Thread nD τ).loc main_arg1)) (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val; rw [e1]; omega

theorem blk_gate (c : Dev nD) (t : Fin cfg0.N) (k : Fin 2048) (q : Fin 512) (f : Fin 5632) (hf : f.val = 512 * (t.val % 11) + q.val) :
    (iblk m c 2 t : Vec Ideal S2048x512 .bf16) (ix2 k q) = gate m c k f := by
  obtain ⟨-, -, ⟨e0, e1⟩, -⟩ := places t
  refine congrArg (m ((c : Thread nD τ).loc main_arg2)) (funext fun a => Fin.ext ?_)
  match a with
  | ⟨0, _⟩ => show win0_2.index t (0 : Fin 2) * 2048 + 1 * k.val = k.val; rw [e0]; omega
  | ⟨1, _⟩ => show win0_2.index t (1 : Fin 2) * 512 + 1 * q.val = f.val; rw [e1, hf]; omega

theorem blk_up (c : Dev nD) (t : Fin cfg0.N) (k : Fin 2048) (q : Fin 512) (f : Fin 5632) (hf : f.val = 512 * (t.val % 11) + q.val) :
    (iblk m c 3 t : Vec Ideal S2048x512 .bf16) (ix2 k q) = up m c k f := by
  obtain ⟨-, -, -, ⟨e0, e1⟩, -⟩ := places t
  refine congrArg (m ((c : Thread nD τ).loc main_arg3)) (funext fun a => Fin.ext ?_)
  match a with
  | ⟨0, _⟩ => show win0_3.index t (0 : Fin 2) * 2048 + 1 * k.val = k.val; rw [e0]; omega
  | ⟨1, _⟩ => show win0_3.index t (1 : Fin 2) * 512 + 1 * q.val = f.val; rw [e1, hf]; omega

theorem blk_down (c : Dev nD) (t : Fin cfg0.N) (q : Fin 512) (j : Fin 2048) (f : Fin 5632) (hf : f.val = 512 * (t.val % 11) + q.val) :
    (iblk m c 4 t : Vec Ideal S512x2048 .bf16) (ix2 q j) = down m c f j := by
  obtain ⟨-, -, -, -, ⟨e0, e1⟩⟩ := places t
  refine congrArg (m ((c : Thread nD τ).loc main_arg4)) (funext fun a => Fin.ext ?_)
  match a with
  | ⟨0, _⟩ => show win0_4.index t (0 : Fin 2) * 512 + 1 * q.val = f.val; rw [e0, hf]; omega
  | ⟨1, _⟩ => show win0_4.index t (1 : Fin 2) * 2048 + 1 * j.val = j.val; rw [e1]; omega

/-- The 512 terms a point adds, at a row of its block whose normalised entries are `hn`. -/
theorem step_terms (c : Dev nD) (t : Fin cfg0.N) (hn : Vec Ideal S656x2048 .bf16) (r : Fin 656) (j : Fin 2048) (R : Fin 16400)
    (hhn : ∀ k, hn (ix2 r k) = norm (stream m c R) (scale m c) k) :
    ∑ q : Fin 512, Swiglu.term (fun k : Fin 2048 => hn (ix2 r k)) (fun k => (iblk m c 2 t : Vec Ideal S2048x512 .bf16) (ix2 k q))
        (fun k => (iblk m c 3 t : Vec Ideal S2048x512 .bf16) (ix2 k q)) ((iblk m c 4 t : Vec Ideal S512x2048 .bf16) (ix2 q j))
      = ∑ q : Fin 512, Swiglu.ext (term m c R j) (512 * (t.val % 11) + q.val) :=
  Finset.sum_congr rfl fun q _ => by
    have hlt : 512 * (t.val % 11) + q.val < 5632 := by have := q.isLt; have := Nat.mod_lt t.val (show 0 < 11 by decide); omega
    rw [Swiglu.ext_of_lt _ _ hlt]
    unfold term
    rw [funext hhn, funext fun k => blk_gate m c t k q ⟨_, hlt⟩ rfl, funext fun k => blk_up m c t k q ⟨_, hlt⟩ rfl,
      blk_down m c t q j ⟨_, hlt⟩ rfl]

/-- WHAT A ROW BLOCK HOLDS after its point `s`: the rows normalised and scaled, and each entry of the stream plus the
    terms of the points so far. -/
theorem held (c : Dev nD) (b : ℕ) (hb : b < 25) : ∀ (s : ℕ) (_ : s < 11) (h : 11 * b + s < cfg0.N) (r : Fin 656),
    (∀ j, (outsAt0 m c (11 * b + s) h).1 (ix2 r j) = stream m c ⟨656 * b + r.val, by have := r.isLt; omega⟩ j
        + ∑ s' ∈ Finset.range (s + 1), ∑ q : Fin 512, Swiglu.ext (term m c ⟨656 * b + r.val, by have := r.isLt; omega⟩ j) (512 * s' + q.val))
    ∧ ∀ k, (outsAt0 m c (11 * b + s) h).2 (ix2 r k) = norm (stream m c ⟨656 * b + r.val, by have := r.isLt; omega⟩) (scale m c) k
  | 0, _, h, r => by
    have hm : (⟨11 * b + 0, h⟩ : Fin cfg0.N).val % 11 = 0 := by dsimp only; omega
    have hd : (⟨11 * b + 0, h⟩ : Fin cfg0.N).val / 11 = b := by dsimp only; omega
    have eS : ∀ k, (iblk m c 0 ⟨11 * b + 0, h⟩ : Vec Ideal S656x2048 .f32) (ix2 r k) = stream m c ⟨656 * b + r.val, by have := r.isLt; omega⟩ k :=
      fun k => blk_stream m c _ r k _ (by rw [hd])
    have eN : ∀ k, k0_pay1 (F := Ideal) (iblk m c 0 ⟨11 * b + 0, h⟩) (iblk m c 1 ⟨11 * b + 0, h⟩) (ix2 r k)
        = norm (stream m c ⟨656 * b + r.val, by have := r.isLt; omega⟩) (scale m c) k := fun k => by
      rw [pay1_apply, funext eS, funext fun k => blk_scale m c ⟨11 * b + 0, h⟩ k]
    rw [outsAt0_A m c ⟨11 * b + 0, h⟩ hm]
    dsimp only
    rw [out_first, kept_first]
    refine ⟨fun j => ?_, eN⟩
    rw [pay2_apply, step_terms m c _ _ r j _ eN, eS, hm, Finset.sum_range_one]
  | s + 1, hs, h, r => by
    have hm : (⟨11 * b + (s + 1), h⟩ : Fin cfg0.N).val % 11 = s + 1 := by dsimp only; omega
    have ih := held c b hb s (Nat.lt_of_succ_lt hs) (Nat.lt_of_succ_lt h) r
    rw [outsAt0_B m c ⟨11 * b + (s + 1), h⟩ (by omega)]
    dsimp only
    rw [out_later]
    have ihn : ∀ k, (outsAt0 m c (11 * b + (s + 1) - 1) (Nat.lt_of_le_of_lt (Nat.sub_le _ _) h)).2 (ix2 r k)
        = norm (stream m c ⟨656 * b + r.val, by have := r.isLt; omega⟩) (scale m c) k := ih.2
    refine ⟨fun j => ?_, ihn⟩
    rw [pay2_apply, step_terms m c _ _ r j _ ihn, hm]
    refine (congrArg (· + _) (ih.1 j)).trans ?_
    rw [Finset.sum_range_succ _ (s + 1), add_assoc]

/-- The kernel's array after the run at `(R, j)`: the stream's entry plus the 5632 terms of row `R`'s gated product. -/
def result (c : Dev nD) (R : Fin 16400) (j : Fin 2048) : EReal := stream m c R j + ∑ f : Fin 5632, term m c R j f

theorem final_apply (c : Dev nD) (R : Fin 16400) (j : Fin 2048) : Value.G5 m c (ix2 R j) = result m c R j := by
  have hR := R.isLt
  have hj := j.isLt
  have hrun : Value.run5Of (ix2 R j) = R.val / 656 := by
    show 1 * (R.val / 656 - 0) + 1 * (j.val / 2048 - 0) = _; omega
  have hp : Value.pt5Of (ix2 R j) = 11 * (R.val / 656) + 10 := by show 11 * Value.run5Of (ix2 R j) + 10 = _; rw [hrun]
  have hN : 11 * (R.val / 656) + 10 < cfg0.N := by rw [show cfg0.N = 275 from N_0]; omega
  have hl : Value.loc5Of (ix2 R j) = ix2 (⟨R.val % 656, Nat.mod_lt _ (by decide)⟩ : Fin 656) j := by
    funext a; apply Fin.ext
    match a with
    | ⟨0, _⟩ => rfl
    | ⟨1, _⟩ => exact Nat.mod_eq_of_lt hj
  unfold Value.G5
  rw [dif_pos (by rw [hp]; exact hN), hl, Value.fold0_congr m c _ _ (11 * (R.val / 656) + 10) (by omega) hp, ← Value.outsAt0_sweep m c _ hN,
    (held m c (R.val / 656) (by omega) 10 (by decide) hN _).1 j]
  have eR : (⟨656 * (R.val / 656) + R.val % 656, by omega⟩ : Fin 16400) = R := Fin.ext (Nat.div_add_mod R.val 656)
  unfold result
  rw [Swiglu.sum_blocks _ 512 11]
  show stream m c ⟨656 * (R.val / 656) + R.val % 656, _⟩ j + ∑ i ∈ Finset.range 5632, Swiglu.ext (term m c ⟨656 * (R.val / 656) + R.val % 656, _⟩ j) i = _
  rw [eR, Swiglu.sum_ext]

end Cert.FfnIdeal.Rows

end
-- ==== Proof.Ffn.Reference.lean ====
/-
  The dense feed-forward reference read entry by entry, over the extended reals: the residual stream's entry plus, over
  the 5632 hidden columns, the row's gated product against the down matrix — the rows normalised by the root of their
  mean square and scaled first.
-/
module

public import proofs.«01_k».proof.Proof.Gen.FfnRefIdeal.Run
public import proofs.«01_k».proof.Proof.Gen.FfnRefIdeal.Read
public import proofs.«01_k».proof.Proof.Ffn.Block

@[expose] public section

noncomputable section

open scoped BigOperators
open Idealize.ShloMosaic Idealize.ShloMosaic.TcCoe Idealize.SL.Sem Idealize.ShloMosaic.ValueIdx

namespace Cert.FfnRefIdeal.Entry

open Cert.FfnRefIdeal Cert.FfnRefIdeal.Read
open Cert.FfnIdeal.Block (norm invRms)

variable (h : Vec Ideal S16400x2048 .f32) (g : Vec Ideal S1x2048 .f32) (wg wu : Vec Ideal S2048x5632 .bf16) (wd : Vec Ideal S5632x2048 .bf16)

/-- The normalised, scaled rows. -/
theorem norm_apply (R : Fin 16400) (k : Fin 2048) :
    val_main_v11 (F := Ideal) h g (ix2 R k) = norm (fun k => h (ix2 R k)) (fun k => g (ix2 (0 : Fin 1) k)) k := by
  have e1 : val_main_v1 (F := Ideal) h (ix1 R) = ∑ q : Fin 2048, (h (ix2 R q) * h (ix2 R q) : EReal) := by
    rw [val_main_v1_apply]
    show Ideal.ofBits .f32 0x00000000#32 + _ = _
    rw [Ideal.ofBits_zero_f32, zero_add]
    exact Finset.sum_congr rfl fun q _ => congrArg (fun i => (h i * h i : EReal))
      (funext fun a => Fin.ext (by match a with | ⟨0, _⟩ => rfl | ⟨1, _⟩ => rfl))
  have e7 : val_main_v7 (F := Ideal) h (ix2 R (0 : Fin 1)) = invRms fun k => h (ix2 R k) := by
    rw [val_main_v7_apply, val_main_v6_apply, val_main_v4_apply, val_main_v3_apply, val_main_v5_apply, val_main_v2_apply]
    have ei : idx_main_v2 (ix2 R (0 : Fin 1)) = ix1 R := funext fun a => Fin.ext (by match a with | ⟨0, _⟩ => rfl)
    rw [ei, e1]
    rfl
  rw [val_main_v11_apply, val_main_v9_apply, val_main_v8_apply, val_main_v10_apply]
  have e8 : idx_main_v8 (ix2 R k) = ix2 R (0 : Fin 1) := funext fun a => Fin.ext (by match a with | ⟨0, _⟩ => rfl | ⟨1, _⟩ => rfl)
  have e10 : idx_main_v10 (ix2 R k) = ix2 (0 : Fin 1) k := funext fun a => Fin.ext (by match a with | ⟨0, _⟩ => rfl | ⟨1, _⟩ => rfl)
  rw [e8, e10, e7]
  rfl

/-- The gate's product. -/
theorem gate_apply (R : Fin 16400) (f : Fin 5632) :
    val_main_v13 (F := Ideal) h g wg (ix2 R f) = ∑ k : Fin 2048, norm (fun k => h (ix2 R k)) (fun k => g (ix2 (0 : Fin 1) k)) k * wg (ix2 k f) := by
  rw [val_main_v13_apply]
  refine Finset.sum_congr rfl fun k _ => ?_
  have el : lidx_main_v13 (ix2 R f) k = ix2 R k := funext fun a => Fin.ext (by match a with | ⟨0, _⟩ => rfl | ⟨1, _⟩ => rfl)
  have er : ridx_main_v13 (ix2 R f) k = ix2 k f := funext fun a => Fin.ext (by match a with | ⟨0, _⟩ => rfl | ⟨1, _⟩ => rfl)
  rw [el, er, norm_apply]
  rfl

/-- The up product. -/
theorem up_apply (R : Fin 16400) (f : Fin 5632) :
    val_main_v15 (F := Ideal) h g wu (ix2 R f) = ∑ k : Fin 2048, norm (fun k => h (ix2 R k)) (fun k => g (ix2 (0 : Fin 1) k)) k * wu (ix2 k f) := by
  rw [val_main_v15_apply]
  refine Finset.sum_congr rfl fun k _ => ?_
  have el : lidx_main_v15 (ix2 R f) k = ix2 R k := funext fun a => Fin.ext (by match a with | ⟨0, _⟩ => rfl | ⟨1, _⟩ => rfl)
  have er : ridx_main_v15 (ix2 R f) k = ix2 k f := funext fun a => Fin.ext (by match a with | ⟨0, _⟩ => rfl | ⟨1, _⟩ => rfl)
  rw [el, er, norm_apply]
  rfl

/-- The gated product of the two. -/
theorem gated_apply (R : Fin 16400) (f : Fin 5632) :
    val_main_v17 (F := Ideal) h g wg wu (ix2 R f)
      = Swiglu.gated (∑ k : Fin 2048, norm (fun k => h (ix2 R k)) (fun k => g (ix2 (0 : Fin 1) k)) k * wg (ix2 k f))
          (∑ k : Fin 2048, norm (fun k => h (ix2 R k)) (fun k => g (ix2 (0 : Fin 1) k)) k * wu (ix2 k f)) := by
  rw [val_main_v17_apply, val_main_v16_apply, up_apply, val_main_call0_v5_apply, val_main_call0_v3_apply, val_main_call0_v1_apply,
    val_main_call0_v0_apply, val_main_call0_v2_apply, val_main_call0_v4_apply, gate_apply]
  rfl

/-- The reference's result at `(R, j)`. -/
theorem result_apply (R : Fin 16400) (j : Fin 2048) :
    val_main_v20 (F := Ideal) h g wg wu wd (ix2 R j)
      = h (ix2 R j) + ∑ f : Fin 5632, Swiglu.term (norm (fun k => h (ix2 R k)) (fun k => g (ix2 (0 : Fin 1) k)))
          (fun k => wg (ix2 k f)) (fun k => wu (ix2 k f)) (wd (ix2 f j)) := by
  rw [val_main_v20_apply, val_main_v19_apply]
  refine congrArg (fun z : EReal => h (ix2 R j) + z) (Finset.sum_congr rfl fun f _ => ?_)
  have el : lidx_main_v19 (ix2 R j) f = ix2 R f := funext fun a => Fin.ext (by match a with | ⟨0, _⟩ => rfl | ⟨1, _⟩ => rfl)
  have er : ridx_main_v19 (ix2 R j) f = ix2 f j := funext fun a => Fin.ext (by match a with | ⟨0, _⟩ => rfl | ⟨1, _⟩ => rfl)
  rw [el, er, gated_apply]
  rfl

end Cert.FfnRefIdeal.Entry

end
-- ==== Proof.Ffn.Claims.lean ====
/-
  The claims about the dense feed-forward call: the kernel and its reference run, keep their arguments, end with every
  semaphore at zero, and over the extended reals end with equal results.
-/
module

public import proofs.«01_k».proof.Defs
public import proofs.«01_k».proof.Proof.Gen.Ffn.Frame
public import proofs.«01_k».proof.Proof.Ffn.Rows
public import proofs.«01_k».proof.Proof.Ffn.Reference

@[expose] public section

noncomputable section

open scoped BigOperators
open Idealize.ShloMosaic Idealize.ShloMosaic.TcCoe Idealize.SL.Sem Idealize.ShloMosaic.ValueIdx

namespace Cert.Proof.FfnClaims

theorem frame_kernel : Cert.quiescent_Ffn := fun m ρ _ => Cert.Ffn.Gen.frame m ρ
theorem frame_ideal : Cert.quiescent_FfnIdeal := fun m ρ _ => Cert.FfnIdeal.Gen.frame m ρ
theorem frame_reference : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)
theorem preserves : Cert.preserves_Ffn_FfnIdeal := trivial

/-- From arguments that agree, the kernel's array and the reference's are the same function of row and column. -/
theorem algebraic : Cert.algebraic_FfnIdeal_FfnRefIdeal := by
  intro m ρ m' ρ' _ hagree
  refine ⟨fun c => Cert.FfnIdeal.Value.G5 m c, Cert.FfnIdeal.Value.run (F := Ideal) m ρ, ?_⟩
  refine (θ_run Cert.FfnRefIdeal.defs _ _).mono (fun _ h c => ?_) (Cert.FfnRefIdeal.Value.run (F := Ideal) m' ρ')
  refine ⟨(h c).1.trans ?_, (h c).2⟩
  obtain ⟨a0, a1, a2, a3, a4⟩ := hagree c
  rw [a0, a1, a2, a3, a4]
  refine (Cert.FfnRefIdeal.Read.val_main_v20_eq _ _ _ _ _).trans (funext fun i => ?_)
  have ei : i = ix2 (n0 := 16400) (n1 := 2048) (i 0) (i 1) := eq_ix2 i
  exact (congrArg _ ei).trans ((Cert.FfnRefIdeal.Entry.result_apply _ _ _ _ _ (i 0) (i 1)).trans
    ((Cert.FfnIdeal.Rows.final_apply m c (i 0) (i 1)).symm.trans (congrArg (Cert.FfnIdeal.Value.G5 m c) ei.symm)))

end Cert.Proof.FfnClaims

end
-- ==== Proof.Kv.Rows.lean ====
/-
  The attention's key and value projection: the call's array after the run, entry by entry, over the extended reals —
  the 2048 terms of a row, normalised by the root of its mean square and scaled, against the weights. Two points work on
  each block of 656 rows, one for the keys' columns and one for the values'; the first keeps the normalised rows for the
  second.
-/
module

public import proofs.«01_k».proof.Proof.Gen.KvIdeal.Value
public import proofs.«01_k».proof.Proof.Ffn.Block

@[expose] public section

set_option maxRecDepth 16384

noncomputable section

open scoped BigOperators
open Idealize.ShloMosaic Idealize.ShloMosaic.TcCoe Idealize.SL.Sem Idealize.ShloMosaic.ValueIdx

namespace Cert.KvIdeal.Rows

open Cert.KvIdeal Cert.KvIdeal.Gen
open Cert.FfnIdeal.Block (norm hz)

variable (m : (ℓ : Loc nD τ sig) → Buf (Elt Ideal) ℓ)

/-- The three arguments, read at a row and a column. -/
abbrev stream (c : Dev nD) (R : Fin 16400) (k : Fin 2048) : EReal := (m ((c : Thread nD τ).loc main_arg0) : Vec Ideal S16400x2048 .f32) (ix2 R k)
abbrev scale (c : Dev nD) (k : Fin 2048) : EReal := (m ((c : Thread nD τ).loc main_arg1) : Vec Ideal S1x2048 .f32) (ix2 (0 : Fin 1) k)
abbrev weight (c : Dev nD) (k : Fin 2048) (J : Fin 4096) : EReal := (m ((c : Thread nD τ).loc main_arg2) : Vec Ideal S2048x4096 .bf16) (ix2 k J)

/-- The normalisation is the dense feed-forward call's own. -/
theorem pay1_eq (h : Vec Ideal S656x2048 .f32) (g : Vec Ideal S1x2048 .f32) : k0_pay1 (F := Ideal) h g = Cert.FfnIdeal.Gen.k0_pay1 (F := Ideal) h g := rfl

theorem pay2_apply (n : Vec Ideal S656x2048 .bf16) (w : Vec Ideal S2048x2048 .bf16) (r : Fin 656) (j : Fin 2048) :
    k0_pay2 (F := Ideal) n w (ix2 r j) = ∑ k : Fin 2048, (n (ix2 r k) * w (ix2 k j) : EReal) :=
  Swiglu.matmul_zero_apply (φ₁ := .bf16) (φ₂ := .bf16) none n w r j

section Stores

variable (c : Dev nD) (i : grid0.Coords) (a2 : Memref sig .tc .vmem S656x2048 .f32) (h2 : a2.IsWhole) (a3 : Memref sig .tc .vmem S1x2048 .f32) (h3 : a3.IsWhole)
    (a4 : Memref sig .tc .vmem S2048x2048 .bf16) (h4 : a4.IsWhole) (a5 : Memref sig .tc .vmem S656x2048 .bf16) (h5 : a5.IsWhole)
    (a6 : Memref sig .tc .vmem S656x2048 .bf16) (h6 : a6.IsWhole)
    (x0 : Vec Ideal S656x2048 .f32) (x1 : Vec Ideal S1x2048 .f32) (x2 : Vec Ideal S2048x2048 .bf16) (xs : Vec Ideal S656x2048 .bf16)

/-- What a row block's first point stores: its rows, normalised and scaled at this very point, against the weights … -/
theorem out_first (hc : cond0_0 i) : out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readCov_unit_zero (S := S656x2048) _ hz, View.readAt_eq_ld, h2.read_unread, h3.read_unread, h4.read_unread,
    View.ld_unit_zero (S := S656x2048) hz, View.ld_unit_zero (S := S1x2048) hz, View.ld_unit_zero (S := S2048x2048) hz]

/-- … and beside it the rows themselves. -/
theorem kept_first (hc : cond0_0 i) : sout0_A_0 c i a2 h2 a3 h3 a4 h4 a5 h5 a6 h6 hc x0 x1 x2 = k0_pay1 x0 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz]
  simp only [View.readAt_eq_ld, h2.read_unread, h3.read_unread, View.ld_unit_zero (S := S656x2048) hz, View.ld_unit_zero (S := S1x2048) hz]

/-- What its second point stores: the kept rows against the weights. -/
theorem out_later (hc : ¬cond0_0 i) : out0_B_3 c i a2 h2 a3 h3 a4 h4 a5 h5 a6 h6 hc x0 x1 x2 xs = k0_pay2 xs x2 := by
  unfold out0_B_3
  rw [View.read_writes_eq_canon _ _ _ (cover0_B_3 c i a2 h2 a3 h3 a4 h4 a5 h5 a6 h6 hc x0 x1 x2 xs)]
  unfold kernelRun0_B
  dsimp only
  rw [View.canon_unit_zero hz]
  simp only [View.readAt_eq_ld, h4.read_unread, h6.read_unread, View.ld_unit_zero (S := S656x2048) hz, View.ld_unit_zero (S := S2048x2048) hz]

end Stores

/-- Where each window's block lies at a point: rows by `t / 2`, columns by `t % 2`. -/
theorem places : ∀ t : Fin cfg0.N,
    (win0_0.index t (0 : Fin 2) = t.val / 2 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 2)
    ∧ (win0_3.index t (0 : Fin 2) = t.val / 2 ∧ win0_3.index t (1 : Fin 2) = t.val % 2) :=
  (by decide +kernel : ∀ t : Fin grid0.N, _)

theorem blk_stream (c : Dev nD) (t : Fin cfg0.N) (r : Fin 656) (k : Fin 2048) (R : Fin 16400) (hR : R.val = 656 * (t.val / 2) + r.val) :
    (iblk m c 0 t : Vec Ideal S656x2048 .f32) (ix2 r k) = stream m c R k := by
  obtain ⟨⟨e0, e1⟩, -⟩ := places t
  refine congrArg (m ((c : Thread nD τ).loc main_arg0)) (funext fun a => Fin.ext ?_)
  match a with
  | ⟨0, _⟩ => show win0_0.index t (0 : Fin 2) * 656 + 1 * r.val = R.val; rw [e0, hR]; omega
  | ⟨1, _⟩ => show win0_0.index t (1 : Fin 2) * 2048 + 1 * k.val = k.val; rw [e1]; omega

theorem blk_scale (c : Dev nD) (t : Fin cfg0.N) (k : Fin 2048) :
    (iblk m c 1 t : Vec Ideal S1x2048 .f32) (ix2 (0 : Fin 1) k) = scale m c k := by
  obtain ⟨-, ⟨e0, e1⟩, -⟩ := places t
  refine congrArg (m ((c : Thread nD τ).loc main_arg1)) (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val; rw [e1]; omega

theorem blk_weight (c : Dev nD) (t : Fin cfg0.N) (k j : Fin 2048) (J : Fin 4096) (hJ : J.val = 2048 * (t.val % 2) + j.val) :
    (iblk m c 2 t : Vec Ideal S2048x2048 .bf16) (ix2 k j) = weight m c k J := by
  obtain ⟨-, -, ⟨e0, e1⟩, -⟩ := places t
  refine congrArg (m ((c : Thread nD τ).loc main_arg2)) (funext fun a => Fin.ext ?_)
  match a with
  | ⟨0, _⟩ => show win0_2.index t (0 : Fin 2) * 2048 + 1 * k.val = k.val; rw [e0]; omega
  | ⟨1, _⟩ => show win0_2.index t (1 : Fin 2) * 2048 + 1 * j.val = J.val; rw [e1, hJ]; omega

/-- The rows a row block's first point normalises, entry by entry. -/
theorem norm_apply (c : Dev nD) (t : Fin cfg0.N) (r : Fin 656) (k : Fin 2048) (R : Fin 16400) (hR : R.val = 656 * (t.val / 2) + r.val) :
    k0_pay1 (F := Ideal) (iblk m c 0 t) (iblk m c 1 t) (ix2 r k) = norm (stream m c R) (scale m c) k := by
  rw [pay1_eq]
  refine (Cert.FfnIdeal.Block.pay1_apply _ _ r k).trans ?_
  exact congrArg₂ (fun x y => norm x y k) (funext fun q => blk_stream m c t r q R hR) (funext fun q => blk_scale m c t q)

/-- An entry of the array after the run, and the array. -/
def result (c : Dev nD) (R : Fin 16400) (J : Fin 4096) : EReal := ∑ k : Fin 2048, norm (stream m c R) (scale m c) k * weight m c k J
def G (c : Dev nD) : Buf (Elt Ideal) ((c : Thread nD τ).loc main_v0) := fun (i : S16400x4096.Idx) => result m c (i 0) (i 1)

/-- The product of a point, over rows that are the row block's normalised ones. -/
theorem product_apply (c : Dev nD) (t : Fin cfg0.N) (n : Vec Ideal S656x2048 .bf16) (r : Fin 656) (j : Fin 2048) (R : Fin 16400) (J : Fin 4096)
    (hn : ∀ k, n (ix2 r k) = norm (stream m c R) (scale m c) k) (hJ : J.val = 2048 * (t.val % 2) + j.val) :
    k0_pay2 (F := Ideal) n (iblk m c 2 t) (ix2 r j) = result m c R J := by
  refine (pay2_apply _ _ r j).trans ?_
  unfold result
  exact Finset.sum_congr rfl fun k _ => congrArg₂ (fun x y : EReal => x * y) (hn k) (blk_weight m c t k j J hJ)

theorem point_apply (c : Dev nD) (t : Fin cfg0.N) (r : Fin 656) (j : Fin 2048) (R : Fin 16400) (J : Fin 4096)
    (hR : R.val = 656 * (t.val / 2) + r.val) (hJ : J.val = 2048 * (t.val % 2) + j.val) :
    (outsAt0 m c t.val t.isLt).1 (ix2 r j) = result m c R J := by
  by_cases h0 : t.val % 2 = 0
  · rw [outsAt0_A m c t h0]
    dsimp only
    rw [out_first]
    exact product_apply m c t _ r j R J (fun k => norm_apply m c t r k R hR) hJ
  · rw [outsAt0_B m c t h0]
    dsimp only
    rw [out_later]
    refine product_apply m c t _ r j R J (fun k => ?_) hJ
    have e := outsAt0_A m c ⟨t.val - 1, Nat.lt_of_le_of_lt (Nat.sub_le _ _) t.isLt⟩ (by dsimp only; omega)
    dsimp only at e
    rw [e]
    dsimp only
    rw [kept_first]
    exact norm_apply m c ⟨t.val - 1, Nat.lt_of_le_of_lt (Nat.sub_le _ _) t.isLt⟩ r k R (by rw [hR]; dsimp only; omega)

theorem cover (i : S16400x4096.Idx) : ∃ t : Fin cfg0.N, (cfg0.win 3).flush t = true ∧ i ∈ ((cfg0.win 3).blk t).view.set := by
  have h0 : (i 0).val < 16400 := (i 0).isLt
  have h1 : (i 1).val < 4096 := (i 1).isLt
  have hN : 2 * ((i 0).val / 656) + (i 1).val / 2048 < cfg0.N := by rw [show cfg0.N = 50 from N_0]; omega
  obtain ⟨t, ht⟩ : ∃ t : Fin cfg0.N, t.val = 2 * ((i 0).val / 656) + (i 1).val / 2048 := ⟨⟨_, hN⟩, rfl⟩
  obtain ⟨-, -, -, ⟨e0, e1⟩⟩ := places t
  refine ⟨t, flush0_3 t, ?_⟩
  have er := View.set_slice_whole main_v0 ((cfg0.win 3).rect t : Rect S16400x4096)
  refine (congrArg (fun s : Finset S16400x4096.Idx => i ∈ s) er).mpr (Rect.mem_set_unit.mpr fun (a : Fin 2) => ?_)
  match a with
  | ⟨0, _⟩ =>
    show win0_3.index t (0 : Fin 2) * 656 ≤ (i 0).val ∧ (i 0).val < win0_3.index t (0 : Fin 2) * 656 + 656
    rw [e0, ht]; omega
  | ⟨1, _⟩ =>
    show win0_3.index t (1 : Fin 2) * 2048 ≤ (i 1).val ∧ (i 1).val < win0_3.index t (1 : Fin 2) * 2048 + 2048
    rw [e1, ht]; omega

/-- THE ARRAY after the run. -/
theorem final (c : Dev nD) : (dats m 0 c).arrAt 3 cfg0.N = G m c := by
  refine (dats m 0 c).arrAt_eq_of_cover 3 (G m c) (fun t _ => ?_) cover
  have hN : t.val < 50 := Nat.lt_of_lt_of_eq t.isLt N_0
  obtain ⟨-, -, -, ⟨e0, e1⟩⟩ := places t
  rw [Value.flushed3]
  funext (y : S656x2048.Idx)
  have ey : y = ix2 (n0 := 656) (n1 := 2048) (y 0) (y 1) := eq_ix2 y
  have hy0 : (y 0).val < 656 := (y 0).isLt
  have hy1 : (y 1).val < 2048 := (y 1).isLt
  refine (congrArg (outsAt0 m c t.val t.isLt).1 ey).trans ?_
  refine (point_apply m c t (y 0) (y 1) ⟨656 * (t.val / 2) + (y 0).val, by omega⟩ ⟨2048 * (t.val % 2) + (y 1).val, by omega⟩ rfl rfl).trans ?_
  refine congrArg₂ (result m c) (Fin.ext ?_) (Fin.ext ?_)
  · show 656 * (t.val / 2) + (y 0).val = win0_3.index t (0 : Fin 2) * 656 + 1 * (y 0).val; rw [e0]; omega
  · show 2048 * (t.val % 2) + (y 1).val = win0_3.index t (1 : Fin 2) * 2048 + 1 * (y 1).val; rw [e1]; omega

end Cert.KvIdeal.Rows

end
-- ==== Proof.Kv.Claims.lean ====
/-
  The claims about the attention's key and value projection: the kernel and its reference run, keep their arguments, end with
  every semaphore at zero, and over the extended reals end with equal results.
-/
module

public import proofs.«01_k».proof.Defs
public import proofs.«01_k».proof.Proof.Gen.Kv.Frame
public import proofs.«01_k».proof.Proof.Gen.KvRefIdeal.Run
public import proofs.«01_k».proof.Proof.Gen.KvRefIdeal.Read
public import proofs.«01_k».proof.Proof.Ffn.Reference
public import proofs.«01_k».proof.Proof.Kv.Rows

@[expose] public section

noncomputable section

open scoped BigOperators
open Idealize.ShloMosaic Idealize.ShloMosaic.TcCoe Idealize.SL.Sem Idealize.ShloMosaic.ValueIdx

namespace Cert.Proof.KvClaims

theorem frame_kernel : Cert.quiescent_Kv := fun m ρ _ => Cert.Kv.Gen.frame m ρ
theorem frame_ideal : Cert.quiescent_KvIdeal := fun m ρ _ => Cert.KvIdeal.Gen.frame m ρ
theorem frame_reference : Cert.quiescent_KvRefIdeal := fun m ρ _ =>
  (θ_run Cert.KvRefIdeal.defs _ _).mono (fun r h => ⟨fun c => (h c).2, Idealize.ShloMosaic.sem_eq_zero_of_no_sems (by decide) r.2⟩)
    (Cert.KvRefIdeal.Value.run (F := Ideal) m ρ)
theorem preserves : Cert.preserves_Kv_KvIdeal := trivial

section Reference

open Cert.KvRefIdeal Cert.KvRefIdeal.Read
open Cert.FfnIdeal.Block (norm)

variable (h : Vec Ideal S16400x2048 .f32) (g : Vec Ideal S1x2048 .f32)

/-- The reference's normalised rows are the dense feed-forward reference's. -/
theorem rows_eq : val_main_v11 (F := Ideal) h g = Cert.FfnRefIdeal.Read.val_main_v11 (F := Ideal) h g := rfl

/-- The reference's result at a row and a column. -/
theorem reference_apply (w : Vec Ideal S2048x4096 .bf16) (R : Fin 16400) (j : Fin 4096) :
    val_main_v14 (F := Ideal) h g w (ix2 R j)
      = ∑ k : Fin 2048, (norm (fun k => h (ix2 R k)) (fun k => g (ix2 (0 : Fin 1) k)) k * w (ix2 k j) : EReal) := by
  rw [val_main_v14_apply]
  refine (val_main_v13_apply h g w (ix2 R j)).trans (Finset.sum_congr rfl fun k _ => ?_)
  have el : lidx_main_v13 (ix2 R j) k = ix2 R k := funext fun a => Fin.ext (by match a with | ⟨0, _⟩ => rfl | ⟨1, _⟩ => rfl)
  have er : ridx_main_v13 (ix2 R j) k = ix2 k j := funext fun a => Fin.ext (by match a with | ⟨0, _⟩ => rfl | ⟨1, _⟩ => rfl)
  rw [el, er, rows_eq]
  exact congrArg (fun z : EReal => z * _) (Cert.FfnRefIdeal.Entry.norm_apply h g R k)

end Reference

/-- From arguments that agree, the kernel's array and the reference's are the same function of row and column. -/
theorem algebraic : Cert.algebraic_KvIdeal_KvRefIdeal := by
  intro m ρ m' ρ' _ hagree
  refine ⟨fun c => Cert.KvIdeal.Rows.G m c, (θ_run Cert.KvIdeal.defs _ _).mono (fun _ h c =>
    ⟨(h c).1.trans (Cert.KvIdeal.Rows.final m c), (h c).2⟩) (Cert.KvIdeal.Value.run_blocks (F := Ideal) m ρ), ?_⟩
  refine (θ_run Cert.KvRefIdeal.defs _ _).mono (fun _ h c => ?_) (Cert.KvRefIdeal.Value.run (F := Ideal) m' ρ')
  refine ⟨(h c).1.trans ?_, (h c).2⟩
  obtain ⟨a0, a1, a2⟩ := hagree c
  rw [a0, a1, a2]
  refine (Cert.KvRefIdeal.Read.val_main_v14_eq _ _ _).trans (funext fun i => ?_)
  have ei : i = ix2 (n0 := 16400) (n1 := 4096) (i 0) (i 1) := eq_ix2 i
  exact (congrArg _ ei).trans (reference_apply _ _ _ (i 0) (i 1))

end Cert.Proof.KvClaims

end
-- ==== Proof.Query.Rows.lean ====
/-
  The attention's query projection: the call's array after the run, entry by entry, over the extended reals — the 2048
  terms of a row, normalised by the root of its mean square and scaled, against the weights. A point works on 656 rows.
-/
module

public import proofs.«01_k».proof.Proof.Gen.QueryIdeal.Value
public import proofs.«01_k».proof.Proof.Ffn.Block

@[expose] public section

set_option maxRecDepth 16384

noncomputable section

open scoped BigOperators
open Idealize.ShloMosaic Idealize.ShloMosaic.TcCoe Idealize.SL.Sem Idealize.ShloMosaic.ValueIdx

namespace Cert.QueryIdeal.Rows

open Cert.QueryIdeal Cert.QueryIdeal.Gen
open Cert.FfnIdeal.Block (norm hz)

variable (m : (ℓ : Loc nD τ sig) → Buf (Elt Ideal) ℓ)

/-- The three arguments, read at a row and a column. -/
abbrev stream (c : Dev nD) (R : Fin 16400) (k : Fin 2048) : EReal := (m ((c : Thread nD τ).loc main_arg0) : Vec Ideal S16400x2048 .f32) (ix2 R k)
abbrev scale (c : Dev nD) (k : Fin 2048) : EReal := (m ((c : Thread nD τ).loc main_arg1) : Vec Ideal S1x2048 .f32) (ix2 (0 : Fin 1) k)
abbrev weight (c : Dev nD) (k j : Fin 2048) : EReal := (m ((c : Thread nD τ).loc main_arg2) : Vec Ideal S2048x2048 .bf16) (ix2 k j)

/-- The normalisation is the dense feed-forward call's own. -/
theorem pay1_eq (h : Vec Ideal S656x2048 .f32) (g : Vec Ideal S1x2048 .f32) : k0_pay1 (F := Ideal) h g = Cert.FfnIdeal.Gen.k0_pay1 (F := Ideal) h g := rfl

theorem pay2_apply (n : Vec Ideal S656x2048 .bf16) (w : Vec Ideal S2048x2048 .bf16) (r : Fin 656) (j : Fin 2048) :
    k0_pay2 (F := Ideal) n w (ix2 r j) = ∑ k : Fin 2048, (n (ix2 r k) * w (ix2 k j) : EReal) :=
  Swiglu.matmul_zero_apply (φ₁ := .bf16) (φ₂ := .bf16) none n w r j

/-- What a point stores: its rows, normalised and scaled at this very point, against the weights. -/
theorem out_eq (c : Dev nD) (i : grid0.Coords) (a2 : Memref sig .tc .vmem S656x2048 .f32) (h2 : a2.IsWhole) (a3 : Memref sig .tc .vmem S1x2048 .f32) (h3 : a3.IsWhole)
    (a4 : Memref sig .tc .vmem S2048x2048 .bf16) (h4 : a4.IsWhole) (a5 : Memref sig .tc .vmem S656x2048 .bf16) (h5 : a5.IsWhole)
    (a6 : Memref sig .tc .vmem S656x2048 .bf16) (h6 : a6.IsWhole) (hc : cond0_0 i)
    (x0 : Vec Ideal S656x2048 .f32) (x1 : Vec Ideal S1x2048 .f32) (x2 : Vec Ideal S2048x2048 .bf16) :
    out0_A_3 c i a2 h2 a3 h3 a4 h4 a5 h5 a6 h6 hc x0 x1 x2 = k0_pay2 (k0_pay1 x0 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz]
  simp only [View.readCov_unit_zero (S := S656x2048) _ hz, View.readAt_eq_ld, h2.read_unread, h3.read_unread, h4.read_unread,
    View.ld_unit_zero (S := S656x2048) hz, View.ld_unit_zero (S := S1x2048) hz, View.ld_unit_zero (S := S2048x2048) hz]

/-- Where each window's block lies at a point. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0) :=
  (by decide +kernel : ∀ t : Fin grid0.N, _)

theorem blk_stream (c : Dev nD) (t : Fin cfg0.N) (r : Fin 656) (k : Fin 2048) (R : Fin 16400) (hR : R.val = 656 * t.val + r.val) :
    (iblk m c 0 t : Vec Ideal S656x2048 .f32) (ix2 r k) = stream m c R k := by
  obtain ⟨⟨e0, e1⟩, -⟩ := places t
  refine congrArg (m ((c : Thread nD τ).loc main_arg0)) (funext fun a => Fin.ext ?_)
  match a with
  | ⟨0, _⟩ => show win0_0.index t (0 : Fin 2) * 656 + 1 * r.val = R.val; rw [e0, hR]; omega
  | ⟨1, _⟩ => show win0_0.index t (1 : Fin 2) * 2048 + 1 * k.val = k.val; rw [e1]; omega

theorem blk_scale (c : Dev nD) (t : Fin cfg0.N) (k : Fin 2048) :
    (iblk m c 1 t : Vec Ideal S1x2048 .f32) (ix2 (0 : Fin 1) k) = scale m c k := by
  obtain ⟨-, ⟨e0, e1⟩, -⟩ := places t
  refine congrArg (m ((c : Thread nD τ).loc main_arg1)) (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val; rw [e1]; omega

theorem blk_weight (c : Dev nD) (t : Fin cfg0.N) (k j : Fin 2048) :
    (iblk m c 2 t : Vec Ideal S2048x2048 .bf16) (ix2 k j) = weight m c k j := by
  obtain ⟨-, -, ⟨e0, e1⟩, -⟩ := places t
  refine congrArg (m ((c : Thread nD τ).loc main_arg2)) (funext fun a => Fin.ext ?_)
  match a with
  | ⟨0, _⟩ => show win0_2.index t (0 : Fin 2) * 2048 + 1 * k.val = k.val; rw [e0]; omega
  | ⟨1, _⟩ => show win0_2.index t (1 : Fin 2) * 2048 + 1 * j.val = j.val; rw [e1]; omega

/-- An entry of the array after the run, and the array. -/
def result (c : Dev nD) (R : Fin 16400) (j : Fin 2048) : EReal := ∑ k : Fin 2048, norm (stream m c R) (scale m c) k * weight m c k j
def G (c : Dev nD) : Buf (Elt Ideal) ((c : Thread nD τ).loc main_v0) := fun (i : S16400x2048.Idx) => result m c (i 0) (i 1)

theorem point_apply (c : Dev nD) (t : Fin cfg0.N) (r : Fin 656) (j : Fin 2048) (R : Fin 16400) (hR : R.val = 656 * t.val + r.val) :
    outsAt0 m c t (ix2 r j) = result m c R j := by
  unfold outsAt0
  rw [out_eq]
  refine (pay2_apply _ _ r j).trans ?_
  unfold result
  refine Finset.sum_congr rfl fun k _ => congrArg₂ (fun x y : EReal => x * y) ?_ (blk_weight m c t k j)
  rw [pay1_eq]
  refine (Cert.FfnIdeal.Block.pay1_apply _ _ r k).trans ?_
  exact congrArg₂ (fun x y => norm x y k) (funext fun q => blk_stream m c t r q R hR) (funext fun q => blk_scale m c t q)

theorem cover (i : S16400x2048.Idx) : ∃ t : Fin cfg0.N, (cfg0.win 3).flush t = true ∧ i ∈ ((cfg0.win 3).blk t).view.set := by
  have h0 : (i 0).val < 16400 := (i 0).isLt
  have h1 : (i 1).val < 2048 := (i 1).isLt
  have hN : (i 0).val / 656 < cfg0.N := by rw [show cfg0.N = 25 from N_0]; omega
  obtain ⟨t, ht⟩ : ∃ t : Fin cfg0.N, t.val = (i 0).val / 656 := ⟨⟨_, hN⟩, rfl⟩
  obtain ⟨-, -, -, ⟨e0, e1⟩⟩ := places t
  refine ⟨t, flush0_3 t, ?_⟩
  have er := View.set_slice_whole main_v0 ((cfg0.win 3).rect t : Rect S16400x2048)
  refine (congrArg (fun s : Finset S16400x2048.Idx => i ∈ s) er).mpr (Rect.mem_set_unit.mpr fun (a : Fin 2) => ?_)
  match a with
  | ⟨0, _⟩ =>
    show win0_3.index t (0 : Fin 2) * 656 ≤ (i 0).val ∧ (i 0).val < win0_3.index t (0 : Fin 2) * 656 + 656
    rw [e0, ht]; omega
  | ⟨1, _⟩ =>
    show win0_3.index t (1 : Fin 2) * 2048 ≤ (i 1).val ∧ (i 1).val < win0_3.index t (1 : Fin 2) * 2048 + 2048
    rw [e1]; omega

/-- THE ARRAY after the run. -/
theorem final (c : Dev nD) : (dats m 0 c).arrAt 3 cfg0.N = G m c := by
  refine (dats m 0 c).arrAt_eq_of_cover 3 (G m c) (fun t _ => ?_) cover
  have hN : t.val < 25 := Nat.lt_of_lt_of_eq t.isLt N_0
  obtain ⟨-, -, -, ⟨e0, e1⟩⟩ := places t
  rw [Value.flushed3]
  funext (y : S656x2048.Idx)
  have ey : y = ix2 (n0 := 656) (n1 := 2048) (y 0) (y 1) := eq_ix2 y
  have hy : (y 0).val < 656 := (y 0).isLt
  refine (congrArg (outsAt0 m c t) ey).trans ?_
  refine (point_apply m c t (y 0) (y 1) ⟨656 * t.val + (y 0).val, by omega⟩ rfl).trans ?_
  refine congrArg₂ (result m c) (Fin.ext ?_) (Fin.ext ?_)
  · show 656 * t.val + (y 0).val = win0_3.index t (0 : Fin 2) * 656 + 1 * (y 0).val; rw [e0]; omega
  · show (y 1).val = win0_3.index t (1 : Fin 2) * 2048 + 1 * (y 1).val; rw [e1]; omega

end Cert.QueryIdeal.Rows

end
-- ==== Proof.Query.Claims.lean ====
/-
  The claims about the attention's query projection: the kernel and its reference run, keep their arguments, end with
  every semaphore at zero, and over the extended reals end with equal results.
-/
module

public import proofs.«01_k».proof.Defs
public import proofs.«01_k».proof.Proof.Gen.Query.Frame
public import proofs.«01_k».proof.Proof.Gen.QueryRefIdeal.Run
public import proofs.«01_k».proof.Proof.Gen.QueryRefIdeal.Read
public import proofs.«01_k».proof.Proof.Ffn.Reference
public import proofs.«01_k».proof.Proof.Query.Rows

@[expose] public section

noncomputable section

open scoped BigOperators
open Idealize.ShloMosaic Idealize.ShloMosaic.TcCoe Idealize.SL.Sem Idealize.ShloMosaic.ValueIdx

namespace Cert.Proof.QueryClaims

theorem frame_kernel : Cert.quiescent_Query := fun m ρ _ => Cert.Query.Gen.frame m ρ
theorem frame_ideal : Cert.quiescent_QueryIdeal := fun m ρ _ => Cert.QueryIdeal.Gen.frame m ρ
theorem frame_reference : Cert.quiescent_QueryRefIdeal := fun m ρ _ =>
  (θ_run Cert.QueryRefIdeal.defs _ _).mono (fun r h => ⟨fun c => (h c).2, Idealize.ShloMosaic.sem_eq_zero_of_no_sems (by decide) r.2⟩)
    (Cert.QueryRefIdeal.Value.run (F := Ideal) m ρ)
theorem preserves : Cert.preserves_Query_QueryIdeal := trivial

section Reference

open Cert.QueryRefIdeal Cert.QueryRefIdeal.Read
open Cert.FfnIdeal.Block (norm)

variable (h : Vec Ideal S16400x2048 .f32) (g : Vec Ideal S1x2048 .f32)

/-- The reference's normalised rows are the dense feed-forward reference's. -/
theorem rows_eq : val_main_v11 (F := Ideal) h g = Cert.FfnRefIdeal.Read.val_main_v11 (F := Ideal) h g := rfl

/-- The reference's result at a row and a column. -/
theorem reference_apply (w : Vec Ideal S2048x2048 .bf16) (R : Fin 16400) (j : Fin 2048) :
    val_main_v14 (F := Ideal) h g w (ix2 R j)
      = ∑ k : Fin 2048, (norm (fun k => h (ix2 R k)) (fun k => g (ix2 (0 : Fin 1) k)) k * w (ix2 k j) : EReal) := by
  rw [val_main_v14_apply]
  refine (val_main_v13_apply h g w (ix2 R j)).trans (Finset.sum_congr rfl fun k _ => ?_)
  have el : lidx_main_v13 (ix2 R j) k = ix2 R k := funext fun a => Fin.ext (by match a with | ⟨0, _⟩ => rfl | ⟨1, _⟩ => rfl)
  have er : ridx_main_v13 (ix2 R j) k = ix2 k j := funext fun a => Fin.ext (by match a with | ⟨0, _⟩ => rfl | ⟨1, _⟩ => rfl)
  rw [el, er, rows_eq]
  exact congrArg (fun z : EReal => z * _) (Cert.FfnRefIdeal.Entry.norm_apply h g R k)

end Reference

/-- From arguments that agree, the kernel's array and the reference's are the same function of row and column. -/
theorem algebraic : Cert.algebraic_QueryIdeal_QueryRefIdeal := by
  intro m ρ m' ρ' _ hagree
  refine ⟨fun c => Cert.QueryIdeal.Rows.G m c, (θ_run Cert.QueryIdeal.defs _ _).mono (fun _ h c =>
    ⟨(h c).1.trans (Cert.QueryIdeal.Rows.final m c), (h c).2⟩) (Cert.QueryIdeal.Value.run_blocks (F := Ideal) m ρ), ?_⟩
  refine (θ_run Cert.QueryRefIdeal.defs _ _).mono (fun _ h c => ?_) (Cert.QueryRefIdeal.Value.run (F := Ideal) m' ρ')
  refine ⟨(h c).1.trans ?_, (h c).2⟩
  obtain ⟨a0, a1, a2⟩ := hagree c
  rw [a0, a1, a2]
  refine (Cert.QueryRefIdeal.Read.val_main_v14_eq _ _ _).trans (funext fun i => ?_)
  have ei : i = ix2 (n0 := 16400) (n1 := 2048) (i 0) (i 1) := eq_ix2 i
  exact (congrArg _ ei).trans (reference_apply _ _ _ (i 0) (i 1))

end Cert.Proof.QueryClaims

end
-- ==== Proof.Outp.Rows.lean ====
/-
  The attention's output projection: the call's array after the run, entry by entry, over the extended reals — an entry
  of the residual stream plus the 2048 terms of its row's product with the weights. A point works on 656 whole rows.
-/
module

public import proofs.«01_k».proof.Proof.Gen.OutpIdeal.Value
public import proofs.«01_k».proof.Proof.Swiglu

@[expose] public section

set_option maxRecDepth 16384

noncomputable section

open scoped BigOperators
open Idealize.ShloMosaic Idealize.ShloMosaic.TcCoe Idealize.SL.Sem Idealize.ShloMosaic.ValueIdx

namespace Cert.OutpIdeal.Rows

open Cert.OutpIdeal Cert.OutpIdeal.Gen

variable (m : (ℓ : Loc nD τ sig) → Buf (Elt Ideal) ℓ)

/-- The three arguments, read at a row and a column. -/
abbrev rows (c : Dev nD) (R : Fin 16400) (k : Fin 2048) : EReal := (m ((c : Thread nD τ).loc main_arg0) : Vec Ideal S16400x2048 .bf16) (ix2 R k)
abbrev weight (c : Dev nD) (k j : Fin 2048) : EReal := (m ((c : Thread nD τ).loc main_arg1) : Vec Ideal S2048x2048 .bf16) (ix2 k j)
abbrev stream (c : Dev nD) (R : Fin 16400) (j : Fin 2048) : EReal := (m ((c : Thread nD τ).loc main_arg2) : Vec Ideal S16400x2048 .f32) (ix2 R j)

/-- What a point stores: the staged entry of the stream plus the row's product with the staged weights. -/
theorem pay_apply (a : Vec Ideal S656x2048 .bf16) (w : Vec Ideal S2048x2048 .bf16) (h : Vec Ideal S656x2048 .f32) (r : Fin 656) (j : Fin 2048) :
    k0_pay1 (F := Ideal) a w h (ix2 r j) = h (ix2 r j) + ∑ k : Fin 2048, (a (ix2 r k) * w (ix2 k j) : EReal) :=
  congrArg (fun z : EReal => h (ix2 r j) + z) (Swiglu.matmul_zero_apply (φ₁ := .bf16) (φ₂ := .bf16) none a w r j)

theorem hz : (![0, 0] : Fin 2 → Nat) = fun _ => 0 := funext fun a => by fin_cases a <;> rfl

theorem out_eq (a : Vec Ideal S656x2048 .bf16) (w : Vec Ideal S2048x2048 .bf16) (h : Vec Ideal S656x2048 .f32) : out0_3 a w h = k0_pay1 a w h := by
  unfold out0_3
  rw [View.canon_unit_zero hz]
  simp only [View.ld_unit_zero (S := S656x2048) hz, View.ld_unit_zero (S := S2048x2048) hz]

/-- Where each window's block lies at a point. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

theorem blk_rows (c : Dev nD) (t : Fin cfg0.N) (r : Fin 656) (k : Fin 2048) (R : Fin 16400) (hR : R.val = 656 * t.val + r.val) :
    (iblk m c 0 t : Vec Ideal S656x2048 .bf16) (ix2 r k) = rows m c R k := by
  obtain ⟨⟨e0, e1⟩, -⟩ := places t
  refine congrArg (m ((c : Thread nD τ).loc main_arg0)) (funext fun a => Fin.ext ?_)
  match a with
  | ⟨0, _⟩ => show win0_0.index t (0 : Fin 2) * 656 + 1 * r.val = R.val; rw [e0, hR]; omega
  | ⟨1, _⟩ => show win0_0.index t (1 : Fin 2) * 2048 + 1 * k.val = k.val; rw [e1]; omega

theorem blk_weight (c : Dev nD) (t : Fin cfg0.N) (k j : Fin 2048) :
    (iblk m c 1 t : Vec Ideal S2048x2048 .bf16) (ix2 k j) = weight m c k j := by
  obtain ⟨-, ⟨e0, e1⟩, -⟩ := places t
  refine congrArg (m ((c : Thread nD τ).loc main_arg1)) (funext fun a => Fin.ext ?_)
  match a with
  | ⟨0, _⟩ => show win0_1.index t (0 : Fin 2) * 2048 + 1 * k.val = k.val; rw [e0]; omega
  | ⟨1, _⟩ => show win0_1.index t (1 : Fin 2) * 2048 + 1 * j.val = j.val; rw [e1]; omega

theorem blk_stream (c : Dev nD) (t : Fin cfg0.N) (r : Fin 656) (j : Fin 2048) (R : Fin 16400) (hR : R.val = 656 * t.val + r.val) :
    (iblk m c 2 t : Vec Ideal S656x2048 .f32) (ix2 r j) = stream m c R j := by
  obtain ⟨-, -, ⟨e0, e1⟩, -⟩ := places t
  refine congrArg (m ((c : Thread nD τ).loc main_arg2)) (funext fun a => Fin.ext ?_)
  match a with
  | ⟨0, _⟩ => show win0_2.index t (0 : Fin 2) * 656 + 1 * r.val = R.val; rw [e0, hR]; omega
  | ⟨1, _⟩ => show win0_2.index t (1 : Fin 2) * 2048 + 1 * j.val = j.val; rw [e1]; omega

/-- An entry of the array after the run, and the array. -/
def result (c : Dev nD) (R : Fin 16400) (j : Fin 2048) : EReal := stream m c R j + ∑ k : Fin 2048, rows m c R k * weight m c k j
def G (c : Dev nD) : Buf (Elt Ideal) ((c : Thread nD τ).loc main_v0) := fun (i : S16400x2048.Idx) => result m c (i 0) (i 1)

theorem point_apply (c : Dev nD) (t : Fin cfg0.N) (r : Fin 656) (j : Fin 2048) (R : Fin 16400) (hR : R.val = 656 * t.val + r.val) :
    out0_3 (iblk m c 0 t) (iblk m c 1 t) (iblk m c 2 t) (ix2 r j) = result m c R j := by
  rw [out_eq]
  refine (pay_apply _ _ _ r j).trans ?_
  refine (congrArg (fun z : EReal => z + _) (blk_stream m c t r j R hR)).trans ?_
  unfold result
  exact congrArg (fun z : EReal => _ + z) (Finset.sum_congr rfl fun k _ =>
    congrArg₂ (fun x y : EReal => x * y) (blk_rows m c t r k R hR) (blk_weight m c t k j))

theorem cover (i : S16400x2048.Idx) : ∃ t : Fin cfg0.N, (cfg0.win 3).flush t = true ∧ i ∈ ((cfg0.win 3).blk t).view.set := by
  have h0 : (i 0).val < 16400 := (i 0).isLt
  have h1 : (i 1).val < 2048 := (i 1).isLt
  have hN : (i 0).val / 656 < cfg0.N := by rw [show cfg0.N = 25 from N_0]; omega
  obtain ⟨t, ht⟩ : ∃ t : Fin cfg0.N, t.val = (i 0).val / 656 := ⟨⟨_, hN⟩, rfl⟩
  obtain ⟨-, -, -, ⟨e0, e1⟩⟩ := places t
  refine ⟨t, flush0_3 t, ?_⟩
  have er := View.set_slice_whole main_v0 ((cfg0.win 3).rect t : Rect S16400x2048)
  refine (congrArg (fun s : Finset S16400x2048.Idx => i ∈ s) er).mpr (Rect.mem_set_unit.mpr fun (a : Fin 2) => ?_)
  match a with
  | ⟨0, _⟩ =>
    show win0_3.index t (0 : Fin 2) * 656 ≤ (i 0).val ∧ (i 0).val < win0_3.index t (0 : Fin 2) * 656 + 656
    rw [e0, ht]; omega
  | ⟨1, _⟩ =>
    show win0_3.index t (1 : Fin 2) * 2048 ≤ (i 1).val ∧ (i 1).val < win0_3.index t (1 : Fin 2) * 2048 + 2048
    rw [e1]; omega

/-- THE ARRAY after the run. -/
theorem final (c : Dev nD) : (dats m 0 c).arrAt 3 cfg0.N = G m c := by
  refine (dats m 0 c).arrAt_eq_of_cover 3 (G m c) (fun t _ => ?_) cover
  have hN : t.val < 25 := Nat.lt_of_lt_of_eq t.isLt N_0
  obtain ⟨-, -, -, ⟨e0, e1⟩⟩ := places t
  rw [Value.flushed3]
  funext (y : S656x2048.Idx)
  have ey : y = ix2 (n0 := 656) (n1 := 2048) (y 0) (y 1) := eq_ix2 y
  have hy : (y 0).val < 656 := (y 0).isLt
  refine (congrArg (out0_3 (iblk m c 0 t) (iblk m c 1 t) (iblk m c 2 t)) ey).trans ?_
  refine (point_apply m c t (y 0) (y 1) ⟨656 * t.val + (y 0).val, by omega⟩ rfl).trans ?_
  refine congrArg₂ (result m c) (Fin.ext ?_) (Fin.ext ?_)
  · show 656 * t.val + (y 0).val = win0_3.index t (0 : Fin 2) * 656 + 1 * (y 0).val; rw [e0]; omega
  · show (y 1).val = win0_3.index t (1 : Fin 2) * 2048 + 1 * (y 1).val; rw [e1]; omega

end Cert.OutpIdeal.Rows

end
-- ==== Proof.Outp.Claims.lean ====
/-
  The claims about the attention's output projection: the kernel and its reference run, keep their arguments, end with
  every semaphore at zero, and over the extended reals end with equal results.
-/
module

public import proofs.«01_k».proof.Defs
public import proofs.«01_k».proof.Proof.Gen.Outp.Frame
public import proofs.«01_k».proof.Proof.Gen.OutpRefIdeal.Run
public import proofs.«01_k».proof.Proof.Gen.OutpRefIdeal.Read
public import proofs.«01_k».proof.Proof.Outp.Rows

@[expose] public section

noncomputable section

open scoped BigOperators
open Idealize.ShloMosaic Idealize.ShloMosaic.TcCoe Idealize.SL.Sem Idealize.ShloMosaic.ValueIdx

namespace Cert.Proof.OutpClaims

theorem frame_kernel : Cert.quiescent_Outp := fun m ρ _ => Cert.Outp.Gen.frame m ρ
theorem frame_ideal : Cert.quiescent_OutpIdeal := fun m ρ _ => Cert.OutpIdeal.Gen.frame m ρ
theorem frame_reference : Cert.quiescent_OutpRefIdeal := fun m ρ _ =>
  (θ_run Cert.OutpRefIdeal.defs _ _).mono (fun r h => ⟨fun c => (h c).2, Idealize.ShloMosaic.sem_eq_zero_of_no_sems (by decide) r.2⟩)
    (Cert.OutpRefIdeal.Value.run (F := Ideal) m ρ)
theorem preserves : Cert.preserves_Outp_OutpIdeal := trivial

section Reference

open Cert.OutpRefIdeal Cert.OutpRefIdeal.Read

/-- The reference's result at a row and a column. -/
theorem reference_apply (a : Vec Ideal S16400x2048 .bf16) (w : Vec Ideal S2048x2048 .bf16) (h : Vec Ideal S16400x2048 .f32) (R : Fin 16400) (j : Fin 2048) :
    val_main_v3 (F := Ideal) a w h (ix2 R j) = h (ix2 R j) + ∑ k : Fin 2048, (a (ix2 R k) * w (ix2 k j) : EReal) := by
  rw [val_main_v3_apply, val_main_v2_apply]
  refine congrArg (fun z : EReal => h (ix2 R j) + z) (Finset.sum_congr rfl fun k _ => ?_)
  have el : lidx_main_v2 (ix2 R j) k = ix2 R k := funext fun a => Fin.ext (by match a with | ⟨0, _⟩ => rfl | ⟨1, _⟩ => rfl)
  have er : ridx_main_v2 (ix2 R j) k = ix2 k j := funext fun a => Fin.ext (by match a with | ⟨0, _⟩ => rfl | ⟨1, _⟩ => rfl)
  rw [el, er]
  rfl

end Reference

/-- From arguments that agree, the kernel's array and the reference's are the same function of row and column. -/
theorem algebraic : Cert.algebraic_OutpIdeal_OutpRefIdeal := by
  intro m ρ m' ρ' _ hagree
  refine ⟨fun c => Cert.OutpIdeal.Rows.G m c, (θ_run Cert.OutpIdeal.defs _ _).mono (fun _ h c =>
    ⟨(h c).1.trans (Cert.OutpIdeal.Rows.final m c), (h c).2⟩) (Cert.OutpIdeal.Value.run_blocks (F := Ideal) m ρ), ?_⟩
  refine (θ_run Cert.OutpRefIdeal.defs _ _).mono (fun _ h c => ?_) (Cert.OutpRefIdeal.Value.run (F := Ideal) m' ρ')
  refine ⟨(h c).1.trans ?_, (h c).2⟩
  obtain ⟨a0, a1, a2⟩ := hagree c
  rw [a0, a1, a2]
  refine (Cert.OutpRefIdeal.Read.val_main_v3_eq _ _ _).trans (funext fun i => ?_)
  have ei : i = ix2 (n0 := 16400) (n1 := 2048) (i 0) (i 1) := eq_ix2 i
  exact (congrArg _ ei).trans (reference_apply _ _ _ (i 0) (i 1))

end Cert.Proof.OutpClaims

end
-- ==== Proof.Mix.Frame.lean ====
/-
  The convolution module's second pointwise product, with its bias and its residual add: the pipeline's run at any float
  values. A point works on 656 rows of the result. The rows of the stream and the 16 rows of the meta tokens lie in two
  arrays; the stream's 16384 rows end 640 rows into the last point's block, so that block is cut at the array's end and
  the last point takes its last 16 rows from the meta tokens.
-/
module

public import proofs.«01_k».proof.Proof.Gen.MixIdeal.Frame
public import proofs.«01_k».proof.Proof.Gen.MixIdeal.Launch
public import proofs.«01_k».proof.Proof.Gen.MixIdeal.Points
public import proofs.«01_k».proof.Proof.Gen.MixIdeal.Skeleton
public import Idealize.ShloMosaic.Lib.Pipeline.FrameBody
public import Idealize.ShloMosaic.Lib.Ring
public import Idealize.ShloMosaic.Lib.Tactic

@[expose] public section

set_option maxRecDepth 16384

noncomputable section

namespace MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the result's buffer -/

/-- The rows a load or a store covers: all 656, the first 640, the last 16; the whole weights, bias and meta rows. -/
abbrev rAll : Rect S656x2048 := Rect.unit (s := S656x2048) ![0, 0] S656x2048.size inb_S656x2048_S656x2048_0_0
abbrev rHead : Rect S656x2048 := Rect.unit (s := S656x2048) ![0, 0] S640x2048.size inb_S656x2048_S640x2048_0_0
abbrev rTail : Rect S656x2048 := Rect.unit (s := S656x2048) ![640, 0] S16x2048.size inb_S656x2048_S16x2048_640_0
abbrev rW : Rect S2048x2048 := Rect.unit (s := S2048x2048) ![0, 0] S2048x2048.size inb_S2048x2048_S2048x2048_0_0
abbrev rB : Rect S1x2048 := Rect.unit (s := S1x2048) ![0, 0] S1x2048.size inb_S1x2048_S1x2048_0_0
abbrev rM : Rect S16x2048 := Rect.unit (s := S16x2048) ![0, 0] S16x2048.size inb_S16x2048_S16x2048_0_0

/-- At a point before the last: one store of all rows. -/
def outFull (x0 : Vec F S656x2048 .bf16) (x1 : Vec F S2048x2048 .bf16) (x2 : Vec F S1x2048 .f32) (x4 : Vec F S656x2048 .f32) : Vec F S656x2048 .f32 :=
  View.canon [⟨rAll, k0_pay2 (View.ld x0 rAll) (View.ld x1 rW) (View.ld x2 rB) (View.ld x4 rAll)⟩]

/-- At the last: the first 640 rows from the stream, the last 16 from the meta tokens (the later store first). -/
def outLast (x0 : Vec F S656x2048 .bf16) (x1 : Vec F S2048x2048 .bf16) (x2 : Vec F S1x2048 .f32) (x3 : Vec F S16x2048 .f32) (x4 : Vec F S656x2048 .f32) : Vec F S656x2048 .f32 :=
  View.canon [⟨rTail, k0_pay4 (View.ld x0 rAll) (View.ld x1 rW) (View.ld x2 rB) (View.ld x3 rM)⟩,
    ⟨rHead, k0_pay3 (View.ld x0 rAll) (View.ld x1 rW) (View.ld x2 rB) (View.ld x4 rHead)⟩]

theorem cover_full (p : Vec F S656x2048 .f32) (y : S656x2048.Idx) :
    ∃ pc ∈ ([⟨rAll, p⟩] : List (View.Piece (Elt F) S656x2048 .f32)), y ∈ pc.1.set :=
  View.cover_of_tiled [⟨rAll, p⟩] S656x2048.size (by rfl) y

/-- The two stores cover the buffer: a row is below 640 or not. -/
theorem cover_last (p : Vec F S16x2048 .f32) (q : Vec F S640x2048 .f32) (y : S656x2048.Idx) :
    ∃ pc ∈ ([⟨rTail, p⟩, ⟨rHead, q⟩] : List (View.Piece (Elt F) S656x2048 .f32)), y ∈ pc.1.set := by
  have h0 : (y 0).val < 656 := (y 0).isLt
  have h1 : (y 1).val < 2048 := (y 1).isLt
  by_cases h : (y 0).val < 640
  · refine ⟨⟨rHead, q⟩, by simp, ?_⟩
    refine (Rect.mem_set_unit (inb := inb_S656x2048_S640x2048_0_0)).mpr fun (a : Fin 2) => ?_
    match a with
    | ⟨0, _⟩ => exact ⟨Nat.zero_le _, (by show (y 0).val < 0 + 640; omega)⟩
    | ⟨1, _⟩ => exact ⟨Nat.zero_le _, (by show (y 1).val < 0 + 2048; omega)⟩
  · refine ⟨⟨rTail, p⟩, by simp, ?_⟩
    refine (Rect.mem_set_unit (inb := inb_S656x2048_S16x2048_640_0)).mpr fun (a : Fin 2) => ?_
    match a with
    | ⟨0, _⟩ => exact ⟨(by show 640 ≤ (y 0).val; omega), (by show (y 0).val < 640 + 16; omega)⟩
    | ⟨1, _⟩ => exact ⟨Nat.zero_le _, (by show (y 1).val < 0 + 2048; omega)⟩

/-! ## The body's triple, at a point before the last and at the last -/

set_option maxHeartbeats 1000000 in
theorem sound_full (c : Dev nD) (E : Set ℕ) (i : grid0.Coords) (h1 : k0_cond1 i = 1#1) (h2 : ¬ k0_cond2 i = 1#1)
    (arg1 : Memref sig .tc .vmem S656x2048 .bf16) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S16x2048 .f32) (harg4 : arg4.IsWhole)
    (arg5 : Memref sig .tc .vmem S656x2048 .f32) (harg5 : arg5.IsWhole) (arg6 : Memref sig .tc .vmem S656x2048 .f32) (harg6 : arg6.IsWhole)
    (x0 : Vec F S656x2048 .bf16) (x1 : Vec F S2048x2048 .bf16) (x2 : Vec F S1x2048 .f32) (x4 : Vec F S656x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
          ∗ owns (c : Thread nD τ) arg5 fullShare x4 ∗ owns (c : Thread nD τ) arg6 fullShare (outFull x0 x1 x2 x4)) -∗ K ⟨⟩))
      ⊢ wp frame (wpE (defs₀ (F := F)) Variants.none c none) E (cc0_mm_resid i arg1 harg1 arg2 harg2 arg3 harg3 arg4 harg4 arg5 harg5 arg6 harg6) K := by
  simp only [cc0_mm_resid_eq_skeleton]; unfold cc0_mm_resid_skel
  simp only [dif_pos h1, dif_neg h2]
  unfold owns
  iintro ⟨⟨%f0, %hf0, H0⟩, ⟨%f1, %hf1, H1⟩, ⟨%f2, %hf2, H2⟩, ⟨%f4, %hf4, H4⟩, ⟨%d5, %f5, -, H5⟩, Hk⟩
  subst hf0 hf1 hf2 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists f4; isplitr; · ipureintro; rfl
    iexact H4
  iexists _; isplitr
  swap; · iexact H5
  ipureintro
  exact View.read_writes_eq_canon _ _ _ (cover_full _)

set_option maxHeartbeats 1000000 in
theorem sound_last (c : Dev nD) (E : Set ℕ) (i : grid0.Coords) (h1 : ¬ k0_cond1 i = 1#1) (h2 : k0_cond2 i = 1#1)
    (arg1 : Memref sig .tc .vmem S656x2048 .bf16) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S16x2048 .f32) (harg4 : arg4.IsWhole)
    (arg5 : Memref sig .tc .vmem S656x2048 .f32) (harg5 : arg5.IsWhole) (arg6 : Memref sig .tc .vmem S656x2048 .f32) (harg6 : arg6.IsWhole)
    (x0 : Vec F S656x2048 .bf16) (x1 : Vec F S2048x2048 .bf16) (x2 : Vec F S1x2048 .f32) (x3 : Vec F S16x2048 .f32) (x4 : Vec F S656x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg6 fullShare (outLast x0 x1 x2 x3 x4)) -∗ K ⟨⟩))
      ⊢ wp frame (wpE (defs₀ (F := F)) Variants.none c none) E (cc0_mm_resid i arg1 harg1 arg2 harg2 arg3 harg3 arg4 harg4 arg5 harg5 arg6 harg6) K := by
  simp only [cc0_mm_resid_eq_skeleton]; unfold cc0_mm_resid_skel
  simp only [dif_neg h1, dif_pos h2]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_last _ _)

/-! ## The points -/

/-- At a point before the last all rows are stored and the stream's block is whole; at the last two parts are stored
    and the block has 640 rows. -/
theorem points : ∀ t : Fin cfg0.N,
    (k0_cond1 (grid0.coords t) = 1#1 ∧ ¬ k0_cond2 (grid0.coords t) = 1#1 ∧ win0_4.xsize (grid0.coords t) (0 : Fin 2) = 656 ∧ win0_4.xsize (grid0.coords t) (1 : Fin 2) = 2048 ∧ t.val < 24)
    ∨ (¬ k0_cond1 (grid0.coords t) = 1#1 ∧ k0_cond2 (grid0.coords t) = 1#1 ∧ win0_4.xsize (grid0.coords t) (0 : Fin 2) = 640 ∧ win0_4.xsize (grid0.coords t) (1 : Fin 2) = 2048 ∧ t.val = 24) :=
  (by decide +kernel : ∀ t : Fin grid0.N, _)

/-- The stream's buffer at a point: its block on the rows inside the array, `d` past them. -/
def streamBuf (c : Dev nD) (t : Fin cfg0.N) (d : Vec F S656x2048 .f32) : Vec F S656x2048 .f32 := win0_4.fill (grid0.coords t) d (iblk m c 4 t)

/-- On the rows inside the array it does not depend on `d`. -/
theorem streamBuf_congr (c : Dev nD) (t : Fin cfg0.N) (d d' : Vec F S656x2048 .f32) (j : S656x2048.Idx)
    (h0 : (j 0).val < win0_4.xsize (grid0.coords t) (0 : Fin 2)) (h1 : (j 1).val < win0_4.xsize (grid0.coords t) (1 : Fin 2)) :
    streamBuf m c t d j = streamBuf m c t d' j := by
  have hm : win0_4.moved (grid0.coords t) j = true := (win0_4.moved_iff _ j).mpr fun (a : Fin 2) => match a with
    | ⟨0, _⟩ => h0
    | ⟨1, _⟩ => h1
  unfold streamBuf Window.fill; rw [dif_pos hm, dif_pos hm]

/-- The filler past the array's end in the stated contents: the zero word. -/
abbrev filler : Vec F S656x2048 .f32 := fun _ => Scalar.ofBits .f32 0#32

/-- The result's buffer after the body at a point. -/
def outAt (c : Dev nD) (t : Fin cfg0.N) (d : Vec F S656x2048 .f32) : Vec F S656x2048 .f32 :=
  if k0_cond1 (grid0.coords t) = 1#1 then outFull (iblk m c 0 t) (iblk m c 1 t) (iblk m c 2 t) (streamBuf m c t d)
  else outLast (iblk m c 0 t) (iblk m c 1 t) (iblk m c 2 t) (iblk m c 3 t) (streamBuf m c t d)

/-- The result does not depend on the filler: the rows past the array's end are not read. -/
theorem outAt_congr (c : Dev nD) (t : Fin cfg0.N) (d d' : Vec F S656x2048 .f32) : outAt m c t d = outAt m c t d' := by
  unfold outAt
  rcases points t with ⟨h1, -, e0, e1, -⟩ | ⟨h1, -, e0, e1, -⟩
  · rw [if_pos h1, if_pos h1]
    have he : streamBuf m c t d = streamBuf m c t d' := funext fun j => streamBuf_congr m c t d d' j
      (by rw [e0]; exact (j 0).isLt) (by rw [e1]; exact (j 1).isLt)
    rw [he]
  · rw [if_neg h1, if_neg h1]
    have he : View.ld (streamBuf m c t d) rHead = View.ld (streamBuf m c t d') rHead := funext fun j => streamBuf_congr m c t d d' _
      (by
        rw [e0]
        have hj : (j 0).val < 640 := (j 0).isLt
        show 0 + 1 * (j 0).val < 640
        omega)
      (by
        rw [e1]
        have hj : (j 1).val < 2048 := (j 1).isLt
        show 0 + 1 * (j 1).val < 2048
        omega)
    unfold outLast
    rw [he]

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => streamBuf m c t filler
    | ⟨5, _⟩ => outAt m c t filler
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = streamBuf m c t filler := by dsimp only [dats]
theorem after_5 (c : Dev nD) (t : Fin cfg0.N) : (dats m 0 c).after 5 t = outAt m c t filler := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = streamBuf m c t d := by
  unfold Dat.before; rw [if_pos (fetch0_4 t)]; unfold streamBuf Dat.fetched Dat.blockOf iblk; rw [A_eq]

/-! ## The body obligation -/

/-- The result is stored at every point. -/
theorem not_idle : ∀ t : Fin cfg0.N, (!(k0_cond1 (grid0.coords t) == 1#1) && !(k0_cond2 (grid0.coords t) == 1#1)) = false :=
  (by decide +kernel : ∀ t : Fin grid0.N, _)

theorem defs₀_row (t : Fin cfg0.N) : defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns; of the stream's buffer the rows inside the array are stated. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t))))
    ∗ owns (c : Thread nD τ) (st0_5 t) fullShare ((dats m 0 c).after 5 t))

theorem cut_stream (c : Dev nD) (t : Fin cfg0.N) (d d' : Vec F S656x2048 .f32) :
    win0_4.fill (grid0.coords t) d (win0_4.cut (grid0.coords t) (streamBuf m c t d')) = streamBuf m c t d :=
  congrArg (win0_4.fill (grid0.coords t) d) (win0_4.cut_fill (grid0.coords t) d' (iblk m c 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  rw [outAt_congr m c t filler d4]
  unfold outAt
  rcases points t with ⟨h1, h2, -⟩ | ⟨h1, h2, -⟩
  · rw [if_pos h1]
    iapply (sound_full c Set.univ (grid0.coords t) h1 h2 _ _ _ _ _ _ _ _ _ _ _ _ (iblk m c 0 t) (iblk m c 1 t) (iblk m c 2 t) (streamBuf m c t d4) _)
    isplitl [H0]; · iexact H0
    isplitl [H1]; · iexact H1
    isplitl [H2]; · iexact H2
    isplitl [H4]; · iexact H4
    isplitl [H5]; · iexists _; iexact H5
    iintro ⟨H0, H1, H2, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (st0_4 t) fullShare (win0_4.fill (grid0.coords t) d4 (win0_4.cut (grid0.coords t) (streamBuf m c t filler)))
      rw [cut_stream m c t d4 filler]
    iexact H5
  · rw [if_neg h1]
    iapply (sound_last c Set.univ (grid0.coords t) h1 h2 _ _ _ _ _ _ _ _ _ _ _ _ (iblk m c 0 t) (iblk m c 1 t) (iblk m c 2 t) (iblk m c 3 t) (streamBuf m c t d4) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists d4
      change _ ⊢ owns (c : Thread nD τ) (st0_4 t) fullShare (win0_4.fill (grid0.coords t) d4 (win0_4.cut (grid0.coords t) (streamBuf m c t filler)))
      rw [cut_stream m c t d4 filler]
    iexact H5

theorem body_obligation (c : Dev nD) : BodyObligationLoose (dats (F := F) m 0 c) (defs₀ (F := F)) Variants.none () Set.univ := fun t => by
  rw [bigSep_W0, bigSep_W0, defs₀_row]
  have hI : idle0 5 (grid0.coords t) = false := not_idle t
  simp only [hI]
  exact triple_restated (sound_body m c t) rfl .rfl fun _ => .rfl

/-! ## The run -/

set_option backward.isDefEq.respectTransparency.types false in
set_option maxHeartbeats 800000 in
/-- Every run ends with the pipeline's arrays as the proof data computes them and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end MixRun

end
-- ==== Proof.Mix.Rows.lean ====
/-
  The second pointwise product: the call's array after the run, entry by entry, over the extended reals — the entry of the
  joined stream and meta rows, plus the 2048 terms of the row's product with the weights and the bias.
-/
module

public import proofs.«01_k».proof.Proof.Mix.Frame
public import proofs.«01_k».proof.Proof.Swiglu
public import Idealize.ShloMosaic.Lib.ValueLayout
public import Idealize.ShloMosaic.Lib.Claim

@[expose] public section

set_option maxRecDepth 16384

noncomputable section

open scoped BigOperators
open Idealize.ShloMosaic Idealize.ShloMosaic.TcCoe Idealize.SL.Sem Idealize.ShloMosaic.ValueIdx

namespace MixRun

open Cert.MixIdeal Cert.MixIdeal.Gen

variable (m : (ℓ : Loc nD τ sig) → Buf (Elt Ideal) ℓ) (ρ : Dev nD → PrngReg)

/-! ## The arguments, read at a row and a column -/

abbrev rows (c : Dev nD) (R : Fin 16400) (k : Fin 2048) : EReal := (m ((c : Thread nD τ).loc main_arg0) : Vec Ideal S16400x2048 .bf16) (ix2 R k)
abbrev weight (c : Dev nD) (k j : Fin 2048) : EReal := (m ((c : Thread nD τ).loc main_arg1) : Vec Ideal S2048x2048 .bf16) (ix2 k j)
abbrev bias (c : Dev nD) (j : Fin 2048) : EReal := (m ((c : Thread nD τ).loc main_arg2) : Vec Ideal S1x2048 .f32) (ix2 (0 : Fin 1) j)
abbrev stream (c : Dev nD) (R : Fin 16384) (j : Fin 2048) : EReal := (m ((c : Thread nD τ).loc main_arg3) : Vec Ideal S16384x2048 .f32) (ix2 R j)
abbrev metaRow (c : Dev nD) (R : Fin 16) (j : Fin 2048) : EReal := (m ((c : Thread nD τ).loc main_arg4) : Vec Ideal S16x2048 .f32) (ix2 R j)

/-- The stream's rows followed by the meta tokens'. -/
def joined (c : Dev nD) (R : Fin 16400) (j : Fin 2048) : EReal :=
  if h : R.val < 16384 then stream m c ⟨R.val, h⟩ j else metaRow m c ⟨R.val - 16384, by omega⟩ j

/-! ## What is stored -/

/-- A row's product with the weights at a column, plus the bias. -/
def dotBias (a : Vec Ideal S656x2048 .bf16) (w : Vec Ideal S2048x2048 .bf16) (b : Vec Ideal S1x2048 .f32) (r : Fin 656) (j : Fin 2048) : EReal :=
  (∑ k : Fin 2048, (a (ix2 r k) * w (ix2 k j) : EReal)) + b (ix2 (0 : Fin 1) j)

theorem pay1_apply (a : Vec Ideal S656x2048 .bf16) (w : Vec Ideal S2048x2048 .bf16) (b : Vec Ideal S1x2048 .f32) (r : Fin 656) (j : Fin 2048) :
    k0_pay1 (F := Ideal) a w b (ix2 r j) = dotBias a w b r j :=
  congrArg₂ (fun y z : EReal => y + z) (Swiglu.matmul_zero_apply (φ₁ := .bf16) (φ₂ := .bf16) none a w r j)
    (broadcastTo_1b_ab_apply b broadcasts_S1x2048_S656x2048 r j)

theorem pay2_apply (a : Vec Ideal S656x2048 .bf16) (w : Vec Ideal S2048x2048 .bf16) (b : Vec Ideal S1x2048 .f32) (x : Vec Ideal S656x2048 .f32) (r : Fin 656) (j : Fin 2048) :
    k0_pay2 (F := Ideal) a w b x (ix2 r j) = x (ix2 r j) + dotBias a w b r j :=
  congrArg (fun z : EReal => x (ix2 r j) + z) (pay1_apply a w b r j)

theorem pay3_apply (a : Vec Ideal S656x2048 .bf16) (w : Vec Ideal S2048x2048 .bf16) (b : Vec Ideal S1x2048 .f32) (x : Vec Ideal S640x2048 .f32)
    (r : Fin 656) (r' : Fin 640) (hr : r.val = r'.val) (j : Fin 2048) :
    k0_pay3 (F := Ideal) a w b x (ix2 r' j) = x (ix2 r' j) + dotBias a w b r j := by
  refine congrArg (fun z : EReal => x (ix2 r' j) + z) ((extractStridedSlice_apply (s := S656x2048) (t := S640x2048) ![0, 0] (k0_pay1 (F := Ideal) a w b)
    slices_S656x2048_o0_0_S640x2048 (ix2 r' j) (ix2 r j) fun (ax : Fin 2) => ?_).trans (pay1_apply a w b r j))
  match ax with
  | ⟨0, _⟩ => show r.val = 0 + r'.val; omega
  | ⟨1, _⟩ => show j.val = 0 + j.val; omega

theorem pay4_apply (a : Vec Ideal S656x2048 .bf16) (w : Vec Ideal S2048x2048 .bf16) (b : Vec Ideal S1x2048 .f32) (x : Vec Ideal S16x2048 .f32)
    (r : Fin 656) (r' : Fin 16) (hr : r.val = 640 + r'.val) (j : Fin 2048) :
    k0_pay4 (F := Ideal) a w b x (ix2 r' j) = x (ix2 r' j) + dotBias a w b r j := by
  refine congrArg (fun z : EReal => x (ix2 r' j) + z) ((extractStridedSlice_apply (s := S656x2048) (t := S16x2048) ![640, 0] (k0_pay1 (F := Ideal) a w b)
    slices_S656x2048_o640_0_S16x2048 (ix2 r' j) (ix2 r j) fun (ax : Fin 2) => ?_).trans (pay1_apply a w b r j))
  match ax with
  | ⟨0, _⟩ => exact hr
  | ⟨1, _⟩ => show j.val = 0 + j.val; omega

theorem hz : (![0, 0] : Fin 2 → Nat) = fun _ => 0 := funext fun a => by fin_cases a <;> rfl

theorem outFull_eq (a : Vec Ideal S656x2048 .bf16) (w : Vec Ideal S2048x2048 .bf16) (b : Vec Ideal S1x2048 .f32) (x : Vec Ideal S656x2048 .f32) :
    outFull a w b x = k0_pay2 a w b x := by
  unfold outFull
  rw [View.canon_unit_zero hz]
  simp only [View.ld_unit_zero (S := S656x2048) hz, View.ld_unit_zero (S := S2048x2048) hz, View.ld_unit_zero (S := S1x2048) hz]

/-- Where a row of each of the two parts lies in the buffer. -/
theorem head_emb (r : Fin 656) (r' : Fin 640) (hr : r.val = r'.val) (j : Fin 2048) : ix2 (n0 := 656) (n1 := 2048) r j = rHead.emb (ix2 (n0 := 640) (n1 := 2048) r' j) :=
  funext fun a => Fin.ext (by
    match a with
    | ⟨0, _⟩ => show r.val = 0 + 1 * r'.val; omega
    | ⟨1, _⟩ => show j.val = 0 + 1 * j.val; omega)

theorem tail_emb (r : Fin 656) (r' : Fin 16) (hr : r.val = 640 + r'.val) (j : Fin 2048) : ix2 (n0 := 656) (n1 := 2048) r j = rTail.emb (ix2 (n0 := 16) (n1 := 2048) r' j) :=
  funext fun a => Fin.ext (by
    match a with
    | ⟨0, _⟩ => show r.val = 640 + 1 * r'.val; omega
    | ⟨1, _⟩ => show j.val = 0 + 1 * j.val; omega)

/-- A row below 640 is not among the last 16. -/
theorem not_mem_tail (r : Fin 656) (hl : r.val < 640) (j : Fin 2048) : ix2 (n0 := 656) (n1 := 2048) r j ∉ rTail.set := by
  intro h
  rw [Rect.mem_set_unit] at h
  have h0 := (h (0 : Fin 2)).1
  change 640 ≤ r.val at h0
  exact Nat.not_le.mpr hl h0

/-- Of the two stores a row below 640 is the second's, a row from 640 on the first's. -/
theorem two_head (p : Vec Ideal S16x2048 .f32) (q : Vec Ideal S640x2048 .f32) (r : Fin 656) (r' : Fin 640) (hr : r.val = r'.val) (j : Fin 2048) :
    View.canon (Val := Elt Ideal) [⟨rTail, p⟩, ⟨rHead, q⟩] (ix2 (n0 := 656) (n1 := 2048) r j) = q (ix2 (n0 := 640) (n1 := 2048) r' j) := by
  have hl : r.val < 640 := hr ▸ r'.isLt
  refine (View.canon_cons_of_not_mem (Val := Elt Ideal) ⟨rTail, p⟩ [⟨rHead, q⟩] (not_mem_tail r hl j)).trans ?_
  rw [head_emb r r' hr j]
  exact View.canon_cons_emb (Val := Elt Ideal) rHead q [] _

theorem two_tail (p : Vec Ideal S16x2048 .f32) (q : Vec Ideal S640x2048 .f32) (r : Fin 656) (r' : Fin 16) (hr : r.val = 640 + r'.val) (j : Fin 2048) :
    View.canon (Val := Elt Ideal) [⟨rTail, p⟩, ⟨rHead, q⟩] (ix2 (n0 := 656) (n1 := 2048) r j) = p (ix2 (n0 := 16) (n1 := 2048) r' j) := by
  rw [tail_emb r r' hr j, View.canon_cons_emb]

theorem ld_head (x : Vec Ideal S656x2048 .f32) (r : Fin 656) (r' : Fin 640) (hr : r.val = r'.val) (j : Fin 2048) :
    View.ld (Val := Elt Ideal) x rHead (ix2 (n0 := 640) (n1 := 2048) r' j) = x (ix2 r j) := (congrArg x (head_emb r r' hr j)).symm

theorem outLast_head (a : Vec Ideal S656x2048 .bf16) (w : Vec Ideal S2048x2048 .bf16) (b : Vec Ideal S1x2048 .f32) (mt : Vec Ideal S16x2048 .f32) (x : Vec Ideal S656x2048 .f32)
    (r : Fin 656) (r' : Fin 640) (hr : r.val = r'.val) (j : Fin 2048) :
    outLast a w b mt x (ix2 r j) = x (ix2 r j) + dotBias a w b r j := by
  unfold outLast
  simp only [View.ld_unit_zero (S := S656x2048) hz, View.ld_unit_zero (S := S2048x2048) hz, View.ld_unit_zero (S := S1x2048) hz]
  rw [two_head _ _ r r' hr j, pay3_apply a w b _ r r' hr j, ld_head x r r' hr j]

theorem outLast_tail (a : Vec Ideal S656x2048 .bf16) (w : Vec Ideal S2048x2048 .bf16) (b : Vec Ideal S1x2048 .f32) (mt : Vec Ideal S16x2048 .f32) (x : Vec Ideal S656x2048 .f32)
    (r : Fin 656) (r' : Fin 16) (hr : r.val = 640 + r'.val) (j : Fin 2048) :
    outLast a w b mt x (ix2 r j) = mt (ix2 r' j) + dotBias a w b r j := by
  unfold outLast
  simp only [View.ld_unit_zero (S := S656x2048) hz, View.ld_unit_zero (S := S2048x2048) hz, View.ld_unit_zero (S := S1x2048) hz, View.ld_unit_zero (S := S16x2048) hz]
  rw [two_tail _ _ r r' hr j, pay4_apply a w b mt r r' hr j]

/-! ## The blocks -/

/-- Where each window's block lies at a point. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

theorem blk_rows (c : Dev nD) (t : Fin cfg0.N) (r : Fin 656) (k : Fin 2048) (R : Fin 16400) (hR : R.val = 656 * t.val + r.val) :
    (iblk m c 0 t : Vec Ideal S656x2048 .bf16) (ix2 r k) = rows m c R k := by
  obtain ⟨⟨e0, e1⟩, -⟩ := places t
  refine congrArg (m ((c : Thread nD τ).loc main_arg0)) (funext fun a => Fin.ext ?_)
  match a with
  | ⟨0, _⟩ => show win0_0.index t (0 : Fin 2) * 656 + 1 * r.val = R.val; rw [e0, hR]; omega
  | ⟨1, _⟩ => show win0_0.index t (1 : Fin 2) * 2048 + 1 * k.val = k.val; rw [e1]; omega

theorem blk_weight (c : Dev nD) (t : Fin cfg0.N) (k j : Fin 2048) :
    (iblk m c 1 t : Vec Ideal S2048x2048 .bf16) (ix2 k j) = weight m c k j := by
  obtain ⟨-, ⟨e0, e1⟩, -⟩ := places t
  refine congrArg (m ((c : Thread nD τ).loc main_arg1)) (funext fun a => Fin.ext ?_)
  match a with
  | ⟨0, _⟩ => show win0_1.index t (0 : Fin 2) * 2048 + 1 * k.val = k.val; rw [e0]; omega
  | ⟨1, _⟩ => show win0_1.index t (1 : Fin 2) * 2048 + 1 * j.val = j.val; rw [e1]; omega

theorem blk_bias (c : Dev nD) (t : Fin cfg0.N) (j : Fin 2048) :
    (iblk m c 2 t : Vec Ideal S1x2048 .f32) (ix2 (0 : Fin 1) j) = bias m c j := by
  obtain ⟨-, -, ⟨e0, e1⟩, -⟩ := places t
  refine congrArg (m ((c : Thread nD τ).loc main_arg2)) (funext fun a => Fin.ext ?_)
  match a with
  | ⟨0, _⟩ => show win0_2.index t (0 : Fin 2) * 1 + 1 * 0 = 0; rw [e0]
  | ⟨1, _⟩ => show win0_2.index t (1 : Fin 2) * 2048 + 1 * j.val = j.val; rw [e1]; omega

theorem blk_meta (c : Dev nD) (t : Fin cfg0.N) (r : Fin 16) (j : Fin 2048) :
    (iblk m c 3 t : Vec Ideal S16x2048 .f32) (ix2 r j) = metaRow m c r j := by
  obtain ⟨-, -, -, ⟨e0, e1⟩, -⟩ := places t
  refine congrArg (m ((c : Thread nD τ).loc main_arg4)) (funext fun a => Fin.ext ?_)
  match a with
  | ⟨0, _⟩ => show win0_3.index t (0 : Fin 2) * 16 + 1 * r.val = r.val; rw [e0]; omega
  | ⟨1, _⟩ => show win0_3.index t (1 : Fin 2) * 2048 + 1 * j.val = j.val; rw [e1]; omega

/-- A row of the stream's buffer inside the array. -/
theorem blk_stream (c : Dev nD) (t : Fin cfg0.N) (d : Vec Ideal S656x2048 .f32) (r : Fin 656) (j : Fin 2048) (R : Fin 16384) (hR : R.val = 656 * t.val + r.val) :
    streamBuf m c t d (ix2 r j) = stream m c R j := by
  have hin : r.val < win0_4.xsize (grid0.coords t) (0 : Fin 2) ∧ j.val < win0_4.xsize (grid0.coords t) (1 : Fin 2) := by
    have hr := r.isLt
    have hj := j.isLt
    have hRl := R.isLt
    rcases points t with ⟨-, -, e0, e1, ht⟩ | ⟨-, -, e0, e1, ht⟩
    · rw [e0, e1]; omega
    · rw [e0, e1]; omega
  have hm : win0_4.moved (grid0.coords t) (ix2 (n0 := 656) (n1 := 2048) r j) = true := (win0_4.moved_iff _ _).mpr fun (a : Fin 2) => match a with
    | ⟨0, _⟩ => hin.1
    | ⟨1, _⟩ => hin.2
  obtain ⟨-, -, -, -, ⟨e0, e1⟩, -⟩ := places t
  unfold streamBuf Pipeline.Window.fill
  rw [dif_pos hm]
  refine congrArg (m ((c : Thread nD τ).loc main_arg3)) (funext fun a => Fin.ext ?_)
  match a with
  | ⟨0, _⟩ => show win0_4.index t (0 : Fin 2) * 656 + 1 * r.val = R.val; rw [e0, hR]; omega
  | ⟨1, _⟩ => show win0_4.index t (1 : Fin 2) * 2048 + 1 * j.val = j.val; rw [e1]; omega

/-! ## The array after the run -/

def result (c : Dev nD) (R : Fin 16400) (j : Fin 2048) : EReal := joined m c R j + ((∑ k : Fin 2048, rows m c R k * weight m c k j) + bias m c j)
def G (c : Dev nD) : Buf (Elt Ideal) ((c : Thread nD τ).loc main_v0) := fun (i : S16400x2048.Idx) => result m c (i 0) (i 1)

/-- A row's product and bias, from the staged blocks. -/
theorem product (c : Dev nD) (t : Fin cfg0.N) (r : Fin 656) (j : Fin 2048) (R : Fin 16400) (hR : R.val = 656 * t.val + r.val) :
    dotBias (iblk m c 0 t) (iblk m c 1 t) (iblk m c 2 t) r j
      = (∑ k : Fin 2048, rows m c R k * weight m c k j) + bias m c j :=
  congrArg₂ (fun y z : EReal => y + z) (Finset.sum_congr rfl fun k _ =>
    congrArg₂ (fun x y : EReal => x * y) (blk_rows m c t r k R hR) (blk_weight m c t k j)) (blk_bias m c t j)

theorem point_apply (c : Dev nD) (t : Fin cfg0.N) (r : Fin 656) (j : Fin 2048) (R : Fin 16400) (hR : R.val = 656 * t.val + r.val) :
    outAt m c t filler (ix2 r j) = result m c R j := by
  have hr := r.isLt
  unfold outAt result
  rcases points t with ⟨h1, -, -, -, ht⟩ | ⟨h1, -, -, -, ht⟩
  · rw [if_pos h1, outFull_eq]
    have hl : R.val < 16384 := by omega
    refine (pay2_apply _ _ _ _ r j).trans (congrArg₂ (fun y z : EReal => y + z) ?_ (product m c t r j R hR))
    unfold joined
    rw [dif_pos hl]
    exact blk_stream m c t filler r j ⟨R.val, hl⟩ hR
  · rw [if_neg h1]
    by_cases h : r.val < 640
    · have hl : R.val < 16384 := by omega
      refine (outLast_head _ _ _ _ _ r ⟨r.val, h⟩ rfl j).trans (congrArg₂ (fun y z : EReal => y + z) ?_ (product m c t r j R hR))
      unfold joined
      rw [dif_pos hl]
      exact blk_stream m c t filler r j ⟨R.val, hl⟩ hR
    · have hl : ¬ R.val < 16384 := by omega
      refine (outLast_tail _ _ _ _ _ r ⟨R.val - 16384, by omega⟩ (by show r.val = 640 + (R.val - 16384); omega) j).trans
        (congrArg₂ (fun y z : EReal => y + z) ?_ (product m c t r j R hR))
      unfold joined
      rw [dif_neg hl]
      exact blk_meta m c t ⟨R.val - 16384, by omega⟩ j

theorem cover (i : S16400x2048.Idx) : ∃ t : Fin cfg0.N, (cfg0.win 5).flush t = true ∧ i ∈ ((cfg0.win 5).blk t).view.set := by
  have h0 : (i 0).val < 16400 := (i 0).isLt
  have h1 : (i 1).val < 2048 := (i 1).isLt
  have hN : (i 0).val / 656 < cfg0.N := by rw [show cfg0.N = 25 from N_0]; omega
  obtain ⟨t, ht⟩ : ∃ t : Fin cfg0.N, t.val = (i 0).val / 656 := ⟨⟨_, hN⟩, rfl⟩
  obtain ⟨-, -, -, -, -, ⟨e0, e1⟩⟩ := places t
  refine ⟨t, flush0_5 t, ?_⟩
  have er := View.set_slice_whole main_v0 ((cfg0.win 5).rect t : Rect S16400x2048)
  refine (congrArg (fun s : Finset S16400x2048.Idx => i ∈ s) er).mpr (Rect.mem_set_unit.mpr fun (a : Fin 2) => ?_)
  match a with
  | ⟨0, _⟩ =>
    show win0_5.index t (0 : Fin 2) * 656 ≤ (i 0).val ∧ (i 0).val < win0_5.index t (0 : Fin 2) * 656 + 656
    rw [e0, ht]; omega
  | ⟨1, _⟩ =>
    show win0_5.index t (1 : Fin 2) * 2048 ≤ (i 1).val ∧ (i 1).val < win0_5.index t (1 : Fin 2) * 2048 + 2048
    rw [e1]; omega

theorem flushed_5 (c : Dev nD) (t : Fin cfg0.N) : (dats m 0 c).flushed 5 t = (cfg0.win 5).cut (grid0.coords t) (outAt m c t filler) := by
  show (cfg0.win 5).cut (grid0.coords t) ((dats m 0 c).after 5 t) = _
  rw [after_5]

/-- THE ARRAY after the run. -/
theorem final (c : Dev nD) : (dats m 0 c).arrAt 5 cfg0.N = G m c := by
  refine (dats m 0 c).arrAt_eq_of_cover 5 (G m c) (fun t _ => ?_) cover
  have hN : t.val < 25 := Nat.lt_of_lt_of_eq t.isLt N_0
  obtain ⟨-, -, -, -, -, ⟨e0, e1⟩⟩ := places t
  rw [flushed_5]
  funext (y : S656x2048.Idx)
  have ey : y = ix2 (n0 := 656) (n1 := 2048) (y 0) (y 1) := eq_ix2 y
  have hy : (y 0).val < 656 := (y 0).isLt
  refine (congrArg (outAt m c t filler) ey).trans ?_
  refine (point_apply m c t (y 0) (y 1) ⟨656 * t.val + (y 0).val, by omega⟩ rfl).trans ?_
  refine congrArg₂ (result m c) (Fin.ext ?_) (Fin.ext ?_)
  · show 656 * t.val + (y 0).val = win0_5.index t (0 : Fin 2) * 656 + 1 * (y 0).val; rw [e0]; omega
  · show (y 1).val = win0_5.index t (1 : Fin 2) * 2048 + 1 * (y 1).val; rw [e1]; omega

/-- Every run ends with the result at `G` and the arguments unchanged. -/
theorem run_value : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (final m c), h.2 c⟩)
    (θ_run_and (run_main m ρ) (unchanged m ρ))

end MixRun

end
-- ==== Proof.Mix.Claims.lean ====
/-
  The claims about the second pointwise product: the kernel and its reference run, keep their arguments, end with every
  semaphore at zero, and over the extended reals end with equal results.
-/
module

public import proofs.«01_k».proof.Defs
public import proofs.«01_k».proof.Proof.Gen.Mix
public import proofs.«01_k».proof.Proof.Gen.MixRefIdeal.Run
public import proofs.«01_k».proof.Proof.Gen.MixRefIdeal.Read
public import proofs.«01_k».proof.Proof.Mix.Rows
public import Idealize.ShloMosaic.Lib.Claim

@[expose] public section

noncomputable section

open scoped BigOperators
open Idealize.ShloMosaic Idealize.ShloMosaic.TcCoe Idealize.SL.Sem Idealize.ShloMosaic.ValueIdx

namespace Cert.Proof.MixClaims

/-- What the frame claims of the kernel, on the idealization's text read at an instance `F`. -/
abbrev FrameAt (F : FTy → Type) [FloatOps F] : Prop :=
  ∀ (m : (ℓ : Loc Cert.MixIdeal.nD Cert.MixIdeal.τ Cert.MixIdeal.sig) → Buf (Elt F) ℓ) (g : Dev Cert.MixIdeal.nD → PrngReg), True →
    θ_run (Cert.MixIdeal.defs (F := F)) (onTc (τ := Cert.MixIdeal.τ) (Cert.MixIdeal.main (F := F))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

theorem frameAt (F : FTy → Type) [FloatOps F] : FrameAt F := fun m g _ =>
  θ_run_and (MixRun.unchanged m g) ((θ_run _ _ _).mono (fun _ h => h.2) (MixRun.run_main_quiescent m g))

/-- The kernel's program and its idealization's are one text. -/
theorem same_text : Cert.quiescent_Mix = FrameAt Bits := by sl_kernel_rfl

theorem frame_kernel : Cert.quiescent_Mix := same_text.mpr (frameAt Bits)
theorem frame_ideal : Cert.quiescent_MixIdeal := fun m g h => frameAt Ideal m g trivial
theorem frame_reference : Cert.quiescent_MixRefIdeal := fun m ρ _ =>
  (θ_run Cert.MixRefIdeal.defs _ _).mono (fun r h => ⟨fun c => (h c).2, Idealize.ShloMosaic.sem_eq_zero_of_no_sems (by decide) r.2⟩)
    (Cert.MixRefIdeal.Value.run (F := Ideal) m ρ)
theorem preserves : Cert.preserves_Mix_MixIdeal := trivial

section Reference

open Cert.MixRefIdeal Cert.MixRefIdeal.Gen Cert.MixRefIdeal.Read

/-- The joined rows at a row: of the first array below 16384, of the second from there on. -/
theorem joined_apply (x : Vec Ideal S16384x2048 .f32) (mt : Vec Ideal S16x2048 .f32) (R : Fin 16400) (j : Fin 2048) :
    val_main_v0 (F := Ideal) x mt (ix2 R j)
      = if h : R.val < 16384 then x (ix2 (n0 := 16384) (n1 := 2048) ⟨R.val, h⟩ j) else mt (ix2 (n0 := 16) (n1 := 2048) ⟨R.val - 16384, by omega⟩ j) := by
  unfold val_main_v0
  by_cases h : R.val < 16384
  · rw [dif_pos h]
    exact concatenate_pair_apply_left (t := S16400x2048) (s₁ := S16384x2048) (s₂ := S16x2048) 0 x mt concatenates_S16384x2048_S16x2048_S16400x2048_d0 (ix2 R j) rfl
      (ix2 (n0 := 16384) (n1 := 2048) ⟨R.val, h⟩ j) (fun (b : Fin 2) => match b with
        | ⟨0, _⟩ => rfl
        | ⟨1, _⟩ => rfl)
  · rw [dif_neg h]
    exact concatenate_pair_apply_right (t := S16400x2048) (s₁ := S16384x2048) (s₂ := S16x2048) 0 x mt concatenates_S16384x2048_S16x2048_S16400x2048_d0 (ix2 R j) rfl rfl
      (ix2 (n0 := 16) (n1 := 2048) ⟨R.val - 16384, by omega⟩ j) (fun (b : Fin 2) => match b with
        | ⟨0, _⟩ => fun hb => absurd rfl hb
        | ⟨1, _⟩ => fun _ => rfl)
      (show R.val - 16384 + 16384 = R.val by omega)

/-- The reference's result at a row and a column. -/
theorem reference_apply (a : Vec Ideal S16400x2048 .bf16) (w : Vec Ideal S2048x2048 .bf16) (b : Vec Ideal S1x2048 .f32) (x : Vec Ideal S16384x2048 .f32)
    (mt : Vec Ideal S16x2048 .f32) (R : Fin 16400) (j : Fin 2048) :
    val_main_v6 (F := Ideal) a w b x mt (ix2 R j)
      = (if h : R.val < 16384 then x (ix2 (n0 := 16384) (n1 := 2048) ⟨R.val, h⟩ j) else mt (ix2 (n0 := 16) (n1 := 2048) ⟨R.val - 16384, by omega⟩ j) : EReal)
        + ((∑ k : Fin 2048, (a (ix2 R k) * w (ix2 k j) : EReal)) + b (ix2 (0 : Fin 1) j)) := by
  rw [val_main_v6_apply, val_main_v5_apply, val_main_v3_apply, val_main_v4_apply, joined_apply]
  refine congrArg (fun z : EReal => _ + z) (congrArg₂ (fun y z : EReal => y + z) (Finset.sum_congr rfl fun k _ => ?_) ?_)
  · have el : lidx_main_v3 (ix2 R j) k = ix2 R k := funext fun a => Fin.ext (by match a with | ⟨0, _⟩ => rfl | ⟨1, _⟩ => rfl)
    have er : ridx_main_v3 (ix2 R j) k = ix2 k j := funext fun a => Fin.ext (by match a with | ⟨0, _⟩ => rfl | ⟨1, _⟩ => rfl)
    rw [el, er]
    rfl
  · exact congrArg b (funext fun a => Fin.ext (by match a with | ⟨0, _⟩ => rfl | ⟨1, _⟩ => rfl))

end Reference

/-- From arguments that agree, the kernel's array and the reference's are the same function of row and column. -/
theorem algebraic : Cert.algebraic_MixIdeal_MixRefIdeal := by
  intro m ρ m' ρ' _ hagree
  refine ⟨fun c => MixRun.G m c, MixRun.run_value m ρ, ?_⟩
  refine (θ_run Cert.MixRefIdeal.defs _ _).mono (fun _ h c => ?_) (Cert.MixRefIdeal.Value.run (F := Ideal) m' ρ')
  refine ⟨(h c).1.trans ?_, (h c).2⟩
  obtain ⟨a0, a1, a2, a3, a4⟩ := hagree c
  rw [a0, a1, a2, a3, a4]
  refine (Cert.MixRefIdeal.Read.val_main_v6_eq _ _ _ _ _).trans (funext fun i => ?_)
  have ei : i = ix2 (n0 := 16400) (n1 := 2048) (i 0) (i 1) := eq_ix2 i
  exact (congrArg _ ei).trans (reference_apply _ _ _ _ _ (i 0) (i 1))

end Cert.Proof.MixClaims

end
-- ==== Proof.Glu.Frame.lean ====
/-
  The convolution module's first pointwise product with its gate: the pipeline's run at any float values. Two points work on
  656 rows, each on 1024 of the 2048 columns. The first normalises the rows and keeps them for the second. The rows of the
  stream and the 16 rows of the meta tokens lie in two arrays; the stream's 16384 rows end 640 rows into the last block, so
  that block is cut at the array's end and the last 16 rows are the meta tokens'.
-/
module

public import proofs.«01_k».proof.Proof.Gen.GluIdeal.Frame
public import proofs.«01_k».proof.Proof.Gen.GluIdeal.Launch
public import proofs.«01_k».proof.Proof.Gen.GluIdeal.Points
public import proofs.«01_k».proof.Proof.Gen.GluIdeal.Skeleton
public import Idealize.ShloMosaic.Lib.Pipeline.FrameBody
public import Idealize.ShloMosaic.Lib.Ring
public import Idealize.ShloMosaic.Lib.Tactic

@[expose] public section

set_option maxRecDepth 16384

noncomputable section

namespace GluRun

open Cert.GluIdeal Cert.GluIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the kept rows and in the result's buffer -/

/-- The rows a load or a store covers: all 656, the first 640, the last 16; the whole meta rows, scale, weights, bias and
    result. -/
abbrev rAll : Rect S656x2048 := Rect.unit (s := S656x2048) ![0, 0] S656x2048.size inb_S656x2048_S656x2048_0_0
abbrev rHead : Rect S656x2048 := Rect.unit (s := S656x2048) ![0, 0] S640x2048.size inb_S656x2048_S640x2048_0_0
abbrev rTail : Rect S656x2048 := Rect.unit (s := S656x2048) ![640, 0] S16x2048.size inb_S656x2048_S16x2048_640_0
abbrev rM : Rect S16x2048 := Rect.unit (s := S16x2048) ![0, 0] S16x2048.size inb_S16x2048_S16x2048_0_0
abbrev rG : Rect S1x2048 := Rect.unit (s := S1x2048) ![0, 0] S1x2048.size inb_S1x2048_S1x2048_0_0
abbrev rW : Rect S2048x1024 := Rect.unit (s := S2048x1024) ![0, 0] S2048x1024.size inb_S2048x1024_S2048x1024_0_0
abbrev rB : Rect S1x1024 := Rect.unit (s := S1x1024) ![0, 0] S1x1024.size inb_S1x1024_S1x1024_0_0
abbrev rOut : Rect S656x1024 := Rect.unit (s := S656x1024) ![0, 0] S656x1024.size inb_S656x1024_S656x1024_0_0

/-- The kept rows of a block before the last: one store of all rows. -/
def keptFull (x : Vec F S656x2048 .f32) (g : Vec F S1x2048 .f32) : Vec F S656x2048 .bf16 :=
  View.canon [⟨rAll, k0_pay1 (View.ld x rAll) (View.ld g rG)⟩]

/-- Of the last: the first 640 rows from the stream, the last 16 from the meta tokens (the later store first). -/
def keptLast (x : Vec F S656x2048 .f32) (mt : Vec F S16x2048 .f32) (g : Vec F S1x2048 .f32) : Vec F S656x2048 .bf16 :=
  View.canon [⟨rTail, k0_pay3 (View.ld mt rM) (View.ld g rG)⟩, ⟨rHead, k0_pay2 (View.ld x rHead) (View.ld g rG)⟩]

/-- The result of a point, from the kept rows, the two weight blocks and the two bias blocks. -/
def gated (h : Vec F S656x2048 .bf16) (wa wg : Vec F S2048x1024 .bf16) (ba bg : Vec F S1x1024 .f32) : Vec F S656x1024 .f32 :=
  View.canon [⟨rOut, k0_pay4 (View.ld h rAll) (View.ld wa rW) (View.ld ba rB) (View.ld wg rW) (View.ld bg rB)⟩]

theorem cover_full (p : Vec F S656x2048 .bf16) (y : S656x2048.Idx) :
    ∃ pc ∈ ([⟨rAll, p⟩] : List (View.Piece (Elt F) S656x2048 .bf16)), y ∈ pc.1.set :=
  View.cover_of_tiled [⟨rAll, p⟩] S656x2048.size (by rfl) y

theorem cover_out (p : Vec F S656x1024 .f32) (y : S656x1024.Idx) :
    ∃ pc ∈ ([⟨rOut, p⟩] : List (View.Piece (Elt F) S656x1024 .f32)), y ∈ pc.1.set :=
  View.cover_of_tiled [⟨rOut, p⟩] S656x1024.size (by rfl) y

/-- The two stores cover the kept rows: a row is below 640 or not. -/
theorem cover_last (p : Vec F S16x2048 .bf16) (q : Vec F S640x2048 .bf16) (y : S656x2048.Idx) :
    ∃ pc ∈ ([⟨rTail, p⟩, ⟨rHead, q⟩] : List (View.Piece (Elt F) S656x2048 .bf16)), y ∈ pc.1.set := by
  have h0 : (y 0).val < 656 := (y 0).isLt
  have h1 : (y 1).val < 2048 := (y 1).isLt
  by_cases h : (y 0).val < 640
  · refine ⟨⟨rHead, q⟩, by simp, ?_⟩
    refine (Rect.mem_set_unit (inb := inb_S656x2048_S640x2048_0_0)).mpr fun (a : Fin 2) => ?_
    match a with
    | ⟨0, _⟩ => exact ⟨Nat.zero_le _, (by show (y 0).val < 0 + 640; omega)⟩
    | ⟨1, _⟩ => exact ⟨Nat.zero_le _, (by show (y 1).val < 0 + 2048; omega)⟩
  · refine ⟨⟨rTail, p⟩, by simp, ?_⟩
    refine (Rect.mem_set_unit (inb := inb_S656x2048_S16x2048_640_0)).mpr fun (a : Fin 2) => ?_
    match a with
    | ⟨0, _⟩ => exact ⟨(by show 640 ≤ (y 0).val; omega), (by show (y 0).val < 640 + 16; omega)⟩
    | ⟨1, _⟩ => exact ⟨Nat.zero_le _, (by show (y 1).val < 0 + 2048; omega)⟩

/-! ## The body's triple: a block's first point before the last block, the last block's first point, a second point -/

/-- The rows are normalised at a first point, in one store before the last block and in two at it. -/
abbrev whole (i : grid0.Coords) : BitVec 1 :=
  Scalar.cmpi .ne (Scalar.extui (Scalar.andi (Scalar.cmpi .eq (BitVec.ofNat 32 (i 1).val) 0#32) (Scalar.cmpi .ne (BitVec.ofNat 32 (i 0).val) 24#32)) : BitVec 32) 0#32
abbrev parts (i : grid0.Coords) : BitVec 1 :=
  Scalar.cmpi .ne (Scalar.extui (Scalar.andi (Scalar.cmpi .eq (BitVec.ofNat 32 (i 1).val) 0#32) (Scalar.cmpi .eq (BitVec.ofNat 32 (i 0).val) 24#32)) : BitVec 32) 0#32

set_option maxHeartbeats 1000000 in
/-- A first point before the last block: all rows normalised and kept, and the first half of the columns. -/
theorem sound_full (c : Dev nD) (E : Set ℕ) (i : grid0.Coords) (h1 : whole i = 1#1) (h2 : ¬ parts i = 1#1)
    (arg2 : Memref sig .tc .vmem S656x2048 .f32) (harg2 : arg2.IsWhole) (arg3 : Memref sig .tc .vmem S16x2048 .f32) (harg3 : arg3.IsWhole)
    (arg4 : Memref sig .tc .vmem S1x2048 .f32) (harg4 : arg4.IsWhole) (arg5 : Memref sig .tc .vmem S2048x1024 .bf16) (harg5 : arg5.IsWhole)
    (arg6 : Memref sig .tc .vmem S2048x1024 .bf16) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S656x1024 .f32) (harg9 : arg9.IsWhole)
    (arg10 : Memref sig .tc .vmem S656x2048 .bf16) (harg10 : arg10.IsWhole)
    (x : Vec F S656x2048 .f32) (g : Vec F S1x2048 .f32) (wa : Vec F S2048x1024 .bf16) (wg : Vec F S2048x1024 .bf16) (ba : Vec F S1x1024 .f32) (bg : Vec F S1x1024 .f32) (K : PUnit → sProp 𝕄) :
    iprop(owns (c : Thread nD τ) arg2 fullShare x ∗ owns (c : Thread nD τ) arg4 fullShare g ∗ owns (c : Thread nD τ) arg5 fullShare wa ∗ owns (c : Thread nD τ) arg6 fullShare wg ∗ owns (c : Thread nD τ) arg7 fullShare ba ∗ owns (c : Thread nD τ) arg8 fullShare bg
        ∗ (∃ d, owns (c : Thread nD τ) arg9 fullShare d) ∗ (∃ d, owns (c : Thread nD τ) arg10 fullShare d)
        ∗ (iprop(owns (c : Thread nD τ) arg2 fullShare x ∗ owns (c : Thread nD τ) arg4 fullShare g ∗ owns (c : Thread nD τ) arg5 fullShare wa ∗ owns (c : Thread nD τ) arg6 fullShare wg ∗ owns (c : Thread nD τ) arg7 fullShare ba ∗ owns (c : Thread nD τ) arg8 fullShare bg
          ∗ owns (c : Thread nD τ) arg9 fullShare (gated (keptFull x g) wa wg ba bg) ∗ owns (c : Thread nD τ) arg10 fullShare (keptFull x g)) -∗ K ⟨⟩))
      ⊢ wp frame (wpE (defs₀ (F := F)) Variants.none c none) E (cc0_pw1_glu i arg2 harg2 arg3 harg3 arg4 harg4 arg5 harg5 arg6 harg6 arg7 harg7 arg8 harg8 arg9 harg9 arg10 harg10) K := by
  simp only [cc0_pw1_glu_eq_skeleton]; unfold cc0_pw1_glu_skel
  simp only [dif_pos h1, dif_neg h2]
  unfold owns
  iintro ⟨⟨%f2, %hf2, H2⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf2 hf4 hf5 hf6 hf7 hf8
  sl_exec
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover_out _)).trans ?_
    sl_unfold_words
    unfold gated
    rw [View.readCov_eq_canon_ld _ _ _ (cover_full _)]
    rfl
  iexists _; isplitr
  swap; · iexact H10
  ipureintro
  exact View.read_writes_eq_canon _ _ _ (cover_full _)

set_option maxHeartbeats 1000000 in
/-- The last block's first point: the stream's rows and the meta tokens' normalised and kept. -/
theorem sound_last (c : Dev nD) (E : Set ℕ) (i : grid0.Coords) (h1 : ¬ whole i = 1#1) (h2 : parts i = 1#1)
    (arg2 : Memref sig .tc .vmem S656x2048 .f32) (harg2 : arg2.IsWhole) (arg3 : Memref sig .tc .vmem S16x2048 .f32) (harg3 : arg3.IsWhole)
    (arg4 : Memref sig .tc .vmem S1x2048 .f32) (harg4 : arg4.IsWhole) (arg5 : Memref sig .tc .vmem S2048x1024 .bf16) (harg5 : arg5.IsWhole)
    (arg6 : Memref sig .tc .vmem S2048x1024 .bf16) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S656x1024 .f32) (harg9 : arg9.IsWhole)
    (arg10 : Memref sig .tc .vmem S656x2048 .bf16) (harg10 : arg10.IsWhole)
    (x : Vec F S656x2048 .f32) (mt : Vec F S16x2048 .f32) (g : Vec F S1x2048 .f32) (wa : Vec F S2048x1024 .bf16) (wg : Vec F S2048x1024 .bf16) (ba : Vec F S1x1024 .f32) (bg : Vec F S1x1024 .f32) (K : PUnit → sProp 𝕄) :
    iprop(owns (c : Thread nD τ) arg2 fullShare x ∗ owns (c : Thread nD τ) arg3 fullShare mt ∗ owns (c : Thread nD τ) arg4 fullShare g ∗ owns (c : Thread nD τ) arg5 fullShare wa ∗ owns (c : Thread nD τ) arg6 fullShare wg ∗ owns (c : Thread nD τ) arg7 fullShare ba ∗ owns (c : Thread nD τ) arg8 fullShare bg
        ∗ (∃ d, owns (c : Thread nD τ) arg9 fullShare d) ∗ (∃ d, owns (c : Thread nD τ) arg10 fullShare d)
        ∗ (iprop(owns (c : Thread nD τ) arg2 fullShare x ∗ owns (c : Thread nD τ) arg3 fullShare mt ∗ owns (c : Thread nD τ) arg4 fullShare g ∗ owns (c : Thread nD τ) arg5 fullShare wa ∗ owns (c : Thread nD τ) arg6 fullShare wg ∗ owns (c : Thread nD τ) arg7 fullShare ba ∗ owns (c : Thread nD τ) arg8 fullShare bg
          ∗ owns (c : Thread nD τ) arg9 fullShare (gated (keptLast x mt g) wa wg ba bg) ∗ owns (c : Thread nD τ) arg10 fullShare (keptLast x mt g)) -∗ K ⟨⟩))
      ⊢ wp frame (wpE (defs₀ (F := F)) Variants.none c none) E (cc0_pw1_glu i arg2 harg2 arg3 harg3 arg4 harg4 arg5 harg5 arg6 harg6 arg7 harg7 arg8 harg8 arg9 harg9 arg10 harg10) K := by
  simp only [cc0_pw1_glu_eq_skeleton]; unfold cc0_pw1_glu_skel
  simp only [dif_neg h1, dif_pos h2]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf2 hf3 hf4 hf5 hf6 hf7 hf8
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover_out _)).trans ?_
    sl_unfold_words
    unfold gated
    rw [View.readCov_eq_canon_ld _ _ _ (cover_last _ _)]
    rfl
  iexists _; isplitr
  swap; · iexact H10
  ipureintro
  exact View.read_writes_eq_canon _ _ _ (cover_last _ _)

set_option maxHeartbeats 1000000 in
/-- A second point: the kept rows against the second half of the columns. -/
theorem sound_later (c : Dev nD) (E : Set ℕ) (i : grid0.Coords) (h1 : ¬ whole i = 1#1) (h2 : ¬ parts i = 1#1)
    (arg2 : Memref sig .tc .vmem S656x2048 .f32) (harg2 : arg2.IsWhole) (arg3 : Memref sig .tc .vmem S16x2048 .f32) (harg3 : arg3.IsWhole)
    (arg4 : Memref sig .tc .vmem S1x2048 .f32) (harg4 : arg4.IsWhole) (arg5 : Memref sig .tc .vmem S2048x1024 .bf16) (harg5 : arg5.IsWhole)
    (arg6 : Memref sig .tc .vmem S2048x1024 .bf16) (harg6 : arg6.IsWhole) (arg7 : Memref sig .tc .vmem S1x1024 .f32) (harg7 : arg7.IsWhole)
    (arg8 : Memref sig .tc .vmem S1x1024 .f32) (harg8 : arg8.IsWhole) (arg9 : Memref sig .tc .vmem S656x1024 .f32) (harg9 : arg9.IsWhole)
    (arg10 : Memref sig .tc .vmem S656x2048 .bf16) (harg10 : arg10.IsWhole)
    (wa : Vec F S2048x1024 .bf16) (wg : Vec F S2048x1024 .bf16) (ba : Vec F S1x1024 .f32) (bg : Vec F S1x1024 .f32) (h : Vec F S656x2048 .bf16) (K : PUnit → sProp 𝕄) :
    iprop(owns (c : Thread nD τ) arg5 fullShare wa ∗ owns (c : Thread nD τ) arg6 fullShare wg ∗ owns (c : Thread nD τ) arg7 fullShare ba ∗ owns (c : Thread nD τ) arg8 fullShare bg
        ∗ (∃ d, owns (c : Thread nD τ) arg9 fullShare d) ∗ owns (c : Thread nD τ) arg10 fullShare h
        ∗ (iprop(owns (c : Thread nD τ) arg5 fullShare wa ∗ owns (c : Thread nD τ) arg6 fullShare wg ∗ owns (c : Thread nD τ) arg7 fullShare ba ∗ owns (c : Thread nD τ) arg8 fullShare bg
          ∗ owns (c : Thread nD τ) arg9 fullShare (gated h wa wg ba bg) ∗ owns (c : Thread nD τ) arg10 fullShare h) -∗ K ⟨⟩))
      ⊢ wp frame (wpE (defs₀ (F := F)) Variants.none c none) E (cc0_pw1_glu i arg2 harg2 arg3 harg3 arg4 harg4 arg5 harg5 arg6 harg6 arg7 harg7 arg8 harg8 arg9 harg9 arg10 harg10) K := by
  simp only [cc0_pw1_glu_eq_skeleton]; unfold cc0_pw1_glu_skel
  simp only [dif_neg h1, dif_neg h2]
  unfold owns
  iintro ⟨⟨%f5, %hf5, H5⟩, ⟨%f6, %hf6, H6⟩, ⟨%f7, %hf7, H7⟩, ⟨%f8, %hf8, H8⟩, ⟨%d9, %f9, -, H9⟩, ⟨%f10, %hf10, H10⟩, Hk⟩
  subst hf5 hf6 hf7 hf8 hf10
  sl_exec
  sl_step
  iapply Hk
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover_out _)).trans ?_
    rfl
  iexists f10; isplitr; · ipureintro; rfl
  iexact H10

/-! ## The points -/

/-- At an even point the rows are normalised, the stream's block being whole before the last block and of 640 rows at it; at
    an odd one they are not. -/
theorem points : ∀ t : Fin cfg0.N,
    (whole (grid0.coords t) = 1#1 ∧ ¬ parts (grid0.coords t) = 1#1 ∧ win0_0.xsize (grid0.coords t) (0 : Fin 2) = 656 ∧ win0_0.xsize (grid0.coords t) (1 : Fin 2) = 2048 ∧ t.val % 2 = 0 ∧ t.val < 48)
    ∨ (¬ whole (grid0.coords t) = 1#1 ∧ parts (grid0.coords t) = 1#1 ∧ win0_0.xsize (grid0.coords t) (0 : Fin 2) = 640 ∧ win0_0.xsize (grid0.coords t) (1 : Fin 2) = 2048 ∧ t.val % 2 = 0 ∧ t.val = 48)
    ∨ (¬ whole (grid0.coords t) = 1#1 ∧ ¬ parts (grid0.coords t) = 1#1 ∧ t.val % 2 = 1) :=
  (by decide +kernel : ∀ t : Fin grid0.N, _)

/-- The stream's buffer at a point: its block on the rows inside the array, `d` past them. -/
def streamBuf (c : Dev nD) (t : Fin cfg0.N) (d : Vec F S656x2048 .f32) : Vec F S656x2048 .f32 := win0_0.fill (grid0.coords t) d (iblk m c 0 t)

/-- On the rows inside the array it does not depend on `d`. -/
theorem streamBuf_congr (c : Dev nD) (t : Fin cfg0.N) (d d' : Vec F S656x2048 .f32) (j : S656x2048.Idx)
    (h0 : (j 0).val < win0_0.xsize (grid0.coords t) (0 : Fin 2)) (h1 : (j 1).val < win0_0.xsize (grid0.coords t) (1 : Fin 2)) :
    streamBuf m c t d j = streamBuf m c t d' j := by
  have hm : win0_0.moved (grid0.coords t) j = true := (win0_0.moved_iff _ j).mpr fun (a : Fin 2) => match a with
    | ⟨0, _⟩ => h0
    | ⟨1, _⟩ => h1
  unfold streamBuf Window.fill; rw [dif_pos hm, dif_pos hm]

/-- The filler past the array's end in the stated contents: the zero word. -/
abbrev filler : Vec F S656x2048 .f32 := fun _ => Scalar.ofBits .f32 0#32

/-- The rows normalised at an even point. -/
def normalised (c : Dev nD) (t : Fin cfg0.N) (d : Vec F S656x2048 .f32) : Vec F S656x2048 .bf16 :=
  if whole (grid0.coords t) = 1#1 then keptFull (streamBuf m c t d) (iblk m c 2 t)
  else keptLast (streamBuf m c t d) (iblk m c 1 t) (iblk m c 2 t)

/-- They do not depend on the filler: the rows past the array's end are not read. -/
theorem normalised_congr (c : Dev nD) (t : Fin cfg0.N) (he : t.val % 2 = 0) (d d' : Vec F S656x2048 .f32) : normalised m c t d = normalised m c t d' := by
  unfold normalised
  rcases points t with ⟨h1, -, e0, e1, -⟩ | ⟨h1, -, e0, e1, -⟩ | ⟨-, -, ho⟩
  · rw [if_pos h1, if_pos h1]
    have he : streamBuf m c t d = streamBuf m c t d' := funext fun j => streamBuf_congr m c t d d' j
      (by rw [e0]; exact (j 0).isLt) (by rw [e1]; exact (j 1).isLt)
    rw [he]
  · rw [if_neg h1, if_neg h1]
    have he : View.ld (streamBuf m c t d) rHead = View.ld (streamBuf m c t d') rHead := funext fun j => streamBuf_congr m c t d d' _
      (by
        rw [e0]
        have hj : (j 0).val < 640 := (j 0).isLt
        show 0 + 1 * (j 0).val < 640
        omega)
      (by
        rw [e1]
        have hj : (j 1).val < 2048 := (j 1).isLt
        show 0 + 1 * (j 1).val < 2048
        omega)
    unfold keptLast
    rw [he]
  · omega

/-- The first of the two points on a point's rows. -/
def first (t : Fin cfg0.N) : Fin cfg0.N := ⟨2 * (t.val / 2), by have := t.isLt; omega⟩

theorem first_even (t : Fin cfg0.N) (h : t.val % 2 = 0) : first t = t := Fin.ext (by show 2 * (t.val / 2) = t.val; omega)

theorem first_pred (t : Fin cfg0.N) (h : t.val % 2 = 1) (hl : t.val - 1 < cfg0.N) : first ⟨t.val - 1, hl⟩ = first t :=
  Fin.ext (by show 2 * ((t.val - 1) / 2) = 2 * (t.val / 2); omega)

/-- The kept rows after a point: those its block's first point normalised. -/
def kept (c : Dev nD) (t : Fin cfg0.N) : Vec F S656x2048 .bf16 := normalised m c (first t) filler

/-- The result's buffer after the body at a point. -/
def outAt (c : Dev nD) (t : Fin cfg0.N) : Vec F S656x1024 .f32 := gated (kept m c t) (iblk m c 3 t) (iblk m c 4 t) (iblk m c 5 t) (iblk m c 6 t)

/-! ## The invariant: the kept rows -/

/-- The kept rows' buffer. -/
abbrev scratch : Memref sig .tc .vmem S656x2048 .bf16 := Memref.whole cc0_scratch0

theorem PhiA_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; try rfl

/-- Before the first point the buffer holds anything; after a point it holds the rows kept there. -/
def Inv (c : Dev nD) : (n : ℕ) → n ≤ cfg0.N → sProp 𝕄
  | 0, _ => Pipeline.ΦA spec0 c
  | n + 1, hn => iprop(owns (c : Thread nD τ) scratch fullShare (kept m c ⟨n, hn⟩) ∗ (∃ r, prngReg c r))

theorem Inv_succ (c : Dev nD) (n : ℕ) (hn : n < cfg0.N) :
    Inv m c (n + 1) hn = iprop(owns (c : Thread nD τ) scratch fullShare (kept m c ⟨n, hn⟩) ∗ (∃ r, prngReg c r)) := rfl

theorem Inv_pos (c : Dev nD) (n : ℕ) (h : n ≤ cfg0.N) (hz : n ≠ 0) :
    Inv m c n h = iprop(owns (c : Thread nD τ) scratch fullShare (kept m c ⟨n - 1, by omega⟩) ∗ (∃ r, prngReg c r)) := by
  cases n with
  | zero => exact absurd rfl hz
  | succ n => rfl

/-- At any point the buffer is held at some contents. -/
theorem Inv_any (c : Dev nD) (n : ℕ) (h : n ≤ cfg0.N) : Inv m c n h ⊢ (Pipeline.ΦA spec0 c : sProp 𝕄) := by
  by_cases hz : n = 0
  · subst hz; exact Idealize.SL.BI.Entails.refl _
  · rw [Inv_pos m c n h hz, PhiA_eq]
    iintro ⟨HS, Hg⟩
    isplitl [HS]
    · iexists _; iexact HS
    iexact Hg

theorem Inv_held (c : Dev nD) (n : ℕ) (h : n ≤ cfg0.N) :
    Inv m c n h ⊢ (iprop((∃ d, owns (c : Thread nD τ) scratch fullShare d) ∗ (∃ r, prngReg c r)) : sProp 𝕄) :=
  PhiA_eq (F := F) c ▸ Inv_any m c n h

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => streamBuf m c t filler
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Inv_castSucc (c : Dev nD) (t : Fin cfg0.N) : (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = streamBuf m c t filler := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outAt m c t := by dsimp only [dats]

theorem cut_stream (c : Dev nD) (t : Fin cfg0.N) (d d' : Vec F S656x2048 .f32) :
    win0_0.fill (grid0.coords t) d (win0_0.cut (grid0.coords t) (streamBuf m c t d')) = streamBuf m c t d :=
  congrArg (win0_0.fill (grid0.coords t) d) (win0_0.cut_fill (grid0.coords t) d' (iblk m c 0 t))

/-- The stream's buffer holds its block, fetched at this point or left from the point before. -/
theorem before_0 (c : Dev nD) (t : Fin cfg0.N) (d) : (dats m 0 c).before 0 t d = streamBuf m c t d := by
  refine ((dats m 0 c).before_in_eq_fetched 0 rfl (fun _ => rfl)
    (fun t t' h => funext fun a => congrArg (fun n => Pipeline.Clip.of n ((cfg0.win 0).size a) (S16384x2048.size a)) (congrFun h a))
    (fun t => ?_) t d).trans ?_
  · rw [after_0]
    refine (win0_0.cut_fill (grid0.coords t) filler (iblk m c 0 t)).trans ?_
    unfold Dat.blockOf iblk; rw [A_eq]
  · unfold streamBuf Dat.fetched Dat.blockOf iblk; rw [A_eq]
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body obligation -/

theorem defs₀_row (t : Fin cfg0.N) : defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body returns; of the stream's buffer the rows inside the array are stated. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = Inv m c (t.val + 1) t.isLt from rfl, Inv_succ,
    show (dats m 0 c).owesAt () t.succ = (dats m 0 c).owesAt () t.castSucc from rfl,
    after_0, after_1, after_2, after_3, after_4, after_5, after_6, after_7, Inv_castSucc]
  have hstream : ∀ d : Vec F S656x2048 .f32, owns (c : Thread nD τ) (st0_0 t) fullShare (streamBuf m c t d)
      ⊢ (iprop(∃ d, owns (c : Thread nD τ) (st0_0 t) fullShare (win0_0.fill (grid0.coords t) d (win0_0.cut (grid0.coords t) (streamBuf m c t filler)))) : sProp 𝕄) := fun d => by
    iintro H
    iexists d
    rw [cut_stream m c t d filler]
    iexact H
  unfold outAt
  rcases points t with ⟨h1, h2, -, -, he, -⟩ | ⟨h1, h2, -, -, he, -⟩ | ⟨h1, h2, ho⟩
  · refine (Laws.sep_mono (Inv_held m c _ _) (Idealize.SL.BI.Entails.refl _)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hk : kept m c t = keptFull (streamBuf m c t d0) (iblk m c 2 t) := by
      unfold kept; rw [first_even t he, normalised_congr m c t he filler d0]; unfold normalised; rw [if_pos h1]
    rw [hk]
    iapply (sound_full c Set.univ (grid0.coords t) h1 h2 _ _ _ _ _ _ _ _ _ _ _ _ _ _ _ _ _ _ (streamBuf m c t d0) (iblk m c 2 t) (iblk m c 3 t) (iblk m c 4 t) (iblk m c 5 t) (iblk m c 6 t) _)
    isplitl [H0]; · iexact H0
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H2, H3, H4, H5, H6, H7, HS⟩
    isplitl [HS Hg]
    · isplitl [HS]; · iexact HS
      iexact Hg
    isplitl [Ho]; · iexact Ho
    isplitl [H0]; · iapply (hstream d0); iexact H0
    isplitl [H1]; · iexact H1
    isplitl [H2]; · iexact H2
    isplitl [H3]; · iexact H3
    isplitl [H4]; · iexact H4
    isplitl [H5]; · iexact H5
    isplitl [H6]; · iexact H6
    iexact H7
  · refine (Laws.sep_mono (Inv_held m c _ _) (Idealize.SL.BI.Entails.refl _)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hk : kept m c t = keptLast (streamBuf m c t d0) (iblk m c 1 t) (iblk m c 2 t) := by
      unfold kept; rw [first_even t he, normalised_congr m c t he filler d0]; unfold normalised; rw [if_neg h1]
    rw [hk]
    iapply (sound_last c Set.univ (grid0.coords t) h1 h2 _ _ _ _ _ _ _ _ _ _ _ _ _ _ _ _ _ _ (streamBuf m c t d0) (iblk m c 1 t) (iblk m c 2 t) (iblk m c 3 t) (iblk m c 4 t) (iblk m c 5 t) (iblk m c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iapply (hstream d0); iexact H0
    isplitl [H1]; · iexact H1
    isplitl [H2]; · iexact H2
    isplitl [H3]; · iexact H3
    isplitl [H4]; · iexact H4
    isplitl [H5]; · iexact H5
    isplitl [H6]; · iexact H6
    iexact H7
  · have hk : kept m c ⟨t.val - 1, by have := t.isLt; omega⟩ = kept m c t := by
      unfold kept; rw [first_pred t ho]
    rw [Inv_pos m c _ _ (by omega), hk]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_later c Set.univ (grid0.coords t) h1 h2 _ _ _ _ _ _ _ _ _ _ _ _ _ _ _ _ _ _ (iblk m c 3 t) (iblk m c 4 t) (iblk m c 5 t) (iblk m c 6 t) (kept m c t) _)
    isplitl [H3]; · iexact H3
    isplitl [H4]; · iexact H4
    isplitl [H5]; · iexact H5
    isplitl [H6]; · iexact H6
    isplitl [H7]; · iexists _; iexact H7
    isplitl [HS]; · iexact HS
    iintro ⟨H3, H4, H5, H6, H7, HS⟩
    isplitl [HS Hg]
    · isplitl [HS]; · iexact HS
      iexact Hg
    isplitl [Ho]; · iexact Ho
    isplitl [H0]; · iapply (hstream d0); iexact H0
    isplitl [H1]; · iexact H1
    isplitl [H2]; · iexact H2
    isplitl [H3]; · iexact H3
    isplitl [H4]; · iexact H4
    isplitl [H5]; · iexact H5
    isplitl [H6]; · iexact H6
    iexact H7

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run -/

theorem hin (c : Dev nD) : Pipeline.ΦA spec0 c ⊢ (dats (F := F) m 0 c).Φ 0 := Idealize.SL.BI.Entails.refl _

theorem hout (c : Dev nD) : (dats (F := F) m 0 c).Φ (Fin.last cfg0.N) ⊢ Pipeline.ΦA spec0 c := Inv_any m c (Fin.last cfg0.N).val (Nat.le_of_lt_succ (Fin.last cfg0.N).isLt)

set_option backward.isDefEq.respectTransparency.types false in
set_option maxHeartbeats 800000 in
/-- Every run ends with the pipeline's arrays as the proof data computes them and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end GluRun

end
-- ==== Proof.Glu.Rows.lean ====
/-
  The first pointwise product with its gate: the call's array after the run, entry by entry, over the extended reals — a
  row of the joined stream and meta rows, normalised and scaled, against a column of the weights plus its bias, times the
  logistic function of the same row against the column 2048 further on.
-/
module

public import proofs.«01_k».proof.Proof.Glu.Frame
public import proofs.«01_k».proof.Proof.Ffn.Block
public import Idealize.ShloMosaic.Lib.ValueLayout
public import Idealize.ShloMosaic.Lib.Claim

@[expose] public section

set_option maxRecDepth 16384

noncomputable section

open scoped BigOperators
open Idealize.ShloMosaic Idealize.ShloMosaic.TcCoe Idealize.SL.Sem Idealize.ShloMosaic.ValueIdx

namespace GluRun

open Cert.GluIdeal Cert.GluIdeal.Gen
open Cert.FfnIdeal.Block (norm invRms hz)

variable (m : (ℓ : Loc nD τ sig) → Buf (Elt Ideal) ℓ) (ρ : Dev nD → PrngReg)

/-! ## The arguments, read at a row and a column -/

abbrev stream (c : Dev nD) (R : Fin 16384) (k : Fin 2048) : EReal := (m ((c : Thread nD τ).loc main_arg0) : Vec Ideal S16384x2048 .f32) (ix2 R k)
abbrev metaRow (c : Dev nD) (R : Fin 16) (k : Fin 2048) : EReal := (m ((c : Thread nD τ).loc main_arg1) : Vec Ideal S16x2048 .f32) (ix2 R k)
abbrev scale (c : Dev nD) (k : Fin 2048) : EReal := (m ((c : Thread nD τ).loc main_arg2) : Vec Ideal S1x2048 .f32) (ix2 (0 : Fin 1) k)
abbrev weight (c : Dev nD) (k : Fin 2048) (J : Fin 4096) : EReal := (m ((c : Thread nD τ).loc main_arg3) : Vec Ideal S2048x4096 .bf16) (ix2 k J)
abbrev bias (c : Dev nD) (J : Fin 4096) : EReal := (m ((c : Thread nD τ).loc main_arg4) : Vec Ideal S1x4096 .f32) (ix2 (0 : Fin 1) J)

/-- The stream's rows followed by the meta tokens'. -/
def joined (c : Dev nD) (R : Fin 16400) (k : Fin 2048) : EReal :=
  if h : R.val < 16384 then stream m c ⟨R.val, h⟩ k else metaRow m c ⟨R.val - 16384, by omega⟩ k

/-! ## What is stored -/

/-- The normalisation of `M` rows, as the three stores write it. -/
abbrev Rows (M : ℕ) : Shape := ⟨2, ![M, 2048]⟩

section Norm

variable {M : ℕ} (hR : (Rows M).Reduces [1] ⟨1, ![M]⟩) (hS : (⟨1, ![M]⟩ : Shape).ShapeCasts ⟨2, ![M, 1]⟩)
    (hB : (⟨2, ![M, 1]⟩ : Shape).Broadcasts (Rows M)) (hG : S1x2048.Broadcasts (Rows M))

def normRows (h : FVec Ideal (Rows M) .f32) (g : FVec Ideal S1x2048 .f32) : FVec Ideal (Rows M) .f32 :=
  mulf (mulf h (broadcastTo (Rows M) (rsqrt (addf (divf (shapeCast ⟨2, ![M, 1]⟩ (multiReduction .add [1] ⟨1, ![M]⟩ (mulf h h) 0x00000000#32 hR (.inl rfl) rfl) hS)
    (broadcast ⟨2, ![M, 1]⟩ (Scalar.ofBits .f32 0x45000000#32))) (broadcast ⟨2, ![M, 1]⟩ (Scalar.ofBits .f32 0x358637BD#32)))) hB)) (broadcastTo (Rows M) g hG)

/-- An entry of it. -/
theorem normRows_apply (h : FVec Ideal (Rows M) .f32) (g : FVec Ideal S1x2048 .f32) (r : Fin M) (k : Fin 2048) :
    normRows hR hS hB hG h g (ix2 r k) = norm (fun k => h (ix2 r k)) (fun k => g (ix2 (0 : Fin 1) k)) k := by
  unfold normRows
  show h (ix2 r k) * broadcastTo (Rows M) _ hB (ix2 r k) * broadcastTo (Rows M) g hG (ix2 r k) = _
  rw [broadcastTo_1b_ab_apply g hG r k,
    broadcastTo_apply _ hB (ix2 r k) (ix2 r (0 : Fin 1)) (fun a => match a with
      | ⟨0, _⟩ => by
        have hr := r.isLt
        show r.val = if M = 1 then 0 else r.val
        split <;> omega
      | ⟨1, _⟩ => rfl)]
  unfold Cert.FfnIdeal.Block.norm invRms
  show h (ix2 r k) * Ideal.rsqrt (Ideal.div (shapeCast ⟨2, ![M, 1]⟩ _ hS (ix2 r (0 : Fin 1))) _ + _) * _ = _
  rw [shapeCast_apply _ hS (ix2 r (0 : Fin 1)) (ix1 r) (by
    rw [Shape.rowMajor_val_one, Shape.rowMajor_val_two]; show r.val = r.val * 1 + 0; omega)]
  have e : ∀ q : Fin 2048, mulf (F := Ideal) (φ := .f32) h h (hR.lift (ix1 r) q) = h (ix2 r q) * h (ix2 r q) := fun q =>
    congrArg (fun i => (h i * h i : EReal)) (funext fun a => Fin.ext (by match a with | ⟨0, _⟩ => rfl | ⟨1, _⟩ => rfl))
  exact congrArg (fun z : EReal => h (ix2 r k) * Ideal.rsqrt (Ideal.div z (Ideal.ofBits .f32 0x45000000#32) + Ideal.ofBits .f32 0x358637BD#32)
      * g (ix2 (0 : Fin 1) k))
    ((Ideal.multiReduction_add_single (mulf (F := Ideal) (φ := .f32) h h) 0x00000000#32 hR (.inl rfl) rfl (ix1 r)).trans
      (Finset.sum_congr rfl fun q _ => e q))

end Norm

theorem pay1_apply (h : Vec Ideal S656x2048 .f32) (g : Vec Ideal S1x2048 .f32) (r : Fin 656) (k : Fin 2048) :
    k0_pay1 (F := Ideal) h g (ix2 r k) = norm (fun k => h (ix2 r k)) (fun k => g (ix2 (0 : Fin 1) k)) k := by
  unfold k0_pay1
  simp only [shapeCast_self]
  exact normRows_apply reduces_S656x2048_S656 shapeCasts_S656_S656x1 broadcasts_S656x1_S656x2048 broadcasts_S1x2048_S656x2048 h g r k

theorem pay2_apply (h : Vec Ideal S640x2048 .f32) (g : Vec Ideal S1x2048 .f32) (r : Fin 640) (k : Fin 2048) :
    k0_pay2 (F := Ideal) h g (ix2 r k) = norm (fun k => h (ix2 r k)) (fun k => g (ix2 (0 : Fin 1) k)) k := by
  unfold k0_pay2
  simp only [shapeCast_self]
  exact normRows_apply reduces_S640x2048_S640 shapeCasts_S640_S640x1 broadcasts_S640x1_S640x2048 broadcasts_S1x2048_S640x2048 h g r k

theorem pay3_apply (h : Vec Ideal S16x2048 .f32) (g : Vec Ideal S1x2048 .f32) (r : Fin 16) (k : Fin 2048) :
    k0_pay3 (F := Ideal) h g (ix2 r k) = norm (fun k => h (ix2 r k)) (fun k => g (ix2 (0 : Fin 1) k)) k := by
  unfold k0_pay3
  simp only [shapeCast_self]
  exact normRows_apply reduces_S16x2048_S16 shapeCasts_S16_S16x1 broadcasts_S16x1_S16x2048 broadcasts_S1x2048_S16x2048 h g r k

/-- A row's product with a column of the weights, plus the bias. -/
def dotBias (h : Vec Ideal S656x2048 .bf16) (w : Vec Ideal S2048x1024 .bf16) (b : Vec Ideal S1x1024 .f32) (r : Fin 656) (j : Fin 1024) : EReal :=
  (∑ k : Fin 2048, (h (ix2 r k) * w (ix2 k j) : EReal)) + b (ix2 (0 : Fin 1) j)

/-- The gate: the first number times the logistic function of the second. -/
def glu (a b : EReal) : EReal := a * Ideal.div Swiglu.one (Swiglu.one + Ideal.exp (-b))

theorem glu_of_sub (a b : EReal) : a * Ideal.div Swiglu.one (Swiglu.one + Ideal.exp (Ideal.ofBits .f32 0x00000000#32 - b)) = glu a b := by
  rw [Ideal.ofBits_zero_f32, zero_sub]; rfl

theorem pay4_apply (h : Vec Ideal S656x2048 .bf16) (wa : Vec Ideal S2048x1024 .bf16) (ba : Vec Ideal S1x1024 .f32) (wg : Vec Ideal S2048x1024 .bf16)
    (bg : Vec Ideal S1x1024 .f32) (r : Fin 656) (j : Fin 1024) :
    k0_pay4 (F := Ideal) h wa ba wg bg (ix2 r j) = glu (dotBias h wa ba r j) (dotBias h wg bg r j) := by
  rw [← glu_of_sub]
  have ea : dotBias h wa ba r j = _ := congrArg₂ (fun y z : EReal => y + z) (Swiglu.matmul_zero_apply (φ₁ := .bf16) (φ₂ := .bf16) none h wa r j).symm
    (broadcastTo_1b_ab_apply ba broadcasts_S1x1024_S656x1024 r j).symm
  have eg : dotBias h wg bg r j = _ := congrArg₂ (fun y z : EReal => y + z) (Swiglu.matmul_zero_apply (φ₁ := .bf16) (φ₂ := .bf16) none h wg r j).symm
    (broadcastTo_1b_ab_apply bg broadcasts_S1x1024_S656x1024 r j).symm
  rw [ea, eg]
  rfl

theorem keptFull_eq (x : Vec Ideal S656x2048 .f32) (g : Vec Ideal S1x2048 .f32) : keptFull x g = k0_pay1 x g := by
  unfold keptFull
  rw [View.canon_unit_zero hz]
  simp only [View.ld_unit_zero (S := S656x2048) hz, View.ld_unit_zero (S := S1x2048) hz]

theorem gated_eq (h : Vec Ideal S656x2048 .bf16) (wa wg : Vec Ideal S2048x1024 .bf16) (ba bg : Vec Ideal S1x1024 .f32) :
    gated h wa wg ba bg = k0_pay4 h wa ba wg bg := by
  unfold gated
  rw [View.canon_unit_zero hz]
  simp only [View.ld_unit_zero (S := S656x2048) hz, View.ld_unit_zero (S := S2048x1024) hz, View.ld_unit_zero (S := S1x1024) hz]

/-- Where a row of each of the two parts lies in the kept rows. -/
theorem head_emb (r : Fin 656) (r' : Fin 640) (hr : r.val = r'.val) (k : Fin 2048) : ix2 (n0 := 656) (n1 := 2048) r k = rHead.emb (ix2 (n0 := 640) (n1 := 2048) r' k) :=
  funext fun a => Fin.ext (by
    match a with
    | ⟨0, _⟩ => show r.val = 0 + 1 * r'.val; omega
    | ⟨1, _⟩ => show k.val = 0 + 1 * k.val; omega)

theorem tail_emb (r : Fin 656) (r' : Fin 16) (hr : r.val = 640 + r'.val) (k : Fin 2048) : ix2 (n0 := 656) (n1 := 2048) r k = rTail.emb (ix2 (n0 := 16) (n1 := 2048) r' k) :=
  funext fun a => Fin.ext (by
    match a with
    | ⟨0, _⟩ => show r.val = 640 + 1 * r'.val; omega
    | ⟨1, _⟩ => show k.val = 0 + 1 * k.val; omega)

/-- A row below 640 is not among the last 16. -/
theorem not_mem_tail (r : Fin 656) (hl : r.val < 640) (k : Fin 2048) : ix2 (n0 := 656) (n1 := 2048) r k ∉ rTail.set := by
  intro h
  rw [Rect.mem_set_unit] at h
  have h0 := (h (0 : Fin 2)).1
  change 640 ≤ r.val at h0
  exact Nat.not_le.mpr hl h0

/-- Of the two stores a row below 640 is the second's, a row from 640 on the first's. -/
theorem two_head (p : Vec Ideal S16x2048 .bf16) (q : Vec Ideal S640x2048 .bf16) (r : Fin 656) (r' : Fin 640) (hr : r.val = r'.val) (k : Fin 2048) :
    View.canon (Val := Elt Ideal) [⟨rTail, p⟩, ⟨rHead, q⟩] (ix2 (n0 := 656) (n1 := 2048) r k) = q (ix2 (n0 := 640) (n1 := 2048) r' k) := by
  have hl : r.val < 640 := hr ▸ r'.isLt
  refine (View.canon_cons_of_not_mem (Val := Elt Ideal) ⟨rTail, p⟩ [⟨rHead, q⟩] (not_mem_tail r hl k)).trans ?_
  rw [head_emb r r' hr k]
  exact View.canon_cons_emb (Val := Elt Ideal) rHead q [] _

theorem two_tail (p : Vec Ideal S16x2048 .bf16) (q : Vec Ideal S640x2048 .bf16) (r : Fin 656) (r' : Fin 16) (hr : r.val = 640 + r'.val) (k : Fin 2048) :
    View.canon (Val := Elt Ideal) [⟨rTail, p⟩, ⟨rHead, q⟩] (ix2 (n0 := 656) (n1 := 2048) r k) = p (ix2 (n0 := 16) (n1 := 2048) r' k) := by
  rw [tail_emb r r' hr k, View.canon_cons_emb]

theorem ld_head (x : Vec Ideal S656x2048 .f32) (r : Fin 656) (r' : Fin 640) (hr : r.val = r'.val) (k : Fin 2048) :
    View.ld (Val := Elt Ideal) x rHead (ix2 (n0 := 640) (n1 := 2048) r' k) = x (ix2 r k) := (congrArg x (head_emb r r' hr k)).symm

theorem keptLast_head (x : Vec Ideal S656x2048 .f32) (mt : Vec Ideal S16x2048 .f32) (g : Vec Ideal S1x2048 .f32)
    (r : Fin 656) (r' : Fin 640) (hr : r.val = r'.val) (k : Fin 2048) :
    keptLast x mt g (ix2 r k) = norm (fun k => x (ix2 r k)) (fun k => g (ix2 (0 : Fin 1) k)) k := by
  unfold keptLast
  simp only [View.ld_unit_zero (S := S1x2048) hz]
  rw [two_head _ _ r r' hr k, pay2_apply]
  exact congrArg (fun y => norm y (fun k => g (ix2 (0 : Fin 1) k)) k) (funext fun q => ld_head x r r' hr q)

theorem keptLast_tail (x : Vec Ideal S656x2048 .f32) (mt : Vec Ideal S16x2048 .f32) (g : Vec Ideal S1x2048 .f32)
    (r : Fin 656) (r' : Fin 16) (hr : r.val = 640 + r'.val) (k : Fin 2048) :
    keptLast x mt g (ix2 r k) = norm (fun k => mt (ix2 r' k)) (fun k => g (ix2 (0 : Fin 1) k)) k := by
  unfold keptLast
  simp only [View.ld_unit_zero (S := S1x2048) hz, View.ld_unit_zero (S := S16x2048) hz]
  rw [two_tail _ _ r r' hr k, pay3_apply]

/-! ## The blocks -/

/-- Where each window's block lies at a point: rows by `t / 2`, columns by `t % 2`, the gate's two blocks further on. -/
theorem places : ∀ t : Fin cfg0.N,
    (win0_0.index t (0 : Fin 2) = t.val / 2 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = t.val % 2)
    ∧ (win0_4.index t (0 : Fin 2) = 0 ∧ win0_4.index t (1 : Fin 2) = t.val % 2 + 2)
    ∧ (win0_5.index t (0 : Fin 2) = 0 ∧ win0_5.index t (1 : Fin 2) = t.val % 2)
    ∧ (win0_6.index t (0 : Fin 2) = 0 ∧ win0_6.index t (1 : Fin 2) = t.val % 2 + 2)
    ∧ (win0_7.index t (0 : Fin 2) = t.val / 2 ∧ win0_7.index t (1 : Fin 2) = t.val % 2) :=
  (by decide +kernel : ∀ t : Fin grid0.N, _)

theorem blk_meta (c : Dev nD) (t : Fin cfg0.N) (r : Fin 16) (k : Fin 2048) :
    (iblk m c 1 t : Vec Ideal S16x2048 .f32) (ix2 r k) = metaRow m c r k := by
  obtain ⟨-, ⟨e0, e1⟩, -⟩ := places t
  refine congrArg (m ((c : Thread nD τ).loc main_arg1)) (funext fun a => Fin.ext ?_)
  match a with
  | ⟨0, _⟩ => show win0_1.index t (0 : Fin 2) * 16 + 1 * r.val = r.val; rw [e0]; omega
  | ⟨1, _⟩ => show win0_1.index t (1 : Fin 2) * 2048 + 1 * k.val = k.val; rw [e1]; omega

theorem blk_scale (c : Dev nD) (t : Fin cfg0.N) (k : Fin 2048) :
    (iblk m c 2 t : Vec Ideal S1x2048 .f32) (ix2 (0 : Fin 1) k) = scale m c k := by
  obtain ⟨-, -, ⟨e0, e1⟩, -⟩ := places t
  refine congrArg (m ((c : Thread nD τ).loc main_arg2)) (funext fun a => Fin.ext ?_)
  match a with
  | ⟨0, _⟩ => show win0_2.index t (0 : Fin 2) * 1 + 1 * 0 = 0; rw [e0]
  | ⟨1, _⟩ => show win0_2.index t (1 : Fin 2) * 2048 + 1 * k.val = k.val; rw [e1]; omega

theorem blk_weight (c : Dev nD) (t : Fin cfg0.N) (k : Fin 2048) (j : Fin 1024) (J : Fin 4096) (hJ : J.val = 1024 * (t.val % 2) + j.val) :
    (iblk m c 3 t : Vec Ideal S2048x1024 .bf16) (ix2 k j) = weight m c k J := by
  obtain ⟨-, -, -, ⟨e0, e1⟩, -⟩ := places t
  refine congrArg (m ((c : Thread nD τ).loc main_arg3)) (funext fun a => Fin.ext ?_)
  match a with
  | ⟨0, _⟩ => show win0_3.index t (0 : Fin 2) * 2048 + 1 * k.val = k.val; rw [e0]; omega
  | ⟨1, _⟩ => show win0_3.index t (1 : Fin 2) * 1024 + 1 * j.val = J.val; rw [e1, hJ]; omega

theorem blk_weight_gate (c : Dev nD) (t : Fin cfg0.N) (k : Fin 2048) (j : Fin 1024) (J : Fin 4096) (hJ : J.val = 1024 * (t.val % 2 + 2) + j.val) :
    (iblk m c 4 t : Vec Ideal S2048x1024 .bf16) (ix2 k j) = weight m c k J := by
  obtain ⟨-, -, -, -, ⟨e0, e1⟩, -⟩ := places t
  refine congrArg (m ((c : Thread nD τ).loc main_arg3)) (funext fun a => Fin.ext ?_)
  match a with
  | ⟨0, _⟩ => show win0_4.index t (0 : Fin 2) * 2048 + 1 * k.val = k.val; rw [e0]; omega
  | ⟨1, _⟩ => show win0_4.index t (1 : Fin 2) * 1024 + 1 * j.val = J.val; rw [e1, hJ]; omega

theorem blk_bias (c : Dev nD) (t : Fin cfg0.N) (j : Fin 1024) (J : Fin 4096) (hJ : J.val = 1024 * (t.val % 2) + j.val) :
    (iblk m c 5 t : Vec Ideal S1x1024 .f32) (ix2 (0 : Fin 1) j) = bias m c J := by
  obtain ⟨-, -, -, -, -, ⟨e0, e1⟩, -⟩ := places t
  refine congrArg (m ((c : Thread nD τ).loc main_arg4)) (funext fun a => Fin.ext ?_)
  match a with
  | ⟨0, _⟩ => show win0_5.index t (0 : Fin 2) * 1 + 1 * 0 = 0; rw [e0]
  | ⟨1, _⟩ => show win0_5.index t (1 : Fin 2) * 1024 + 1 * j.val = J.val; rw [e1, hJ]; omega

theorem blk_bias_gate (c : Dev nD) (t : Fin cfg0.N) (j : Fin 1024) (J : Fin 4096) (hJ : J.val = 1024 * (t.val % 2 + 2) + j.val) :
    (iblk m c 6 t : Vec Ideal S1x1024 .f32) (ix2 (0 : Fin 1) j) = bias m c J := by
  obtain ⟨-, -, -, -, -, -, ⟨e0, e1⟩, -⟩ := places t
  refine congrArg (m ((c : Thread nD τ).loc main_arg4)) (funext fun a => Fin.ext ?_)
  match a with
  | ⟨0, _⟩ => show win0_6.index t (0 : Fin 2) * 1 + 1 * 0 = 0; rw [e0]
  | ⟨1, _⟩ => show win0_6.index t (1 : Fin 2) * 1024 + 1 * j.val = J.val; rw [e1, hJ]; omega

/-- A row of the stream's buffer inside the array, at a row block's first point. -/
theorem blk_stream (c : Dev nD) (t : Fin cfg0.N) (he : t.val % 2 = 0) (d : Vec Ideal S656x2048 .f32) (r : Fin 656) (k : Fin 2048) (R : Fin 16384)
    (hR : R.val = 656 * (t.val / 2) + r.val) : streamBuf m c t d (ix2 r k) = stream m c R k := by
  have hin : r.val < win0_0.xsize (grid0.coords t) (0 : Fin 2) ∧ k.val < win0_0.xsize (grid0.coords t) (1 : Fin 2) := by
    have hr := r.isLt
    have hk := k.isLt
    have hRl := R.isLt
    rcases points t with ⟨-, -, e0, e1, -, ht⟩ | ⟨-, -, e0, e1, -, ht⟩ | ⟨-, -, ho⟩
    · rw [e0, e1]; omega
    · rw [e0, e1]; omega
    · omega
  have hm : win0_0.moved (grid0.coords t) (ix2 (n0 := 656) (n1 := 2048) r k) = true := (win0_0.moved_iff _ _).mpr fun (a : Fin 2) => match a with
    | ⟨0, _⟩ => hin.1
    | ⟨1, _⟩ => hin.2
  obtain ⟨⟨e0, e1⟩, -⟩ := places t
  unfold streamBuf Pipeline.Window.fill
  rw [dif_pos hm]
  refine congrArg (m ((c : Thread nD τ).loc main_arg0)) (funext fun a => Fin.ext ?_)
  match a with
  | ⟨0, _⟩ => show win0_0.index t (0 : Fin 2) * 656 + 1 * r.val = R.val; rw [e0, hR]; omega
  | ⟨1, _⟩ => show win0_0.index t (1 : Fin 2) * 2048 + 1 * k.val = k.val; rw [e1]; omega

/-! ## The kept rows -/

theorem normalised_apply (c : Dev nD) (t : Fin cfg0.N) (he : t.val % 2 = 0) (r : Fin 656) (k : Fin 2048) (R : Fin 16400) (hR : R.val = 656 * (t.val / 2) + r.val) :
    normalised m c t filler (ix2 r k) = norm (joined m c R) (scale m c) k := by
  have hr := r.isLt
  have hs : (fun k => (iblk m c 2 t : Vec Ideal S1x2048 .f32) (ix2 (0 : Fin 1) k)) = scale m c := funext fun q => blk_scale m c t q
  unfold normalised
  rcases points t with ⟨h1, -, -, -, -, ht⟩ | ⟨h1, -, -, -, -, ht⟩ | ⟨-, -, ho⟩
  · rw [if_pos h1, keptFull_eq]
    have hl : R.val < 16384 := by omega
    refine (pay1_apply _ _ r k).trans (congrArg₂ (fun x y => norm x y k) (funext fun q => ?_) hs)
    unfold joined
    rw [dif_pos hl]
    exact blk_stream m c t he filler r q ⟨R.val, hl⟩ hR
  · rw [if_neg h1]
    by_cases h : r.val < 640
    · have hl : R.val < 16384 := by omega
      refine (keptLast_head _ _ _ r ⟨r.val, h⟩ rfl k).trans (congrArg₂ (fun x y => norm x y k) (funext fun q => ?_) hs)
      unfold joined
      rw [dif_pos hl]
      exact blk_stream m c t he filler r q ⟨R.val, hl⟩ hR
    · have hl : ¬ R.val < 16384 := by omega
      refine (keptLast_tail _ _ _ r ⟨R.val - 16384, by omega⟩ (by show r.val = 640 + (R.val - 16384); omega) k).trans
        (congrArg₂ (fun x y => norm x y k) (funext fun q => ?_) hs)
      unfold joined
      rw [dif_neg hl]
      exact blk_meta m c t ⟨R.val - 16384, by omega⟩ q
  · omega

theorem kept_apply (c : Dev nD) (t : Fin cfg0.N) (r : Fin 656) (k : Fin 2048) (R : Fin 16400) (hR : R.val = 656 * (t.val / 2) + r.val) :
    kept m c t (ix2 r k) = norm (joined m c R) (scale m c) k :=
  normalised_apply m c (first t) (by show 2 * (t.val / 2) % 2 = 0; omega) r k R (by
    rw [hR]; show 656 * (t.val / 2) + r.val = 656 * (2 * (t.val / 2) / 2) + r.val; omega)

/-! ## The array after the run -/

/-- A normalised row against a column of the weights, plus its bias. -/
def product (c : Dev nD) (R : Fin 16400) (J : Fin 4096) : EReal := (∑ k : Fin 2048, norm (joined m c R) (scale m c) k * weight m c k J) + bias m c J

def result (c : Dev nD) (R : Fin 16400) (J : Fin 2048) : EReal := glu (product m c R ⟨J.val, by omega⟩) (product m c R ⟨J.val + 2048, by omega⟩)
def G (c : Dev nD) : Buf (Elt Ideal) ((c : Thread nD τ).loc main_v0) := fun (i : S16400x2048.Idx) => result m c (i 0) (i 1)

theorem point_apply (c : Dev nD) (t : Fin cfg0.N) (r : Fin 656) (j : Fin 1024) (R : Fin 16400) (J : Fin 2048)
    (hR : R.val = 656 * (t.val / 2) + r.val) (hJ : J.val = 1024 * (t.val % 2) + j.val) :
    outAt m c t (ix2 r j) = result m c R J := by
  unfold outAt result
  rw [gated_eq]
  refine (pay4_apply _ _ _ _ _ r j).trans (congrArg₂ glu ?_ ?_)
  · exact congrArg₂ (fun y z : EReal => y + z) (Finset.sum_congr rfl fun k _ =>
      congrArg₂ (fun x y : EReal => x * y) (kept_apply m c t r k R hR) (blk_weight m c t k j ⟨J.val, by omega⟩ hJ)) (blk_bias m c t j ⟨J.val, by omega⟩ hJ)
  · have hg : J.val + 2048 = 1024 * (t.val % 2 + 2) + j.val := by omega
    exact congrArg₂ (fun y z : EReal => y + z) (Finset.sum_congr rfl fun k _ =>
      congrArg₂ (fun x y : EReal => x * y) (kept_apply m c t r k R hR) (blk_weight_gate m c t k j ⟨J.val + 2048, by omega⟩ hg)) (blk_bias_gate m c t j ⟨J.val + 2048, by omega⟩ hg)

theorem cover (i : S16400x2048.Idx) : ∃ t : Fin cfg0.N, (cfg0.win 7).flush t = true ∧ i ∈ ((cfg0.win 7).blk t).view.set := by
  have h0 : (i 0).val < 16400 := (i 0).isLt
  have h1 : (i 1).val < 2048 := (i 1).isLt
  have hN : 2 * ((i 0).val / 656) + (i 1).val / 1024 < cfg0.N := by rw [show cfg0.N = 50 from N_0]; omega
  obtain ⟨t, ht⟩ : ∃ t : Fin cfg0.N, t.val = 2 * ((i 0).val / 656) + (i 1).val / 1024 := ⟨⟨_, hN⟩, rfl⟩
  obtain ⟨-, -, -, -, -, -, -, ⟨e0, e1⟩⟩ := places t
  refine ⟨t, flush0_7 t, ?_⟩
  have er := View.set_slice_whole main_v0 ((cfg0.win 7).rect t : Rect S16400x2048)
  refine (congrArg (fun s : Finset S16400x2048.Idx => i ∈ s) er).mpr (Rect.mem_set_unit.mpr fun (a : Fin 2) => ?_)
  match a with
  | ⟨0, _⟩ =>
    show win0_7.index t (0 : Fin 2) * 656 ≤ (i 0).val ∧ (i 0).val < win0_7.index t (0 : Fin 2) * 656 + 656
    rw [e0, ht]; omega
  | ⟨1, _⟩ =>
    show win0_7.index t (1 : Fin 2) * 1024 ≤ (i 1).val ∧ (i 1).val < win0_7.index t (1 : Fin 2) * 1024 + 1024
    rw [e1, ht]; omega

theorem flushed_7 (c : Dev nD) (t : Fin cfg0.N) : (dats m 0 c).flushed 7 t = (cfg0.win 7).cut (grid0.coords t) (outAt m c t) := by
  show (cfg0.win 7).cut (grid0.coords t) ((dats m 0 c).after 7 t) = _
  rw [after_7]

/-- THE ARRAY after the run. -/
theorem final (c : Dev nD) : (dats m 0 c).arrAt 7 cfg0.N = G m c := by
  refine (dats m 0 c).arrAt_eq_of_cover 7 (G m c) (fun t _ => ?_) cover
  have hN : t.val < 50 := Nat.lt_of_lt_of_eq t.isLt N_0
  obtain ⟨-, -, -, -, -, -, -, ⟨e0, e1⟩⟩ := places t
  rw [flushed_7]
  funext (y : S656x1024.Idx)
  have ey : y = ix2 (n0 := 656) (n1 := 1024) (y 0) (y 1) := eq_ix2 y
  have hy0 : (y 0).val < 656 := (y 0).isLt
  have hy1 : (y 1).val < 1024 := (y 1).isLt
  refine (congrArg (outAt m c t) ey).trans ?_
  refine (point_apply m c t (y 0) (y 1) ⟨656 * (t.val / 2) + (y 0).val, by omega⟩ ⟨1024 * (t.val % 2) + (y 1).val, by omega⟩ rfl rfl).trans ?_
  refine congrArg₂ (result m c) (Fin.ext ?_) (Fin.ext ?_)
  · show 656 * (t.val / 2) + (y 0).val = win0_7.index t (0 : Fin 2) * 656 + 1 * (y 0).val; rw [e0]; omega
  · show 1024 * (t.val % 2) + (y 1).val = win0_7.index t (1 : Fin 2) * 1024 + 1 * (y 1).val; rw [e1]; omega

/-- Every run ends with the result at `G` and the arguments unchanged. -/
theorem run_value : θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 7).trans (final m c), h.2 c⟩)
    (θ_run_and (run_main m ρ) (unchanged m ρ))

end GluRun

end
-- ==== Proof.Glu.Claims.lean ====
/-
  The claims about the first pointwise product with its gate: the kernel and its reference run, keep their arguments, end with every
  semaphore at zero, and over the extended reals end with equal results.
-/
module

public import proofs.«01_k».proof.Defs
public import proofs.«01_k».proof.Proof.Gen.Glu
public import proofs.«01_k».proof.Proof.Gen.GluRefIdeal.Run
public import proofs.«01_k».proof.Proof.Gen.GluRefIdeal.Read
public import proofs.«01_k».proof.Proof.Ffn.Reference
public import proofs.«01_k».proof.Proof.Mix.Claims
public import proofs.«01_k».proof.Proof.Glu.Rows
public import Idealize.ShloMosaic.Lib.Claim

@[expose] public section

noncomputable section

open scoped BigOperators
open Idealize.ShloMosaic Idealize.ShloMosaic.TcCoe Idealize.SL.Sem Idealize.ShloMosaic.ValueIdx

namespace Cert.Proof.GluClaims

/-- What the frame claims of the kernel, on the idealization's text read at an instance `F`. -/
abbrev FrameAt (F : FTy → Type) [FloatOps F] : Prop :=
  ∀ (m : (ℓ : Loc Cert.GluIdeal.nD Cert.GluIdeal.τ Cert.GluIdeal.sig) → Buf (Elt F) ℓ) (g : Dev Cert.GluIdeal.nD → PrngReg), True →
    θ_run (Cert.GluIdeal.defs (F := F)) (onTc (τ := Cert.GluIdeal.τ) (Cert.GluIdeal.main (F := F))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

theorem frameAt (F : FTy → Type) [FloatOps F] : FrameAt F := fun m g _ =>
  θ_run_and (GluRun.unchanged m g) ((θ_run _ _ _).mono (fun _ h => h.2) (GluRun.run_main_quiescent m g))

/-- The kernel's program and its idealization's are one text. -/
theorem same_text : Cert.quiescent_Glu = FrameAt Bits := by sl_kernel_rfl

theorem frame_kernel : Cert.quiescent_Glu := same_text.mpr (frameAt Bits)
theorem frame_ideal : Cert.quiescent_GluIdeal := fun m g h => frameAt Ideal m g trivial
theorem frame_reference : Cert.quiescent_GluRefIdeal := fun m ρ _ =>
  (θ_run Cert.GluRefIdeal.defs _ _).mono (fun r h => ⟨fun c => (h c).2, Idealize.ShloMosaic.sem_eq_zero_of_no_sems (by decide) r.2⟩)
    (Cert.GluRefIdeal.Value.run (F := Ideal) m ρ)
theorem preserves : Cert.preserves_Glu_GluIdeal := trivial

section Reference

open Cert.GluRefIdeal Cert.GluRefIdeal.Read
open Cert.FfnIdeal.Block (norm)

variable (x : Vec Ideal S16384x2048 .f32) (mt : Vec Ideal S16x2048 .f32) (g : Vec Ideal S1x2048 .f32) (w : Vec Ideal S2048x4096 .bf16) (b : Vec Ideal S1x4096 .f32)

/-- The reference's normalised rows are the dense feed-forward reference's, of the joined rows. -/
theorem rows_eq : val_main_v12 (F := Ideal) x mt g = Cert.FfnRefIdeal.Read.val_main_v11 (F := Ideal) (Cert.MixRefIdeal.Read.val_main_v0 (F := Ideal) x mt) g := rfl

/-- The joined rows at a row and a column. -/
def joined (R : Fin 16400) (k : Fin 2048) : EReal :=
  if h : R.val < 16384 then x (ix2 (n0 := 16384) (n1 := 2048) ⟨R.val, h⟩ k) else mt (ix2 (n0 := 16) (n1 := 2048) ⟨R.val - 16384, by omega⟩ k)

/-- A normalised row against a column of the weights, plus its bias. -/
def product (R : Fin 16400) (J : Fin 4096) : EReal :=
  (∑ k : Fin 2048, (norm (joined x mt R) (fun k => g (ix2 (0 : Fin 1) k)) k * w (ix2 k J) : EReal)) + b (ix2 (0 : Fin 1) J)

theorem product_apply (R : Fin 16400) (J : Fin 4096) : val_main_v16 (F := Ideal) x mt g w b (ix2 R J) = product x mt g w b R J := by
  rw [val_main_v16_apply]
  refine congrArg₂ (fun y z : EReal => y + z) ((val_main_v14_apply x mt g w (ix2 R J)).trans (Finset.sum_congr rfl fun k _ => ?_)) ?_
  · have el : lidx_main_v14 (ix2 R J) k = ix2 R k := funext fun a => Fin.ext (by match a with | ⟨0, _⟩ => rfl | ⟨1, _⟩ => rfl)
    have er : ridx_main_v14 (ix2 R J) k = ix2 k J := funext fun a => Fin.ext (by match a with | ⟨0, _⟩ => rfl | ⟨1, _⟩ => rfl)
    rw [el, er, rows_eq]
    refine congrArg (fun z : EReal => z * w (ix2 k J)) ((Cert.FfnRefIdeal.Entry.norm_apply _ g R k).trans ?_)
    exact congrArg (fun y => norm y (fun k => g (ix2 (0 : Fin 1) k)) k) (funext fun q => MixClaims.joined_apply x mt R q)
  · rw [val_main_v15_apply]
    exact congrArg b (funext fun a => Fin.ext (by match a with | ⟨0, _⟩ => rfl | ⟨1, _⟩ => rfl))

/-- The reference's result at a row and a column. -/
theorem reference_apply (R : Fin 16400) (J : Fin 2048) :
    val_main_v25 (F := Ideal) x mt g w b (ix2 R J)
      = GluRun.glu (product x mt g w b R ⟨J.val, by omega⟩) (product x mt g w b R ⟨J.val + 2048, by omega⟩) := by
  have ea : idx_main_v17 (ix2 R J) = ix2 (n0 := 16400) (n1 := 4096) R ⟨J.val, by omega⟩ :=
    funext fun a => Fin.ext (by match a with | ⟨0, _⟩ => rfl | ⟨1, _⟩ => rfl)
  have eg : idx_main_v18 (ix2 R J) = ix2 (n0 := 16400) (n1 := 4096) R ⟨J.val + 2048, by omega⟩ :=
    funext fun a => Fin.ext (by match a with | ⟨0, _⟩ => rfl | ⟨1, _⟩ => exact Nat.add_comm 2048 J.val)
  rw [val_main_v25_apply, val_main_v17_apply, val_main_v24_apply, val_main_v22_apply, val_main_v20_apply, val_main_v19_apply, val_main_v18_apply, ea, eg,
    product_apply, product_apply]
  rfl

end Reference

/-- From arguments that agree, the kernel's array and the reference's are the same function of row and column. -/
theorem algebraic : Cert.algebraic_GluIdeal_GluRefIdeal := by
  intro m ρ m' ρ' _ hagree
  refine ⟨fun c => GluRun.G m c, GluRun.run_value m ρ, ?_⟩
  refine (θ_run Cert.GluRefIdeal.defs _ _).mono (fun _ h c => ?_) (Cert.GluRefIdeal.Value.run (F := Ideal) m' ρ')
  refine ⟨(h c).1.trans ?_, (h c).2⟩
  obtain ⟨a0, a1, a2, a3, a4⟩ := hagree c
  rw [a0, a1, a2, a3, a4]
  refine (Cert.GluRefIdeal.Read.val_main_v25_eq _ _ _ _ _).trans (funext fun i => ?_)
  have ei : i = ix2 (n0 := 16400) (n1 := 2048) (i 0) (i 1) := eq_ix2 i
  exact (congrArg _ ei).trans (reference_apply _ _ _ _ _ (i 0) (i 1))

end Cert.Proof.GluClaims

end
-- ==== Proof.Attn.Body.lean ====
/-
  The attention's body: what it leaves in the result's buffer. A block of 2048 rows is worked on in eight query tiles of
  256 rows; each meets its own 256 keys under the causal mask, the keys of the block before them in steps of 256, the latest
  first, and then the 16 meta keys, which the body has padded to 128 rows. At the last point of a head the 16 meta tokens
  are the queries.
-/
module

public import proofs.«01_k».proof.Proof.Gen.AttnIdeal.Skeleton
public import proofs.«01_k».proof.Proof.Gen.AttnIdeal.Points
public import proofs.«01_k».proof.Proof.Gen.AttnIdeal.Launch
public import Idealize.ShloMosaic.Lib.Pipeline.FrameBody
public import Idealize.ShloMosaic.Lib.Ring
public import Idealize.ShloMosaic.Lib.Tactic

@[expose] public section

set_option maxRecDepth 16384

noncomputable section

namespace AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

/-! ## The rows loaded and stored -/

abbrev rPad : Rect S128x128 := Rect.unit (s := S128x128) ![0, 0] S128x128.size inb_S128x128_S128x128_0_0
abbrev rMeta : Rect S128x128 := Rect.unit (s := S128x128) ![0, 0] S16x128.size inb_S128x128_S16x128_0_0
abbrev rM : Rect S16x128 := Rect.unit (s := S16x128) ![0, 0] S16x128.size inb_S16x128_S16x128_0_0
abbrev rTop : Rect S2048x128 := Rect.unit (s := S2048x128) ![0, 0] S16x128.size inb_S2048x128_S16x128_0_0
abbrev r0 : Rect S2048x128 := Rect.unit (s := S2048x128) ![0, 0] S256x128.size inb_S2048x128_S256x128_0_0
abbrev r1 : Rect S2048x128 := Rect.unit (s := S2048x128) ![256, 0] S256x128.size inb_S2048x128_S256x128_256_0
abbrev r2 : Rect S2048x128 := Rect.unit (s := S2048x128) ![512, 0] S256x128.size inb_S2048x128_S256x128_512_0
abbrev r3 : Rect S2048x128 := Rect.unit (s := S2048x128) ![768, 0] S256x128.size inb_S2048x128_S256x128_768_0
abbrev r4 : Rect S2048x128 := Rect.unit (s := S2048x128) ![1024, 0] S256x128.size inb_S2048x128_S256x128_1024_0
abbrev r5 : Rect S2048x128 := Rect.unit (s := S2048x128) ![1280, 0] S256x128.size inb_S2048x128_S256x128_1280_0
abbrev r6 : Rect S2048x128 := Rect.unit (s := S2048x128) ![1536, 0] S256x128.size inb_S2048x128_S256x128_1536_0
abbrev r7 : Rect S2048x128 := Rect.unit (s := S2048x128) ![1792, 0] S256x128.size inb_S2048x128_S256x128_1792_0
abbrev p2 : Rect S2048x128 := Rect.unit (s := S2048x128) ![0, 0] S512x128.size inb_S2048x128_S512x128_0_0
abbrev p3 : Rect S2048x128 := Rect.unit (s := S2048x128) ![0, 0] S768x128.size inb_S2048x128_S768x128_0_0
abbrev p4 : Rect S2048x128 := Rect.unit (s := S2048x128) ![0, 0] S1024x128.size inb_S2048x128_S1024x128_0_0
abbrev p5 : Rect S2048x128 := Rect.unit (s := S2048x128) ![0, 0] S1280x128.size inb_S2048x128_S1280x128_0_0
abbrev p6 : Rect S2048x128 := Rect.unit (s := S2048x128) ![0, 0] S1536x128.size inb_S2048x128_S1536x128_0_0
abbrev p7 : Rect S2048x128 := Rect.unit (s := S2048x128) ![0, 0] S1792x128.size inb_S2048x128_S1792x128_0_0

/-- The meta rows padded: zeros, then the 16 rows over them (the later store first). -/
def padK (x : Vec F S16x128 .bf16) : Vec F S128x128 .bf16 := View.canon [⟨rMeta, k0_pay2 (View.ld x rM)⟩, ⟨rPad, k0_pay1⟩]
def padV (x : Vec F S16x128 .bf16) : Vec F S128x128 .bf16 := View.canon [⟨rMeta, k0_pay4 (View.ld x rM)⟩, ⟨rPad, k0_pay3⟩]

theorem cover_pad (p : Vec F S16x128 .bf16) (q : Vec F S128x128 .bf16) (y : S128x128.Idx) :
    ∃ pc ∈ ([⟨rMeta, p⟩, ⟨rPad, q⟩] : List (View.Piece (Elt F) S128x128 .bf16)), y ∈ pc.1.set := by
  obtain ⟨pc, hm, hy⟩ := View.cover_of_tiled [⟨rPad, q⟩] S128x128.size (by rfl) y
  exact ⟨pc, List.mem_cons_of_mem _ hm, hy⟩

/-! ## The eight query tiles -/

abbrev T (F : FTy → Type) : Type := Vec F S256x128 .bf16
abbrev MT' (F : FTy → Type) : Type := Vec F S128x128 .bf16

def tile0 (q k v : T F) (mk mv : MT' F) : T F :=
  k0_pay17 k0_pay5 k0_pay8 k0_pay9 v mk mv q k0_pay11 k0_pay12 (k0_pay13 k q) (k0_pay15 k q) (k0_pay16 k q)

def tile1 (q k v : T F) (kp vp : T F) (mk mv : MT' F) : T F :=
  let v143 := k0_pay22 k0_pay8 k0_pay10 k v q
  let v145 := k0_pay23 k0_pay8 k q
  k0_pay31 k0_pay9 mv (k0_pay27 k0_pay10 kp vp q k0_pay18 v143 v145) (k0_pay28 kp q k0_pay18 v145) (k0_pay29 mk q) (k0_pay30 k0_pay5 k0_pay9 mk q)

def tile2 (q k v : T F) (kp vp : Vec F S512x128 .bf16) (mk mv : MT' F) : T F :=
  let cst : F .f32 := Scalar.ofBits .f32 0x00000000#32
  let v267 := k0_pay41 k0_pay8 k0_pay10 v kp vp q k0_pay32 k0_pay33 (k0_pay34 k q) (k0_pay35 k q) cst
  let v271 := k0_pay42 k0_pay8 kp q k0_pay32 (k0_pay35 k q) cst
  k0_pay43 k0_pay5 k0_pay9 k0_pay10 vp mk mv q (k0_pay38 kp q) (k0_pay39 kp q) (k0_pay40 kp q) v267 v271

def tile3 (q k v : T F) (kp vp : Vec F S768x128 .bf16) (mk mv : MT' F) : T F :=
  let cst : FVec F S256x128 .f32 := constant S256x128 .f32 0x00000000#32
  let v341 := k0_pay48 k0_pay8 k q
  let v387 := k0_pay54 kp q k0_pay44 v341
  let v400 := k0_pay55 k0_pay10 v kp vp q k0_pay44 k0_pay45 v341 (k0_pay49 k0_pay8 k0_pay10 k q) cst
  k0_pay59 (k0_pay57 k0_pay10 vp (k0_pay51 kp q) (k0_pay52 kp q) (k0_pay53 kp q) v387 v400) (k0_pay58 k0_pay5 k0_pay9 mk mv q (k0_pay52 kp q) v387)

def tile4 (q k v : T F) (kp vp : Vec F S1024x128 .bf16) (mk mv : MT' F) : T F :=
  let cst : F .f32 := Scalar.ofBits .f32 0x00000000#32
  let v474 := k0_pay64 k0_pay8 k q
  let v502 := k0_pay68 kp q
  let v516 := k0_pay70 k0_pay8 k0_pay10 v kp vp q k0_pay60 k0_pay61 v474 (k0_pay65 k0_pay8 k0_pay10 k q)
  let v520 := k0_pay71 kp q k0_pay60 v474
  let v529 := k0_pay72 k0_pay10 kp q k0_pay60 v474
  k0_pay80 k0_pay5 k0_pay9 mv (k0_pay75 k0_pay10 vp (k0_pay67 kp q) v502 (k0_pay69 kp q) v516 v520 v529) (k0_pay76 v502 v520) (k0_pay77 mk q) (k0_pay78 mk q) (k0_pay79 mk q) cst

def tile5 (q k v : T F) (kp vp : Vec F S1280x128 .bf16) (mk mv : MT' F) : T F :=
  let v610 := k0_pay83 k q
  let v636 := k0_pay88 k0_pay8 k0_pay10 v k0_pay81 k0_pay82 v610 k0_pay84
  let v639 := k0_pay89 k0_pay8 k0_pay81 v610 k0_pay84
  let v642 := k0_pay90 kp q
  let v652 := k0_pay91 kp q
  let v653 := k0_pay92 kp q
  let v700 := k0_pay98 k0_pay10 vp v636 v639 v642 v652 v653 (k0_pay93 k0_pay10 kp q) (k0_pay94 kp q) (k0_pay95 kp q)
  let v704 := k0_pay99 v639 v652
  k0_pay108 k0_pay9 mv (k0_pay104 k0_pay10 vp v642 v652 v653 v700 v704 (k0_pay100 k0_pay10 v653) (k0_pay101 v642) (k0_pay102 v652)) (k0_pay105 v652 v704) (k0_pay106 mk q) (k0_pay107 k0_pay5 k0_pay9 mk q)

def tile6 (q k v : T F) (kp vp : Vec F S1536x128 .bf16) (mk mv : MT' F) : T F :=
  let cst : F .f32 := Scalar.ofBits .f32 0x00000000#32
  let v809 := k0_pay115 kp q
  let v819 := k0_pay116 kp q
  let v820 := k0_pay117 kp q
  let v833 := k0_pay118 k0_pay8 k0_pay10 v kp vp q k0_pay109 k0_pay110 (k0_pay111 k q) (k0_pay112 k q) cst
  let v837 := k0_pay119 k0_pay8 kp q k0_pay109 (k0_pay112 k q) cst
  let v884 := k0_pay122 k0_pay10 vp v809 v819 v820 v833 v837
  let v888 := k0_pay123 v819 v837
  k0_pay130 k0_pay5 k0_pay9 mv (k0_pay125 k0_pay10 vp v809 v819 v820 v884 v888) (k0_pay126 v819 v888) (k0_pay127 mk q) (k0_pay128 mk q) k0_pay129

def tile7 (q k v : T F) (kp vp : Vec F S1792x128 .bf16) (mk mv : MT' F) : T F :=
  let one : F .f32 := Scalar.ofBits .f32 0x3F800000#32
  let cst : F .f32 := Scalar.ofBits .f32 0x00000000#32
  let v990 := k0_pay138 k0_pay8 k0_pay131 (k0_pay134 k q) (k0_pay135 k q) one
  let v993 := k0_pay139 kp q
  let v1003 := k0_pay140 kp q
  let v1004 := k0_pay141 kp q
  let v1017 := k0_pay142 k0_pay8 k0_pay10 v kp vp q k0_pay131 k0_pay132 (k0_pay133 k q) (k0_pay134 k q) (k0_pay135 k q) one
  let v1055 := k0_pay145 v990 v1003
  let v1068 := k0_pay146 k0_pay10 vp v990 v993 v1003 v1004 v1017
  k0_pay6 k0_pay9 mv (k0_pay150 k0_pay10 vp v993 v1003 v1004 v1055 v1068) (k0_pay151 k0_pay5 k0_pay9 mk q v1003 (k0_pay149 v1003 v1055)) cst

/-- The result's buffer after a block of 2048 rows: the eight tiles' stores, the latest first. -/
def blockOut (q k v : Vec F S2048x128 .bf16) (mk mv : MT' F) : Vec F S2048x128 .bf16 :=
  View.canon [
    ⟨r7, tile7 (View.ld q r7) (View.ld k r7) (View.ld v r7) (View.ld k p7) (View.ld v p7) (View.ld mk rPad) (View.ld mv rPad)⟩,
    ⟨r6, tile6 (View.ld q r6) (View.ld k r6) (View.ld v r6) (View.ld k p6) (View.ld v p6) (View.ld mk rPad) (View.ld mv rPad)⟩,
    ⟨r5, tile5 (View.ld q r5) (View.ld k r5) (View.ld v r5) (View.ld k p5) (View.ld v p5) (View.ld mk rPad) (View.ld mv rPad)⟩,
    ⟨r4, tile4 (View.ld q r4) (View.ld k r4) (View.ld v r4) (View.ld k p4) (View.ld v p4) (View.ld mk rPad) (View.ld mv rPad)⟩,
    ⟨r3, tile3 (View.ld q r3) (View.ld k r3) (View.ld v r3) (View.ld k p3) (View.ld v p3) (View.ld mk rPad) (View.ld mv rPad)⟩,
    ⟨r2, tile2 (View.ld q r2) (View.ld k r2) (View.ld v r2) (View.ld k p2) (View.ld v p2) (View.ld mk rPad) (View.ld mv rPad)⟩,
    ⟨r1, tile1 (View.ld q r1) (View.ld k r1) (View.ld v r1) (View.ld k r0) (View.ld v r0) (View.ld mk rPad) (View.ld mv rPad)⟩,
    ⟨r0, tile0 (View.ld q r0) (View.ld k r0) (View.ld v r0) (View.ld mk rPad) (View.ld mv rPad)⟩]

/-- The meta tokens' 16 rows over what the buffer held. -/
def metaOut (q : Vec F S2048x128 .bf16) (mk mv : MT' F) : Vec F S16x128 .bf16 :=
  k0_pay7 (View.ld mk rPad) (View.ld mv rPad) (View.ld q rTop)

theorem cover_block (a b c d e f g h : T F) (y : S2048x128.Idx) :
    ∃ pc ∈ ([⟨r7, h⟩, ⟨r6, g⟩, ⟨r5, f⟩, ⟨r4, e⟩, ⟨r3, d⟩, ⟨r2, c⟩, ⟨r1, b⟩, ⟨r0, a⟩] : List (View.Piece (Elt F) S2048x128 .bf16)), y ∈ pc.1.set :=
  View.cover_of_tiled [⟨r7, h⟩, ⟨r6, g⟩, ⟨r5, f⟩, ⟨r4, e⟩, ⟨r3, d⟩, ⟨r2, c⟩, ⟨r1, b⟩, ⟨r0, a⟩] S256x128.size (by rfl) y

set_option maxHeartbeats 4000000 in
/-- A point whose rows are a block of the sequence. -/
theorem sound_block (c : Dev nD) (E : Set ℕ) (i : grid0.Coords) (h1 : k0_cond1 i = 1#1) (h2 : ¬ k0_cond2 i = 1#1)
    (arg2 : Memref sig .tc .vmem S2048x128 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S16x128 .bf16) (harg5 : arg5.IsWhole)
    (arg6 : Memref sig .tc .vmem S16x128 .bf16) (harg6 : arg6.IsWhole) (arg7 : Memref sig .tc .vmem S2048x128 .bf16) (harg7 : arg7.IsWhole)
    (arg8 : Memref sig .tc .vmem S128x128 .bf16) (harg8 : arg8.IsWhole) (arg9 : Memref sig .tc .vmem S128x128 .bf16) (harg9 : arg9.IsWhole)
    (q k v : Vec F S2048x128 .bf16) (mk mv : Vec F S16x128 .bf16) (K : PUnit → sProp 𝕄) :
    iprop(owns (c : Thread nD τ) arg2 fullShare q ∗ owns (c : Thread nD τ) arg3 fullShare k ∗ owns (c : Thread nD τ) arg4 fullShare v ∗ owns (c : Thread nD τ) arg5 fullShare mk ∗ owns (c : Thread nD τ) arg6 fullShare mv
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare q ∗ owns (c : Thread nD τ) arg3 fullShare k ∗ owns (c : Thread nD τ) arg4 fullShare v ∗ owns (c : Thread nD τ) arg5 fullShare mk ∗ owns (c : Thread nD τ) arg6 fullShare mv
          ∗ owns (c : Thread nD τ) arg7 fullShare (blockOut q k v (padK mk) (padV mv)) ∗ (∃ d, owns (c : Thread nD τ) arg8 fullShare d) ∗ (∃ d, owns (c : Thread nD τ) arg9 fullShare d)) -∗ K ⟨⟩))
      ⊢ wp frame (wpE (defs₀ (F := F)) Variants.none c none) E (cc0_attn i arg2 harg2 arg3 harg3 arg4 harg4 arg5 harg5 arg6 harg6 arg7 harg7 arg8 harg8 arg9 harg9) K := by
  simp only [cc0_attn_eq_skeleton]; unfold cc0_attn_skel
  simp only [dif_pos h1, dif_neg h2]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf2 hf3 hf4 hf5 hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover_block _ _ _ _ _ _ _ _)).trans ?_
    sl_unfold_words
    rw [View.readCov_eq_canon_ld _ _ _ (cover_pad _ _), View.readCov_eq_canon_ld _ _ _ (cover_pad _ _)]
    rfl
  isplitl [H8]
  · iexists _, _; isplitr
    swap; · iexact H8
    ipureintro; rfl
  iexists _, _; isplitr
  swap; · iexact H9
  ipureintro; rfl

set_option maxHeartbeats 1000000 in
/-- The last point of a head: of the result's buffer the first 16 rows are stated. -/
theorem sound_meta (c : Dev nD) (E : Set ℕ) (i : grid0.Coords) (h1 : ¬ k0_cond1 i = 1#1) (h2 : k0_cond2 i = 1#1)
    (arg2 : Memref sig .tc .vmem S2048x128 .bf16) (harg2 : arg2.IsWhole) (arg3 : Memref sig .tc .vmem S2048x128 .bf16) (harg3 : arg3.IsWhole)
    (arg4 : Memref sig .tc .vmem S2048x128 .bf16) (harg4 : arg4.IsWhole) (arg5 : Memref sig .tc .vmem S16x128 .bf16) (harg5 : arg5.IsWhole)
    (arg6 : Memref sig .tc .vmem S16x128 .bf16) (harg6 : arg6.IsWhole) (arg7 : Memref sig .tc .vmem S2048x128 .bf16) (harg7 : arg7.IsWhole)
    (arg8 : Memref sig .tc .vmem S128x128 .bf16) (harg8 : arg8.IsWhole) (arg9 : Memref sig .tc .vmem S128x128 .bf16) (harg9 : arg9.IsWhole)
    (q : Vec F S2048x128 .bf16) (mk mv : Vec F S16x128 .bf16) (K : PUnit → sProp 𝕄) :
    iprop(owns (c : Thread nD τ) arg2 fullShare q ∗ owns (c : Thread nD τ) arg5 fullShare mk ∗ owns (c : Thread nD τ) arg6 fullShare mv
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare q ∗ owns (c : Thread nD τ) arg5 fullShare mk ∗ owns (c : Thread nD τ) arg6 fullShare mv
          ∗ (∃ X : Vec F S2048x128 .bf16, ⌜∀ y ∈ rTop.set, X y = View.canon [⟨rTop, metaOut q (padK mk) (padV mv)⟩] y⌝ ∗ owns (c : Thread nD τ) arg7 fullShare X)
          ∗ (∃ d, owns (c : Thread nD τ) arg8 fullShare d) ∗ (∃ d, owns (c : Thread nD τ) arg9 fullShare d)) -∗ K ⟨⟩))
      ⊢ wp frame (wpE (defs₀ (F := F)) Variants.none c none) E (cc0_attn i arg2 harg2 arg3 harg3 arg4 harg4 arg5 harg5 arg6 harg6 arg7 harg7 arg8 harg8 arg9 harg9) K := by
  simp only [cc0_attn_eq_skeleton]; unfold cc0_attn_skel
  simp only [dif_neg h1, dif_pos h2]
  unfold owns
  iintro ⟨⟨%f2, %hf2, H2⟩, ⟨%f5, %hf5, H5⟩, ⟨%f6, %hf6, H6⟩, ⟨%d7, %f7, -, H7⟩, ⟨%d8, %f8, -, H8⟩, ⟨%d9, %f9, -, H9⟩, Hk⟩
  subst hf2 hf5 hf6
  sl_exec
  sl_step
  iapply Hk
  isplitl [H2]
  · iexists f2; isplitr; · ipureintro; rfl
    iexact H2
  isplitl [H5]
  · iexists f5; isplitr; · ipureintro; rfl
    iexact H5
  isplitl [H6]
  · iexists f6; isplitr; · ipureintro; rfl
    iexact H6
  isplitl [H7]
  · iexists _; isplitr
    swap
    · iexists _; isplitr
      swap; · iexact H7
      ipureintro; rfl
    ipureintro
    intro y hy
    refine (View.read_writes_apply_eq_canon _ _ y _ ⟨_, List.mem_singleton_self _, hy⟩).trans ?_
    sl_unfold_words
    rw [View.readCov_eq_canon_ld _ _ _ (cover_pad _ _), View.readCov_eq_canon_ld _ _ _ (cover_pad _ _)]
    rfl
  isplitl [H8]
  · iexists _, _; isplitr
    swap; · iexact H8
    ipureintro; rfl
  iexists _, _; isplitr
  swap; · iexact H9
  ipureintro; rfl

end AttnRun

end
-- ==== Proof.Attn.Frame.lean ====
/-
  The attention: the pipeline's run at any float values. A head's points go over the eight blocks of the sequence and then
  the meta tokens, whose 16 rows lie past the last block: there the blocks of queries, keys, values and results are cut at
  the array's end.
-/
module

public import proofs.«01_k».proof.Proof.Gen.AttnIdeal.Frame
public import proofs.«01_k».proof.Proof.Attn.Body

@[expose] public section

set_option maxRecDepth 16384

noncomputable section

namespace AttnRun

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first eight points of a head work on whole blocks, the ninth on the 16 meta rows. -/
theorem points : ∀ t : Fin cfg0.N,
    (k0_cond1 (grid0.coords t) = 1#1 ∧ ¬ k0_cond2 (grid0.coords t) = 1#1 ∧ (grid0.coords t 1).val < 8
      ∧ win0_0.xsize (grid0.coords t) (0 : Fin 2) = 2048 ∧ win0_1.xsize (grid0.coords t) (0 : Fin 2) = 2048
      ∧ win0_2.xsize (grid0.coords t) (0 : Fin 2) = 2048 ∧ win0_5.xsize (grid0.coords t) (0 : Fin 2) = 2048)
    ∨ (¬ k0_cond1 (grid0.coords t) = 1#1 ∧ k0_cond2 (grid0.coords t) = 1#1 ∧ (grid0.coords t 1).val = 8
      ∧ win0_0.xsize (grid0.coords t) (0 : Fin 2) = 16 ∧ win0_1.xsize (grid0.coords t) (0 : Fin 2) = 16
      ∧ win0_2.xsize (grid0.coords t) (0 : Fin 2) = 16 ∧ win0_5.xsize (grid0.coords t) (0 : Fin 2) = 16) :=
  (by decide +kernel : ∀ t : Fin grid0.N, _)

/-- No block is cut across its columns. -/
theorem columns : ∀ t : Fin cfg0.N,
    win0_0.xsize (grid0.coords t) (1 : Fin 2) = 128 ∧ win0_1.xsize (grid0.coords t) (1 : Fin 2) = 128
      ∧ win0_2.xsize (grid0.coords t) (1 : Fin 2) = 128 ∧ win0_5.xsize (grid0.coords t) (1 : Fin 2) = 128 :=
  (by decide +kernel : ∀ t : Fin grid0.N, _)

/-- The buffers of the queries, keys and values at a point: the block on the rows inside the array, `d` past them. -/
def qBuf (c : Dev nD) (t : Fin cfg0.N) (d : Vec F S2048x128 .bf16) : Vec F S2048x128 .bf16 := win0_0.fill (grid0.coords t) d (iblk m c 0 t)
def kBuf (c : Dev nD) (t : Fin cfg0.N) (d : Vec F S2048x128 .bf16) : Vec F S2048x128 .bf16 := win0_1.fill (grid0.coords t) d (iblk m c 1 t)
def vBuf (c : Dev nD) (t : Fin cfg0.N) (d : Vec F S2048x128 .bf16) : Vec F S2048x128 .bf16 := win0_2.fill (grid0.coords t) d (iblk m c 2 t)

theorem qBuf_congr (c : Dev nD) (t : Fin cfg0.N) (d d' : Vec F S2048x128 .bf16) (j : S2048x128.Idx)
    (h0 : (j 0).val < win0_0.xsize (grid0.coords t) (0 : Fin 2)) : qBuf m c t d j = qBuf m c t d' j := by
  have hm : win0_0.moved (grid0.coords t) j = true := (win0_0.moved_iff _ j).mpr fun (a : Fin 2) => match a with
    | ⟨0, _⟩ => h0
    | ⟨1, _⟩ => lt_of_lt_of_eq (j 1).isLt (columns t).1.symm
  unfold qBuf Window.fill; rw [dif_pos hm, dif_pos hm]

theorem kBuf_congr (c : Dev nD) (t : Fin cfg0.N) (d d' : Vec F S2048x128 .bf16) (j : S2048x128.Idx)
    (h0 : (j 0).val < win0_1.xsize (grid0.coords t) (0 : Fin 2)) : kBuf m c t d j = kBuf m c t d' j := by
  have hm : win0_1.moved (grid0.coords t) j = true := (win0_1.moved_iff _ j).mpr fun (a : Fin 2) => match a with
    | ⟨0, _⟩ => h0
    | ⟨1, _⟩ => lt_of_lt_of_eq (j 1).isLt (columns t).2.1.symm
  unfold kBuf Window.fill; rw [dif_pos hm, dif_pos hm]

theorem vBuf_congr (c : Dev nD) (t : Fin cfg0.N) (d d' : Vec F S2048x128 .bf16) (j : S2048x128.Idx)
    (h0 : (j 0).val < win0_2.xsize (grid0.coords t) (0 : Fin 2)) : vBuf m c t d j = vBuf m c t d' j := by
  have hm : win0_2.moved (grid0.coords t) j = true := (win0_2.moved_iff _ j).mpr fun (a : Fin 2) => match a with
    | ⟨0, _⟩ => h0
    | ⟨1, _⟩ => lt_of_lt_of_eq (j 1).isLt (columns t).2.2.1.symm
  unfold vBuf Window.fill; rw [dif_pos hm, dif_pos hm]

/-- The filler past the array's end in the stated contents: the zero word. -/
abbrev filler : Vec F S2048x128 .bf16 := fun _ => Scalar.ofBits .bf16 0#16

/-- What the result's buffer is stated to hold after a point: the block's rows, or the meta rows. -/
def outWith (c : Dev nD) (t : Fin cfg0.N) (dq dk dv : Vec F S2048x128 .bf16) : Vec F S2048x128 .bf16 :=
  if k0_cond1 (grid0.coords t) = 1#1 then blockOut (qBuf m c t dq) (kBuf m c t dk) (vBuf m c t dv) (padK (iblk m c 3 t)) (padV (iblk m c 4 t))
  else View.canon [⟨rTop, metaOut (qBuf m c t dq) (padK (iblk m c 3 t)) (padV (iblk m c 4 t))⟩]

/-- It does not depend on the fillers: the rows past the array's end are not read. -/
theorem outWith_congr (c : Dev nD) (t : Fin cfg0.N) (dq dk dv dq' dk' dv' : Vec F S2048x128 .bf16) :
    outWith m c t dq dk dv = outWith m c t dq' dk' dv' := by
  unfold outWith
  rcases points t with ⟨h1, -, -, e0, e1, e2, -⟩ | ⟨h1, -, -, e0, -⟩
  · rw [if_pos h1, if_pos h1]
    have hq : qBuf m c t dq = qBuf m c t dq' := funext fun j => qBuf_congr m c t dq dq' j (by rw [e0]; exact (j 0).isLt)
    have hk : kBuf m c t dk = kBuf m c t dk' := funext fun j => kBuf_congr m c t dk dk' j (by rw [e1]; exact (j 0).isLt)
    have hv : vBuf m c t dv = vBuf m c t dv' := funext fun j => vBuf_congr m c t dv dv' j (by rw [e2]; exact (j 0).isLt)
    rw [hq, hk, hv]
  · rw [if_neg h1, if_neg h1]
    have he : View.ld (qBuf m c t dq) rTop = View.ld (qBuf m c t dq') rTop := funext fun j => qBuf_congr m c t dq dq' _
      (by
        rw [e0]
        have hj : (j 0).val < 16 := (j 0).isLt
        show 0 + 1 * (j 0).val < 16
        omega)
    unfold metaOut
    rw [he]

def outAt (c : Dev nD) (t : Fin cfg0.N) : Vec F S2048x128 .bf16 := outWith m c t filler filler filler

/-! ## The invariant: the two padded buffers at any contents -/

abbrev scr0 : Memref sig .tc .vmem S128x128 .bf16 := Memref.whole cc0_scratch0
abbrev scr1 : Memref sig .tc .vmem S128x128 .bf16 := Memref.whole cc0_scratch1

theorem PhiA_eq (c : Dev nD) :
    (Pipeline.ΦA spec0 c : sProp 𝕄) = iprop(((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => qBuf m c t filler
    | ⟨1, _⟩ => kBuf m c t filler
    | ⟨2, _⟩ => vBuf m c t filler
    | ⟨3, _⟩ => iblk m c 3 t
    | ⟨4, _⟩ => iblk m c 4 t
    | ⟨5, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = qBuf m c t filler := by dsimp only [dats]
theorem after_1 (c : Dev nD) (t : Fin cfg0.N) : (dats m 0 c).after 1 t = kBuf m c t filler := by dsimp only [dats]
theorem after_2 (c : Dev nD) (t : Fin cfg0.N) : (dats m 0 c).after 2 t = vBuf m c t filler := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- Each cut buffer holds its block, fetched at this point or left from the point before. -/
theorem before_0 (c : Dev nD) (t : Fin cfg0.N) (d) : (dats m 0 c).before 0 t d = qBuf m c t d := by
  refine ((dats m 0 c).before_in_eq_fetched 0 rfl (fun _ => rfl)
    (fun t t' h => funext fun a => congrArg (fun n => Pipeline.Clip.of n ((cfg0.win 0).size a) (S16400x2048.size a)) (congrFun h a))
    (fun t => ?_) t d).trans ?_
  · rw [after_0]
    refine (win0_0.cut_fill (grid0.coords t) filler (iblk m c 0 t)).trans ?_
    unfold Dat.blockOf iblk; rw [A_eq]
  · unfold qBuf Dat.fetched Dat.blockOf iblk; rw [A_eq]
theorem before_1 (c : Dev nD) (t : Fin cfg0.N) (d) : (dats m 0 c).before 1 t d = kBuf m c t d := by
  refine ((dats m 0 c).before_in_eq_fetched 1 rfl (fun _ => rfl)
    (fun t t' h => funext fun a => congrArg (fun n => Pipeline.Clip.of n ((cfg0.win 1).size a) (S16400x4096.size a)) (congrFun h a))
    (fun t => ?_) t d).trans ?_
  · rw [after_1]
    refine (win0_1.cut_fill (grid0.coords t) filler (iblk m c 1 t)).trans ?_
    unfold Dat.blockOf iblk; rw [A_eq]
  · unfold kBuf Dat.fetched Dat.blockOf iblk; rw [A_eq]
theorem before_2 (c : Dev nD) (t : Fin cfg0.N) (d) : (dats m 0 c).before 2 t d = vBuf m c t d := by
  refine ((dats m 0 c).before_in_eq_fetched 2 rfl (fun _ => rfl)
    (fun t t' h => funext fun a => congrArg (fun n => Pipeline.Clip.of n ((cfg0.win 2).size a) (S16400x4096.size a)) (congrFun h a))
    (fun t => ?_) t d).trans ?_
  · rw [after_2]
    refine (win0_2.cut_fill (grid0.coords t) filler (iblk m c 2 t)).trans ?_
    unfold Dat.blockOf iblk; rw [A_eq]
  · unfold vBuf Dat.fetched Dat.blockOf iblk; rw [A_eq]
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body obligation -/

/-- The result is stored at every point. -/
theorem not_idle : ∀ t : Fin cfg0.N, (!(k0_cond1 (grid0.coords t) == 1#1) && !(k0_cond2 (grid0.coords t) == 1#1)) = false :=
  (by decide +kernel : ∀ t : Fin grid0.N, _)

theorem defs₀_row (t : Fin cfg0.N) : defs₀ (F := F) .tc cfg0.body (cfg0.bodyArgs t (cfg0.slots t)) = bodyAt0 t := by
  unfold defs₀; rw [Defs.onTc_tc]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What the body returns; of the cut buffers the rows inside the arrays are stated. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (win0_5.fill (grid0.coords t) d (win0_5.cut (grid0.coords t) ((dats m 0 c).after 5 t)))))

/-- A result buffer that agrees with the stated contents on the rows inside the array is the stated one filled up. -/
theorem fill_cut_eq (t : Fin cfg0.N) (X Y : Vec F S2048x128 .bf16)
    (h : ∀ y : S2048x128.Idx, win0_5.moved (grid0.coords t) y = true → X y = Y y) :
    win0_5.fill (grid0.coords t) X (win0_5.cut (grid0.coords t) Y) = X := by
  have e : win0_5.cut (grid0.coords t) Y = win0_5.cut (grid0.coords t) X := funext fun j => by
    refine (h _ ((win0_5.moved_iff _ _).mpr fun a => ?_)).symm
    exact (j a).isLt
  rw [e, win0_5.fill_cut]

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, PhiA_eq]
  have hq : ∀ d : Vec F S2048x128 .bf16, owns (c : Thread nD τ) (st0_0 t) fullShare (qBuf m c t d)
      ⊢ (iprop(∃ d, owns (c : Thread nD τ) (st0_0 t) fullShare (win0_0.fill (grid0.coords t) d (win0_0.cut (grid0.coords t) (qBuf m c t filler)))) : sProp 𝕄) := fun d => by
    iintro H
    iexists d
    rw [show win0_0.fill (grid0.coords t) d (win0_0.cut (grid0.coords t) (qBuf m c t filler)) = qBuf m c t d from
      congrArg (win0_0.fill (grid0.coords t) d) (win0_0.cut_fill (grid0.coords t) filler (iblk m c 0 t))]
    iexact H
  have hk : ∀ d : Vec F S2048x128 .bf16, owns (c : Thread nD τ) (st0_1 t) fullShare (kBuf m c t d)
      ⊢ (iprop(∃ d, owns (c : Thread nD τ) (st0_1 t) fullShare (win0_1.fill (grid0.coords t) d (win0_1.cut (grid0.coords t) (kBuf m c t filler)))) : sProp 𝕄) := fun d => by
    iintro H
    iexists d
    rw [show win0_1.fill (grid0.coords t) d (win0_1.cut (grid0.coords t) (kBuf m c t filler)) = kBuf m c t d from
      congrArg (win0_1.fill (grid0.coords t) d) (win0_1.cut_fill (grid0.coords t) filler (iblk m c 1 t))]
    iexact H
  have hv : ∀ d : Vec F S2048x128 .bf16, owns (c : Thread nD τ) (st0_2 t) fullShare (vBuf m c t d)
      ⊢ (iprop(∃ d, owns (c : Thread nD τ) (st0_2 t) fullShare (win0_2.fill (grid0.coords t) d (win0_2.cut (grid0.coords t) (vBuf m c t filler)))) : sProp 𝕄) := fun d => by
    iintro H
    iexists d
    rw [show win0_2.fill (grid0.coords t) d (win0_2.cut (grid0.coords t) (vBuf m c t filler)) = vBuf m c t d from
      congrArg (win0_2.fill (grid0.coords t) d) (win0_2.cut_fill (grid0.coords t) filler (iblk m c 2 t))]
    iexact H
  unfold outAt
  rcases points t with ⟨h1, h2, -⟩ | ⟨h1, h2, -, -, -, -, e5⟩
  · iintro ⟨⟨⟨HS, HT⟩, Hg⟩, Ho, ⟨%d0, H0⟩, ⟨%d1, H1⟩, ⟨%d2, H2⟩, ⟨%d3, H3⟩, ⟨%d4, H4⟩, ⟨%d5, H5⟩⟩
    rw [outWith_congr m c t filler filler filler d0 d1 d2]
    unfold outWith
    rw [if_pos h1]
    iapply (sound_block c Set.univ (grid0.coords t) h1 h2 _ _ _ _ _ _ _ _ _ _ _ _ _ _ _ _ (qBuf m c t d0) (kBuf m c t d1) (vBuf m c t d2) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    isplitl [HT]; · iexact HT
    iintro ⟨H0, H1, H2, H3, H4, H5, HS, HT⟩
    isplitl [HS HT Hg]
    · isplitl [HS HT]
      · isplitl [HS]; · iexact HS
        iexact HT
      iexact Hg
    isplitl [Ho]; · iexact Ho
    isplitl [H0]; · iapply (hq d0); iexact H0
    isplitl [H1]; · iapply (hk d1); iexact H1
    isplitl [H2]; · iapply (hv d2); iexact H2
    isplitl [H3]; · iexact H3
    isplitl [H4]; · iexact H4
    iexists (blockOut (qBuf m c t d0) (kBuf m c t d1) (vBuf m c t d2) (padK (iblk m c 3 t)) (padV (iblk m c 4 t)))
    rw [win0_5.fill_cut]
    iexact H5
  · iintro ⟨⟨⟨HS, HT⟩, Hg⟩, Ho, ⟨%d0, H0⟩, ⟨%d1, H1⟩, ⟨%d2, H2⟩, ⟨%d3, H3⟩, ⟨%d4, H4⟩, ⟨%d5, H5⟩⟩
    rw [outWith_congr m c t filler filler filler d0 d1 d2]
    unfold outWith
    rw [if_neg h1]
    iapply (sound_meta c Set.univ (grid0.coords t) h1 h2 _ _ _ _ _ _ _ _ _ _ _ _ _ _ _ _ (qBuf m c t d0) (iblk m c 3 t) (iblk m c 4 t) _)
    isplitl [H0]; · iexact H0
    isplitl [H3]; · iexact H3
    isplitl [H4]; · iexact H4
    isplitl [H5]; · iexists _; iexact H5
    isplitl [HS]; · iexact HS
    isplitl [HT]; · iexact HT
    iintro ⟨H0, H3, H4, ⟨%X, %hX, H5⟩, HS, HT⟩
    isplitl [HS HT Hg]
    · isplitl [HS HT]
      · isplitl [HS]; · iexact HS
        iexact HT
      iexact Hg
    isplitl [Ho]; · iexact Ho
    isplitl [H0]; · iapply (hq d0); iexact H0
    isplitl [H1]; · iapply (hk d1); iexact H1
    isplitl [H2]; · iapply (hv d2); iexact H2
    isplitl [H3]; · iexact H3
    isplitl [H4]; · iexact H4
    iexists X
    rw [fill_cut_eq t X _ fun y hy => hX y ((Rect.mem_set_unit (inb := inb_S2048x128_S16x128_0_0)).mpr fun (a : Fin 2) => match a with
      | ⟨0, _⟩ => ⟨Nat.zero_le _, by
          have h0 := (win0_5.moved_iff _ y).mp hy (0 : Fin 2)
          rw [e5] at h0
          show (y 0).val < 0 + 16
          omega⟩
      | ⟨1, _⟩ => ⟨Nat.zero_le _, by
          have h0 : (y 1).val < 128 := (y 1).isLt
          show (y 1).val < 0 + 128
          omega⟩)]
    iexact H5

theorem body_obligation (c : Dev nD) : BodyObligationLoose (dats (F := F) m 0 c) (defs₀ (F := F)) Variants.none () Set.univ := fun t => by
  rw [bigSep_W0, bigSep_W0, defs₀_row]
  have hI : idle0 5 (grid0.coords t) = false := not_idle t
  simp only [hI]
  exact triple_restated (sound_body m c t) rfl .rfl fun _ => .rfl

/-! ## The run -/

theorem hin (c : Dev nD) : Pipeline.ΦA spec0 c ⊢ (dats (F := F) m 0 c).Φ 0 := Idealize.SL.BI.Entails.refl _

theorem hout (c : Dev nD) : (dats (F := F) m 0 c).Φ (Fin.last cfg0.N) ⊢ Pipeline.ΦA spec0 c := Idealize.SL.BI.Entails.refl _

set_option backward.isDefEq.respectTransparency.types false in
set_option maxHeartbeats 800000 in
/-- Every run ends with the pipeline's arrays as the proof data computes them and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end AttnRun

end
-- ==== Proof.Attn.Weights.lean ====
/-
  Stick breaking over one row of real scores: the weight of a key is the exponential of its score less the softplus of the
  scores from it on, and a row's result is the sum of the values under these weights. A run of keys may be met in pieces,
  the last piece first: what a piece adds needs only the sum of the softplus of the pieces met before. The scores are real
  numbers; the values may be infinite.
-/
module

public import Mathlib.Analysis.SpecialFunctions.Log.Basic
public import Mathlib.Algebra.BigOperators.Intervals
public import Mathlib.Data.EReal.Operations

@[expose] public section

noncomputable section

open scoped BigOperators

namespace StickBreaking

/-- The softplus of a score, in the form that does not overflow. -/
def soft (x : ℝ) : ℝ := max x 0 + Real.log (1 + Real.exp (-|x|))

/-- What the keys `lo … hi - 1` take from the stick. -/
def taken (z : ℕ → ℝ) (lo hi : ℕ) : ℝ := ∑ u ∈ Finset.Ico lo hi, soft (z u)

/-- The weight of key `s` among the keys below `hi`. -/
def weight (z : ℕ → ℝ) (hi s : ℕ) : ℝ := Real.exp (z s - (soft (z s) + taken z (s + 1) hi))

/-- What the keys `lo … hi - 1` contribute. -/
def part (z : ℕ → ℝ) (v : ℕ → EReal) (lo hi : ℕ) : EReal := ∑ s ∈ Finset.Ico lo hi, ((weight z hi s : ℝ) : EReal) * v s

theorem taken_split (z : ℕ → ℝ) {lo mid hi : ℕ} (h1 : lo ≤ mid) (h2 : mid ≤ hi) : taken z lo hi = taken z mid hi + taken z lo mid := by
  unfold taken
  rw [add_comm, Finset.sum_Ico_consecutive _ h1 h2]

theorem part_split (z : ℕ → ℝ) (v : ℕ → EReal) {lo mid hi : ℕ} (h1 : lo ≤ mid) (h2 : mid ≤ hi) :
    part z v lo hi = part z v mid hi + ∑ s ∈ Finset.Ico lo mid, ((Real.exp (z s - (soft (z s) + taken z (s + 1) mid + taken z mid hi)) : ℝ) : EReal) * v s := by
  unfold part
  rw [← Finset.sum_Ico_consecutive _ h1 h2, add_comm]
  refine congrArg (_ + ·) (Finset.sum_congr rfl fun s hs => ?_)
  have h3 := (Finset.mem_Ico.mp hs).2
  unfold weight
  rw [taken_split z (show s + 1 ≤ mid by omega) h2, add_comm (taken z mid hi), ← add_assoc]

theorem part_self (z : ℕ → ℝ) (v : ℕ → EReal) (a : ℕ) : part z v a a = 0 := by unfold part; rw [Finset.Ico_self, Finset.sum_empty]
theorem taken_self (z : ℕ → ℝ) (a : ℕ) : taken z a a = 0 := by unfold taken; rw [Finset.Ico_self, Finset.sum_empty]

/-- A sum over the keys `lo … lo + w - 1` as a sum over `W ≥ w` columns of which those from `w` on count nothing. -/
theorem sum_columns {M : Type*} [AddCommMonoid M] {W : ℕ} (f : ℕ → M) (lo w : ℕ) (hw : w ≤ W) :
    (∑ j : Fin W, if j.val < w then f (lo + j.val) else 0) = ∑ s ∈ Finset.Ico lo (lo + w), f s := by
  rw [Fin.sum_univ_eq_sum_range (fun j => if j < w then f (lo + j) else 0) W, Finset.sum_Ico_eq_sum_range, Nat.add_sub_cancel_left,
    ← Finset.sum_subset (Finset.range_subset_range.mpr hw)]
  · exact Finset.sum_congr rfl fun j hj => if_pos (Finset.mem_range.mp hj)
  · intro j _ hj
    exact if_neg (fun h => hj (Finset.mem_range.mpr h))

/-- The softplus of the columns after column `s`, of which those from `w` on count nothing. -/
theorem sum_after {W : ℕ} (z : ℕ → ℝ) (lo w : ℕ) (hw : w ≤ W) (s : ℕ) (hs : s < w) :
    (∑ j : Fin W, (if j.val < w then soft (z (lo + j.val)) else 0) * (if s < j.val then 1 else 0)) = taken z (lo + s + 1) (lo + w) := by
  unfold taken
  have e : ∀ j : Fin W, (if j.val < w then soft (z (lo + j.val)) else 0) * (if s < j.val then 1 else 0)
      = if j.val < w then (fun u => if lo + s < u then soft (z u) else 0) (lo + j.val) else 0 := by
    intro j
    dsimp only
    by_cases h : j.val < w
    · rw [if_pos h, if_pos h]
      by_cases h' : s < j.val
      · rw [if_pos h', if_pos (by omega), mul_one]
      · rw [if_neg h', if_neg (by omega), mul_zero]
    · rw [if_neg h, if_neg h, zero_mul]
  rw [Finset.sum_congr rfl fun j _ => e j, sum_columns (fun u => if lo + s < u then soft (z u) else 0) lo w hw,
    ← Finset.sum_Ico_consecutive _ (show lo ≤ lo + s + 1 by omega) (show lo + s + 1 ≤ lo + w by omega), Finset.sum_eq_zero, zero_add]
  · refine Finset.sum_congr rfl fun u hu => if_pos ?_
    have := (Finset.mem_Ico.mp hu).1
    omega
  · intro u hu
    have := (Finset.mem_Ico.mp hu).2
    exact if_neg (by omega)

/-- ONE PIECE: the columns' weighted values, under what the pieces met before took, continue the sum. -/
theorem part_step {W : ℕ} (z : ℕ → ℝ) (v : ℕ → EReal) (lo w hi : ℕ) (hw : w ≤ W) (hh : lo + w ≤ hi) (x : Fin W → ℝ) (y : Fin W → EReal)
    (hx : ∀ j : Fin W, j.val < w → x j = z (lo + j.val)) (hy : ∀ j : Fin W, j.val < w → y j = v (lo + j.val)) :
    part z v (lo + w) hi + (∑ j : Fin W, ((if j.val < w then
        Real.exp (x j - (soft (x j) + (∑ k : Fin W, (if k.val < w then soft (x k) else 0) * (if j.val < k.val then 1 else 0)) + taken z (lo + w) hi)) else 0 : ℝ) : EReal) * y j)
      = part z v lo hi := by
  rw [part_split z v (show lo ≤ lo + w by omega) hh]
  refine congrArg (_ + ·) ?_
  rw [← sum_columns _ lo w hw]
  refine Finset.sum_congr rfl fun j _ => ?_
  by_cases h : j.val < w
  · rw [if_pos h, if_pos h, hx j h, hy j h]
    have e : (∑ k : Fin W, (if k.val < w then soft (x k) else 0) * (if j.val < k.val then (1 : ℝ) else 0))
        = ∑ k : Fin W, (if k.val < w then soft (z (lo + k.val)) else 0) * (if j.val < k.val then 1 else 0) :=
      Finset.sum_congr rfl fun k _ => by
        by_cases hk : k.val < w
        · rw [if_pos hk, if_pos hk, hx k hk]
        · rw [if_neg hk, if_neg hk]
    rw [e, sum_after z lo w hw j.val h]
  · rw [if_neg h, if_neg h, EReal.coe_zero, zero_mul]

theorem taken_step {W : ℕ} (z : ℕ → ℝ) (lo w hi : ℕ) (hw : w ≤ W) (hh : lo + w ≤ hi) (x : Fin W → ℝ)
    (hx : ∀ j : Fin W, j.val < w → x j = z (lo + j.val)) :
    taken z (lo + w) hi + (∑ j : Fin W, if j.val < w then soft (x j) else 0) = taken z lo hi := by
  rw [taken_split z (show lo ≤ lo + w by omega) hh]
  unfold taken
  refine congrArg (_ + ·) ?_
  rw [← sum_columns _ lo w hw]
  refine Finset.sum_congr rfl fun j _ => ?_
  by_cases h : j.val < w
  · rw [if_pos h, if_pos h, hx j h]
  · rw [if_neg h, if_neg h]

/-- The softplus of the opposite score is the softplus less the score. -/
theorem soft_neg (x : ℝ) : soft (-x) = soft x - x := by
  unfold soft
  rw [abs_neg]
  rcases le_total x 0 with h | h
  · rw [max_eq_right h, max_eq_left (by linarith)]; ring
  · rw [max_eq_left h, max_eq_right (by linarith)]; ring

end StickBreaking

end
-- ==== Proof.Attn.Steps.lean ====
/-
  The attention's operations on matrices of real numbers, the values and results extended ones: the scores, their softplus, the weights of one piece of keys and
  what the piece adds to the row's result and to what the keys have taken so far. Sizes are arguments: the pieces are the
  tile's own 256 keys, 256 of the keys before it, and the meta keys' 128 rows of which 16 count.
-/
module

public import proofs.«01_k».proof.Proof.Attn.Weights
public import Idealize.ShloMosaic.Lib.MatmulPlain
public import Idealize.ShloMosaic.Lib.ValueLayout
public import Idealize.ShloMosaic.Lib.Pipeline.Value
public import Idealize.ShloMosaic.PureOps.Ideal.Laws

@[expose] public section

set_option maxRecDepth 16384

noncomputable section

open scoped BigOperators
open Idealize.ShloMosaic Idealize.ShloMosaic.ValueIdx

namespace StickBreaking

/-! ## Real numbers among the extended ones -/

theorem coe_sum {ι : Type*} (s : Finset ι) (f : ι → ℝ) : ((∑ i ∈ s, f i : ℝ) : EReal) = ∑ i ∈ s, ((f i : ℝ) : EReal) :=
  map_sum (⟨⟨Real.toEReal, EReal.coe_zero⟩, EReal.coe_add⟩ : ℝ →+ EReal) f s

/-- The factor the scores are scaled by. -/
def factor : ℝ := (Ideal.ofBits .f32 0x3DB504F3#32 : EReal).toReal

theorem ofBits_factor : Ideal.ofBits .f32 0x3DB504F3#32 = ((factor : ℝ) : EReal) := by
  unfold factor
  simp [Ideal.ofBits, Ideal.ieee, -EReal.coe_mul]

theorem ofBits_one : Ideal.ofBits .f32 0x3F800000#32 = 1 := by
  simp [Ideal.ofBits, Ideal.ieee, -EReal.coe_mul]; norm_num

theorem coe_max (a b : ℝ) : max (a : EReal) (b : EReal) = ((max a b : ℝ) : EReal) :=
  (Monotone.map_max (f := Real.toEReal) (fun _ _ h => EReal.coe_le_coe_iff.mpr h)).symm

/-- The softplus as the program writes it, of a real number. -/
theorem soft_coe (x : ℝ) :
    max (x : EReal) 0 + Ideal.log (1 + Ideal.exp (0 - max (x : EReal) (-(x : EReal)))) = ((soft x : ℝ) : EReal) := by
  have h : ¬ 1 + Real.exp (-|x|) ≤ 0 := not_le.mpr (by positivity)
  rw [← EReal.coe_zero, coe_max, ← EReal.coe_neg, coe_max, ← EReal.coe_sub, Ideal.exp_coe, ← EReal.coe_one, ← EReal.coe_add, zero_sub]
  rw [show max x (-x) = |x| from rfl, Ideal.log_coe, if_neg h, ← EReal.coe_add]
  rfl

abbrev Mat (R C : ℕ) : Shape := ⟨2, ![R, C]⟩

/-- Every entry of `x` is the real number that `X` names. -/
def Real2 {R C : ℕ} {φ : FTy} (x : FVec Ideal (Mat R C) φ) (X : Fin R → Fin C → ℝ) : Prop := ∀ r c, x (ix2 r c) = ((X r c : ℝ) : EReal)

/-- Every entry of `x` is the extended real number that `X` names. -/
def Ext2 {R C : ℕ} {φ : FTy} (x : FVec Ideal (Mat R C) φ) (X : Fin R → Fin C → EReal) : Prop := ∀ r c, x (ix2 r c) = X r c

variable {R W D : ℕ}

/-! ## The operations -/

def scoreV (q : FVec Ideal (Mat R 128) .bf16) (k : FVec Ideal (Mat W 128) .bf16) : FVec Ideal (Mat R W) .f32 :=
  mulf (matmul (DotDims.transposedRhs R 128 W) none q k (constant (Mat R W) .f32 0x00000000#32)) (broadcast (Mat R W) (Scalar.ofBits .f32 0x3DB504F3#32))

def softV (z : FVec Ideal (Mat R W) .f32) : FVec Ideal (Mat R W) .f32 :=
  addf (maximumf z (broadcast (Mat R W) (Scalar.ofBits .f32 0x00000000#32)))
    (log (addf (broadcast (Mat R W) (Scalar.ofBits .f32 0x3F800000#32)) (exp (subf (broadcast (Mat R W) (Scalar.ofBits .f32 0x00000000#32)) (absf z)))))

def maskV (p : IVec (Mat R W) 1) (x : FVec Ideal (Mat R W) .f32) : FVec Ideal (Mat R W) .f32 :=
  select p x (broadcast (Mat R W) (Scalar.ofBits .f32 0x00000000#32))

def weightV (z s : FVec Ideal (Mat R W) .f32) (t : FVec Ideal (Mat R W) .bf16) (u : FVec Ideal (Mat W W) .bf16) (c : FVec Ideal (Mat R 1) .f32)
    (hB : (Mat R 1).Broadcasts (Mat R W)) : FVec Ideal (Mat R W) .f32 :=
  exp (subf z (addf (addf s (matmul (DotDims.plain R W W) none t u (constant (Mat R W) .f32 0x00000000#32))) (broadcastTo (Mat R W) c hB)))

def accV (w : FVec Ideal (Mat R W) .f32) (v : FVec Ideal (Mat W D) .bf16) (a : FVec Ideal (Mat R D) .f32) : FVec Ideal (Mat R D) .f32 :=
  addf a (matmul (DotDims.plain R W D) none (truncf .bf16 w (by decide)) v (constant (Mat R D) .f32 0x00000000#32))

def carV (s : FVec Ideal (Mat R W) .f32) (c : FVec Ideal (Mat R 1) .f32) (hR : (Mat R W).Reduces [1] ⟨1, ![R]⟩) (hS : (⟨1, ![R]⟩ : Shape).ShapeCasts (Mat R 1)) :
    FVec Ideal (Mat R 1) .f32 :=
  addf c (shapeCast (Mat R 1) (multiReduction .add [1] ⟨1, ![R]⟩ s 0x00000000#32 hR (.inl rfl) rfl) hS)

/-! ## Their entries, of real numbers -/

theorem plain_real {K N : ℕ} {φ₁ φ₂ : FTy} {x : FVec Ideal (Mat R K) φ₁} {y : FVec Ideal (Mat K N) φ₂} {X : Fin R → Fin K → ℝ} {Y : Fin K → Fin N → ℝ}
    (hx : Real2 x X) (hy : Real2 y Y) :
    Real2 (matmul (DotDims.plain R K N) none x y (constant (Mat R N) .f32 0x00000000#32)) (fun r c => ∑ k : Fin K, X r k * Y k c) := by
  intro r c
  refine (Ideal.matmul_plain_apply none x y _ r c).trans ?_
  show Ideal.ofBits .f32 0x00000000#32 + _ = _
  rw [Ideal.ofBits_zero_f32, zero_add, coe_sum]
  exact Finset.sum_congr rfl fun k _ => by rw [hx r k, hy k c, EReal.coe_mul]

theorem plain_ext {K N : ℕ} {φ₁ φ₂ : FTy} {x : FVec Ideal (Mat R K) φ₁} {y : FVec Ideal (Mat K N) φ₂} {X : Fin R → Fin K → ℝ} {Y : Fin K → Fin N → EReal}
    (hx : Real2 x X) (hy : Ext2 y Y) :
    Ext2 (matmul (DotDims.plain R K N) none x y (constant (Mat R N) .f32 0x00000000#32)) (fun r c => ∑ k : Fin K, ((X r k : ℝ) : EReal) * Y k c) := by
  intro r c
  refine (Ideal.matmul_plain_apply none x y _ r c).trans ?_
  show Ideal.ofBits .f32 0x00000000#32 + _ = _
  rw [Ideal.ofBits_zero_f32, zero_add]
  exact Finset.sum_congr rfl fun k _ => by rw [hx r k, hy k c]

theorem score_real {q : FVec Ideal (Mat R 128) .bf16} {k : FVec Ideal (Mat W 128) .bf16} {Q : Fin R → Fin 128 → ℝ} {K : Fin W → Fin 128 → ℝ}
    (hq : Real2 q Q) (hk : Real2 k K) : Real2 (scoreV q k) (fun r j => (∑ d : Fin 128, Q r d * K j d) * factor) := by
  intro r j
  have e : (matmul (DotDims.transposedRhs R 128 W) none q k (constant (Mat R W) .f32 0x00000000#32) : FVec Ideal (Mat R W) .f32) (ix2 r j)
      = ((∑ d : Fin 128, Q r d * K j d : ℝ) : EReal) := by
    refine (Ideal.matmul_transposedRhs_apply none q k _ r j).trans ?_
    show Ideal.ofBits .f32 0x00000000#32 + _ = _
    rw [Ideal.ofBits_zero_f32, zero_add, coe_sum]
    exact Finset.sum_congr rfl fun d _ => by rw [hq r d, hk j d, EReal.coe_mul]
  rw [EReal.coe_mul, ← e, ← ofBits_factor]
  rfl

theorem soft_real {z : FVec Ideal (Mat R W) .f32} {Z : Fin R → Fin W → ℝ} (hz : Real2 z Z) : Real2 (softV z) (fun r j => soft (Z r j)) := by
  intro r j
  rw [← soft_coe, ← hz r j, ← Ideal.ofBits_zero_f32, ← ofBits_one]
  rfl

theorem mask_real {p : IVec (Mat R W) 1} {x : FVec Ideal (Mat R W) .f32} {X : Fin R → Fin W → ℝ} {w : Fin R → ℕ}
    (hp : ∀ r j, p (ix2 r j) = if j.val < w r then 1#1 else 0#1) (hx : Real2 x X) : Real2 (maskV p x) (fun r j => if j.val < w r then X r j else 0) := by
  intro r j
  show (if p (ix2 r j) = 1#1 then x (ix2 r j) else Ideal.ofBits .f32 0x00000000#32) = _
  rw [hp r j]
  dsimp only
  by_cases h : j.val < w r
  · rw [if_pos h, if_pos rfl, if_pos h, hx r j]
  · rw [if_neg h, if_neg (by decide), if_neg h, Ideal.ofBits_zero_f32, EReal.coe_zero]

theorem weight_real {z s : FVec Ideal (Mat R W) .f32} {t : FVec Ideal (Mat R W) .bf16} {u : FVec Ideal (Mat W W) .bf16} {c : FVec Ideal (Mat R 1) .f32}
    {hB : (Mat R 1).Broadcasts (Mat R W)} {Z S T : Fin R → Fin W → ℝ} {U : Fin W → Fin W → ℝ} {C : Fin R → ℝ}
    (hz : Real2 z Z) (hs : Real2 s S) (ht : Real2 t T) (hu : Real2 u U) (hc : Real2 c (fun r _ => C r)) :
    Real2 (weightV z s t u c hB) (fun r j => Real.exp (Z r j - (S r j + (∑ k : Fin W, T r k * U k j) + C r))) := by
  intro r j
  have eB : broadcastTo (Mat R W) c hB (ix2 r j) = ((C r : ℝ) : EReal) :=
    (broadcastTo_apply c hB (ix2 r j) (ix2 r (0 : Fin 1)) (fun a => match a with
      | ⟨0, _⟩ => by
        have hr := r.isLt
        show r.val = if R = 1 then 0 else r.val
        split <;> omega
      | ⟨1, _⟩ => rfl)).trans (hc r 0)
  have eM := plain_real (φ₁ := .bf16) (φ₂ := .bf16) ht hu r j
  show Ideal.exp (z (ix2 r j) - (s (ix2 r j) + matmul (F := Ideal) (DotDims.plain R W W) none t u (constant (Mat R W) .f32 0x00000000#32) (ix2 r j)
    + broadcastTo (Mat R W) c hB (ix2 r j))) = _
  rw [eB, eM, hz r j, hs r j, ← EReal.coe_add, ← EReal.coe_add, ← EReal.coe_sub, Ideal.exp_coe]

theorem acc_real {w : FVec Ideal (Mat R W) .f32} {v : FVec Ideal (Mat W D) .bf16} {a : FVec Ideal (Mat R D) .f32}
    {X : Fin R → Fin W → ℝ} {Y : Fin W → Fin D → EReal} {A : Fin R → Fin D → EReal} (hw : Real2 w X) (hv : Ext2 v Y) (ha : Ext2 a A) :
    Ext2 (accV w v a) (fun r d => A r d + ∑ j : Fin W, ((X r j : ℝ) : EReal) * Y j d) := by
  intro r d
  have eM := plain_ext (φ₁ := .bf16) (φ₂ := .bf16) (x := truncf .bf16 w (by decide)) hw hv r d
  dsimp only
  dsimp only at eM
  rw [← ha r d, ← eM]
  rfl

theorem car_real {s : FVec Ideal (Mat R W) .f32} {c : FVec Ideal (Mat R 1) .f32} {hR : (Mat R W).Reduces [1] ⟨1, ![R]⟩}
    {hS : (⟨1, ![R]⟩ : Shape).ShapeCasts (Mat R 1)} {S : Fin R → Fin W → ℝ} {C : Fin R → ℝ} (hs : Real2 s S) (hc : Real2 c (fun r _ => C r)) :
    Real2 (carV s c hR hS) (fun r _ => C r + ∑ j : Fin W, S r j) := by
  intro r o
  obtain rfl : o = 0 := Subsingleton.elim _ _
  dsimp only
  rw [EReal.coe_add, ← hc r 0, coe_sum]
  show c (ix2 r 0) + shapeCast (Mat R 1) _ hS (ix2 r (0 : Fin 1)) = _
  rw [shapeCast_apply _ hS (ix2 r (0 : Fin 1)) (ix1 r) (by
    rw [Shape.rowMajor_val_one, Shape.rowMajor_val_two]; show r.val = r.val * 1 + 0; omega)]
  refine congrArg (c (ix2 r 0) + ·) ((Ideal.multiReduction_add_single s 0x00000000#32 hR (.inl rfl) rfl (ix1 r)).trans
    (Finset.sum_congr rfl fun j _ => ?_))
  rw [← hs r j]
  exact congrArg s (funext fun a => Fin.ext (by match a with | ⟨0, _⟩ => rfl | ⟨1, _⟩ => rfl))

/-- Columns `o … o + W - 1` of a matrix. -/
theorem cols_real {N : ℕ} {φ : FTy} (o : ℕ) {x : FVec Ideal (Mat R N) φ} {h : (Mat R N).Slices ![0, o] (Mat R W)} {X : Fin R → ℕ → ℝ}
    (hx : Real2 x (fun r j => X r j.val)) : Real2 (φ := φ) (extractStridedSlice (Mat R W) ![0, o] x h) (fun r j => X r (o + j.val)) := by
  intro r j
  have hb : o + W ≤ N := h.2 (1 : Fin 2)
  have hj := j.isLt
  refine (extractStridedSlice_apply ![0, o] x h (ix2 r j) (ix2 r ⟨o + j.val, by omega⟩) (fun a => match a with
    | ⟨0, _⟩ => (Nat.zero_add _).symm
    | ⟨1, _⟩ => rfl)).trans (hx r _)

/-- Rows `o … o + W - 1` of a matrix. -/
theorem rows_ext {N : ℕ} {φ : FTy} (o : ℕ) {x : FVec Ideal (Mat N D) φ} {h : (Mat N D).Slices ![o, 0] (Mat W D)} {X : ℕ → Fin D → EReal}
    (hx : Ext2 x (fun r d => X r.val d)) : Ext2 (φ := φ) (extractStridedSlice (Mat W D) ![o, 0] x h) (fun r d => X (o + r.val) d) := by
  intro r d
  have hb : o + W ≤ N := h.2 (0 : Fin 2)
  have hr := r.isLt
  refine (extractStridedSlice_apply ![o, 0] x h (ix2 r d) (ix2 ⟨o + r.val, by omega⟩ d) (fun a => match a with
    | ⟨0, _⟩ => rfl
    | ⟨1, _⟩ => (Nat.zero_add _).symm)).trans (hx _ d)

/-! ## One piece of keys -/

/-- The keys from `lo` on have been met: `a` holds what they contribute, `c` what they have taken. -/
structure Met (a : FVec Ideal (Mat R D) .f32) (c : FVec Ideal (Mat R 1) .f32) (z : Fin R → ℕ → ℝ) (v : Fin D → ℕ → EReal) (lo hi : Fin R → ℕ) : Prop where
  acc : Ext2 a (fun r d => part (z r) (v d) (lo r) (hi r))
  car : Real2 c (fun r _ => taken (z r) (lo r) (hi r))

/-- The strictly lower triangle of ones. -/
abbrev Tri (k j : Fin W) : ℝ := if j.val < k.val then 1 else 0

section Piece

variable {a : FVec Ideal (Mat R D) .f32} {c : FVec Ideal (Mat R 1) .f32} {z : Fin R → ℕ → ℝ} {v : Fin D → ℕ → EReal} {hi w : Fin R → ℕ} {lo : ℕ}
  {x sm : FVec Ideal (Mat R W) .f32} {y : FVec Ideal (Mat W D) .bf16} {X : Fin R → Fin W → ℝ} {Y : Fin W → Fin D → EReal}

/-- A piece of which a row's first `w r` columns count: the result's row. -/
theorem Met.acc_step (hm : Met a c z v (fun r => lo + w r) hi) (hw : ∀ r, w r ≤ W) (hh : ∀ r, lo + w r ≤ hi r)
    (hX : ∀ r j, j.val < w r → X r j = z r (lo + j.val)) (hY : ∀ r j d, j.val < w r → Y j d = v d (lo + j.val))
    (hx : Real2 x (fun r j => if j.val < w r then
      Real.exp (X r j - (soft (X r j) + (∑ k : Fin W, (if k.val < w r then soft (X r k) else 0) * Tri k j) + taken (z r) (lo + w r) (hi r))) else 0))
    (hy : Ext2 y Y) : Ext2 (accV x y a) (fun r d => part (z r) (v d) lo (hi r)) := by
  intro r d
  rw [acc_real hx hy hm.acc r d]
  exact (part_step (z r) (v d) lo (w r) (hi r) (hw r) (hh r) (X r) (fun j => Y j d) (hX r) (fun j h => hY r j d h))

/-- The same with what the keys have taken. -/
theorem Met.step {hR : (Mat R W).Reduces [1] ⟨1, ![R]⟩} {hS : (⟨1, ![R]⟩ : Shape).ShapeCasts (Mat R 1)}
    (hm : Met a c z v (fun r => lo + w r) hi) (hw : ∀ r, w r ≤ W) (hh : ∀ r, lo + w r ≤ hi r)
    (hX : ∀ r j, j.val < w r → X r j = z r (lo + j.val)) (hY : ∀ r j d, j.val < w r → Y j d = v d (lo + j.val))
    (hx : Real2 x (fun r j => if j.val < w r then
      Real.exp (X r j - (soft (X r j) + (∑ k : Fin W, (if k.val < w r then soft (X r k) else 0) * Tri k j) + taken (z r) (lo + w r) (hi r))) else 0))
    (hs : Real2 sm (fun r j => if j.val < w r then soft (X r j) else 0)) (hy : Ext2 y Y) :
    Met (accV x y a) (carV sm c hR hS) z v (fun _ => lo) hi where
  acc := hm.acc_step hw hh hX hY hx hy
  car := by
    intro r o
    rw [car_real hs hm.car r o]
    exact congrArg Real.toEReal (taken_step (z r) lo (w r) (hi r) (hw r) (hh r) (X r) (hX r))

end Piece

end StickBreaking

end
-- ==== Proof.Attn.Tiles.lean ====
/-
  The eight query tiles of a block of the attention, and the meta queries: each is the tile's own keys under the causal mask,
  then the keys before the tile by 256, the latest first, then the meta keys; so a query's row is the stick-breaking sum over
  all the keys joined before it.
-/
module

public import proofs.«01_k».proof.Proof.Attn.Body
public import proofs.«01_k».proof.Proof.Attn.Steps
public import Idealize.ShloMosaic.Lib.WordCmp

@[expose] public section

set_option maxRecDepth 16384

noncomputable section

open scoped BigOperators
open Idealize.ShloMosaic Idealize.ShloMosaic.TcCoe Idealize.ShloMosaic.ValueIdx
open StickBreaking Idealize.ShloMosaic.WordCmp

namespace AttnRun

open Cert.AttnIdeal Cert.AttnIdeal.Gen

/-! ## The tiles, step by step -/

/-- What a tile has after a piece of keys: the result's rows, and what the keys have taken. -/
abbrev St : Type := FVec Ideal S256x128 .f32 × FVec Ideal S256x1 .f32

/-- The tile's own keys. -/
def own (q k v : T Ideal) : St :=
  (accV (maskV k0_pay8 (weightV (scoreV q k) (softV (scoreV q k)) (truncf .bf16 (maskV k0_pay8 (softV (scoreV q k))) bitsLt_bf16_f32) (k0_pay10 (F := Ideal))
      (k0_pay11 (F := Ideal)) broadcasts_S256x1_S256x256)) v (k0_pay12 (F := Ideal)),
    carV (maskV k0_pay8 (softV (scoreV q k))) (k0_pay11 (F := Ideal)) reduces_S256x256_S256 shapeCasts_S256_S256x1)

/-- The only block of keys before the second tile. -/
def sole (q kp vp : T Ideal) (st : St) : St :=
  (accV (weightV (scoreV q kp) (softV (scoreV q kp)) (truncf .bf16 (softV (scoreV q kp)) bitsLt_bf16_f32) (k0_pay10 (F := Ideal)) st.2 broadcasts_S256x1_S256x256) vp st.1,
    carV (softV (scoreV q kp)) st.2 reduces_S256x256_S256 shapeCasts_S256_S256x1)

/-- The 256 keys from key `o` on of those before the tile. -/
def prior {N : ℕ} (o : ℕ) (hc : (Mat 256 N).Slices ![0, o] S256x256) (hr : (Mat N 128).Slices ![o, 0] S256x128)
    (q : T Ideal) (kp vp : FVec Ideal (Mat N 128) .bf16) (st : St) : St :=
  (accV (weightV (extractStridedSlice S256x256 ![0, o] (scoreV q kp) hc) (extractStridedSlice S256x256 ![0, o] (softV (scoreV q kp)) hc)
      (extractStridedSlice S256x256 ![0, o] (truncf .bf16 (softV (scoreV q kp)) bitsLt_bf16_f32) hc) (k0_pay10 (F := Ideal)) st.2 broadcasts_S256x1_S256x256)
      (extractStridedSlice S256x128 ![o, 0] vp hr) st.1,
    carV (extractStridedSlice S256x256 ![0, o] (softV (scoreV q kp)) hc) st.2 reduces_S256x256_S256 shapeCasts_S256_S256x1)

/-- The meta keys. -/
def last (q : T Ideal) (mk mv : MT' Ideal) (st : St) : FVec Ideal S256x128 .f32 :=
  accV (maskV k0_pay9 (weightV (scoreV q mk) (softV (scoreV q mk)) (truncf .bf16 (maskV k0_pay9 (softV (scoreV q mk))) bitsLt_bf16_f32) (k0_pay5 (F := Ideal)) st.2
      broadcasts_S256x1_S256x128)) mv st.1

theorem tile0_eq (q k v : T Ideal) (mk mv : MT' Ideal) : tile0 q k v mk mv = truncf .bf16 (last q mk mv (own q k v)) bitsLt_bf16_f32 := rfl

theorem tile1_eq (q k v kp vp : T Ideal) (mk mv : MT' Ideal) :
    tile1 q k v kp vp mk mv = truncf .bf16 (last q mk mv (sole q kp vp (own q k v))) bitsLt_bf16_f32 := rfl

theorem tile2_eq (q k v : T Ideal) (kp vp : Vec Ideal S512x128 .bf16) (mk mv : MT' Ideal) :
    tile2 q k v kp vp mk mv = truncf .bf16 (last q mk mv
      (prior 0 slices_S256x512_o0_0_S256x256 slices_S512x128_o0_0_S256x128 q kp vp
      (prior 256 slices_S256x512_o0_256_S256x256 slices_S512x128_o256_0_S256x128 q kp vp (own q k v)))) bitsLt_bf16_f32 := rfl

theorem tile3_eq (q k v : T Ideal) (kp vp : Vec Ideal S768x128 .bf16) (mk mv : MT' Ideal) :
    tile3 q k v kp vp mk mv = truncf .bf16 (last q mk mv
      (prior 0 slices_S256x768_o0_0_S256x256 slices_S768x128_o0_0_S256x128 q kp vp
      (prior 256 slices_S256x768_o0_256_S256x256 slices_S768x128_o256_0_S256x128 q kp vp
      (prior 512 slices_S256x768_o0_512_S256x256 slices_S768x128_o512_0_S256x128 q kp vp (own q k v))))) bitsLt_bf16_f32 := rfl

theorem tile4_eq (q k v : T Ideal) (kp vp : Vec Ideal S1024x128 .bf16) (mk mv : MT' Ideal) :
    tile4 q k v kp vp mk mv = truncf .bf16 (last q mk mv
      (prior 0 slices_S256x1024_o0_0_S256x256 slices_S1024x128_o0_0_S256x128 q kp vp
      (prior 256 slices_S256x1024_o0_256_S256x256 slices_S1024x128_o256_0_S256x128 q kp vp
      (prior 512 slices_S256x1024_o0_512_S256x256 slices_S1024x128_o512_0_S256x128 q kp vp
      (prior 768 slices_S256x1024_o0_768_S256x256 slices_S1024x128_o768_0_S256x128 q kp vp (own q k v)))))) bitsLt_bf16_f32 := rfl

theorem tile5_eq (q k v : T Ideal) (kp vp : Vec Ideal S1280x128 .bf16) (mk mv : MT' Ideal) :
    tile5 q k v kp vp mk mv = truncf .bf16 (last q mk mv
      (prior 0 slices_S256x1280_o0_0_S256x256 slices_S1280x128_o0_0_S256x128 q kp vp
      (prior 256 slices_S256x1280_o0_256_S256x256 slices_S1280x128_o256_0_S256x128 q kp vp
      (prior 512 slices_S256x1280_o0_512_S256x256 slices_S1280x128_o512_0_S256x128 q kp vp
      (prior 768 slices_S256x1280_o0_768_S256x256 slices_S1280x128_o768_0_S256x128 q kp vp
      (prior 1024 slices_S256x1280_o0_1024_S256x256 slices_S1280x128_o1024_0_S256x128 q kp vp (own q k v))))))) bitsLt_bf16_f32 := rfl

theorem tile6_eq (q k v : T Ideal) (kp vp : Vec Ideal S1536x128 .bf16) (mk mv : MT' Ideal) :
    tile6 q k v kp vp mk mv = truncf .bf16 (last q mk mv
      (prior 0 slices_S256x1536_o0_0_S256x256 slices_S1536x128_o0_0_S256x128 q kp vp
      (prior 256 slices_S256x1536_o0_256_S256x256 slices_S1536x128_o256_0_S256x128 q kp vp
      (prior 512 slices_S256x1536_o0_512_S256x256 slices_S1536x128_o512_0_S256x128 q kp vp
      (prior 768 slices_S256x1536_o0_768_S256x256 slices_S1536x128_o768_0_S256x128 q kp vp
      (prior 1024 slices_S256x1536_o0_1024_S256x256 slices_S1536x128_o1024_0_S256x128 q kp vp
      (prior 1280 slices_S256x1536_o0_1280_S256x256 slices_S1536x128_o1280_0_S256x128 q kp vp (own q k v)))))))) bitsLt_bf16_f32 := rfl

theorem tile7_eq (q k v : T Ideal) (kp vp : Vec Ideal S1792x128 .bf16) (mk mv : MT' Ideal) :
    tile7 q k v kp vp mk mv = truncf .bf16 (last q mk mv
      (prior 0 slices_S256x1792_o0_0_S256x256 slices_S1792x128_o0_0_S256x128 q kp vp
      (prior 256 slices_S256x1792_o0_256_S256x256 slices_S1792x128_o256_0_S256x128 q kp vp
      (prior 512 slices_S256x1792_o0_512_S256x256 slices_S1792x128_o512_0_S256x128 q kp vp
      (prior 768 slices_S256x1792_o0_768_S256x256 slices_S1792x128_o768_0_S256x128 q kp vp
      (prior 1024 slices_S256x1792_o0_1024_S256x256 slices_S1792x128_o1024_0_S256x128 q kp vp
      (prior 1280 slices_S256x1792_o0_1280_S256x256 slices_S1792x128_o1280_0_S256x128 q kp vp
      (prior 1536 slices_S256x1792_o0_1536_S256x256 slices_S1792x128_o1536_0_S256x128 q kp vp (own q k v))))))))) bitsLt_bf16_f32 := rfl

/-- The meta queries. -/
theorem metaOut_eq (q : Vec Ideal S2048x128 .bf16) (mk mv : MT' Ideal) :
    metaOut q mk mv = truncf .bf16 (accV (maskV (cmpi .slt (iota .tc S16x128 32 [1] iota_S16x128_d1_w32) (iota .tc S16x128 32 [0] iota_S16x128_d0_w32))
      (weightV (scoreV (View.ld q rTop) (View.ld mk rPad)) (softV (scoreV (View.ld q rTop) (View.ld mk rPad)))
        (truncf .bf16 (maskV (cmpi .slt (iota .tc S16x128 32 [1] iota_S16x128_d1_w32) (iota .tc S16x128 32 [0] iota_S16x128_d0_w32))
          (softV (scoreV (View.ld q rTop) (View.ld mk rPad)))) bitsLt_bf16_f32) (k0_pay5 (F := Ideal))
        (broadcast S16x1 (Scalar.ofBits .f32 0x00000000#32)) broadcasts_S16x1_S16x128)) (View.ld mv rPad)
      (broadcast S16x128 (Scalar.ofBits .f32 0x00000000#32))) bitsLt_bf16_f32 := rfl

/-! ## Masks and triangles -/

/-- A comparison of two counts below `2 ^ 31`, as words. -/
theorem slt_word (a b : ℕ) (ha : a < 2 ^ 31) (hb : b < 2 ^ 31) : IntOp.cmpi .slt (BitVec.ofNat 32 a) (BitVec.ofNat 32 b) = if a < b then 1#1 else 0#1 := by
  rw [cmpi_slt_ofNat ha hb]
  by_cases h : a < b
  · rw [if_pos h, decide_eq_true h]; rfl
  · rw [if_neg h, decide_eq_false h]; rfl

theorem own_mask (r j : Fin 256) : (k0_pay8 : IVec S256x256 1) (ix2 r j) = if j.val < r.val then 1#1 else 0#1 := by
  have e0 : iota .tc S256x256 32 [0] iota_S256x256_d0_w32 (ix2 r j) = BitVec.ofNat 32 r.val := iota_single_apply _ _ _ _ _ _
  have e1 : iota .tc S256x256 32 [1] iota_S256x256_d1_w32 (ix2 r j) = BitVec.ofNat 32 j.val := iota_single_apply _ _ _ _ _ _
  rw [← slt_word j.val r.val (by have := j.isLt; omega) (by have := r.isLt; omega), ← e0, ← e1]
  rfl

theorem meta_mask (r : Fin 256) (j : Fin 128) : (k0_pay9 : IVec S256x128 1) (ix2 r j) = if j.val < 16 then 1#1 else 0#1 := by
  have e1 : iota .tc S256x128 32 [1] iota_S256x128_d1_w32 (ix2 r j) = BitVec.ofNat 32 j.val := iota_single_apply _ _ _ _ _ _
  rw [← slt_word j.val 16 (by have := j.isLt; omega) (by omega), ← e1]
  rfl

theorem top_mask (r : Fin 16) (j : Fin 128) :
    cmpi .slt (iota .tc S16x128 32 [1] iota_S16x128_d1_w32) (iota .tc S16x128 32 [0] iota_S16x128_d0_w32) (ix2 r j) = if j.val < r.val then 1#1 else 0#1 := by
  have e0 : iota .tc S16x128 32 [0] iota_S16x128_d0_w32 (ix2 r j) = BitVec.ofNat 32 r.val := iota_single_apply _ _ _ _ _ _
  have e1 : iota .tc S16x128 32 [1] iota_S16x128_d1_w32 (ix2 r j) = BitVec.ofNat 32 j.val := iota_single_apply _ _ _ _ _ _
  rw [← slt_word j.val r.val (by have := j.isLt; omega) (by have := r.isLt; omega), ← e0, ← e1]
  rfl

/-- The triangle's entry from its comparison. -/
theorem tri_entry {W : ℕ} (k j : Fin W) (p : BitVec 1) (hp : p = if j.val < k.val then 1#1 else 0#1) :
    (if p = 1#1 then Ideal.ofBits .f32 0x3F800000#32 else Ideal.ofBits .f32 0x00000000#32) = ((Tri k j : ℝ) : EReal) := by
  subst hp
  by_cases h : j.val < k.val
  · rw [if_pos h, if_pos rfl, ofBits_one, show Tri k j = 1 from if_pos h, EReal.coe_one]
  · rw [if_neg h, if_neg (by decide), Ideal.ofBits_zero_f32, show Tri k j = 0 from if_neg h, EReal.coe_zero]

theorem tri256 : Real2 (k0_pay10 (F := Ideal)) Tri := by
  intro k j
  have e0 : iota .tc S256x256 32 [0] iota_S256x256_d0_w32 (ix2 k j) = BitVec.ofNat 32 k.val := iota_single_apply _ _ _ _ _ _
  have e1 : iota .tc S256x256 32 [1] iota_S256x256_d1_w32 (ix2 k j) = BitVec.ofNat 32 j.val := iota_single_apply _ _ _ _ _ _
  refine Eq.trans ?_ (tri_entry k j _ (slt_word j.val k.val (by have := j.isLt; omega) (by have := k.isLt; omega)))
  rw [← e0, ← e1]
  rfl

theorem tri128 : Real2 (k0_pay5 (F := Ideal)) Tri := by
  intro k j
  have e0 : iota .tc S128x128 32 [0] iota_S128x128_d0_w32 (ix2 k j) = BitVec.ofNat 32 k.val := iota_single_apply _ _ _ _ _ _
  have e1 : iota .tc S128x128 32 [1] iota_S128x128_d1_w32 (ix2 k j) = BitVec.ofNat 32 j.val := iota_single_apply _ _ _ _ _ _
  refine Eq.trans ?_ (tri_entry k j _ (slt_word j.val k.val (by have := j.isLt; omega) (by have := k.isLt; omega)))
  rw [← e0, ← e1]
  rfl

/-! ## A tile's rows -/

/-- A query's scores against the joined keys. -/
def scores (q : Fin 128 → ℝ) (K : ℕ → Fin 128 → ℝ) (u : ℕ) : ℝ := (∑ d : Fin 128, q d * K u d) * factor

/-- A query's result from the keys before position `p`. -/
def attended (q : Fin 128 → ℝ) (K : ℕ → Fin 128 → ℝ) (V : ℕ → Fin 128 → EReal) (p : ℕ) (d : Fin 128) : EReal := part (scores q K) (fun u => V u d) 0 p

/-- Nothing met yet. -/
theorem none_met {R D : ℕ} (z : Fin R → ℕ → ℝ) (v : Fin D → ℕ → EReal) (hi : Fin R → ℕ) :
    Met (broadcast (Mat R D) (Scalar.ofBits (F := Ideal) .f32 0x00000000#32)) (broadcast (Mat R 1) (Scalar.ofBits (F := Ideal) .f32 0x00000000#32)) z v hi hi where
  acc := fun r d => by dsimp only; rw [part_self]; exact Ideal.ofBits_zero_f32
  car := fun r _ => by dsimp only; rw [taken_self, EReal.coe_zero]; exact Ideal.ofBits_zero_f32

section Tile

variable {q : T Ideal} {Q : Fin 256 → Fin 128 → ℝ} {K : ℕ → Fin 128 → ℝ} {V : ℕ → Fin 128 → EReal} (hq : Real2 (φ := .bf16) q Q)
include hq

theorem own_met (b : ℕ) {k v : T Ideal} (hk : Real2 (φ := .bf16) k (fun j d => K (b + j.val) d)) (hv : Ext2 (φ := .bf16) v (fun j d => V (b + j.val) d)) :
    Met (own q k v).1 (own q k v).2 (fun r => scores (Q r) K) (fun d u => V u d) (fun _ => b) (fun r => b + r.val) := by
  have hz := score_real hq hk
  have hs := soft_real hz
  have h0 := none_met (fun r => scores (Q r) K) (fun (d : Fin 128) u => V u d) (fun r : Fin 256 => b + r.val)
  exact Met.step (w := fun r : Fin 256 => r.val) h0 (fun r => r.isLt.le) (fun _ => le_rfl) (fun _ _ _ => rfl) (fun _ _ _ _ => rfl)
    (mask_real own_mask (weight_real hz hs (mask_real own_mask hs) tri256 h0.car)) (mask_real own_mask hs) hv

theorem prior_met {N : ℕ} (o b : ℕ) (hi : Fin 256 → ℕ) (hc : (Mat 256 N).Slices ![0, o] S256x256) (hr : (Mat N 128).Slices ![o, 0] S256x128)
    {kp vp : FVec Ideal (Mat N 128) .bf16} (hk : Real2 (φ := .bf16) kp (fun j d => K (16 + j.val) d)) (hv : Ext2 (φ := .bf16) vp (fun j d => V (16 + j.val) d)) {st : St}
    (hb : b = 16 + o + 256) (hh : ∀ r, b ≤ hi r) (hm : Met st.1 st.2 (fun r => scores (Q r) K) (fun d u => V u d) (fun _ => b) hi) :
    Met (prior o hc hr q kp vp st).1 (prior o hc hr q kp vp st).2 (fun r => scores (Q r) K) (fun d u => V u d) (fun _ => 16 + o) hi := by
  subst hb
  have hz := score_real hq hk
  have hs := soft_real hz
  have hz' := cols_real (W := 256) (φ := .f32) o (h := hc) (X := fun r u => scores (Q r) K (16 + u)) hz
  have hs' := cols_real (W := 256) (φ := .f32) o (h := hc) (X := fun r u => soft (scores (Q r) K (16 + u))) hs
  have ht' := cols_real (W := 256) (φ := .bf16) o (h := hc) (X := fun r u => soft (scores (Q r) K (16 + u))) (x := truncf .bf16 (softV (scoreV q kp)) bitsLt_bf16_f32) hs
  have hv' := rows_ext (W := 256) (φ := .bf16) o (h := hr) (X := fun u d => V (16 + u) d) hv
  refine Met.step (w := fun _ : Fin 256 => 256) (X := fun r j => scores (Q r) K (16 + (o + j.val))) hm (fun _ => le_rfl) hh
    (fun r j _ => by rw [Nat.add_assoc]) (fun r j d _ => by rw [Nat.add_assoc]) ?_ ?_ hv'
  · intro r j
    rw [weight_real hz' hs' ht' tri256 hm.car r j]
    dsimp only
    rw [if_pos j.isLt]
    have e : ∀ k : Fin 256, (if k.val < 256 then soft (scores (Q r) K (16 + (o + k.val))) else 0) = soft (scores (Q r) K (16 + (o + k.val))) := fun k => if_pos k.isLt
    simp only [e]
  · intro r j
    rw [hs' r j]
    dsimp only
    rw [if_pos j.isLt]

theorem sole_met (b : ℕ) (hi : Fin 256 → ℕ) {kp vp : T Ideal} (hk : Real2 (φ := .bf16) kp (fun j d => K (16 + j.val) d)) (hv : Ext2 (φ := .bf16) vp (fun j d => V (16 + j.val) d)) {st : St}
    (hb : b = 16 + 256) (hh : ∀ r, b ≤ hi r) (hm : Met st.1 st.2 (fun r => scores (Q r) K) (fun d u => V u d) (fun _ => b) hi) :
    Met (sole q kp vp st).1 (sole q kp vp st).2 (fun r => scores (Q r) K) (fun d u => V u d) (fun _ => 16) hi := by
  subst hb
  have hz := score_real hq hk
  have hs := soft_real hz
  refine Met.step (w := fun _ : Fin 256 => 256) (X := fun r j => scores (Q r) K (16 + j.val)) hm (fun _ => le_rfl) hh
    (fun r j _ => rfl) (fun r j d _ => rfl) ?_ ?_ hv
  · intro r j
    rw [weight_real (t := truncf .bf16 (softV (scoreV q kp)) bitsLt_bf16_f32) hz hs hs tri256 hm.car r j]
    dsimp only
    rw [if_pos j.isLt]
    have e : ∀ k : Fin 256, (if k.val < 256 then soft (scores (Q r) K (16 + k.val)) else 0) = soft (scores (Q r) K (16 + k.val)) := fun k => if_pos k.isLt
    simp only [e]
    rfl
  · intro r j
    rw [hs r j]
    dsimp only
    rw [if_pos j.isLt]
    rfl

/-- The meta keys, the last: the row's result. -/
theorem last_ext (hi : Fin 256 → ℕ) {mk mv : MT' Ideal} {MK : Fin 128 → Fin 128 → ℝ} {MV : Fin 128 → Fin 128 → EReal} (hk : Real2 (φ := .bf16) mk MK) (hv : Ext2 (φ := .bf16) mv MV)
    (ek : ∀ j d, j.val < 16 → MK j d = K j.val d) (ev : ∀ j d, j.val < 16 → MV j d = V j.val d) {st : St}
    (hh : ∀ r, 16 ≤ hi r) (hm : Met st.1 st.2 (fun r => scores (Q r) K) (fun d u => V u d) (fun _ => 16) hi) :
    Ext2 (last q mk mv st) (fun r d => attended (Q r) K V (hi r) d) := by
  have hz := score_real hq hk
  have hs := soft_real hz
  have hm' : Met st.1 st.2 (fun r => scores (Q r) K) (fun d u => V u d) (fun _ => 0 + 16) hi := hm
  have h := weight_real (hB := broadcasts_S256x1_S256x128) hz hs (mask_real meta_mask hs) tri128 hm'.car
  exact Met.acc_step (w := fun _ : Fin 256 => 16) (lo := 0) hm' (fun _ => by omega) (fun r => by have := hh r; omega)
    (fun r j hj => by
      show _ = (∑ d : Fin 128, Q r d * K (0 + j.val) d) * factor
      rw [Nat.zero_add, Finset.sum_congr rfl fun d _ => by rw [ek j d hj]])
    (fun r j d hj => by rw [Nat.zero_add, ev j d hj]) (mask_real meta_mask h) hv

end Tile

end AttnRun

end
-- ==== Proof.Attn.Block.lean ====
/-
  A block of the attention's result: the eight tiles' rows together, and the meta queries' 16 rows, each row the
  stick-breaking sum over the joined keys before it.
-/
module

public import proofs.«01_k».proof.Proof.Attn.Tiles
public import Idealize.ShloMosaic.Lib.Pipeline.ValueKit.Tiles

@[expose] public section

set_option maxRecDepth 16384

noncomputable section

open scoped BigOperators
open Idealize.ShloMosaic Idealize.ShloMosaic.TcCoe Idealize.ShloMosaic.ValueIdx
open StickBreaking

namespace AttnRun

open Cert.AttnIdeal Cert.AttnIdeal.Gen

/-! ## Loads -/

/-- Rows `o … o + W - 1` of a buffer. -/
theorem ld_real {N W D : ℕ} (o : ℕ) {x : Vec Ideal (Mat N D) .bf16} {X : ℕ → Fin D → ℝ} (h : ∀ a, (![o, 0] : Fin 2 → ℕ) a + (Mat W D).size a ≤ (Mat N D).size a)
    (hx : Real2 (φ := .bf16) x (fun r d => X r.val d)) :
    Real2 (R := W) (C := D) (φ := .bf16) (View.ld (Val := Elt Ideal) x (Rect.unit (s := Mat N D) ![o, 0] (Mat W D).size h)) (fun r d => X (o + r.val) d) := by
  intro r d
  have hb : o + W ≤ N := h (0 : Fin 2)
  have hr := r.isLt
  exact (View.ld_unit_apply_of (Val := Elt Ideal) (e := .bf16) x ![o, 0] (Mat W D).size h (ix2 r d) (ix2 ⟨o + r.val, by omega⟩ d) (fun a => match a with
    | ⟨0, _⟩ => rfl
    | ⟨1, _⟩ => (Nat.zero_add _).symm)).trans (hx _ d)

theorem ld_ext {N W D : ℕ} (o : ℕ) {x : Vec Ideal (Mat N D) .bf16} {X : ℕ → Fin D → EReal} (h : ∀ a, (![o, 0] : Fin 2 → ℕ) a + (Mat W D).size a ≤ (Mat N D).size a)
    (hx : Ext2 (φ := .bf16) x (fun r d => X r.val d)) :
    Ext2 (R := W) (C := D) (φ := .bf16) (View.ld (Val := Elt Ideal) x (Rect.unit (s := Mat N D) ![o, 0] (Mat W D).size h)) (fun r d => X (o + r.val) d) := by
  intro r d
  have hb : o + W ≤ N := h (0 : Fin 2)
  have hr := r.isLt
  exact (View.ld_unit_apply_of (Val := Elt Ideal) (e := .bf16) x ![o, 0] (Mat W D).size h (ix2 r d) (ix2 ⟨o + r.val, by omega⟩ d) (fun a => match a with
    | ⟨0, _⟩ => rfl
    | ⟨1, _⟩ => (Nat.zero_add _).symm)).trans (hx _ d)

theorem hz : (![0, 0] : Fin 2 → Nat) = fun _ => 0 := funext fun a => by fin_cases a <;> rfl

theorem zero_bf16 : Ideal.ofBits .bf16 0x0000#16 = 0 := by simp [Ideal.ofBits, Ideal.ieee]

/-- The padded meta rows. -/
theorem pad_ext {x : Vec Ideal S16x128 .bf16} {X : ℕ → Fin 128 → EReal} (hx : Ext2 (φ := .bf16) x (fun r d => X r.val d)) (p : FVec Ideal S16x128 .bf16)
    (hp : p = View.ld (Val := Elt Ideal) x rM) (z : FVec Ideal S128x128 .bf16) (h0 : ∀ i, z i = 0) :
    Ext2 (R := 128) (C := 128) (φ := .bf16) (View.canon (Val := Elt Ideal) (s := S128x128) (e := .bf16) [⟨rMeta, p⟩, ⟨rPad, z⟩]) (fun j d => if j.val < 16 then X j.val d else 0) := by
  subst hp
  rw [View.ld_unit_zero (S := S16x128) hz]
  intro j d
  dsimp only
  by_cases h : j.val < 16
  · have e : ix2 (n0 := 128) (n1 := 128) j d = rMeta.emb (ix2 (n0 := 16) (n1 := 128) ⟨j.val, h⟩ d) := funext fun a => Fin.ext (by
      match a with
      | ⟨0, _⟩ => show j.val = 0 + 1 * j.val; omega
      | ⟨1, _⟩ => show d.val = 0 + 1 * d.val; omega)
    rw [if_pos h, e, View.canon_cons_emb (Val := Elt Ideal)]
    exact hx ⟨j.val, h⟩ d
  · have hn : ix2 (n0 := 128) (n1 := 128) j d ∉ rMeta.set := fun hm => h (by
      have h1 := ((Rect.mem_set_unit.mp hm) (0 : Fin 2)).2
      change j.val < 0 + 16 at h1
      omega)
    refine (View.canon_cons_of_not_mem (Val := Elt Ideal) ⟨rMeta, x⟩ [⟨rPad, z⟩] hn).trans ?_
    rw [View.canon_unit_zero hz, if_neg h]
    exact h0 _

theorem padK_real {x : Vec Ideal S16x128 .bf16} {X : ℕ → Fin 128 → ℝ} (hx : Real2 (φ := .bf16) x (fun r d => X r.val d)) :
    Real2 (φ := .bf16) (View.ld (Val := Elt Ideal) (padK x) rPad) (fun j d => if j.val < 16 then X j.val d else 0) := by
  rw [View.ld_unit_zero (S := S128x128) hz]
  intro j d
  refine (pad_ext (X := fun r d => ((X r d : ℝ) : EReal)) hx _ (by unfold k0_pay2; exact shapeCast_self _ _) _ (fun i => by unfold k0_pay1; rw [shapeCast_self]; exact zero_bf16) j d).trans ?_
  dsimp only
  by_cases h : j.val < 16
  · rw [if_pos h, if_pos h]
  · rw [if_neg h, if_neg h, EReal.coe_zero]

theorem padV_ext {x : Vec Ideal S16x128 .bf16} {X : ℕ → Fin 128 → EReal} (hx : Ext2 (φ := .bf16) x (fun r d => X r.val d)) :
    Ext2 (φ := .bf16) (View.ld (Val := Elt Ideal) (padV x) rPad) (fun j d => if j.val < 16 then X j.val d else 0) := by
  rw [View.ld_unit_zero (S := S128x128) hz]
  exact pad_ext hx _ (by unfold k0_pay4; exact shapeCast_self _ _) _ (fun i => by unfold k0_pay3; rw [shapeCast_self]; exact zero_bf16)

/-! ## The eight tiles of a block -/

section Block

variable {q k v : Vec Ideal S2048x128 .bf16} {mk mv : Vec Ideal S16x128 .bf16} {Q K : ℕ → Fin 128 → ℝ} {V : ℕ → Fin 128 → EReal}
  (hq : Real2 (φ := .bf16) q (fun r d => Q r.val d)) (hk : Real2 (φ := .bf16) k (fun j d => K (16 + j.val) d)) (hv : Ext2 (φ := .bf16) v (fun j d => V (16 + j.val) d))
  (hmk : Real2 (φ := .bf16) mk (fun j d => K j.val d)) (hmv : Ext2 (φ := .bf16) mv (fun j d => V j.val d))

/-- A tile's rows: row `r` of the tile from row `o` on. -/
abbrev Rows (Q K : ℕ → Fin 128 → ℝ) (V : ℕ → Fin 128 → EReal) (o : ℕ) (x : T Ideal) : Prop := Ext2 (φ := .bf16) x (fun r d => attended (Q (o + r.val)) K V (16 + (o + r.val)) d)

include hq hk hv in
/-- A tile's own keys. -/
theorem own_rows (o : ℕ) (h : ∀ a, (![o, 0] : Fin 2 → ℕ) a + (Mat 256 128).size a ≤ (Mat 2048 128).size a) :
    Met (own (View.ld (Val := Elt Ideal) q (Rect.unit (s := Mat 2048 128) ![o, 0] (Mat 256 128).size h)) (View.ld (Val := Elt Ideal) k (Rect.unit (s := Mat 2048 128) ![o, 0] (Mat 256 128).size h))
        (View.ld (Val := Elt Ideal) v (Rect.unit (s := Mat 2048 128) ![o, 0] (Mat 256 128).size h))).1
      (own (View.ld (Val := Elt Ideal) q (Rect.unit (s := Mat 2048 128) ![o, 0] (Mat 256 128).size h)) (View.ld (Val := Elt Ideal) k (Rect.unit (s := Mat 2048 128) ![o, 0] (Mat 256 128).size h))
        (View.ld (Val := Elt Ideal) v (Rect.unit (s := Mat 2048 128) ![o, 0] (Mat 256 128).size h))).2
      (fun r => scores (Q (o + r.val)) K) (fun d u => V u d) (fun _ => 16 + o) (fun r => 16 + (o + r.val)) := by
  have e : (fun r : Fin 256 => 16 + (o + r.val)) = fun r => 16 + o + r.val := funext fun r => (Nat.add_assoc _ _ _).symm
  rw [e]
  refine own_met (ld_real o h hq) (16 + o) ?_ ?_
  · intro j d
    dsimp only
    rw [Nat.add_assoc]
    exact ld_real o h (X := fun u d => K (16 + u) d) hk j d
  · intro j d
    dsimp only
    rw [Nat.add_assoc]
    exact ld_ext o h (X := fun u d => V (16 + u) d) hv j d

/-- The keys before a tile, as they are loaded. -/
theorem before_real {N : ℕ} {x : Vec Ideal S2048x128 .bf16} {X : ℕ → Fin 128 → ℝ} (hx : Real2 (φ := .bf16) x (fun j d => X (16 + j.val) d))
    (h : ∀ a, (![0, 0] : Fin 2 → ℕ) a + (Mat N 128).size a ≤ (Mat 2048 128).size a) :
    Real2 (R := N) (C := 128) (φ := .bf16) (View.ld (Val := Elt Ideal) x (Rect.unit (s := Mat 2048 128) ![0, 0] (Mat N 128).size h)) (fun j d => X (16 + j.val) d) := by
  intro j d
  refine (ld_real 0 h (X := fun u d => X (16 + u) d) hx j d).trans ?_
  dsimp only
  rw [Nat.zero_add]

theorem before_ext {N : ℕ} {x : Vec Ideal S2048x128 .bf16} {X : ℕ → Fin 128 → EReal} (hx : Ext2 (φ := .bf16) x (fun j d => X (16 + j.val) d))
    (h : ∀ a, (![0, 0] : Fin 2 → ℕ) a + (Mat N 128).size a ≤ (Mat 2048 128).size a) :
    Ext2 (R := N) (C := 128) (φ := .bf16) (View.ld (Val := Elt Ideal) x (Rect.unit (s := Mat 2048 128) ![0, 0] (Mat N 128).size h)) (fun j d => X (16 + j.val) d) := by
  intro j d
  refine (ld_ext 0 h (X := fun u d => X (16 + u) d) hx j d).trans ?_
  dsimp only
  rw [Nat.zero_add]

include hq hk hv in
/-- The 256 keys from key `j` on of the `N` before a tile. -/
theorem prior_rows (o : ℕ) {N : ℕ} (j b : ℕ) {h : ∀ a, (![o, 0] : Fin 2 → ℕ) a + (Mat 256 128).size a ≤ (Mat 2048 128).size a}
    {hN : ∀ a, (![0, 0] : Fin 2 → ℕ) a + (Mat N 128).size a ≤ (Mat 2048 128).size a} {hc : (Mat 256 N).Slices ![0, j] S256x256} {hr : (Mat N 128).Slices ![j, 0] S256x128}
    {st : St} (hb : b = 16 + j + 256) (hh : b ≤ 16 + o)
    (hm : Met st.1 st.2 (fun r => scores (Q (o + r.val)) K) (fun d u => V u d) (fun _ => b) (fun r => 16 + (o + r.val))) :
    Met (prior j hc hr (View.ld (Val := Elt Ideal) q (Rect.unit (s := Mat 2048 128) ![o, 0] (Mat 256 128).size h))
        (View.ld (Val := Elt Ideal) k (Rect.unit (s := Mat 2048 128) ![0, 0] (Mat N 128).size hN)) (View.ld (Val := Elt Ideal) v (Rect.unit (s := Mat 2048 128) ![0, 0] (Mat N 128).size hN)) st).1
      (prior j hc hr (View.ld (Val := Elt Ideal) q (Rect.unit (s := Mat 2048 128) ![o, 0] (Mat 256 128).size h))
        (View.ld (Val := Elt Ideal) k (Rect.unit (s := Mat 2048 128) ![0, 0] (Mat N 128).size hN)) (View.ld (Val := Elt Ideal) v (Rect.unit (s := Mat 2048 128) ![0, 0] (Mat N 128).size hN)) st).2
      (fun r => scores (Q (o + r.val)) K) (fun d u => V u d) (fun _ => 16 + j) (fun r => 16 + (o + r.val)) :=
  prior_met (ld_real o h hq) j b (fun r => 16 + (o + r.val)) hc hr (before_real hk hN) (before_ext hv hN) hb (fun r => by omega) hm

include hq hmk hmv in
/-- The meta keys, the last. -/
theorem last_rows (o : ℕ) (h : ∀ a, (![o, 0] : Fin 2 → ℕ) a + (Mat 256 128).size a ≤ (Mat 2048 128).size a) {st : St}
    (hm : Met st.1 st.2 (fun r => scores (Q (o + r.val)) K) (fun d u => V u d) (fun _ => 16) (fun r => 16 + (o + r.val))) :
    Rows Q K V o (truncf .bf16 (last (View.ld (Val := Elt Ideal) q (Rect.unit (s := Mat 2048 128) ![o, 0] (Mat 256 128).size h))
      (View.ld (Val := Elt Ideal) (padK mk) rPad) (View.ld (Val := Elt Ideal) (padV mv) rPad) st) bitsLt_bf16_f32) :=
  last_ext (ld_real o h hq) (fun r => 16 + (o + r.val)) (padK_real hmk) (padV_ext hmv) (fun j d hj => if_pos hj) (fun j d hj => if_pos hj)
    (fun r => Nat.le_add_right _ _) hm

include hq hk hv hmk hmv

theorem rows0 : Rows Q K V 0 (tile0 (View.ld q r0) (View.ld k r0) (View.ld v r0) (View.ld (padK mk) rPad) (View.ld (padV mv) rPad)) := by
  rw [tile0_eq]
  exact last_rows hq hmk hmv 0 _ (own_rows hq hk hv 0 _)

theorem rows1 : Rows Q K V 256 (tile1 (View.ld q r1) (View.ld k r1) (View.ld v r1) (View.ld k r0) (View.ld v r0) (View.ld (padK mk) rPad) (View.ld (padV mv) rPad)) := by
  rw [tile1_eq]
  exact last_rows hq hmk hmv 256 _ (sole_met (ld_real 256 _ hq) 272 _ (before_real hk _) (before_ext hv _) rfl (fun r => by omega) (own_rows hq hk hv 256 _))

theorem rows2 : Rows Q K V 512 (tile2 (View.ld q r2) (View.ld k r2) (View.ld v r2) (View.ld k p2) (View.ld v p2) (View.ld (padK mk) rPad) (View.ld (padV mv) rPad)) := by
  rw [tile2_eq]
  exact last_rows hq hmk hmv 512 _ (prior_rows hq hk hv 512 0 272 rfl (by omega) (prior_rows hq hk hv 512 256 528 rfl (by omega) (own_rows hq hk hv 512 _)))

theorem rows3 : Rows Q K V 768 (tile3 (View.ld q r3) (View.ld k r3) (View.ld v r3) (View.ld k p3) (View.ld v p3) (View.ld (padK mk) rPad) (View.ld (padV mv) rPad)) := by
  rw [tile3_eq]
  exact last_rows hq hmk hmv 768 _ (prior_rows hq hk hv 768 0 272 rfl (by omega) (prior_rows hq hk hv 768 256 528 rfl (by omega) (prior_rows hq hk hv 768 512 784 rfl (by omega) (own_rows hq hk hv 768 _))))

theorem rows4 : Rows Q K V 1024 (tile4 (View.ld q r4) (View.ld k r4) (View.ld v r4) (View.ld k p4) (View.ld v p4) (View.ld (padK mk) rPad) (View.ld (padV mv) rPad)) := by
  rw [tile4_eq]
  exact last_rows hq hmk hmv 1024 _ (prior_rows hq hk hv 1024 0 272 rfl (by omega) (prior_rows hq hk hv 1024 256 528 rfl (by omega) (prior_rows hq hk hv 1024 512 784 rfl (by omega) (prior_rows hq hk hv 1024 768 1040 rfl (by omega) (own_rows hq hk hv 1024 _)))))

theorem rows5 : Rows Q K V 1280 (tile5 (View.ld q r5) (View.ld k r5) (View.ld v r5) (View.ld k p5) (View.ld v p5) (View.ld (padK mk) rPad) (View.ld (padV mv) rPad)) := by
  rw [tile5_eq]
  exact last_rows hq hmk hmv 1280 _ (prior_rows hq hk hv 1280 0 272 rfl (by omega) (prior_rows hq hk hv 1280 256 528 rfl (by omega) (prior_rows hq hk hv 1280 512 784 rfl (by omega) (prior_rows hq hk hv 1280 768 1040 rfl (by omega) (prior_rows hq hk hv 1280 1024 1296 rfl (by omega) (own_rows hq hk hv 1280 _))))))

theorem rows6 : Rows Q K V 1536 (tile6 (View.ld q r6) (View.ld k r6) (View.ld v r6) (View.ld k p6) (View.ld v p6) (View.ld (padK mk) rPad) (View.ld (padV mv) rPad)) := by
  rw [tile6_eq]
  exact last_rows hq hmk hmv 1536 _ (prior_rows hq hk hv 1536 0 272 rfl (by omega) (prior_rows hq hk hv 1536 256 528 rfl (by omega) (prior_rows hq hk hv 1536 512 784 rfl (by omega) (prior_rows hq hk hv 1536 768 1040 rfl (by omega) (prior_rows hq hk hv 1536 1024 1296 rfl (by omega) (prior_rows hq hk hv 1536 1280 1552 rfl (by omega) (own_rows hq hk hv 1536 _)))))))

theorem rows7 : Rows Q K V 1792 (tile7 (View.ld q r7) (View.ld k r7) (View.ld v r7) (View.ld k p7) (View.ld v p7) (View.ld (padK mk) rPad) (View.ld (padV mv) rPad)) := by
  rw [tile7_eq]
  exact last_rows hq hmk hmv 1792 _ (prior_rows hq hk hv 1792 0 272 rfl (by omega) (prior_rows hq hk hv 1792 256 528 rfl (by omega) (prior_rows hq hk hv 1792 512 784 rfl (by omega) (prior_rows hq hk hv 1792 768 1040 rfl (by omega) (prior_rows hq hk hv 1792 1024 1296 rfl (by omega) (prior_rows hq hk hv 1792 1280 1552 rfl (by omega) (prior_rows hq hk hv 1792 1536 1808 rfl (by omega) (own_rows hq hk hv 1792 _))))))))

/-- THE BLOCK: its row `R` is the stick-breaking sum over the joined keys before it. -/
theorem block_ext : Ext2 (φ := .bf16) (blockOut q k v (padK mk) (padV mv)) (fun R d => attended (Q R.val) K V (16 + R.val) d) := by
  intro R d
  have key : ∀ (o : ℕ) (h : ∀ a, (![o, 0] : Fin 2 → ℕ) a + (Mat 256 128).size a ≤ (Mat 2048 128).size a) (x : T Ideal), Rows Q K V o x →
      View.RectAt (Val := Elt Ideal) (e := .bf16) (ix2 (n0 := 2048) (n1 := 128) R d) (Rect.unit (s := S2048x128) ![o, 0] S256x128.size h) x
        (attended (Q R.val) K V (16 + R.val) d) := by
    intro o h x hx (y : S256x128.Idx) hy
    have e0 : o + (y 0).val = R.val := by
      have := congrArg (fun i : S2048x128.Idx => (i 0).val) hy
      change o + 1 * (y 0).val = R.val at this
      omega
    have e1 : (y 1).val = d.val := by
      have := congrArg (fun i : S2048x128.Idx => (i 1).val) hy
      change 0 + 1 * (y 1).val = d.val at this
      omega
    rw [eq_ix2 y]
    refine (hx (y 0) (y 1)).trans ?_
    dsimp only
    rw [e0, Fin.ext e1]
  unfold blockOut
  refine View.canon_eq_of_allAt _ _ _ (cover_block _ _ _ _ _ _ _ _ _) ?_
  exact View.allAt_cons _ _ _ (key 1792 _ _ (rows7 hq hk hv hmk hmv)) (View.allAt_cons _ _ _ (key 1536 _ _ (rows6 hq hk hv hmk hmv))
    (View.allAt_cons _ _ _ (key 1280 _ _ (rows5 hq hk hv hmk hmv)) (View.allAt_cons _ _ _ (key 1024 _ _ (rows4 hq hk hv hmk hmv))
    (View.allAt_cons _ _ _ (key 768 _ _ (rows3 hq hk hv hmk hmv)) (View.allAt_cons _ _ _ (key 512 _ _ (rows2 hq hk hv hmk hmv))
    (View.allAt_cons _ _ _ (key 256 _ _ (rows1 hq hk hv hmk hmv)) (View.allAt_cons _ _ _ (key 0 _ _ (rows0 hq hk hv hmk hmv)) (View.allAt_nil _ _))))))))

end Block

/-- The meta queries: row `r` is the sum over the meta keys before it. -/
theorem meta_ext {q : Vec Ideal S2048x128 .bf16} {mk mv : Vec Ideal S16x128 .bf16} {Q K : ℕ → Fin 128 → ℝ} {V : ℕ → Fin 128 → EReal}
    (hq : Real2 (φ := .bf16) (View.ld (Val := Elt Ideal) q rTop) (fun r d => Q r.val d))
    (hmk : Real2 (φ := .bf16) mk (fun j d => K j.val d)) (hmv : Ext2 (φ := .bf16) mv (fun j d => V j.val d)) :
    Ext2 (φ := .bf16) (metaOut q (padK mk) (padV mv)) (fun r d => attended (Q r.val) K V r.val d) := by
  rw [metaOut_eq]
  have hz := score_real hq (padK_real hmk)
  have hs := soft_real hz
  have h0 := none_met (fun r : Fin 16 => scores (Q r.val) K) (fun (d : Fin 128) u => V u d) (fun r => 0 + r.val)
  have h := weight_real (hB := broadcasts_S16x1_S16x128) hz hs (mask_real top_mask hs) tri128 h0.car
  intro r d
  have e := Met.acc_step (w := fun r : Fin 16 => r.val) (lo := 0) h0 (fun r => by have := r.isLt; omega) (fun r => le_rfl)
    (fun r j hj => by
      show _ = (∑ d : Fin 128, Q r.val d * K (0 + j.val) d) * factor
      rw [Nat.zero_add]
      refine congrArg (· * factor) (Finset.sum_congr rfl fun d _ => ?_)
      rw [if_pos (lt_trans hj r.isLt)])
    (fun r j d hj => by rw [Nat.zero_add]; exact if_pos (lt_trans hj r.isLt)) (mask_real top_mask h) (padV_ext hmv) r d
  refine Eq.trans e ?_
  dsimp only
  rw [Nat.zero_add]
  rfl

end AttnRun

end
-- ==== Proof.Attn.Joined.lean ====
/-
  The attention over the whole arrays: row `R` of the stream's 8 × 2048 rows is query `16 + R % 2048` of batch `R / 2048`,
  the 16 rows after them are the meta tokens, which come before every batch's own rows as keys and are themselves queries of
  the keys before them. A head takes 128 columns of the queries, of the keys, and of the values 2048 columns further on.
-/
module

public import proofs.«01_k».proof.Proof.Attn.Tiles

@[expose] public section

noncomputable section

open Idealize.ShloMosaic Idealize.ShloMosaic.ValueIdx
open StickBreaking

namespace AttnRun

/-- No entry of the first 2048 columns is infinite: of the queries, and of the keys that the values stand beside. -/
def Finite {N M : ℕ} (x : FVec Ideal (Mat N M) .bf16) : Prop := ∀ (r : Fin N) (j : Fin M), j.val < 2048 → (x (ix2 r j) : EReal) ≠ ⊤ ∧ (x (ix2 r j) : EReal) ≠ ⊥

/-- An entry; 0 outside the array. -/
def slot {N M : ℕ} (x : FVec Ideal (Mat N M) .bf16) (R J : ℕ) : EReal := if h : R < N ∧ J < M then x (ix2 ⟨R, h.1⟩ ⟨J, h.2⟩) else 0

theorem slot_eq {N M : ℕ} (x : FVec Ideal (Mat N M) .bf16) (r : Fin N) (j : Fin M) (R J : ℕ) (hR : r.val = R) (hJ : j.val = J) :
    x (ix2 r j) = slot x R J := by
  subst hR hJ
  unfold slot
  rw [dif_pos ⟨r.isLt, j.isLt⟩]

/-- An entry as a real number; 0 outside the array. -/
def entry {N M : ℕ} (x : FVec Ideal (Mat N M) .bf16) (R J : ℕ) : ℝ := if h : R < N ∧ J < M then (x (ix2 ⟨R, h.1⟩ ⟨J, h.2⟩) : EReal).toReal else 0

theorem entry_coe {N M : ℕ} {x : FVec Ideal (Mat N M) .bf16} (hx : Finite x) (r : Fin N) (j : Fin M) (R J : ℕ) (hR : r.val = R) (hJ : j.val = J) (h : J < 2048) :
    x (ix2 r j) = ((entry x R J : ℝ) : EReal) := by
  subst hR hJ
  unfold entry
  rw [dif_pos ⟨r.isLt, j.isLt⟩]
  exact (EReal.coe_toReal (hx r j h).1 (hx r j h).2).symm

/-- The row that key `u` of batch `b` lies in. -/
def place (b u : ℕ) : ℕ := if u < 16 then 16384 + u else 2048 * b + (u - 16)

theorem place_own (b u : ℕ) : place b (16 + u) = 2048 * b + u := by
  unfold place
  rw [if_neg (by omega), Nat.add_sub_cancel_left]

theorem place_meta (b u : ℕ) (h : u < 16) : place b u = 16384 + u := if_pos h

/-- The batch and the position of row `R` as a query. -/
def batch (R : ℕ) : ℕ := if R < 16384 then R / 2048 else 0
def position (R : ℕ) : ℕ := if R < 16384 then 16 + R % 2048 else R - 16384

variable (x : FVec Ideal (Mat 16400 2048) .bf16) (y : FVec Ideal (Mat 16400 4096) .bf16)

def query (h R : ℕ) (d : Fin 128) : ℝ := entry x R (128 * h + d.val)
def key (h b u : ℕ) (d : Fin 128) : ℝ := entry y (place b u) (128 * h + d.val)
def value (h b u : ℕ) (d : Fin 128) : EReal := slot y (place b u) (2048 + 128 * h + d.val)

/-- Head `h` of row `R`. -/
def head (h R : ℕ) (d : Fin 128) : EReal := attended (query x h R) (key y h (batch R)) (value y h (batch R)) (position R) d

/-- The array after the attention. -/
def result : FVec Ideal (Mat 16400 2048) .bf16 := fun i => head x y ((i 1).val / 128) (i 0).val ⟨(i 1).val % 128, Nat.mod_lt _ (by decide)⟩

end AttnRun

end
-- ==== Proof.Attn.Rows.lean ====
/-
  The attention: the call's array after the run, entry by entry, where no entry of the queries and keys is infinite.
-/
module

public import proofs.«01_k».proof.Proof.Attn.Frame
public import proofs.«01_k».proof.Proof.Attn.Block
public import proofs.«01_k».proof.Proof.Attn.Joined
public import Idealize.ShloMosaic.Lib.Claim

@[expose] public section

set_option maxRecDepth 16384

noncomputable section

open scoped BigOperators
open Idealize.ShloMosaic Idealize.ShloMosaic.TcCoe Idealize.SL.Sem Idealize.ShloMosaic.ValueIdx
open StickBreaking

namespace AttnRun

open Cert.AttnIdeal Cert.AttnIdeal.Gen

variable (m : (ℓ : Loc nD τ sig) → Buf (Elt Ideal) ℓ) (ρ : Dev nD → PrngReg)

/-! ## The arguments -/

abbrev queries (c : Dev nD) : FVec Ideal (Mat 16400 2048) .bf16 := (m ((c : Thread nD τ).loc main_arg0) : Vec Ideal S16400x2048 .bf16)
abbrev joined (c : Dev nD) : FVec Ideal (Mat 16400 4096) .bf16 := (m ((c : Thread nD τ).loc main_arg1) : Vec Ideal S16400x4096 .bf16)

/-! ## The blocks -/

/-- Where each window's block lies at a point: batch `t % 9` (the ninth is the meta rows), head `t / 9`. -/
theorem places : ∀ t : Fin cfg0.N,
    (win0_0.index t (0 : Fin 2) = t.val % 9 ∧ win0_0.index t (1 : Fin 2) = t.val / 9)
    ∧ (win0_1.index t (0 : Fin 2) = t.val % 9 ∧ win0_1.index t (1 : Fin 2) = t.val / 9)
    ∧ (win0_2.index t (0 : Fin 2) = t.val % 9 ∧ win0_2.index t (1 : Fin 2) = t.val / 9 + 16)
    ∧ (win0_3.index t (0 : Fin 2) = 1024 ∧ win0_3.index t (1 : Fin 2) = t.val / 9)
    ∧ (win0_4.index t (0 : Fin 2) = 1024 ∧ win0_4.index t (1 : Fin 2) = t.val / 9 + 16)
    ∧ (win0_5.index t (0 : Fin 2) = t.val % 9 ∧ win0_5.index t (1 : Fin 2) = t.val / 9)
    ∧ (grid0.coords t 1).val = t.val % 9 :=
  (by decide +kernel : ∀ t : Fin grid0.N, _)

theorem count (t : Fin cfg0.N) : t.val < 144 := Nat.lt_of_lt_of_eq t.isLt N_0

section Blocks

variable (c : Dev nD) (t : Fin cfg0.N)

/-- The queries' buffer on the rows inside the array. -/
theorem buf_q (h0 : Finite (queries m c)) (d : Vec Ideal S2048x128 .bf16) (r : Fin 2048) (j : Fin 128) (hr : r.val < win0_0.xsize (grid0.coords t) (0 : Fin 2))
    (hR : 2048 * (t.val % 9) + r.val < 16400) :
    qBuf m c t d (ix2 (n0 := 2048) (n1 := 128) r j) = ((query (queries m c) (t.val / 9) (2048 * (t.val % 9) + r.val) j : ℝ) : EReal) := by
  have hm : win0_0.moved (grid0.coords t) (ix2 (n0 := 2048) (n1 := 128) r j) = true := (win0_0.moved_iff _ _).mpr fun (a : Fin 2) => match a with
    | ⟨0, _⟩ => hr
    | ⟨1, _⟩ => lt_of_lt_of_eq j.isLt (columns t).1.symm
  have ht := count t
  have hj := j.isLt
  obtain ⟨⟨e0, e1⟩, -⟩ := places t
  unfold qBuf Pipeline.Window.fill
  rw [dif_pos hm]
  refine Eq.trans (congrArg (m ((c : Thread nD τ).loc main_arg0)) (funext fun a => Fin.ext ?_))
    (entry_coe h0 (⟨2048 * (t.val % 9) + r.val, hR⟩ : Fin 16400) (⟨128 * (t.val / 9) + j.val, by omega⟩ : Fin 2048) _ _ rfl rfl (by omega))
  match a with
  | ⟨0, _⟩ => show win0_0.index t (0 : Fin 2) * 2048 + 1 * r.val = 2048 * (t.val % 9) + r.val; rw [e0]; omega
  | ⟨1, _⟩ => show win0_0.index t (1 : Fin 2) * 128 + 1 * j.val = 128 * (t.val / 9) + j.val; rw [e1]; omega

variable (h1 : Finite (joined m c))
include h1

theorem buf_k (hb : t.val % 9 < 8) (d : Vec Ideal S2048x128 .bf16) (r : Fin 2048) (j : Fin 128) (hr : r.val < win0_1.xsize (grid0.coords t) (0 : Fin 2)) :
    kBuf m c t d (ix2 (n0 := 2048) (n1 := 128) r j) = ((key (joined m c) (t.val / 9) (t.val % 9) (16 + r.val) j : ℝ) : EReal) := by
  have hm : win0_1.moved (grid0.coords t) (ix2 (n0 := 2048) (n1 := 128) r j) = true := (win0_1.moved_iff _ _).mpr fun (a : Fin 2) => match a with
    | ⟨0, _⟩ => hr
    | ⟨1, _⟩ => lt_of_lt_of_eq j.isLt (columns t).2.1.symm
  have ht := count t
  have hj := j.isLt
  have hr' := r.isLt
  obtain ⟨-, ⟨e0, e1⟩, -⟩ := places t
  unfold kBuf Pipeline.Window.fill
  rw [dif_pos hm]
  refine Eq.trans (congrArg (m ((c : Thread nD τ).loc main_arg1)) (funext fun a => Fin.ext ?_))
    (entry_coe h1 (⟨2048 * (t.val % 9) + r.val, by omega⟩ : Fin 16400) (⟨128 * (t.val / 9) + j.val, by omega⟩ : Fin 4096) _ _ (place_own _ _).symm rfl (by omega))
  match a with
  | ⟨0, _⟩ => show win0_1.index t (0 : Fin 2) * 2048 + 1 * r.val = 2048 * (t.val % 9) + r.val; rw [e0]; omega
  | ⟨1, _⟩ => show win0_1.index t (1 : Fin 2) * 128 + 1 * j.val = 128 * (t.val / 9) + j.val; rw [e1]; omega

omit h1 in
theorem buf_v (hb : t.val % 9 < 8) (d : Vec Ideal S2048x128 .bf16) (r : Fin 2048) (j : Fin 128) (hr : r.val < win0_2.xsize (grid0.coords t) (0 : Fin 2)) :
    vBuf m c t d (ix2 (n0 := 2048) (n1 := 128) r j) = value (joined m c) (t.val / 9) (t.val % 9) (16 + r.val) j := by
  have hm : win0_2.moved (grid0.coords t) (ix2 (n0 := 2048) (n1 := 128) r j) = true := (win0_2.moved_iff _ _).mpr fun (a : Fin 2) => match a with
    | ⟨0, _⟩ => hr
    | ⟨1, _⟩ => lt_of_lt_of_eq j.isLt (columns t).2.2.1.symm
  have ht := count t
  have hj := j.isLt
  have hr' := r.isLt
  obtain ⟨-, -, ⟨e0, e1⟩, -⟩ := places t
  unfold vBuf Pipeline.Window.fill
  rw [dif_pos hm]
  refine Eq.trans (congrArg (m ((c : Thread nD τ).loc main_arg1)) (funext fun a => Fin.ext ?_))
    (slot_eq (joined m c) (⟨2048 * (t.val % 9) + r.val, by omega⟩ : Fin 16400) (⟨2048 + 128 * (t.val / 9) + j.val, by omega⟩ : Fin 4096) _ _ (place_own _ _).symm rfl)
  match a with
  | ⟨0, _⟩ => show win0_2.index t (0 : Fin 2) * 2048 + 1 * r.val = 2048 * (t.val % 9) + r.val; rw [e0]; omega
  | ⟨1, _⟩ => show win0_2.index t (1 : Fin 2) * 128 + 1 * j.val = 2048 + 128 * (t.val / 9) + j.val; rw [e1]; omega

/-- The meta rows of the keys and of the values, whatever the batch they go before. -/
theorem blk_mk (b : ℕ) : Real2 (R := 16) (C := 128) (φ := .bf16) (iblk m c 3 t : Vec Ideal S16x128 .bf16) (fun j d => key (joined m c) (t.val / 9) b j.val d) := by
  intro r j
  have ht := count t
  have hj := j.isLt
  have hr := r.isLt
  obtain ⟨-, -, -, ⟨e0, e1⟩, -⟩ := places t
  refine Eq.trans (congrArg (m ((c : Thread nD τ).loc main_arg1)) (funext fun a => Fin.ext ?_))
    (entry_coe h1 (⟨16384 + r.val, by omega⟩ : Fin 16400) (⟨128 * (t.val / 9) + j.val, by omega⟩ : Fin 4096) _ _ (place_meta _ _ r.isLt).symm rfl (by omega))
  match a with
  | ⟨0, _⟩ => show win0_3.index t (0 : Fin 2) * 16 + 1 * r.val = 16384 + r.val; rw [e0]; omega
  | ⟨1, _⟩ => show win0_3.index t (1 : Fin 2) * 128 + 1 * j.val = 128 * (t.val / 9) + j.val; rw [e1]; omega

omit h1 in
theorem blk_mv (b : ℕ) : Ext2 (R := 16) (C := 128) (φ := .bf16) (iblk m c 4 t : Vec Ideal S16x128 .bf16) (fun j d => value (joined m c) (t.val / 9) b j.val d) := by
  intro r j
  have ht := count t
  have hj := j.isLt
  have hr := r.isLt
  obtain ⟨-, -, -, -, ⟨e0, e1⟩, -⟩ := places t
  refine Eq.trans (congrArg (m ((c : Thread nD τ).loc main_arg1)) (funext fun a => Fin.ext ?_))
    (slot_eq (joined m c) (⟨16384 + r.val, by omega⟩ : Fin 16400) (⟨2048 + 128 * (t.val / 9) + j.val, by omega⟩ : Fin 4096) _ _ (place_meta _ _ r.isLt).symm rfl)
  match a with
  | ⟨0, _⟩ => show win0_4.index t (0 : Fin 2) * 16 + 1 * r.val = 16384 + r.val; rw [e0]; omega
  | ⟨1, _⟩ => show win0_4.index t (1 : Fin 2) * 128 + 1 * j.val = 2048 + 128 * (t.val / 9) + j.val; rw [e1]; omega

end Blocks

/-! ## The array after the run -/

def G (c : Dev nD) : Buf (Elt Ideal) ((c : Thread nD τ).loc main_v0) := result (queries m c) (joined m c)

/-- A point's rows inside the array. -/
theorem point_apply (c : Dev nD) (h0 : Finite (queries m c)) (h1 : Finite (joined m c)) (t : Fin cfg0.N) (r : Fin 2048) (j : Fin 128)
    (hR : 2048 * (t.val % 9) + r.val < 16400) :
    outAt m c t (ix2 (n0 := 2048) (n1 := 128) r j) = head (queries m c) (joined m c) (t.val / 9) (2048 * (t.val % 9) + r.val) j := by
  have hr := r.isLt
  obtain ⟨-, -, -, -, -, -, eb⟩ := places t
  unfold outAt outWith head
  rcases points t with ⟨hc, -, hb, x0, x1, x2, -⟩ | ⟨hc, -, hb, x0, -⟩
  · rw [if_pos hc]
    rw [eb] at hb
    have e1 : batch (2048 * (t.val % 9) + r.val) = t.val % 9 := by unfold batch; rw [if_pos (by omega)]; omega
    have e2 : position (2048 * (t.val % 9) + r.val) = 16 + r.val := by unfold position; rw [if_pos (by omega)]; omega
    rw [e1, e2]
    exact block_ext (Q := fun r => query (queries m c) (t.val / 9) (2048 * (t.val % 9) + r)) (K := key (joined m c) (t.val / 9) (t.val % 9))
      (V := value (joined m c) (t.val / 9) (t.val % 9))
      (fun r d => buf_q m c t h0 filler r d (by rw [x0]; exact r.isLt) (by have := r.isLt; omega))
      (fun r d => buf_k m c t h1 hb filler r d (by rw [x1]; exact r.isLt)) (fun r d => buf_v m c t hb filler r d (by rw [x2]; exact r.isLt))
      (blk_mk m c t h1 _) (blk_mv m c t _) r j
  · rw [if_neg hc]
    rw [eb] at hb
    have hl : r.val < 16 := by omega
    have e1 : batch (2048 * (t.val % 9) + r.val) = 0 := by unfold batch; rw [if_neg (by omega)]
    have e2 : position (2048 * (t.val % 9) + r.val) = r.val := by unfold position; rw [if_neg (by omega)]; omega
    rw [e1, e2]
    have e : ix2 (n0 := 2048) (n1 := 128) r j = rTop.emb (ix2 (n0 := 16) (n1 := 128) ⟨r.val, hl⟩ j) := funext fun a => Fin.ext (by
      match a with
      | ⟨0, _⟩ => show r.val = 0 + 1 * r.val; omega
      | ⟨1, _⟩ => show j.val = 0 + 1 * j.val; omega)
    rw [e, View.canon_cons_emb (Val := Elt Ideal)]
    refine meta_ext (Q := fun r => query (queries m c) (t.val / 9) (2048 * (t.val % 9) + r)) (K := key (joined m c) (t.val / 9) 0) (V := value (joined m c) (t.val / 9) 0)
      (fun r d => ?_) (blk_mk m c t h1 _) (blk_mv m c t _) ⟨r.val, hl⟩ j
    have hr := r.isLt
    refine Eq.trans (congrArg (qBuf m c t filler) (funext fun a => Fin.ext ?_)) (buf_q m c t h0 filler (⟨r.val, by omega⟩ : Fin 2048) d (by rw [x0]; exact r.isLt) (by show 2048 * (t.val % 9) + r.val < 16400; omega))
    match a with
    | ⟨0, _⟩ => show 0 + 1 * r.val = r.val; omega
    | ⟨1, _⟩ => show 0 + 1 * d.val = d.val; omega

theorem cover (i : S16400x2048.Idx) : ∃ t : Fin cfg0.N, (cfg0.win 5).flush t = true ∧ i ∈ ((cfg0.win 5).blk t).view.set := by
  have h0 : (i 0).val < 16400 := (i 0).isLt
  have h1 : (i 1).val < 2048 := (i 1).isLt
  have hN : 9 * ((i 1).val / 128) + (i 0).val / 2048 < cfg0.N := by rw [show cfg0.N = 144 from N_0]; omega
  obtain ⟨t, ht⟩ : ∃ t : Fin cfg0.N, t.val = 9 * ((i 1).val / 128) + (i 0).val / 2048 := ⟨⟨_, hN⟩, rfl⟩
  obtain ⟨-, -, -, -, -, ⟨e0, e1⟩, eb⟩ := places t
  have x1 := (columns t).2.2.2
  refine ⟨t, flush0_5 t, ?_⟩
  have er := View.set_slice_whole main_v0 ((cfg0.win 5).rect t : Rect S16400x2048)
  refine (congrArg (fun s : Finset S16400x2048.Idx => i ∈ s) er).mpr (Rect.mem_set_unit.mpr fun (a : Fin 2) => ?_)
  match a with
  | ⟨0, _⟩ =>
    show win0_5.index t (0 : Fin 2) * 2048 ≤ (i 0).val ∧ (i 0).val < win0_5.index t (0 : Fin 2) * 2048 + win0_5.xsize (grid0.coords t) (0 : Fin 2)
    rcases points t with ⟨-, -, hb, -, -, -, x⟩ | ⟨-, -, hb, -, -, -, x⟩
    · rw [e0, ht, x]; omega
    · rw [e0, ht, x]; rw [eb, ht] at hb; omega
  | ⟨1, _⟩ =>
    show win0_5.index t (1 : Fin 2) * 128 ≤ (i 1).val ∧ (i 1).val < win0_5.index t (1 : Fin 2) * 128 + win0_5.xsize (grid0.coords t) (1 : Fin 2)
    rw [e1, ht, x1]; omega

theorem flushed_5 (c : Dev nD) (t : Fin cfg0.N) : (dats m 0 c).flushed 5 t = (cfg0.win 5).cut (grid0.coords t) (outAt m c t) := by
  show (cfg0.win 5).cut (grid0.coords t) ((dats m 0 c).after 5 t) = _
  rw [after_5]

/-- THE ARRAY after the run. -/
theorem final (c : Dev nD) (h0 : Finite (queries m c)) (h1 : Finite (joined m c)) : (dats m 0 c).arrAt 5 cfg0.N = G m c := by
  refine (dats m 0 c).arrAt_eq_of_cover 5 (G m c) (fun t _ => ?_) cover
  have hN := count t
  obtain ⟨-, -, -, -, -, ⟨e0, e1⟩, eb⟩ := places t
  rw [flushed_5]
  funext (y : (win0_5.xblock (grid0.coords t)).Idx)
  have hy0 : (y (0 : Fin 2)).val < win0_5.xsize (grid0.coords t) (0 : Fin 2) := (y (0 : Fin 2)).isLt
  have hy1 : (y (1 : Fin 2)).val < 128 := lt_of_lt_of_eq (y (1 : Fin 2)).isLt (columns t).2.2.2
  have hr : (y (0 : Fin 2)).val < 2048 ∧ 2048 * (t.val % 9) + (y (0 : Fin 2)).val < 16400 := by
    rcases points t with ⟨-, -, hb, -, -, -, x⟩ | ⟨-, -, hb, -, -, -, x⟩
    · rw [x] at hy0; rw [eb] at hb; omega
    · rw [x] at hy0; rw [eb] at hb; omega
  have e : (cfg0.win 5).xinj (grid0.coords t) y = ix2 (n0 := 2048) (n1 := 128) ⟨(y (0 : Fin 2)).val, hr.1⟩ ⟨(y (1 : Fin 2)).val, hy1⟩ :=
    funext fun (a : Fin 2) => Fin.ext (match a with | ⟨0, _⟩ => rfl | ⟨1, _⟩ => rfl)
  have step : outAt m c t ((cfg0.win 5).xinj (grid0.coords t) y) = _ :=
    (congrArg (outAt m c t) e).trans (point_apply m c h0 h1 t (⟨(y (0 : Fin 2)).val, hr.1⟩ : Fin 2048) (⟨(y (1 : Fin 2)).val, hy1⟩ : Fin 128) hr.2)
  refine Eq.trans step ?_
  show _ = result (queries m c) (joined m c) (((cfg0.win 5).rect t : Rect S16400x2048).emb y)
  unfold result
  have a0 : 2048 * (t.val % 9) + (y (0 : Fin 2)).val = win0_5.index t (0 : Fin 2) * 2048 + 1 * (y (0 : Fin 2)).val := by rw [e0]; omega
  have a1 : t.val / 9 = (win0_5.index t (1 : Fin 2) * 128 + 1 * (y (1 : Fin 2)).val) / 128 := by rw [e1]; omega
  have a2 : (y (1 : Fin 2)).val = (win0_5.index t (1 : Fin 2) * 128 + 1 * (y (1 : Fin 2)).val) % 128 := by rw [e1]; omega
  have key : ∀ (h h' R R' : ℕ) (d d' : Fin 128), h = h' → R = R' → d = d' →
      head (queries m c) (joined m c) h R d = head (queries m c) (joined m c) h' R' d' := by
    rintro h _ R _ d _ rfl rfl rfl; rfl
  exact key _ _ _ _ _ _ a1 a0 (Fin.ext a2)

/-- Every run ends with the arguments unchanged and, where no entry of the queries and keys is infinite, the result at `G`. -/
theorem run_value (hf : ∀ c, Finite (queries m c) ∧ Finite (joined m c)) :
    θ_run defs (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 5).trans (final m c (hf c).1 (hf c).2), h.2 c⟩)
    (θ_run_and (run_main m ρ) (unchanged m ρ))

end AttnRun

end
-- ==== Proof.Attn.Reference.lean ====
/-
  The attention's reference, entry by entry, where no argument's entry is infinite: the heads with the meta tokens in front,
  the scores, the logarithm of what the keys between a key and its query leave, the weights, and the weighted sum of the values.
-/
module

public import proofs.«01_k».proof.Proof.Gen.AttnRefIdeal.Read
public import proofs.«01_k».proof.Proof.Attn.Joined
public import Idealize.ShloMosaic.Lib.WordCmp

@[expose] public section

set_option maxRecDepth 16384

noncomputable section

open scoped BigOperators
open Idealize.ShloMosaic Idealize.ShloMosaic.ValueIdx
open StickBreaking

namespace AttnRun

open Cert.AttnRefIdeal Cert.AttnRefIdeal.Gen Cert.AttnRefIdeal.Read

/-- An entry at any spelling of its index. -/
theorem entry_at {N M : ℕ} {x : FVec Ideal (Mat N M) .bf16} (hx : Finite x) (i : (Mat N M).Idx) (R J : ℕ) (h0 : (i 0).val = R) (h1 : (i 1).val = J) (h : J < 2048) :
    x i = ((entry x R J : ℝ) : EReal) :=
  Eq.trans (congrArg x (eq_ix2 i)) (entry_coe hx (i 0) (i 1) R J h0 h1 h)

theorem slot_at {N M : ℕ} (x : FVec Ideal (Mat N M) .bf16) (i : (Mat N M).Idx) (R J : ℕ) (h0 : (i 0).val = R) (h1 : (i 1).val = J) : x i = slot x R J :=
  Eq.trans (congrArg x (eq_ix2 i)) (slot_eq x (i 0) (i 1) R J h0 h1)

theorem place_lt (b u : ℕ) (hb : b < 8) (hu : u < 2064) : place b u < 16400 := by
  unfold place
  split <;> omega

/-! ## The heads -/

/-- The rows of a batch with the meta rows in front. -/
theorem rows_at (x : FVec Ideal (Mat 16400 2048) .bf16) (j : S8x2064x2048.Idx) :
    val_main_v8 (F := Ideal) x j = x (ix2 ⟨place (j 0).val (j 1).val, place_lt _ _ (j 0).isLt (j 1).isLt⟩ (j 2)) := by
  have h0 : (j 0).val < 8 := (j 0).isLt
  have h1 : (j 1).val < 2064 := (j 1).isLt
  have h2 : (j 2).val < 2048 := (j 2).isLt
  unfold val_main_v8
  by_cases h : (j 1).val < 16
  · rw [concatenate_pair_apply_left (s₁ := S8x16x2048) (s₂ := S8x2048x2048) (1 : Fin 3) _ _ _ j rfl (ix3 (j 0) (⟨(j 1).val, h⟩ : Fin 16) (j 2) : S8x16x2048.Idx)
      (fun b => match b with | ⟨0, _⟩ => rfl | ⟨1, _⟩ => rfl | ⟨2, _⟩ => rfl)]
    rw [val_main_v7_apply, val_main_v6_apply, val_main_v5_apply, val_main_v2_apply]
    refine congrArg x (funext fun (a : Fin 2) => Fin.ext ?_)
    match a with
    | ⟨0, _⟩ => exact (place_meta (j 0).val _ h).symm
    | ⟨1, _⟩ => rfl
  · rw [concatenate_pair_apply_right (s₁ := S8x16x2048) (s₂ := S8x2048x2048) (1 : Fin 3) _ _ _ j rfl rfl (ix3 (j 0) (⟨(j 1).val - 16, by omega⟩ : Fin 2048) (j 2) : S8x2048x2048.Idx)
      (fun b => match b with | ⟨0, _⟩ => fun _ => rfl | ⟨1, _⟩ => fun hb => absurd rfl hb | ⟨2, _⟩ => fun _ => rfl)
      (Nat.sub_add_cancel (not_lt.mp h))]
    rw [val_main_v4_apply, val_main_v3_apply, val_main_v2_apply]
    refine congrArg x (funext fun (a : Fin 2) => Fin.ext ?_)
    match a with
    | ⟨0, _⟩ =>
      show (((j 0).val * 2048 + ((j 1).val - 16)) * 2048 + (j 2).val) / 2048 = place (j 0).val (j 1).val
      unfold place
      rw [if_neg h]
      omega
    | ⟨1, _⟩ => show (((j 0).val * 2048 + ((j 1).val - 16)) * 2048 + (j 2).val) % 2048 = (j 2).val; omega

/-- The heads of an array. -/
theorem heads_at (x : FVec Ideal (Mat 16400 2048) .bf16) (i : S8x16x2064x128.Idx) :
    val_main_v10 (F := Ideal) x i = x (ix2 ⟨place (i 0).val (i 2).val, place_lt _ _ (i 0).isLt (i 2).isLt⟩
      ⟨128 * (i 1).val + (i 3).val, by have h1 : (i 1).val < 16 := (i 1).isLt; have h3 : (i 3).val < 128 := (i 3).isLt; omega⟩) := by
  have h0 : (i 0).val < 8 := (i 0).isLt
  have h1 : (i 1).val < 16 := (i 1).isLt
  have h2 : (i 2).val < 2064 := (i 2).isLt
  have h3 : (i 3).val < 128 := (i 3).isLt
  rw [val_main_v10_apply, val_main_v9_apply, rows_at]
  have e0 : ((((i 0).val * 2064 + (i 2).val) * 16 + (i 1).val) * 128 + (i 3).val) / 4227072 = (i 0).val := by omega
  have e1 : ((((i 0).val * 2064 + (i 2).val) * 16 + (i 1).val) * 128 + (i 3).val) / 2048 % 2064 = (i 2).val := by omega
  have e2 : ((((i 0).val * 2064 + (i 2).val) * 16 + (i 1).val) * 128 + (i 3).val) % 2048 = 128 * (i 1).val + (i 3).val := by omega
  refine congrArg x (funext fun (a : Fin 2) => Fin.ext ?_)
  match a with
  | ⟨0, _⟩ => exact congrArg₂ place e0 e1
  | ⟨1, _⟩ => exact e2

variable {x : FVec Ideal (Mat 16400 2048) .bf16} {y : FVec Ideal (Mat 16400 4096) .bf16}

/-- The scores of the query at position `p` of batch `b`. -/
abbrev score (x : FVec Ideal (Mat 16400 2048) .bf16) (y : FVec Ideal (Mat 16400 4096) .bf16) (b h p : ℕ) : ℕ → ℝ :=
  scores (query x h (place b p)) (key y h b)

theorem query_at (hx : Finite x) (i : S8x16x2064x128.Idx) :
    val_main_v10 (F := Ideal) x i = ((query x (i 1).val (place (i 0).val (i 2).val) (i 3) : ℝ) : EReal) := by
  have h1 : (i 1).val < 16 := (i 1).isLt
  have h3 : (i 3).val < 128 := (i 3).isLt
  rw [heads_at]
  exact entry_coe hx _ _ _ _ rfl rfl (by omega)

theorem key_at (hy : Finite y) (i : S8x16x2064x128.Idx) :
    val_main_v19 (F := Ideal) y i = ((key y (i 1).val (i 0).val (i 2).val (i 3) : ℝ) : EReal) := by
  have h1 : (i 1).val < 16 := (i 1).isLt
  have h3 : (i 3).val < 128 := (i 3).isLt
  show val_main_v10 (F := Ideal) (val_main_v0 (F := Ideal) y) i = _
  rw [heads_at, val_main_v0_apply]
  exact entry_at hy _ _ _ rfl rfl (by omega)

theorem value_at (y : FVec Ideal (Mat 16400 4096) .bf16) (i : S8x16x2064x128.Idx) :
    val_main_v28 (F := Ideal) y i = value y (i 1).val (i 0).val (i 2).val (i 3) := by
  show val_main_v10 (F := Ideal) (val_main_v1 (F := Ideal) y) i = _
  rw [heads_at, val_main_v1_apply]
  exact slot_at _ _ _ _ rfl (Nat.add_assoc _ _ _).symm

/-! ## The scores -/

theorem score_at (hx : Finite x) (hy : Finite y) (i : S8x16x2064x2064.Idx) :
    val_main_v31 (F := Ideal) x y i = ((score x y (i 0).val (i 1).val (i 2).val (i 3).val : ℝ) : EReal) := by
  have e : val_main_v29 (F := Ideal) x y i
      = ((∑ d : Fin 128, query x (i 1).val (place (i 0).val (i 2).val) d * key y (i 1).val (i 0).val (i 3).val d : ℝ) : EReal) := by
    rw [val_main_v29_apply, coe_sum]
    refine Finset.sum_congr rfl fun d _ => ?_
    have eq : val_main_v10 (F := Ideal) x (lidx_main_v29 i d) = ((query x (i 1).val (place (i 0).val (i 2).val) d : ℝ) : EReal) := query_at hx _
    have ek : val_main_v19 (F := Ideal) y (ridx_main_v29 i d) = ((key y (i 1).val (i 0).val (i 3).val d : ℝ) : EReal) := key_at hy _
    rw [eq, ek, EReal.coe_mul]
  have ec : val_main_v30 (F := Ideal) i = ((factor : ℝ) : EReal) := by
    rw [val_main_v30_apply, val_main_cst_apply]
    exact ofBits_factor
  rw [val_main_v31_apply, e, ec]
  unfold score scores
  rw [EReal.coe_mul]
  rfl

/-- The softplus as the reference writes it, with the case of a value that differs from itself. -/
theorem softplus_coe (a o : Ideal .f32) (r : ℝ) (ha : a = (r : EReal)) (ho : o = (0 : EReal)) :
    (Scalar.select (FloatOps.cmpf .une (FloatOps.subf a o) (FloatOps.subf a o)) (FloatOps.addf a o)
      (FloatOps.addf (FloatOps.maximumf a o) (FloatOps.hostUnary .log1p (FloatOps.hostUnary .exp (FloatOps.hostNegf (FloatOps.hostAbsf (FloatOps.subf a o))))))
        : Ideal .f32) = ((soft r : ℝ) : EReal) := by
  subst ho
  show Scalar.select (Ideal.cmp .une (a - (0 : EReal)) (a - (0 : EReal))) (a + (0 : EReal))
    (max a (0 : EReal) + Ideal.log (1 + Ideal.exp (-(max (a - (0 : EReal)) (-(a - (0 : EReal))))))) = _
  have e : Ideal.cmp .une (a - (0 : EReal)) (a - (0 : EReal)) = 0#1 := by simp [Ideal.cmp]
  rw [e, ha, sub_zero, ← zero_sub]
  exact soft_coe r

theorem neg_coe (a : Ideal .f32) (r : ℝ) (ha : a = (r : EReal)) : (FloatOps.hostNegf a : Ideal .f32) = ((-r : ℝ) : EReal) := by
  rw [EReal.coe_neg, ← ha]
  rfl

theorem exp_add_coe (a b : Ideal .f32) (r s : ℝ) (ha : a = (r : EReal)) (hb : b = (s : EReal)) :
    (FloatOps.hostUnary .exp (FloatOps.addf a b) : Ideal .f32) = ((Real.exp (r + s) : ℝ) : EReal) := by
  subst ha hb
  show Ideal.exp ((r : EReal) + (s : EReal)) = _
  rw [← EReal.coe_add, Ideal.exp_coe]

/-- The logarithm of what a key leaves. -/
theorem stay_at (hx : Finite x) (hy : Finite y) (i : S8x16x2064x2064.Idx) :
    val_main_v40 (F := Ideal) x y i = ((-soft (score x y (i 0).val (i 1).val (i 2).val (i 3).val) : ℝ) : EReal) := by
  rw [val_main_v40_apply]
  refine neg_coe _ _ ?_
  have o0 : val_main_call0_call0_v0 (F := Ideal) i = (FloatOps.ofBits (F := Ideal) .f32 0x00000000#32) := by rw [val_main_call0_call0_v0_apply, val_main_call0_call0_cst_apply]
  have o2 : val_main_call0_call0_v2 (F := Ideal) i = (FloatOps.ofBits (F := Ideal) .f32 0x00000000#32) := by rw [val_main_call0_call0_v2_apply, val_main_call0_call0_cst_apply]
  have o5 : val_main_call0_call0_v5 (F := Ideal) i = (FloatOps.ofBits (F := Ideal) .f32 0x00000000#32) := by rw [val_main_call0_call0_v5_apply, val_main_call0_call0_cst_apply]
  rw [val_main_call0_v1_apply, val_main_call0_call0_v4_apply, val_main_call0_call0_v6_apply, val_main_call0_call0_v11_apply, val_main_call0_call0_v1_apply, val_main_call0_call0_v10_apply,
    val_main_call0_call0_v9_apply, val_main_call0_call0_v8_apply, val_main_call0_call0_v7_apply, val_main_call0_call0_v3_apply, o0, o2, o5]
  refine softplus_coe _ _ _ ?_ Ideal.ofBits_zero_f32
  rw [val_main_call0_v0_apply, val_main_v39_apply, neg_coe _ _ (neg_coe _ _ (score_at hx hy i)), neg_neg]

/-- The logarithm of what a key takes. -/
theorem take_at (hx : Finite x) (hy : Finite y) (i : S8x16x2064x2064.Idx) :
    val_main_v52 (F := Ideal) x y i
      = ((score x y (i 0).val (i 1).val (i 2).val (i 3).val - soft (score x y (i 0).val (i 1).val (i 2).val (i 3).val) : ℝ) : EReal) := by
  rw [val_main_v52_apply, ← neg_sub, ← soft_neg]
  refine neg_coe _ _ ?_
  have o0 : val_main_call3_call0_v0 (F := Ideal) i = (FloatOps.ofBits (F := Ideal) .f32 0x00000000#32) := by rw [val_main_call3_call0_v0_apply, val_main_call3_call0_cst_apply]
  have o2 : val_main_call3_call0_v2 (F := Ideal) i = (FloatOps.ofBits (F := Ideal) .f32 0x00000000#32) := by rw [val_main_call3_call0_v2_apply, val_main_call3_call0_cst_apply]
  have o5 : val_main_call3_call0_v5 (F := Ideal) i = (FloatOps.ofBits (F := Ideal) .f32 0x00000000#32) := by rw [val_main_call3_call0_v5_apply, val_main_call3_call0_cst_apply]
  rw [val_main_call3_v1_apply, val_main_call3_call0_v4_apply, val_main_call3_call0_v6_apply, val_main_call3_call0_v11_apply, val_main_call3_call0_v1_apply, val_main_call3_call0_v10_apply,
    val_main_call3_call0_v9_apply, val_main_call3_call0_v8_apply, val_main_call3_call0_v7_apply, val_main_call3_call0_v3_apply, o0, o2, o5]
  refine softplus_coe _ _ _ ?_ Ideal.ofBits_zero_f32
  rw [val_main_call3_v0_apply, neg_coe _ _ (score_at hx hy i)]

/-! ## The masks -/

theorem before_at (i : S2064x2064.Idx) : val_main_v38 (F := Ideal) i = BitVec.ofBool (decide ((i 1).val < (i 0).val)) := by
  have h0 : (i 0).val < 2064 := (i 0).isLt
  have h1 : (i 1).val < 2064 := (i 1).isLt
  rw [val_main_v38_apply, val_main_v36_apply, val_main_v37_apply, val_main_v33_apply, val_main_v35_apply, val_main_v32_apply, val_main_v34_apply]
  show IntOp.cmpi .slt (BitVec.ofNat 32 (i 1).val) (BitVec.ofNat 32 (i 0).val) = _
  exact WordCmp.cmpi_slt_ofNat (by omega) (by omega)

theorem after_at (i : S2064x2064.Idx) : val_main_v48 (F := Ideal) i = BitVec.ofBool (decide ((i 0).val < (i 1).val)) := by
  have h0 : (i 0).val < 2064 := (i 0).isLt
  have h1 : (i 1).val < 2064 := (i 1).isLt
  rw [val_main_v48_apply, val_main_v46_apply, val_main_v47_apply, val_main_v43_apply, val_main_v45_apply, val_main_v42_apply, val_main_v44_apply]
  show IntOp.cmpi .sgt (BitVec.ofNat 32 (i 1).val) (BitVec.ofNat 32 (i 0).val) = _
  exact WordCmp.cmpi_sgt_ofNat (by omega) (by omega)

/-- A choice by a mask between a real number and zero. -/
theorem choose_coe (P : Prop) [Decidable P] (a o : Ideal .f32) (r : ℝ) (ha : a = (r : EReal)) (ho : o = (0 : EReal)) :
    (Scalar.select (BitVec.ofBool (decide P)) a o : Ideal .f32) = ((if P then r else 0 : ℝ) : EReal) := by
  rw [WordCmp.select_ofBool, ha, ho]
  by_cases h : P
  · simp [h]
  · simp [h]

/-! ## What the keys between leave -/

theorem left_at (hx : Finite x) (hy : Finite y) (i : S8x16x2064x2064.Idx) :
    val_main_v41 (F := Ideal) x y i
      = ((if (i 3).val < (i 2).val then -soft (score x y (i 0).val (i 1).val (i 2).val (i 3).val) else 0 : ℝ) : EReal) := by
  rw [val_main_v41_apply, val_main_call1_v1_apply, before_at]
  exact choose_coe _ _ _ _ (stay_at hx hy i) (by rw [val_main_call1_v2_apply, val_main_call1_v0_apply, val_main_cst_0_apply]; exact Ideal.ofBits_zero_f32)

theorem chosen_at (hx : Finite x) (hy : Finite y) (i : S8x16x2064x2064x2064.Idx) :
    val_main_v50 (F := Ideal) x y i
      = ((if (i 3).val < (i 4).val then (if (i 4).val < (i 2).val then -soft (score x y (i 0).val (i 1).val (i 2).val (i 4).val) else 0) else 0 : ℝ) : EReal) := by
  rw [val_main_v50_apply, val_main_call2_v1_apply, after_at]
  refine choose_coe _ _ _ _ ?_ (by rw [val_main_call2_v3_apply, val_main_call2_v0_apply, val_main_cst_1_apply]; exact Ideal.ofBits_zero_f32)
  rw [val_main_call2_v2_apply, val_main_v49_apply, left_at hx hy]

/-- The sum over the keys after `s` and before `p`, of all 2064. -/
theorem sum_between (z : ℕ → ℝ) (s p : ℕ) (hp : p ≤ 2064) :
    (∑ u : Fin 2064, if s < u.val then (if u.val < p then -soft (z u.val) else 0) else 0) = -taken z (s + 1) p := by
  have e : ∀ u : Fin 2064, (if s < u.val then (if u.val < p then -soft (z u.val) else 0) else 0)
      = if u.val < p then (fun v => if s < v then -soft (z v) else 0) (0 + u.val) else 0 := fun u => by
    rw [Nat.zero_add]
    by_cases h : s < u.val
    · simp only [if_pos h]
    · simp only [if_neg h, ite_self]
  refine (Finset.sum_congr rfl fun u _ => e u).trans ((sum_columns (fun v => if s < v then -soft (z v) else 0) 0 p hp).trans ?_)
  rw [Nat.zero_add, ← Finset.sum_filter]
  unfold taken
  rw [← Finset.sum_neg_distrib]
  refine Finset.sum_congr (Finset.ext fun v => ?_) fun _ _ => rfl
  simp only [Finset.mem_filter, Finset.mem_Ico]
  omega

theorem between_at (hx : Finite x) (hy : Finite y) (i : S8x16x2064x2064.Idx) :
    val_main_v51 (F := Ideal) x y i = ((-taken (score x y (i 0).val (i 1).val (i 2).val) ((i 3).val + 1) (i 2).val : ℝ) : EReal) := by
  have h2 : (i 2).val < 2064 := (i 2).isLt
  have e0 : val_main_cst_2 (F := Ideal) (Shape.Idx.first h_S_) = (0 : EReal) := by
    rw [val_main_cst_2_apply]
    exact Ideal.ofBits_zero_f32
  have e1 : ∀ u : Fin 2064, val_main_v50 (F := Ideal) x y (idx_main_v51 i u)
      = ((if (i 3).val < u.val then (if u.val < (i 2).val then -soft (score x y (i 0).val (i 1).val (i 2).val u.val) else 0) else 0 : ℝ) : EReal) :=
    fun u => chosen_at hx hy (idx_main_v51 i u)
  have e2 := sum_between (score x y (i 0).val (i 1).val (i 2).val) (i 3).val (i 2).val (Nat.le_of_lt h2)
  rw [val_main_v51_apply, e0, ← e2, coe_sum, Finset.sum_congr rfl fun u _ => e1 u]
  exact zero_add _

/-! ## The weights and the result -/

theorem weight_at (hx : Finite x) (hy : Finite y) (i : S8x16x2064x2064.Idx) :
    val_main_v55 (F := Ideal) x y i
      = ((if (i 3).val < (i 2).val then weight (score x y (i 0).val (i 1).val (i 2).val) (i 2).val (i 3).val else 0 : ℝ) : EReal) := by
  rw [val_main_v55_apply, val_main_call4_v1_apply, before_at]
  refine choose_coe _ _ _ _ ?_ (by rw [val_main_call4_v2_apply, val_main_call4_v0_apply, val_main_cst_3_apply]; exact Ideal.ofBits_zero_f32)
  rw [val_main_v54_apply, val_main_v53_apply, exp_add_coe _ _ _ _ (take_at hx hy i) (between_at hx hy i)]
  unfold weight
  congr 2
  ring

theorem attended_at (hx : Finite x) (hy : Finite y) (i : S8x16x2064x128.Idx) :
    val_main_v56 (F := Ideal) x y i
      = attended (query x (i 1).val (place (i 0).val (i 2).val)) (key y (i 1).val (i 0).val) (value y (i 1).val (i 0).val) (i 2).val (i 3) := by
  have h2 : (i 2).val < 2064 := (i 2).isLt
  have e := sum_columns (W := 2064) (fun s => ((weight (score x y (i 0).val (i 1).val (i 2).val) (i 2).val s : ℝ) : EReal) * value y (i 1).val (i 0).val s (i 3)) 0 (i 2).val h2.le
  rw [Nat.zero_add] at e
  rw [val_main_v56_apply]
  unfold attended part
  rw [← e]
  refine Finset.sum_congr rfl fun s _ => ?_
  have ew : val_main_v55 (F := Ideal) x y (lidx_main_v56 i s)
      = ((if s.val < (i 2).val then weight (score x y (i 0).val (i 1).val (i 2).val) (i 2).val s.val else 0 : ℝ) : EReal) := weight_at hx hy _
  have ev : val_main_v28 (F := Ideal) y (ridx_main_v56 i s) = value y (i 1).val (i 0).val s.val (i 3) := value_at y _
  rw [ew, ev]
  by_cases h : s.val < (i 2).val
  · rw [if_pos h, if_pos h, Nat.zero_add]
  · rw [if_neg h, if_neg h, EReal.coe_zero, zero_mul]

/-- The heads side by side again. -/
theorem side_at (hx : Finite x) (hy : Finite y) (j : S8x2064x2048.Idx) :
    val_main_v58 (F := Ideal) x y j
      = attended (query x ((j 2).val / 128) (place (j 0).val (j 1).val)) (key y ((j 2).val / 128) (j 0).val) (value y ((j 2).val / 128) (j 0).val) (j 1).val
          ⟨(j 2).val % 128, Nat.mod_lt _ (by decide)⟩ := by
  have h0 : (j 0).val < 8 := (j 0).isLt
  have h1 : (j 1).val < 2064 := (j 1).isLt
  have h2 : (j 2).val < 2048 := (j 2).isLt
  rw [val_main_v58_apply, val_main_v57_apply, attended_at hx hy]
  have e0 : (((j 0).val * 2064 + (j 1).val) * 2048 + (j 2).val) / 4227072 = (j 0).val := by omega
  have e1 : (((j 0).val * 2064 + (j 1).val) * 2048 + (j 2).val) / 2048 % 2064 = (j 1).val := by omega
  have e2 : (((j 0).val * 2064 + (j 1).val) * 2048 + (j 2).val) / 128 % 16 = (j 2).val / 128 := by omega
  have e3 : (((j 0).val * 2064 + (j 1).val) * 2048 + (j 2).val) % 128 = (j 2).val % 128 := by omega
  have same : ∀ (b b' h h' p p' : ℕ) (d d' : Fin 128), b = b' → h = h' → p = p' → d = d' →
      attended (query x h (place b p)) (key y h b) (value y h b) p d
        = attended (query x h' (place b' p')) (key y h' b') (value y h' b') p' d' := by
    rintro b _ h _ p _ d _ rfl rfl rfl rfl; rfl
  exact same _ _ _ _ _ _ _ _ e0 e2 e1 (Fin.ext e3)

/-- Row `R` as a query of its batch. -/
theorem head_row (b p : ℕ) (R h : ℕ) (d : Fin 128) (hb : b = batch R) (hp : p = position R) (hR : place b p = R) :
    attended (query x h (place b p)) (key y h b) (value y h b) p d = head x y h R d := by
  unfold head
  rw [hR, hb, hp]

/-- THE REFERENCE'S RESULT. -/
theorem reference_eq (hx : Finite x) (hy : Finite y) : val_main_v64 (F := Ideal) x y = result x y := by
  funext (i : S16400x2048.Idx)
  have h0 : (i 0).val < 16400 := (i 0).isLt
  have h1 : (i 1).val < 2048 := (i 1).isLt
  rw [val_main_v64_apply]
  show val_main_v63 (F := Ideal) x y i = _
  unfold val_main_v63 result
  by_cases h : (i 0).val < 16384
  · rw [concatenate_pair_apply_left (s₁ := S16384x2048) (s₂ := S16x2048) (0 : Fin 2) _ _ _ i rfl (ix2 (⟨(i 0).val, h⟩ : Fin 16384) (i 1) : S16384x2048.Idx)
      (fun b => match b with | ⟨0, _⟩ => rfl | ⟨1, _⟩ => rfl)]
    rw [val_main_v60_apply, val_main_v59_apply, side_at hx hy]
    have e0 : ((i 0).val * 2048 + (i 1).val) / 4194304 = (i 0).val / 2048 := by omega
    have e1 : 16 + ((i 0).val * 2048 + (i 1).val) / 2048 % 2048 = 16 + (i 0).val % 2048 := by omega
    have e2 : ((i 0).val * 2048 + (i 1).val) % 2048 = (i 1).val := by omega
    refine Eq.trans (head_row _ _ (i 0).val _ _ ?_ ?_ ?_) ?_
    · exact e0.trans (if_pos h).symm
    · exact e1.trans (if_pos h).symm
    · refine (congrArg₂ place e0 e1).trans ((place_own _ _).trans ?_)
      omega
    · have same : ∀ J J' : ℕ, J = J' → head x y (J / 128) (i 0).val ⟨J % 128, Nat.mod_lt _ (by decide)⟩
          = head x y (J' / 128) (i 0).val ⟨J' % 128, Nat.mod_lt _ (by decide)⟩ := by
        rintro J _ rfl; rfl
      exact same _ _ e2
  · rw [concatenate_pair_apply_right (s₁ := S16384x2048) (s₂ := S16x2048) (0 : Fin 2) _ _ _ i rfl rfl (ix2 (⟨(i 0).val - 16384, by omega⟩ : Fin 16) (i 1) : S16x2048.Idx)
      (fun b => match b with | ⟨0, _⟩ => fun hb => absurd rfl hb | ⟨1, _⟩ => fun _ => rfl)
      (Nat.sub_add_cancel (not_lt.mp h))]
    rw [val_main_v62_apply, val_main_v61_apply, side_at hx hy]
    have e1 : (((i 0).val - 16384) * 2048 + (i 1).val) / 2048 % 16 = (i 0).val - 16384 := by omega
    have e2 : (((i 0).val - 16384) * 2048 + (i 1).val) % 2048 = (i 1).val := by omega
    refine Eq.trans (head_row _ _ (i 0).val _ _ ?_ ?_ ?_) ?_
    · exact (if_neg h).symm
    · exact e1.trans (if_neg h).symm
    · refine (congrArg (place 0) e1).trans ((place_meta _ _ (by omega)).trans ?_)
      omega
    · have same : ∀ J J' : ℕ, J = J' → head x y (J / 128) (i 0).val ⟨J % 128, Nat.mod_lt _ (by decide)⟩
          = head x y (J' / 128) (i 0).val ⟨J' % 128, Nat.mod_lt _ (by decide)⟩ := by
        rintro J _ rfl; rfl
      exact same _ _ e2

end AttnRun

end
-- ==== Proof.Attn.Numbers.lean ====
/-
  The attention's precondition, read: an entry whose absolute value is below infinity is a number.
-/
module

public import proofs.«01_k».proof.Pre_finite_entries
public import proofs.«01_k».proof.Proof.Attn.Joined
public import Idealize.ShloMosaic.Lib.WordCmp

@[expose] public section

set_option maxRecDepth 16384

noncomputable section

open Idealize.ShloMosaic Idealize.ShloMosaic.ValueIdx

namespace AttnRun

open Cert.Pre_finite_entries Cert.Pre_finite_entries.Facts

/-- The comparison of an entry's absolute value with infinity. -/
def below (a : Ideal .f32) : BitVec 1 := FloatOps.cmpf .olt (FloatOps.hostAbsf a) (FloatOps.ofBits (F := Ideal) .f32 0x7F800000#32)

theorem ofBits_top : Ideal.ofBits .f32 0x7F800000#32 = ⊤ := by
  simp [Ideal.ofBits, Ideal.ieee]

theorem below_iff (a : Ideal .f32) (h : below a = 1#1) : (a : EReal) ≠ ⊤ ∧ (a : EReal) ≠ ⊥ := by
  have e : BitVec.ofBool (decide (max (a : EReal) (-(a : EReal)) < Ideal.ofBits .f32 0x7F800000#32)) = 1#1 := h
  rw [ofBits_top, WordCmp.ofBool_eq_one_iff, decide_eq_true_eq, max_lt_iff] at e
  refine ⟨e.1.ne, fun hb => ?_⟩
  rw [hb, EReal.neg_bot] at e
  exact absurd e.2 (lt_irrefl _)

variable [Cert.Pre_finite_entries.Facts] (x : FVec Ideal S16400x2048 .bf16) (y : FVec Ideal S16400x4096 .bf16)

/-- The precondition at an index: the query's entry and the key's. -/
theorem pre_apply (i : S16400x2048.Idx) :
    Cert.Pre_finite_entries.fn (F := Ideal) x y i
      = IntOp.andi (below (x i)) (below (extractStridedSlice S16400x2048 ![0, 0] y slices_S16400x4096_S16400x2048_0_0 i)) := by
  unfold Cert.Pre_finite_entries.fn
  rfl

variable (h : Cert.Pre_finite_entries.fn (F := Ideal) x y = fun _ => 1#1)
include h

theorem pre_parts (i : S16400x2048.Idx) : below (x i) = 1#1
    ∧ below (extractStridedSlice S16400x2048 ![0, 0] y slices_S16400x4096_S16400x2048_0_0 i) = 1#1 := by
  have e := (pre_apply x y i).symm.trans (congrFun h i)
  have two : ∀ a b : BitVec 1, IntOp.andi a b = 1#1 → a = 1#1 ∧ b = 1#1 := by decide
  exact two _ _ e

theorem finite_queries : Finite (N := 16400) (M := 2048) x := fun r j _ => below_iff _ (pre_parts x y h (ix2 r j)).1

theorem finite_keys : Finite (N := 16400) (M := 4096) y := fun r j hj => by
  have e := below_iff _ (pre_parts x y h (ix2 (n0 := 16400) (n1 := 2048) r ⟨j.val, hj⟩)).2
  rw [extractStridedSlice_apply ![0, 0] y slices_S16400x4096_S16400x2048_0_0 (ix2 (n0 := 16400) (n1 := 2048) r ⟨j.val, hj⟩) (ix2 r j) (fun a => match a with
    | ⟨0, _⟩ => by show r.val = 0 + r.val; omega
    | ⟨1, _⟩ => by show j.val = 0 + j.val; omega)] at e
  exact e

end AttnRun

end
-- ==== Proof.Attn.Claims.lean ====
/-
  The claims about the attention: the kernel and its reference run, keep their arguments, end with every semaphore at zero,
  and over the extended reals end with equal results where every entry of the queries and keys is a number.
-/
module

public import proofs.«01_k».proof.Defs
public import proofs.«01_k».proof.Proof.Gen.Attn
public import proofs.«01_k».proof.Proof.Gen.AttnRefIdeal.Run
public import proofs.«01_k».proof.Proof.Attn.Rows
public import proofs.«01_k».proof.Proof.Attn.Reference
public import proofs.«01_k».proof.Proof.Attn.Numbers
public import Idealize.ShloMosaic.Lib.Claim

@[expose] public section

noncomputable section

open Idealize.ShloMosaic Idealize.ShloMosaic.TcCoe Idealize.SL.Sem Idealize.ShloMosaic.ValueIdx

namespace Cert.Proof.AttnClaims

/-- What the frame claims of the kernel, on the idealization's text read at an instance `F`. -/
abbrev FrameAt (F : FTy → Type) [FloatOps F] : Prop :=
  ∀ (m : (ℓ : Loc Cert.AttnIdeal.nD Cert.AttnIdeal.τ Cert.AttnIdeal.sig) → Buf (Elt F) ℓ) (g : Dev Cert.AttnIdeal.nD → PrngReg), True →
    θ_run (Cert.AttnIdeal.defs (F := F)) (onTc (τ := Cert.AttnIdeal.τ) (Cert.AttnIdeal.main (F := F))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

theorem frameAt (F : FTy → Type) [FloatOps F] : FrameAt F := fun m g _ =>
  θ_run_and (AttnRun.unchanged m g) ((θ_run _ _ _).mono (fun _ h => h.2) (AttnRun.run_main_quiescent m g))

/-- The kernel's program and its idealization's are one text. -/
theorem same_text : Cert.quiescent_Attn = FrameAt Bits := by sl_kernel_rfl

theorem frame_kernel : Cert.quiescent_Attn := same_text.mpr (frameAt Bits)
theorem frame_ideal : Cert.quiescent_AttnIdeal := fun m g h => frameAt Ideal m g trivial
theorem frame_reference : Cert.quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)
theorem preserves : Cert.preserves_Attn_AttnIdeal := trivial

section Value

variable [Cert.Pre_finite_entries.Facts]

theorem frame_ideal_finite : Cert.quiescent_AttnIdeal_pre_finite_entries := fun m g _ => frame_ideal m g trivial
theorem frame_reference_finite : Cert.quiescent_AttnRefIdeal_pre_finite_entries := fun m g _ => frame_reference m g trivial

/-- From arguments that agree, every query and key a number, the kernel's array and the reference's are the same function of row and column. -/
theorem algebraic : Cert.algebraic_AttnIdeal_AttnRefIdeal_pre_finite_entries := by
  intro m ρ m' ρ' hpre hagree
  have hf : ∀ c, AttnRun.Finite (AttnRun.queries m c) ∧ AttnRun.Finite (AttnRun.joined m c) := fun c =>
    ⟨AttnRun.finite_queries _ _ (hpre c), AttnRun.finite_keys _ _ (hpre c)⟩
  refine ⟨fun c => AttnRun.G m c, AttnRun.run_value m ρ hf, ?_⟩
  refine (θ_run Cert.AttnRefIdeal.defs _ _).mono (fun _ h c => ?_) (Cert.AttnRefIdeal.Value.run (F := Ideal) m' ρ')
  refine ⟨(h c).1.trans ?_, (h c).2⟩
  obtain ⟨a0, a1⟩ := hagree c
  refine (Cert.AttnRefIdeal.Read.val_main_v64_eq _ _).trans ?_
  rw [a0, a1]
  exact AttnRun.reference_eq (hf c).1 (hf c).2

end Value

end Cert.Proof.AttnClaims

end
-- ==== Proof.lean ====
/- The claims of the calls of the decoder trunk, put together from the modules of each call. -/
module

public import proofs.«01_k».proof.Defs
public import proofs.«01_k».proof.Proof.Gen.Moe
public import proofs.«01_k».proof.Proof.Gen.MoeIdeal
public import proofs.«01_k».proof.Proof.Gen.MoeRefIdeal
public import proofs.«01_k».proof.Proof.Gen.Ffn
public import proofs.«01_k».proof.Proof.Gen.FfnIdeal
public import proofs.«01_k».proof.Proof.Gen.FfnRefIdeal
public import proofs.«01_k».proof.Proof.Gen.Kv
public import proofs.«01_k».proof.Proof.Gen.KvIdeal
public import proofs.«01_k».proof.Proof.Gen.KvRefIdeal
public import proofs.«01_k».proof.Proof.Gen.Query
public import proofs.«01_k».proof.Proof.Gen.QueryIdeal
public import proofs.«01_k».proof.Proof.Gen.QueryRefIdeal
public import proofs.«01_k».proof.Proof.Gen.Outp
public import proofs.«01_k».proof.Proof.Gen.OutpIdeal
public import proofs.«01_k».proof.Proof.Gen.OutpRefIdeal
public import proofs.«01_k».proof.Proof.Gen.Glu
public import proofs.«01_k».proof.Proof.Gen.GluIdeal
public import proofs.«01_k».proof.Proof.Gen.GluRefIdeal
public import proofs.«01_k».proof.Proof.Gen.Mix
public import proofs.«01_k».proof.Proof.Gen.MixIdeal
public import proofs.«01_k».proof.Proof.Gen.MixRefIdeal
public import proofs.«01_k».proof.Proof.Gen.Attn
public import proofs.«01_k».proof.Proof.Gen.AttnIdeal
public import proofs.«01_k».proof.Proof.Gen.AttnRefIdeal
public import proofs.«01_k».proof.Proof.Gen.Pre_tables_in_range
public import proofs.«01_k».proof.Proof.Gen.Pre_finite_entries
public import proofs.«01_k».proof.Proof.Moe.Claims
public import proofs.«01_k».proof.Proof.Ffn.Claims
public import proofs.«01_k».proof.Proof.Kv.Claims
public import proofs.«01_k».proof.Proof.Query.Claims
public import proofs.«01_k».proof.Proof.Outp.Claims
public import proofs.«01_k».proof.Proof.Glu.Claims
public import proofs.«01_k».proof.Proof.Mix.Claims
public import proofs.«01_k».proof.Proof.Attn.Claims
public import Idealize.ShloMosaic.Adequacy
public import Idealize.ShloMosaic.Init

@[expose] public section

noncomputable section

namespace Cert.Proof

theorem claim : Cert.Claim := ⟨Cert.Moe.Gen.facts, Cert.MoeIdeal.Gen.facts, Cert.MoeRefIdeal.Gen.facts,
  Cert.Ffn.Gen.facts, Cert.FfnIdeal.Gen.facts, Cert.FfnRefIdeal.Gen.facts,
  Cert.Kv.Gen.facts, Cert.KvIdeal.Gen.facts, Cert.KvRefIdeal.Gen.facts,
  Cert.Query.Gen.facts, Cert.QueryIdeal.Gen.facts, Cert.QueryRefIdeal.Gen.facts,
  Cert.Outp.Gen.facts, Cert.OutpIdeal.Gen.facts, Cert.OutpRefIdeal.Gen.facts,
  Cert.Glu.Gen.facts, Cert.GluIdeal.Gen.facts, Cert.GluRefIdeal.Gen.facts,
  Cert.Mix.Gen.facts, Cert.MixIdeal.Gen.facts, Cert.MixRefIdeal.Gen.facts,
  Cert.Attn.Gen.facts, Cert.AttnIdeal.Gen.facts, Cert.AttnRefIdeal.Gen.facts,
  Cert.Pre_tables_in_range.Gen.facts, Cert.Pre_finite_entries.Gen.facts,
  MoeClaims.frame_kernel, MoeClaims.frame_ideal, MoeClaims.frame_reference,
  FfnClaims.frame_kernel, FfnClaims.frame_ideal, FfnClaims.frame_reference,
  KvClaims.frame_kernel, KvClaims.frame_ideal, KvClaims.frame_reference,
  QueryClaims.frame_kernel, QueryClaims.frame_ideal, QueryClaims.frame_reference,
  OutpClaims.frame_kernel, OutpClaims.frame_ideal, OutpClaims.frame_reference,
  GluClaims.frame_kernel, GluClaims.frame_ideal, GluClaims.frame_reference,
  MixClaims.frame_kernel, MixClaims.frame_ideal, MixClaims.frame_reference,
  AttnClaims.frame_kernel, AttnClaims.frame_ideal, AttnClaims.frame_ideal_finite, AttnClaims.frame_reference, AttnClaims.frame_reference_finite,
  MoeClaims.preserves, MoeClaims.algebraic,
  FfnClaims.preserves, FfnClaims.algebraic,
  KvClaims.preserves, KvClaims.algebraic,
  QueryClaims.preserves, QueryClaims.algebraic,
  OutpClaims.preserves, OutpClaims.algebraic,
  GluClaims.preserves, GluClaims.algebraic,
  MixClaims.preserves, MixClaims.algebraic,
  AttnClaims.preserves, AttnClaims.algebraic⟩

end Cert.Proof

end
